-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_scores [hPre_finite_scores : Cert.Pre_finite_scores.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_scores [hPre_finite_scores : Cert.Pre_finite_scores.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_scores [hKernel4Ideal : Cert.Kernel4Ideal.Facts] [hPre_finite_scores : Cert.Pre_finite_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_scores m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_scores [hReference4Ideal : Cert.Reference4Ideal.Facts] [hPre_finite_scores : Cert.Pre_finite_scores.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_scores m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_2)) (v2 : (c : Dev Cert.Kernel2Ideal.nD) → Buf (Elt Ideal) ((c.tc : Thread Cert.Kernel2Ideal.nD Cert.Kernel2Ideal.τ).loc Cert.Kernel2Ideal.main_v19_4)) (v3 : (c : Dev Cert.Kernel2Ideal.nD) → Buf (Elt Ideal) ((c.tc : Thread Cert.Kernel2Ideal.nD Cert.Kernel2Ideal.τ).loc Cert.Kernel2Ideal.main_v19_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_2) = v1 c
          ∧ r.2.mem ((c.tc : Thread Cert.Kernel2Ideal.nD Cert.Kernel2Ideal.τ).loc Cert.Kernel2Ideal.main_v19_4) = v2 c
          ∧ r.2.mem ((c.tc : Thread Cert.Kernel2Ideal.nD Cert.Kernel2Ideal.τ).loc Cert.Kernel2Ideal.main_v19_5) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v37) = v1 c
          ∧ r.2.mem ((c.tc : Thread Cert.Reference2Ideal.nD Cert.Reference2Ideal.τ).loc Cert.Reference2Ideal.main_v38) = v2 c
          ∧ r.2.mem ((c.tc : Thread Cert.Reference2Ideal.nD Cert.Reference2Ideal.τ).loc Cert.Reference2Ideal.main_v27) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)) (v2 : (c : Dev Cert.Kernel3Ideal.nD) → Buf (Elt Ideal) ((c.tc : Thread Cert.Kernel3Ideal.nD Cert.Kernel3Ideal.τ).loc Cert.Kernel3Ideal.main_v19_3)) (v3 : (c : Dev Cert.Kernel3Ideal.nD) → Buf (Elt Ideal) ((c.tc : Thread Cert.Kernel3Ideal.nD Cert.Kernel3Ideal.τ).loc Cert.Kernel3Ideal.main_v19_5)) (v4 : (c : Dev Cert.Kernel3Ideal.nD) → Buf (Elt Ideal) ((c.tc : Thread Cert.Kernel3Ideal.nD Cert.Kernel3Ideal.τ).loc Cert.Kernel3Ideal.main_v19_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_v19_3) = v2 c
          ∧ r.2.mem ((c.tc : Thread Cert.Kernel3Ideal.nD Cert.Kernel3Ideal.τ).loc Cert.Kernel3Ideal.main_v19_5) = v3 c
          ∧ r.2.mem ((c.tc : Thread Cert.Kernel3Ideal.nD Cert.Kernel3Ideal.τ).loc Cert.Kernel3Ideal.main_v19_6) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_v39) = v2 c
          ∧ r.2.mem ((c.tc : Thread Cert.Reference3Ideal.nD Cert.Reference3Ideal.τ).loc Cert.Reference3Ideal.main_v40) = v3 c
          ∧ r.2.mem ((c.tc : Thread Cert.Reference3Ideal.nD Cert.Reference3Ideal.τ).loc Cert.Reference3Ideal.main_v23) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "underflow" .f32 0xC2DC0000#32 ⊥

def algebraic_Kernel4Ideal_Reference4Ideal_pre_finite_scores [hKernel4Ideal : Cert.Kernel4Ideal.Facts] [hReference4Ideal : Cert.Reference4Ideal.Facts] [hPre_finite_scores : Cert.Pre_finite_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_scores m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_values : Cert.Pre_finite_values.Facts) (hPre_finite_scores : Cert.Pre_finite_scores.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_scores (hKernel4Ideal := hKernel4Ideal) (hPre_finite_scores := hPre_finite_scores)
    ∧ quiescent_Reference4Ideal (hReference4Ideal := hReference4Ideal)
    ∧ quiescent_Reference4Ideal_pre_finite_scores (hReference4Ideal := hReference4Ideal) (hPre_finite_scores := hPre_finite_scores)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_scores (hKernel4Ideal := hKernel4Ideal) (hReference4Ideal := hReference4Ideal) (hPre_finite_scores := hPre_finite_scores)
-- ==== Pre_finite_scores.lean ====
abbrev S6x8704x128 : Shape := ⟨3, ![6, 8704, 128]⟩
abbrev S6x34x128x256 : Shape := ⟨4, ![6, 34, 128, 256]⟩
abbrev S_ : Shape := ⟨0, ![]⟩

class Facts : Prop where
  bitsLt_bf16_f32 : FTy.bits .bf16 < FTy.bits .f32
  bcast_S_S6x8704x128 : S_.BroadcastsInDim S6x8704x128 (![] : Fin 0 → Fin S6x8704x128.rank)
  reducesTo_S6x8704x128_S_d0_1_2 : S6x8704x128.ReducesTo [0, 1, 2] S_
  h_S_ : 0 < S_.numel

variable [Facts]

def fn {F : FTy → Type} [FloatOps F] (main_arg0 : FVec F S6x8704x128 .bf16) (main_arg1 : FVec F S6x8704x128 .bf16) (main_arg2 : FVec F S6x34x128x256 .bf16) : IVec S_ 1 :=
  let main_v0 : FVec F S6x8704x128 .f32 := (extf .f32 · bitsLt_bf16_f32) main_arg0
  let main_v1 : FVec F S6x8704x128 .f32 := Host.absf main_v0
  let main_cst : FVec F S_ .f32 := constant S_ .f32 0x7F800000#32
  let main_v2 : FVec F S6x8704x128 .f32 := broadcastInDim S6x8704x128 ![] bcast_S_S6x8704x128 main_cst
  let main_v3 : IVec S6x8704x128 1 := cmpf .olt main_v1 main_v2
  let main_c : IVec S_ 1 := constantI S_ 1 1#1
  let main_v4 : IVec S_ 1 := (fun x v => Host.reduce IntOp.andi x v reducesTo_S6x8704x128_S_d0_1_2 h_S_) main_v3 main_c
  let main_v5 : FVec F S6x8704x128 .f32 := (extf .f32 · bitsLt_bf16_f32) main_arg1
  let main_v6 : FVec F S6x8704x128 .f32 := Host.absf main_v5
  let main_cst_0 : FVec F S_ .f32 := constant S_ .f32 0x7F800000#32
  let main_v7 : FVec F S6x8704x128 .f32 := broadcastInDim S6x8704x128 ![] bcast_S_S6x8704x128 main_cst_0
  let main_v8 : IVec S6x8704x128 1 := cmpf .olt main_v6 main_v7
  let main_c_1 : IVec S_ 1 := constantI S_ 1 1#1
  let main_v9 : IVec S_ 1 := (fun x v => Host.reduce IntOp.andi x v reducesTo_S6x8704x128_S_d0_1_2 h_S_) main_v8 main_c_1
  let main_v10 : IVec S_ 1 := andi main_v4 main_v9
  main_v10
-- ==== Pre_finite_values.lean ====
abbrev S4x64 : Shape := ⟨2, ![4, 64]⟩
abbrev S1x128 : Shape := ⟨2, ![1, 128]⟩
abbrev S6x8704x128 : Shape := ⟨3, ![6, 8704, 128]⟩
abbrev S6x17x128x512 : Shape := ⟨4, ![6, 17, 128, 512]⟩
abbrev S_ : Shape := ⟨0, ![]⟩

class Facts : Prop where
  bcast_S_S4x64 : S_.BroadcastsInDim S4x64 (![] : Fin 0 → Fin S4x64.rank)
  reducesTo_S4x64_S_d0_1 : S4x64.ReducesTo [0, 1] S_
  h_S_ : 0 < S_.numel
  bitsLt_bf16_f32 : FTy.bits .bf16 < FTy.bits .f32
  bcast_S_S6x17x128x512 : S_.BroadcastsInDim S6x17x128x512 (![] : Fin 0 → Fin S6x17x128x512.rank)
  reducesTo_S6x17x128x512_S_d0_1_2_3 : S6x17x128x512.ReducesTo [0, 1, 2, 3] S_

variable [Facts]

def fn {F : FTy → Type} [FloatOps F] (main_arg0 : FVec F S4x64 .f32) (main_arg1 : FVec F S1x128 .f32) (main_arg2 : FVec F S6x8704x128 .bf16) (main_arg3 : FVec F S6x8704x128 .bf16) (main_arg4 : FVec F S6x17x128x512 .bf16) : IVec S_ 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_c : IVec S_ 1 := constantI S_ 1 1#1
  let main_v3 : IVec S_ 1 := (fun x v => Host.reduce IntOp.andi x v reducesTo_S4x64_S_d0_1 h_S_) main_v2 main_c
  let main_v4 : FVec F S6x17x128x512 .f32 := (extf .f32 · bitsLt_bf16_f32) main_arg4
  let main_v5 : FVec F S6x17x128x512 .f32 := Host.absf main_v4
  let main_cst_0 : FVec F S_ .f32 := constant S_ .f32 0x7F800000#32
  let main_v6 : FVec F S6x17x128x512 .f32 := broadcastInDim S6x17x128x512 ![] bcast_S_S6x17x128x512 main_cst_0
  let main_v7 : IVec S6x17x128x512 1 := cmpf .olt main_v5 main_v6
  let main_c_1 : IVec S_ 1 := constantI S_ 1 1#1
  let main_v8 : IVec S_ 1 := (fun x v => Host.reduce IntOp.andi x v reducesTo_S6x17x128x512_S_d0_1_2_3 h_S_) main_v7 main_c_1
  let main_v9 : IVec S_ 1 := andi main_v3 main_v8
  main_v9
-- ==== Kernel.lean ====
abbrev S4x64 : Shape := ⟨2, ![4, 64]⟩
abbrev S1x128 : Shape := ⟨2, ![1, 128]⟩
abbrev S6x8704x128 : Shape := ⟨3, ![6, 8704, 128]⟩
abbrev S6x17x128x512 : Shape := ⟨4, ![6, 17, 128, 512]⟩
abbrev S8448x768 : Shape := ⟨2, ![8448, 768]⟩
abbrev S1x256x128 : Shape := ⟨3, ![1, 256, 128]⟩
abbrev S1x8704x128 : Shape := ⟨3, ![1, 8704, 128]⟩
abbrev S1x17x128x512 : Shape := ⟨4, ![1, 17, 128, 512]⟩
abbrev S256x128 : Shape := ⟨2, ![256, 128]⟩
abbrev S1x512 : Shape := ⟨2, ![1, 512]⟩
abbrev S128x512 : Shape := ⟨2, ![128, 512]⟩
abbrev S512x512 : Shape := ⟨2, ![512, 512]⟩
abbrev S512x128 : Shape := ⟨2, ![512, 128]⟩
abbrev S1x512x128 : Shape := ⟨3, ![1, 512, 128]⟩
abbrev S512 : Shape := ⟨1, ![512]⟩
abbrev S1x1x128x512 : Shape := ⟨4, ![1, 1, 128, 512]⟩
abbrev S512x1 : Shape := ⟨2, ![512, 1]⟩
abbrev S1x64 : Shape := ⟨2, ![1, 64]⟩
abbrev S1 : Shape := ⟨1, ![1]⟩
abbrev S1x1 : Shape := ⟨2, ![1, 1]⟩
abbrev S128x256 : Shape := ⟨2, ![128, 256]⟩
abbrev S256 : Shape := ⟨1, ![256]⟩
abbrev S256x1 : Shape := ⟨2, ![256, 1]⟩

abbrev nBuf : Space → Nat
  | .hbm => 6
  | .vmem => 14
  | .smem => 0
  | _ => 0

abbrev bufTy : (tb : Table) → Fin (tcTables nBuf tb) → BufTy
  | .hbm, ⟨0, _⟩ => ⟨S4x64, .f32⟩
  | .hbm, ⟨1, _⟩ => ⟨S1x128, .f32⟩
  | .hbm, ⟨2, _⟩ => ⟨S6x8704x128, .bf16⟩
  | .hbm, ⟨3, _⟩ => ⟨S6x8704x128, .bf16⟩
  | .hbm, ⟨4, _⟩ => ⟨S6x17x128x512, .bf16⟩
  | .hbm, ⟨5, _⟩ => ⟨S8448x768, .f32⟩
  | .local _ .vmem, ⟨0, _⟩ => ⟨S4x64, .f32⟩
  | .local _ .vmem, ⟨1, _⟩ => ⟨S1x128, .f32⟩
  | .local _ .vmem, ⟨2, _⟩ => ⟨S1x256x128, .bf16⟩
  | .local _ .vmem, ⟨3, _⟩ => ⟨S1x256x128, .bf16⟩
  | .local _ .vmem, ⟨4, _⟩ => ⟨S1x8704x128, .bf16⟩
  | .local _ .vmem, ⟨5, _⟩ => ⟨S1x8704x128, .bf16⟩
  | .local _ .vmem, ⟨6, _⟩ => ⟨S1x17x128x512, .bf16⟩
  | .local _ .vmem, ⟨7, _⟩ => ⟨S1x17x128x512, .bf16⟩
  | .local _ .vmem, ⟨8, _⟩ => ⟨S256x128, .f32⟩
  | .local _ .vmem, ⟨9, _⟩ => ⟨S256x128, .f32⟩
  | .local _ .vmem, ⟨10, _⟩ => ⟨S1x512, .f32⟩
  | .local _ .vmem, ⟨11, _⟩ => ⟨S1x512, .f32⟩
  | .local _ .vmem, ⟨12, _⟩ => ⟨S128x512, .f32⟩
  | .local _ .vmem, ⟨13, _⟩ => ⟨S512x512, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![6, 33], ![false, false]⟩

def k0_mult1 : BitVec 32 :=
  let c0_i32_32 : BitVec 32 := 0#32
  c0_i32_32
@[reducible] def k0_t1_loop (i : grid0.Coords) : Scf.Loop 32 :=
  let c0_i32_45 : BitVec 32 := 0#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c0_i32_38 : BitVec 32 := 0#32
  let v83 : BitVec 1 := Scalar.cmpi .sgt v52 c0_i32_38
  let v84 : BitVec 32 := Scalar.extui v83
  let c0_i32_39 : BitVec 32 := 0#32
  let v85 : BitVec 1 := Scalar.cmpi .slt v52 c0_i32_39
  let v86 : BitVec 32 := Scalar.extui v85
  let v87 : BitVec 32 := Scalar.subi v84 v86
  let c2_i32 : BitVec 32 := 2#32
  let c0_i32_40 : BitVec 32 := 0#32
  let v88 : BitVec 1 := Scalar.cmpi .sgt c2_i32 c0_i32_40
  let v89 : BitVec 32 := Scalar.extui v88
  let c0_i32_41 : BitVec 32 := 0#32
  let v90 : BitVec 1 := Scalar.cmpi .slt c2_i32 c0_i32_41
  let v91 : BitVec 32 := Scalar.extui v90
  let v92 : BitVec 32 := Scalar.subi v89 v91
  let v93 : BitVec 1 := Scalar.cmpi .ne v87 v92
  let v94 : BitVec 32 := Scalar.remsi v52 c2_i32
  let c0_i32_42 : BitVec 32 := 0#32
  let v95 : BitVec 1 := Scalar.cmpi .ne v94 c0_i32_42
  let v96 : BitVec 1 := Scalar.andi v93 v95
  let v82 : BitVec 32 := Scalar.divsi v52 c2_i32
  let c1_i32_43 : BitVec 32 := 1#32
  let v97 : BitVec 32 := Scalar.subi v82 c1_i32_43
  let v98 : BitVec 32 := Scalar.select v96 v97 v82
  let v99 : BitVec 32 := Scalar.subi v98 c0_i32_45
  let c1_i32_46 : BitVec 32 := 1#32
  let v101 : BitVec 32 := Scalar.divsi v99 c1_i32_46
  let v102 : BitVec 32 := Scalar.muli v101 c1_i32_46
  let v103 : BitVec 32 := Scalar.addi c0_i32_45 v102
  let c1_i32_47 : BitVec 32 := 1#32
  ⟨c0_i32_45, v103, c1_i32_47⟩
def k0_mult2 (i : grid0.Coords) (k0_t1 : Fin (k0_t1_loop i).trips) : BitVec 32 :=
  let c2_i32_78 : BitVec 32 := 2#32
  let c0_i32_45 : BitVec 32 := 0#32
  let c1_i32_47 : BitVec 32 := 1#32
  let arg12 : BitVec 32 := Scf.iv c0_i32_45 c1_i32_47 k0_t1
  let v156 : BitVec 32 := Scalar.muli c2_i32_78 arg12
  let c1_i32_81 : BitVec 32 := 1#32
  let v158 : BitVec 32 := Scalar.addi v156 c1_i32_81
  let arg1 : BitVec 32 := BitVec.ofNat 32 (i 1).val
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let c1_i32_82 : BitVec 32 := 1#32
  let v159 : BitVec 32 := Scalar.subi v73 c1_i32_82
  let v160 : BitVec 32 := Scalar.minsi v158 v159
  let c512_i32_83 : BitVec 32 := 512#32
  let v161 : BitVec 32 := Scalar.muli v160 c512_i32_83
  v161
def k0_off1 (i : grid0.Coords) (k0_t1 : Fin (k0_t1_loop i).trips) : Fin 3 → Nat :=
  let c0_84 : Index := 0#32
  let c2_i32_78 : BitVec 32 := 2#32
  let c0_i32_45 : BitVec 32 := 0#32
  let c1_i32_47 : BitVec 32 := 1#32
  let arg12 : BitVec 32 := Scf.iv c0_i32_45 c1_i32_47 k0_t1
  let v156 : BitVec 32 := Scalar.muli c2_i32_78 arg12
  let c1_i32_81 : BitVec 32 := 1#32
  let v158 : BitVec 32 := Scalar.addi v156 c1_i32_81
  let arg1 : BitVec 32 := BitVec.ofNat 32 (i 1).val
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let c1_i32_82 : BitVec 32 := 1#32
  let v159 : BitVec 32 := Scalar.subi v73 c1_i32_82
  let v160 : BitVec 32 := Scalar.minsi v158 v159
  let c512_i32_83 : BitVec 32 := 512#32
  let v161 : BitVec 32 := Scalar.muli v160 c512_i32_83
  let v162 : BitVec 32 := v161
  let v163 : Index := Scalar.indexCast v162
  let c0_85 : Index := 0#32
  ![0, v163.toNat, 0]
def k0_off2 (i : grid0.Coords) (k0_t1 : Fin (k0_t1_loop i).trips) : Fin 4 → Nat :=
  let c0_97 : Index := 0#32
  let c2_i32_78 : BitVec 32 := 2#32
  let c0_i32_45 : BitVec 32 := 0#32
  let c1_i32_47 : BitVec 32 := 1#32
  let arg12 : BitVec 32 := Scf.iv c0_i32_45 c1_i32_47 k0_t1
  let v156 : BitVec 32 := Scalar.muli c2_i32_78 arg12
  let v187 : Index := Scalar.indexCast v156
  let c0_98 : Index := 0#32
  let c0_99 : Index := 0#32
  ![0, v187.toNat, 0, 0]
def k0_mult3 (i : grid0.Coords) (k0_t1 : Fin (k0_t1_loop i).trips) : BitVec 32 :=
  let c2_i32_107 : BitVec 32 := 2#32
  let c0_i32_45 : BitVec 32 := 0#32
  let c1_i32_47 : BitVec 32 := 1#32
  let arg12 : BitVec 32 := Scf.iv c0_i32_45 c1_i32_47 k0_t1
  let v202 : BitVec 32 := Scalar.muli c2_i32_107 arg12
  let c1_i32_108 : BitVec 32 := 1#32
  let v203 : BitVec 32 := Scalar.addi v202 c1_i32_108
  let c1_i32_111 : BitVec 32 := 1#32
  let v205 : BitVec 32 := Scalar.addi v203 c1_i32_111
  let arg1 : BitVec 32 := BitVec.ofNat 32 (i 1).val
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let c1_i32_112 : BitVec 32 := 1#32
  let v206 : BitVec 32 := Scalar.subi v73 c1_i32_112
  let v207 : BitVec 32 := Scalar.minsi v205 v206
  let c512_i32_113 : BitVec 32 := 512#32
  let v208 : BitVec 32 := Scalar.muli v207 c512_i32_113
  v208
def k0_off3 (i : grid0.Coords) (k0_t1 : Fin (k0_t1_loop i).trips) : Fin 3 → Nat :=
  let c0_114 : Index := 0#32
  let c2_i32_107 : BitVec 32 := 2#32
  let c0_i32_45 : BitVec 32 := 0#32
  let c1_i32_47 : BitVec 32 := 1#32
  let arg12 : BitVec 32 := Scf.iv c0_i32_45 c1_i32_47 k0_t1
  let v202 : BitVec 32 := Scalar.muli c2_i32_107 arg12
  let c1_i32_108 : BitVec 32 := 1#32
  let v203 : BitVec 32 := Scalar.addi v202 c1_i32_108
  let c1_i32_111 : BitVec 32 := 1#32
  let v205 : BitVec 32 := Scalar.addi v203 c1_i32_111
  let arg1 : BitVec 32 := BitVec.ofNat 32 (i 1).val
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let c1_i32_112 : BitVec 32 := 1#32
  let v206 : BitVec 32 := Scalar.subi v73 c1_i32_112
  let v207 : BitVec 32 := Scalar.minsi v205 v206
  let c512_i32_113 : BitVec 32 := 512#32
  let v208 : BitVec 32 := Scalar.muli v207 c512_i32_113
  let v209 : BitVec 32 := v208
  let v210 : Index := Scalar.indexCast v209
  let c0_115 : Index := 0#32
  ![0, v210.toNat, 0]
def k0_off4 (i : grid0.Coords) (k0_t1 : Fin (k0_t1_loop i).trips) : Fin 4 → Nat :=
  let c0_127 : Index := 0#32
  let c2_i32_107 : BitVec 32 := 2#32
  let c0_i32_45 : BitVec 32 := 0#32
  let c1_i32_47 : BitVec 32 := 1#32
  let arg12 : BitVec 32 := Scf.iv c0_i32_45 c1_i32_47 k0_t1
  let v202 : BitVec 32 := Scalar.muli c2_i32_107 arg12
  let c1_i32_108 : BitVec 32 := 1#32
  let v203 : BitVec 32 := Scalar.addi v202 c1_i32_108
  let v234 : Index := Scalar.indexCast v203
  let c0_128 : Index := 0#32
  let c0_129 : Index := 0#32
  ![0, v234.toNat, 0, 0]
@[reducible] def k0_t2_loop (i : grid0.Coords) : Scf.Loop 32 :=
  let c0_i32_45 : BitVec 32 := 0#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c0_i32_38 : BitVec 32 := 0#32
  let v83 : BitVec 1 := Scalar.cmpi .sgt v52 c0_i32_38
  let v84 : BitVec 32 := Scalar.extui v83
  let c0_i32_39 : BitVec 32 := 0#32
  let v85 : BitVec 1 := Scalar.cmpi .slt v52 c0_i32_39
  let v86 : BitVec 32 := Scalar.extui v85
  let v87 : BitVec 32 := Scalar.subi v84 v86
  let c2_i32 : BitVec 32 := 2#32
  let c0_i32_40 : BitVec 32 := 0#32
  let v88 : BitVec 1 := Scalar.cmpi .sgt c2_i32 c0_i32_40
  let v89 : BitVec 32 := Scalar.extui v88
  let c0_i32_41 : BitVec 32 := 0#32
  let v90 : BitVec 1 := Scalar.cmpi .slt c2_i32 c0_i32_41
  let v91 : BitVec 32 := Scalar.extui v90
  let v92 : BitVec 32 := Scalar.subi v89 v91
  let v93 : BitVec 1 := Scalar.cmpi .ne v87 v92
  let v94 : BitVec 32 := Scalar.remsi v52 c2_i32
  let c0_i32_42 : BitVec 32 := 0#32
  let v95 : BitVec 1 := Scalar.cmpi .ne v94 c0_i32_42
  let v96 : BitVec 1 := Scalar.andi v93 v95
  let v82 : BitVec 32 := Scalar.divsi v52 c2_i32
  let c1_i32_43 : BitVec 32 := 1#32
  let v97 : BitVec 32 := Scalar.subi v82 c1_i32_43
  let v98 : BitVec 32 := Scalar.select v96 v97 v82
  let v99 : BitVec 32 := Scalar.subi v98 c0_i32_45
  let c1_i32_46 : BitVec 32 := 1#32
  let v101 : BitVec 32 := Scalar.divsi v99 c1_i32_46
  let v102 : BitVec 32 := Scalar.muli v101 c1_i32_46
  let v103 : BitVec 32 := Scalar.addi c0_i32_45 v102
  let v100 : BitVec 32 := Scalar.addi c0_i32_45 v99
  let c1_i32_48 : BitVec 32 := 1#32
  ⟨v103, v100, c1_i32_48⟩
def k0_mult4 (i : grid0.Coords) (k0_t2 : Fin (k0_t2_loop i).trips) : BitVec 32 :=
  let c2_i32_78 : BitVec 32 := 2#32
  let c0_i32_45 : BitVec 32 := 0#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c0_i32_38 : BitVec 32 := 0#32
  let v83 : BitVec 1 := Scalar.cmpi .sgt v52 c0_i32_38
  let v84 : BitVec 32 := Scalar.extui v83
  let c0_i32_39 : BitVec 32 := 0#32
  let v85 : BitVec 1 := Scalar.cmpi .slt v52 c0_i32_39
  let v86 : BitVec 32 := Scalar.extui v85
  let v87 : BitVec 32 := Scalar.subi v84 v86
  let c2_i32 : BitVec 32 := 2#32
  let c0_i32_40 : BitVec 32 := 0#32
  let v88 : BitVec 1 := Scalar.cmpi .sgt c2_i32 c0_i32_40
  let v89 : BitVec 32 := Scalar.extui v88
  let c0_i32_41 : BitVec 32 := 0#32
  let v90 : BitVec 1 := Scalar.cmpi .slt c2_i32 c0_i32_41
  let v91 : BitVec 32 := Scalar.extui v90
  let v92 : BitVec 32 := Scalar.subi v89 v91
  let v93 : BitVec 1 := Scalar.cmpi .ne v87 v92
  let v94 : BitVec 32 := Scalar.remsi v52 c2_i32
  let c0_i32_42 : BitVec 32 := 0#32
  let v95 : BitVec 1 := Scalar.cmpi .ne v94 c0_i32_42
  let v96 : BitVec 1 := Scalar.andi v93 v95
  let v82 : BitVec 32 := Scalar.divsi v52 c2_i32
  let c1_i32_43 : BitVec 32 := 1#32
  let v97 : BitVec 32 := Scalar.subi v82 c1_i32_43
  let v98 : BitVec 32 := Scalar.select v96 v97 v82
  let v99 : BitVec 32 := Scalar.subi v98 c0_i32_45
  let c1_i32_46 : BitVec 32 := 1#32
  let v101 : BitVec 32 := Scalar.divsi v99 c1_i32_46
  let v102 : BitVec 32 := Scalar.muli v101 c1_i32_46
  let v103 : BitVec 32 := Scalar.addi c0_i32_45 v102
  let c1_i32_48 : BitVec 32 := 1#32
  let arg12 : BitVec 32 := Scf.iv v103 c1_i32_48 k0_t2
  let v156 : BitVec 32 := Scalar.muli c2_i32_78 arg12
  let c1_i32_81 : BitVec 32 := 1#32
  let v158 : BitVec 32 := Scalar.addi v156 c1_i32_81
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let c1_i32_82 : BitVec 32 := 1#32
  let v159 : BitVec 32 := Scalar.subi v73 c1_i32_82
  let v160 : BitVec 32 := Scalar.minsi v158 v159
  let c512_i32_83 : BitVec 32 := 512#32
  let v161 : BitVec 32 := Scalar.muli v160 c512_i32_83
  v161
def k0_off5 (i : grid0.Coords) (k0_t2 : Fin (k0_t2_loop i).trips) : Fin 3 → Nat :=
  let c0_84 : Index := 0#32
  let c2_i32_78 : BitVec 32 := 2#32
  let c0_i32_45 : BitVec 32 := 0#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c0_i32_38 : BitVec 32 := 0#32
  let v83 : BitVec 1 := Scalar.cmpi .sgt v52 c0_i32_38
  let v84 : BitVec 32 := Scalar.extui v83
  let c0_i32_39 : BitVec 32 := 0#32
  let v85 : BitVec 1 := Scalar.cmpi .slt v52 c0_i32_39
  let v86 : BitVec 32 := Scalar.extui v85
  let v87 : BitVec 32 := Scalar.subi v84 v86
  let c2_i32 : BitVec 32 := 2#32
  let c0_i32_40 : BitVec 32 := 0#32
  let v88 : BitVec 1 := Scalar.cmpi .sgt c2_i32 c0_i32_40
  let v89 : BitVec 32 := Scalar.extui v88
  let c0_i32_41 : BitVec 32 := 0#32
  let v90 : BitVec 1 := Scalar.cmpi .slt c2_i32 c0_i32_41
  let v91 : BitVec 32 := Scalar.extui v90
  let v92 : BitVec 32 := Scalar.subi v89 v91
  let v93 : BitVec 1 := Scalar.cmpi .ne v87 v92
  let v94 : BitVec 32 := Scalar.remsi v52 c2_i32
  let c0_i32_42 : BitVec 32 := 0#32
  let v95 : BitVec 1 := Scalar.cmpi .ne v94 c0_i32_42
  let v96 : BitVec 1 := Scalar.andi v93 v95
  let v82 : BitVec 32 := Scalar.divsi v52 c2_i32
  let c1_i32_43 : BitVec 32 := 1#32
  let v97 : BitVec 32 := Scalar.subi v82 c1_i32_43
  let v98 : BitVec 32 := Scalar.select v96 v97 v82
  let v99 : BitVec 32 := Scalar.subi v98 c0_i32_45
  let c1_i32_46 : BitVec 32 := 1#32
  let v101 : BitVec 32 := Scalar.divsi v99 c1_i32_46
  let v102 : BitVec 32 := Scalar.muli v101 c1_i32_46
  let v103 : BitVec 32 := Scalar.addi c0_i32_45 v102
  let c1_i32_48 : BitVec 32 := 1#32
  let arg12 : BitVec 32 := Scf.iv v103 c1_i32_48 k0_t2
  let v156 : BitVec 32 := Scalar.muli c2_i32_78 arg12
  let c1_i32_81 : BitVec 32 := 1#32
  let v158 : BitVec 32 := Scalar.addi v156 c1_i32_81
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let c1_i32_82 : BitVec 32 := 1#32
  let v159 : BitVec 32 := Scalar.subi v73 c1_i32_82
  let v160 : BitVec 32 := Scalar.minsi v158 v159
  let c512_i32_83 : BitVec 32 := 512#32
  let v161 : BitVec 32 := Scalar.muli v160 c512_i32_83
  let v162 : BitVec 32 := v161
  let v163 : Index := Scalar.indexCast v162
  let c0_85 : Index := 0#32
  ![0, v163.toNat, 0]
def k0_off6 (i : grid0.Coords) (k0_t2 : Fin (k0_t2_loop i).trips) : Fin 4 → Nat :=
  let c0_97 : Index := 0#32
  let c2_i32_78 : BitVec 32 := 2#32
  let c0_i32_45 : BitVec 32 := 0#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c0_i32_38 : BitVec 32 := 0#32
  let v83 : BitVec 1 := Scalar.cmpi .sgt v52 c0_i32_38
  let v84 : BitVec 32 := Scalar.extui v83
  let c0_i32_39 : BitVec 32 := 0#32
  let v85 : BitVec 1 := Scalar.cmpi .slt v52 c0_i32_39
  let v86 : BitVec 32 := Scalar.extui v85
  let v87 : BitVec 32 := Scalar.subi v84 v86
  let c2_i32 : BitVec 32 := 2#32
  let c0_i32_40 : BitVec 32 := 0#32
  let v88 : BitVec 1 := Scalar.cmpi .sgt c2_i32 c0_i32_40
  let v89 : BitVec 32 := Scalar.extui v88
  let c0_i32_41 : BitVec 32 := 0#32
  let v90 : BitVec 1 := Scalar.cmpi .slt c2_i32 c0_i32_41
  let v91 : BitVec 32 := Scalar.extui v90
  let v92 : BitVec 32 := Scalar.subi v89 v91
  let v93 : BitVec 1 := Scalar.cmpi .ne v87 v92
  let v94 : BitVec 32 := Scalar.remsi v52 c2_i32
  let c0_i32_42 : BitVec 32 := 0#32
  let v95 : BitVec 1 := Scalar.cmpi .ne v94 c0_i32_42
  let v96 : BitVec 1 := Scalar.andi v93 v95
  let v82 : BitVec 32 := Scalar.divsi v52 c2_i32
  let c1_i32_43 : BitVec 32 := 1#32
  let v97 : BitVec 32 := Scalar.subi v82 c1_i32_43
  let v98 : BitVec 32 := Scalar.select v96 v97 v82
  let v99 : BitVec 32 := Scalar.subi v98 c0_i32_45
  let c1_i32_46 : BitVec 32 := 1#32
  let v101 : BitVec 32 := Scalar.divsi v99 c1_i32_46
  let v102 : BitVec 32 := Scalar.muli v101 c1_i32_46
  let v103 : BitVec 32 := Scalar.addi c0_i32_45 v102
  let c1_i32_48 : BitVec 32 := 1#32
  let arg12 : BitVec 32 := Scf.iv v103 c1_i32_48 k0_t2
  let v156 : BitVec 32 := Scalar.muli c2_i32_78 arg12
  let v187 : Index := Scalar.indexCast v156
  let c0_98 : Index := 0#32
  let c0_99 : Index := 0#32
  ![0, v187.toNat, 0, 0]
def k0_mult5 (i : grid0.Coords) (k0_t2 : Fin (k0_t2_loop i).trips) : BitVec 32 :=
  let c2_i32_107 : BitVec 32 := 2#32
  let c0_i32_45 : BitVec 32 := 0#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c0_i32_38 : BitVec 32 := 0#32
  let v83 : BitVec 1 := Scalar.cmpi .sgt v52 c0_i32_38
  let v84 : BitVec 32 := Scalar.extui v83
  let c0_i32_39 : BitVec 32 := 0#32
  let v85 : BitVec 1 := Scalar.cmpi .slt v52 c0_i32_39
  let v86 : BitVec 32 := Scalar.extui v85
  let v87 : BitVec 32 := Scalar.subi v84 v86
  let c2_i32 : BitVec 32 := 2#32
  let c0_i32_40 : BitVec 32 := 0#32
  let v88 : BitVec 1 := Scalar.cmpi .sgt c2_i32 c0_i32_40
  let v89 : BitVec 32 := Scalar.extui v88
  let c0_i32_41 : BitVec 32 := 0#32
  let v90 : BitVec 1 := Scalar.cmpi .slt c2_i32 c0_i32_41
  let v91 : BitVec 32 := Scalar.extui v90
  let v92 : BitVec 32 := Scalar.subi v89 v91
  let v93 : BitVec 1 := Scalar.cmpi .ne v87 v92
  let v94 : BitVec 32 := Scalar.remsi v52 c2_i32
  let c0_i32_42 : BitVec 32 := 0#32
  let v95 : BitVec 1 := Scalar.cmpi .ne v94 c0_i32_42
  let v96 : BitVec 1 := Scalar.andi v93 v95
  let v82 : BitVec 32 := Scalar.divsi v52 c2_i32
  let c1_i32_43 : BitVec 32 := 1#32
  let v97 : BitVec 32 := Scalar.subi v82 c1_i32_43
  let v98 : BitVec 32 := Scalar.select v96 v97 v82
  let v99 : BitVec 32 := Scalar.subi v98 c0_i32_45
  let c1_i32_46 : BitVec 32 := 1#32
  let v101 : BitVec 32 := Scalar.divsi v99 c1_i32_46
  let v102 : BitVec 32 := Scalar.muli v101 c1_i32_46
  let v103 : BitVec 32 := Scalar.addi c0_i32_45 v102
  let c1_i32_48 : BitVec 32 := 1#32
  let arg12 : BitVec 32 := Scf.iv v103 c1_i32_48 k0_t2
  let v202 : BitVec 32 := Scalar.muli c2_i32_107 arg12
  let c1_i32_108 : BitVec 32 := 1#32
  let v203 : BitVec 32 := Scalar.addi v202 c1_i32_108
  let c1_i32_111 : BitVec 32 := 1#32
  let v205 : BitVec 32 := Scalar.addi v203 c1_i32_111
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let c1_i32_112 : BitVec 32 := 1#32
  let v206 : BitVec 32 := Scalar.subi v73 c1_i32_112
  let v207 : BitVec 32 := Scalar.minsi v205 v206
  let c512_i32_113 : BitVec 32 := 512#32
  let v208 : BitVec 32 := Scalar.muli v207 c512_i32_113
  v208
def k0_off7 (i : grid0.Coords) (k0_t2 : Fin (k0_t2_loop i).trips) : Fin 3 → Nat :=
  let c0_114 : Index := 0#32
  let c2_i32_107 : BitVec 32 := 2#32
  let c0_i32_45 : BitVec 32 := 0#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c0_i32_38 : BitVec 32 := 0#32
  let v83 : BitVec 1 := Scalar.cmpi .sgt v52 c0_i32_38
  let v84 : BitVec 32 := Scalar.extui v83
  let c0_i32_39 : BitVec 32 := 0#32
  let v85 : BitVec 1 := Scalar.cmpi .slt v52 c0_i32_39
  let v86 : BitVec 32 := Scalar.extui v85
  let v87 : BitVec 32 := Scalar.subi v84 v86
  let c2_i32 : BitVec 32 := 2#32
  let c0_i32_40 : BitVec 32 := 0#32
  let v88 : BitVec 1 := Scalar.cmpi .sgt c2_i32 c0_i32_40
  let v89 : BitVec 32 := Scalar.extui v88
  let c0_i32_41 : BitVec 32 := 0#32
  let v90 : BitVec 1 := Scalar.cmpi .slt c2_i32 c0_i32_41
  let v91 : BitVec 32 := Scalar.extui v90
  let v92 : BitVec 32 := Scalar.subi v89 v91
  let v93 : BitVec 1 := Scalar.cmpi .ne v87 v92
  let v94 : BitVec 32 := Scalar.remsi v52 c2_i32
  let c0_i32_42 : BitVec 32 := 0#32
  let v95 : BitVec 1 := Scalar.cmpi .ne v94 c0_i32_42
  let v96 : BitVec 1 := Scalar.andi v93 v95
  let v82 : BitVec 32 := Scalar.divsi v52 c2_i32
  let c1_i32_43 : BitVec 32 := 1#32
  let v97 : BitVec 32 := Scalar.subi v82 c1_i32_43
  let v98 : BitVec 32 := Scalar.select v96 v97 v82
  let v99 : BitVec 32 := Scalar.subi v98 c0_i32_45
  let c1_i32_46 : BitVec 32 := 1#32
  let v101 : BitVec 32 := Scalar.divsi v99 c1_i32_46
  let v102 : BitVec 32 := Scalar.muli v101 c1_i32_46
  let v103 : BitVec 32 := Scalar.addi c0_i32_45 v102
  let c1_i32_48 : BitVec 32 := 1#32
  let arg12 : BitVec 32 := Scf.iv v103 c1_i32_48 k0_t2
  let v202 : BitVec 32 := Scalar.muli c2_i32_107 arg12
  let c1_i32_108 : BitVec 32 := 1#32
  let v203 : BitVec 32 := Scalar.addi v202 c1_i32_108
  let c1_i32_111 : BitVec 32 := 1#32
  let v205 : BitVec 32 := Scalar.addi v203 c1_i32_111
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let c1_i32_112 : BitVec 32 := 1#32
  let v206 : BitVec 32 := Scalar.subi v73 c1_i32_112
  let v207 : BitVec 32 := Scalar.minsi v205 v206
  let c512_i32_113 : BitVec 32 := 512#32
  let v208 : BitVec 32 := Scalar.muli v207 c512_i32_113
  let v209 : BitVec 32 := v208
  let v210 : Index := Scalar.indexCast v209
  let c0_115 : Index := 0#32
  ![0, v210.toNat, 0]
def k0_off8 (i : grid0.Coords) (k0_t2 : Fin (k0_t2_loop i).trips) : Fin 4 → Nat :=
  let c0_127 : Index := 0#32
  let c2_i32_107 : BitVec 32 := 2#32
  let c0_i32_45 : BitVec 32 := 0#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c0_i32_38 : BitVec 32 := 0#32
  let v83 : BitVec 1 := Scalar.cmpi .sgt v52 c0_i32_38
  let v84 : BitVec 32 := Scalar.extui v83
  let c0_i32_39 : BitVec 32 := 0#32
  let v85 : BitVec 1 := Scalar.cmpi .slt v52 c0_i32_39
  let v86 : BitVec 32 := Scalar.extui v85
  let v87 : BitVec 32 := Scalar.subi v84 v86
  let c2_i32 : BitVec 32 := 2#32
  let c0_i32_40 : BitVec 32 := 0#32
  let v88 : BitVec 1 := Scalar.cmpi .sgt c2_i32 c0_i32_40
  let v89 : BitVec 32 := Scalar.extui v88
  let c0_i32_41 : BitVec 32 := 0#32
  let v90 : BitVec 1 := Scalar.cmpi .slt c2_i32 c0_i32_41
  let v91 : BitVec 32 := Scalar.extui v90
  let v92 : BitVec 32 := Scalar.subi v89 v91
  let v93 : BitVec 1 := Scalar.cmpi .ne v87 v92
  let v94 : BitVec 32 := Scalar.remsi v52 c2_i32
  let c0_i32_42 : BitVec 32 := 0#32
  let v95 : BitVec 1 := Scalar.cmpi .ne v94 c0_i32_42
  let v96 : BitVec 1 := Scalar.andi v93 v95
  let v82 : BitVec 32 := Scalar.divsi v52 c2_i32
  let c1_i32_43 : BitVec 32 := 1#32
  let v97 : BitVec 32 := Scalar.subi v82 c1_i32_43
  let v98 : BitVec 32 := Scalar.select v96 v97 v82
  let v99 : BitVec 32 := Scalar.subi v98 c0_i32_45
  let c1_i32_46 : BitVec 32 := 1#32
  let v101 : BitVec 32 := Scalar.divsi v99 c1_i32_46
  let v102 : BitVec 32 := Scalar.muli v101 c1_i32_46
  let v103 : BitVec 32 := Scalar.addi c0_i32_45 v102
  let c1_i32_48 : BitVec 32 := 1#32
  let arg12 : BitVec 32 := Scf.iv v103 c1_i32_48 k0_t2
  let v202 : BitVec 32 := Scalar.muli c2_i32_107 arg12
  let c1_i32_108 : BitVec 32 := 1#32
  let v203 : BitVec 32 := Scalar.addi v202 c1_i32_108
  let v234 : Index := Scalar.indexCast v203
  let c0_128 : Index := 0#32
  let c0_129 : Index := 0#32
  ![0, v234.toNat, 0, 0]
@[reducible] def k0_t3_loop (i : grid0.Coords) : Scf.Loop 32 :=
  let c2_i32_49 : BitVec 32 := 2#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c0_i32_38 : BitVec 32 := 0#32
  let v83 : BitVec 1 := Scalar.cmpi .sgt v52 c0_i32_38
  let v84 : BitVec 32 := Scalar.extui v83
  let c0_i32_39 : BitVec 32 := 0#32
  let v85 : BitVec 1 := Scalar.cmpi .slt v52 c0_i32_39
  let v86 : BitVec 32 := Scalar.extui v85
  let v87 : BitVec 32 := Scalar.subi v84 v86
  let c2_i32 : BitVec 32 := 2#32
  let c0_i32_40 : BitVec 32 := 0#32
  let v88 : BitVec 1 := Scalar.cmpi .sgt c2_i32 c0_i32_40
  let v89 : BitVec 32 := Scalar.extui v88
  let c0_i32_41 : BitVec 32 := 0#32
  let v90 : BitVec 1 := Scalar.cmpi .slt c2_i32 c0_i32_41
  let v91 : BitVec 32 := Scalar.extui v90
  let v92 : BitVec 32 := Scalar.subi v89 v91
  let v93 : BitVec 1 := Scalar.cmpi .ne v87 v92
  let v94 : BitVec 32 := Scalar.remsi v52 c2_i32
  let c0_i32_42 : BitVec 32 := 0#32
  let v95 : BitVec 1 := Scalar.cmpi .ne v94 c0_i32_42
  let v96 : BitVec 1 := Scalar.andi v93 v95
  let v82 : BitVec 32 := Scalar.divsi v52 c2_i32
  let c1_i32_43 : BitVec 32 := 1#32
  let v97 : BitVec 32 := Scalar.subi v82 c1_i32_43
  let v98 : BitVec 32 := Scalar.select v96 v97 v82
  let v104 : BitVec 32 := Scalar.muli c2_i32_49 v98
  let v105 : BitVec 32 := Scalar.subi v52 v104
  let c1_i32_51 : BitVec 32 := 1#32
  let v107 : BitVec 32 := Scalar.divsi v105 c1_i32_51
  let v108 : BitVec 32 := Scalar.muli v107 c1_i32_51
  let v109 : BitVec 32 := Scalar.addi v104 v108
  let c1_i32_52 : BitVec 32 := 1#32
  ⟨v104, v109, c1_i32_52⟩
def k0_mult6 (i : grid0.Coords) (k0_t3 : Fin (k0_t3_loop i).trips) : BitVec 32 :=
  let c2_i32_49 : BitVec 32 := 2#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c0_i32_38 : BitVec 32 := 0#32
  let v83 : BitVec 1 := Scalar.cmpi .sgt v52 c0_i32_38
  let v84 : BitVec 32 := Scalar.extui v83
  let c0_i32_39 : BitVec 32 := 0#32
  let v85 : BitVec 1 := Scalar.cmpi .slt v52 c0_i32_39
  let v86 : BitVec 32 := Scalar.extui v85
  let v87 : BitVec 32 := Scalar.subi v84 v86
  let c2_i32 : BitVec 32 := 2#32
  let c0_i32_40 : BitVec 32 := 0#32
  let v88 : BitVec 1 := Scalar.cmpi .sgt c2_i32 c0_i32_40
  let v89 : BitVec 32 := Scalar.extui v88
  let c0_i32_41 : BitVec 32 := 0#32
  let v90 : BitVec 1 := Scalar.cmpi .slt c2_i32 c0_i32_41
  let v91 : BitVec 32 := Scalar.extui v90
  let v92 : BitVec 32 := Scalar.subi v89 v91
  let v93 : BitVec 1 := Scalar.cmpi .ne v87 v92
  let v94 : BitVec 32 := Scalar.remsi v52 c2_i32
  let c0_i32_42 : BitVec 32 := 0#32
  let v95 : BitVec 1 := Scalar.cmpi .ne v94 c0_i32_42
  let v96 : BitVec 1 := Scalar.andi v93 v95
  let v82 : BitVec 32 := Scalar.divsi v52 c2_i32
  let c1_i32_43 : BitVec 32 := 1#32
  let v97 : BitVec 32 := Scalar.subi v82 c1_i32_43
  let v98 : BitVec 32 := Scalar.select v96 v97 v82
  let v104 : BitVec 32 := Scalar.muli c2_i32_49 v98
  let c1_i32_52 : BitVec 32 := 1#32
  let arg12 : BitVec 32 := Scf.iv v104 c1_i32_52 k0_t3
  let c1_i32_80 : BitVec 32 := 1#32
  let v157 : BitVec 32 := Scalar.addi arg12 c1_i32_80
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let c1_i32_81 : BitVec 32 := 1#32
  let v158 : BitVec 32 := Scalar.subi v73 c1_i32_81
  let v159 : BitVec 32 := Scalar.minsi v157 v158
  let c512_i32_82 : BitVec 32 := 512#32
  let v160 : BitVec 32 := Scalar.muli v159 c512_i32_82
  v160
def k0_off9 (i : grid0.Coords) (k0_t3 : Fin (k0_t3_loop i).trips) : Fin 3 → Nat :=
  let c0_83 : Index := 0#32
  let c2_i32_49 : BitVec 32 := 2#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c0_i32_38 : BitVec 32 := 0#32
  let v83 : BitVec 1 := Scalar.cmpi .sgt v52 c0_i32_38
  let v84 : BitVec 32 := Scalar.extui v83
  let c0_i32_39 : BitVec 32 := 0#32
  let v85 : BitVec 1 := Scalar.cmpi .slt v52 c0_i32_39
  let v86 : BitVec 32 := Scalar.extui v85
  let v87 : BitVec 32 := Scalar.subi v84 v86
  let c2_i32 : BitVec 32 := 2#32
  let c0_i32_40 : BitVec 32 := 0#32
  let v88 : BitVec 1 := Scalar.cmpi .sgt c2_i32 c0_i32_40
  let v89 : BitVec 32 := Scalar.extui v88
  let c0_i32_41 : BitVec 32 := 0#32
  let v90 : BitVec 1 := Scalar.cmpi .slt c2_i32 c0_i32_41
  let v91 : BitVec 32 := Scalar.extui v90
  let v92 : BitVec 32 := Scalar.subi v89 v91
  let v93 : BitVec 1 := Scalar.cmpi .ne v87 v92
  let v94 : BitVec 32 := Scalar.remsi v52 c2_i32
  let c0_i32_42 : BitVec 32 := 0#32
  let v95 : BitVec 1 := Scalar.cmpi .ne v94 c0_i32_42
  let v96 : BitVec 1 := Scalar.andi v93 v95
  let v82 : BitVec 32 := Scalar.divsi v52 c2_i32
  let c1_i32_43 : BitVec 32 := 1#32
  let v97 : BitVec 32 := Scalar.subi v82 c1_i32_43
  let v98 : BitVec 32 := Scalar.select v96 v97 v82
  let v104 : BitVec 32 := Scalar.muli c2_i32_49 v98
  let c1_i32_52 : BitVec 32 := 1#32
  let arg12 : BitVec 32 := Scf.iv v104 c1_i32_52 k0_t3
  let c1_i32_80 : BitVec 32 := 1#32
  let v157 : BitVec 32 := Scalar.addi arg12 c1_i32_80
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let c1_i32_81 : BitVec 32 := 1#32
  let v158 : BitVec 32 := Scalar.subi v73 c1_i32_81
  let v159 : BitVec 32 := Scalar.minsi v157 v158
  let c512_i32_82 : BitVec 32 := 512#32
  let v160 : BitVec 32 := Scalar.muli v159 c512_i32_82
  let v161 : BitVec 32 := v160
  let v162 : Index := Scalar.indexCast v161
  let c0_84 : Index := 0#32
  ![0, v162.toNat, 0]
def k0_off10 (i : grid0.Coords) (k0_t3 : Fin (k0_t3_loop i).trips) : Fin 4 → Nat :=
  let c0_96 : Index := 0#32
  let c2_i32_49 : BitVec 32 := 2#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c0_i32_38 : BitVec 32 := 0#32
  let v83 : BitVec 1 := Scalar.cmpi .sgt v52 c0_i32_38
  let v84 : BitVec 32 := Scalar.extui v83
  let c0_i32_39 : BitVec 32 := 0#32
  let v85 : BitVec 1 := Scalar.cmpi .slt v52 c0_i32_39
  let v86 : BitVec 32 := Scalar.extui v85
  let v87 : BitVec 32 := Scalar.subi v84 v86
  let c2_i32 : BitVec 32 := 2#32
  let c0_i32_40 : BitVec 32 := 0#32
  let v88 : BitVec 1 := Scalar.cmpi .sgt c2_i32 c0_i32_40
  let v89 : BitVec 32 := Scalar.extui v88
  let c0_i32_41 : BitVec 32 := 0#32
  let v90 : BitVec 1 := Scalar.cmpi .slt c2_i32 c0_i32_41
  let v91 : BitVec 32 := Scalar.extui v90
  let v92 : BitVec 32 := Scalar.subi v89 v91
  let v93 : BitVec 1 := Scalar.cmpi .ne v87 v92
  let v94 : BitVec 32 := Scalar.remsi v52 c2_i32
  let c0_i32_42 : BitVec 32 := 0#32
  let v95 : BitVec 1 := Scalar.cmpi .ne v94 c0_i32_42
  let v96 : BitVec 1 := Scalar.andi v93 v95
  let v82 : BitVec 32 := Scalar.divsi v52 c2_i32
  let c1_i32_43 : BitVec 32 := 1#32
  let v97 : BitVec 32 := Scalar.subi v82 c1_i32_43
  let v98 : BitVec 32 := Scalar.select v96 v97 v82
  let v104 : BitVec 32 := Scalar.muli c2_i32_49 v98
  let c1_i32_52 : BitVec 32 := 1#32
  let arg12 : BitVec 32 := Scf.iv v104 c1_i32_52 k0_t3
  let v186 : Index := Scalar.indexCast arg12
  let c0_97 : Index := 0#32
  let c0_98 : Index := 0#32
  ![0, v186.toNat, 0, 0]
@[reducible] def k0_t4_loop (i : grid0.Coords) : Scf.Loop 32 :=
  let c2_i32_49 : BitVec 32 := 2#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c0_i32_38 : BitVec 32 := 0#32
  let v83 : BitVec 1 := Scalar.cmpi .sgt v52 c0_i32_38
  let v84 : BitVec 32 := Scalar.extui v83
  let c0_i32_39 : BitVec 32 := 0#32
  let v85 : BitVec 1 := Scalar.cmpi .slt v52 c0_i32_39
  let v86 : BitVec 32 := Scalar.extui v85
  let v87 : BitVec 32 := Scalar.subi v84 v86
  let c2_i32 : BitVec 32 := 2#32
  let c0_i32_40 : BitVec 32 := 0#32
  let v88 : BitVec 1 := Scalar.cmpi .sgt c2_i32 c0_i32_40
  let v89 : BitVec 32 := Scalar.extui v88
  let c0_i32_41 : BitVec 32 := 0#32
  let v90 : BitVec 1 := Scalar.cmpi .slt c2_i32 c0_i32_41
  let v91 : BitVec 32 := Scalar.extui v90
  let v92 : BitVec 32 := Scalar.subi v89 v91
  let v93 : BitVec 1 := Scalar.cmpi .ne v87 v92
  let v94 : BitVec 32 := Scalar.remsi v52 c2_i32
  let c0_i32_42 : BitVec 32 := 0#32
  let v95 : BitVec 1 := Scalar.cmpi .ne v94 c0_i32_42
  let v96 : BitVec 1 := Scalar.andi v93 v95
  let v82 : BitVec 32 := Scalar.divsi v52 c2_i32
  let c1_i32_43 : BitVec 32 := 1#32
  let v97 : BitVec 32 := Scalar.subi v82 c1_i32_43
  let v98 : BitVec 32 := Scalar.select v96 v97 v82
  let v104 : BitVec 32 := Scalar.muli c2_i32_49 v98
  let v105 : BitVec 32 := Scalar.subi v52 v104
  let c1_i32_51 : BitVec 32 := 1#32
  let v107 : BitVec 32 := Scalar.divsi v105 c1_i32_51
  let v108 : BitVec 32 := Scalar.muli v107 c1_i32_51
  let v109 : BitVec 32 := Scalar.addi v104 v108
  let v106 : BitVec 32 := Scalar.addi v104 v105
  let c1_i32_53 : BitVec 32 := 1#32
  ⟨v109, v106, c1_i32_53⟩
def k0_mult7 (i : grid0.Coords) (k0_t4 : Fin (k0_t4_loop i).trips) : BitVec 32 :=
  let c2_i32_49 : BitVec 32 := 2#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c0_i32_38 : BitVec 32 := 0#32
  let v83 : BitVec 1 := Scalar.cmpi .sgt v52 c0_i32_38
  let v84 : BitVec 32 := Scalar.extui v83
  let c0_i32_39 : BitVec 32 := 0#32
  let v85 : BitVec 1 := Scalar.cmpi .slt v52 c0_i32_39
  let v86 : BitVec 32 := Scalar.extui v85
  let v87 : BitVec 32 := Scalar.subi v84 v86
  let c2_i32 : BitVec 32 := 2#32
  let c0_i32_40 : BitVec 32 := 0#32
  let v88 : BitVec 1 := Scalar.cmpi .sgt c2_i32 c0_i32_40
  let v89 : BitVec 32 := Scalar.extui v88
  let c0_i32_41 : BitVec 32 := 0#32
  let v90 : BitVec 1 := Scalar.cmpi .slt c2_i32 c0_i32_41
  let v91 : BitVec 32 := Scalar.extui v90
  let v92 : BitVec 32 := Scalar.subi v89 v91
  let v93 : BitVec 1 := Scalar.cmpi .ne v87 v92
  let v94 : BitVec 32 := Scalar.remsi v52 c2_i32
  let c0_i32_42 : BitVec 32 := 0#32
  let v95 : BitVec 1 := Scalar.cmpi .ne v94 c0_i32_42
  let v96 : BitVec 1 := Scalar.andi v93 v95
  let v82 : BitVec 32 := Scalar.divsi v52 c2_i32
  let c1_i32_43 : BitVec 32 := 1#32
  let v97 : BitVec 32 := Scalar.subi v82 c1_i32_43
  let v98 : BitVec 32 := Scalar.select v96 v97 v82
  let v104 : BitVec 32 := Scalar.muli c2_i32_49 v98
  let v105 : BitVec 32 := Scalar.subi v52 v104
  let c1_i32_51 : BitVec 32 := 1#32
  let v107 : BitVec 32 := Scalar.divsi v105 c1_i32_51
  let v108 : BitVec 32 := Scalar.muli v107 c1_i32_51
  let v109 : BitVec 32 := Scalar.addi v104 v108
  let c1_i32_53 : BitVec 32 := 1#32
  let arg12 : BitVec 32 := Scf.iv v109 c1_i32_53 k0_t4
  let c1_i32_80 : BitVec 32 := 1#32
  let v157 : BitVec 32 := Scalar.addi arg12 c1_i32_80
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let c1_i32_81 : BitVec 32 := 1#32
  let v158 : BitVec 32 := Scalar.subi v73 c1_i32_81
  let v159 : BitVec 32 := Scalar.minsi v157 v158
  let c512_i32_82 : BitVec 32 := 512#32
  let v160 : BitVec 32 := Scalar.muli v159 c512_i32_82
  v160
def k0_off11 (i : grid0.Coords) (k0_t4 : Fin (k0_t4_loop i).trips) : Fin 3 → Nat :=
  let c0_83 : Index := 0#32
  let c2_i32_49 : BitVec 32 := 2#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c0_i32_38 : BitVec 32 := 0#32
  let v83 : BitVec 1 := Scalar.cmpi .sgt v52 c0_i32_38
  let v84 : BitVec 32 := Scalar.extui v83
  let c0_i32_39 : BitVec 32 := 0#32
  let v85 : BitVec 1 := Scalar.cmpi .slt v52 c0_i32_39
  let v86 : BitVec 32 := Scalar.extui v85
  let v87 : BitVec 32 := Scalar.subi v84 v86
  let c2_i32 : BitVec 32 := 2#32
  let c0_i32_40 : BitVec 32 := 0#32
  let v88 : BitVec 1 := Scalar.cmpi .sgt c2_i32 c0_i32_40
  let v89 : BitVec 32 := Scalar.extui v88
  let c0_i32_41 : BitVec 32 := 0#32
  let v90 : BitVec 1 := Scalar.cmpi .slt c2_i32 c0_i32_41
  let v91 : BitVec 32 := Scalar.extui v90
  let v92 : BitVec 32 := Scalar.subi v89 v91
  let v93 : BitVec 1 := Scalar.cmpi .ne v87 v92
  let v94 : BitVec 32 := Scalar.remsi v52 c2_i32
  let c0_i32_42 : BitVec 32 := 0#32
  let v95 : BitVec 1 := Scalar.cmpi .ne v94 c0_i32_42
  let v96 : BitVec 1 := Scalar.andi v93 v95
  let v82 : BitVec 32 := Scalar.divsi v52 c2_i32
  let c1_i32_43 : BitVec 32 := 1#32
  let v97 : BitVec 32 := Scalar.subi v82 c1_i32_43
  let v98 : BitVec 32 := Scalar.select v96 v97 v82
  let v104 : BitVec 32 := Scalar.muli c2_i32_49 v98
  let v105 : BitVec 32 := Scalar.subi v52 v104
  let c1_i32_51 : BitVec 32 := 1#32
  let v107 : BitVec 32 := Scalar.divsi v105 c1_i32_51
  let v108 : BitVec 32 := Scalar.muli v107 c1_i32_51
  let v109 : BitVec 32 := Scalar.addi v104 v108
  let c1_i32_53 : BitVec 32 := 1#32
  let arg12 : BitVec 32 := Scf.iv v109 c1_i32_53 k0_t4
  let c1_i32_80 : BitVec 32 := 1#32
  let v157 : BitVec 32 := Scalar.addi arg12 c1_i32_80
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let c1_i32_81 : BitVec 32 := 1#32
  let v158 : BitVec 32 := Scalar.subi v73 c1_i32_81
  let v159 : BitVec 32 := Scalar.minsi v157 v158
  let c512_i32_82 : BitVec 32 := 512#32
  let v160 : BitVec 32 := Scalar.muli v159 c512_i32_82
  let v161 : BitVec 32 := v160
  let v162 : Index := Scalar.indexCast v161
  let c0_84 : Index := 0#32
  ![0, v162.toNat, 0]
def k0_off12 (i : grid0.Coords) (k0_t4 : Fin (k0_t4_loop i).trips) : Fin 4 → Nat :=
  let c0_96 : Index := 0#32
  let c2_i32_49 : BitVec 32 := 2#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c0_i32_38 : BitVec 32 := 0#32
  let v83 : BitVec 1 := Scalar.cmpi .sgt v52 c0_i32_38
  let v84 : BitVec 32 := Scalar.extui v83
  let c0_i32_39 : BitVec 32 := 0#32
  let v85 : BitVec 1 := Scalar.cmpi .slt v52 c0_i32_39
  let v86 : BitVec 32 := Scalar.extui v85
  let v87 : BitVec 32 := Scalar.subi v84 v86
  let c2_i32 : BitVec 32 := 2#32
  let c0_i32_40 : BitVec 32 := 0#32
  let v88 : BitVec 1 := Scalar.cmpi .sgt c2_i32 c0_i32_40
  let v89 : BitVec 32 := Scalar.extui v88
  let c0_i32_41 : BitVec 32 := 0#32
  let v90 : BitVec 1 := Scalar.cmpi .slt c2_i32 c0_i32_41
  let v91 : BitVec 32 := Scalar.extui v90
  let v92 : BitVec 32 := Scalar.subi v89 v91
  let v93 : BitVec 1 := Scalar.cmpi .ne v87 v92
  let v94 : BitVec 32 := Scalar.remsi v52 c2_i32
  let c0_i32_42 : BitVec 32 := 0#32
  let v95 : BitVec 1 := Scalar.cmpi .ne v94 c0_i32_42
  let v96 : BitVec 1 := Scalar.andi v93 v95
  let v82 : BitVec 32 := Scalar.divsi v52 c2_i32
  let c1_i32_43 : BitVec 32 := 1#32
  let v97 : BitVec 32 := Scalar.subi v82 c1_i32_43
  let v98 : BitVec 32 := Scalar.select v96 v97 v82
  let v104 : BitVec 32 := Scalar.muli c2_i32_49 v98
  let v105 : BitVec 32 := Scalar.subi v52 v104
  let c1_i32_51 : BitVec 32 := 1#32
  let v107 : BitVec 32 := Scalar.divsi v105 c1_i32_51
  let v108 : BitVec 32 := Scalar.muli v107 c1_i32_51
  let v109 : BitVec 32 := Scalar.addi v104 v108
  let c1_i32_53 : BitVec 32 := 1#32
  let arg12 : BitVec 32 := Scf.iv v109 c1_i32_53 k0_t4
  let v186 : Index := Scalar.indexCast arg12
  let c0_97 : Index := 0#32
  let c0_98 : Index := 0#32
  ![0, v186.toNat, 0, 0]
@[reducible] def k0_t5_loop (i : grid0.Coords) : Scf.Loop 32 :=
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v110 : BitVec 32 := Scalar.subi v73 v52
  let c1_i32_55 : BitVec 32 := 1#32
  let v112 : BitVec 32 := Scalar.divsi v110 c1_i32_55
  let v113 : BitVec 32 := Scalar.muli v112 c1_i32_55
  let v114 : BitVec 32 := Scalar.addi v52 v113
  let c1_i32_56 : BitVec 32 := 1#32
  ⟨v52, v114, c1_i32_56⟩
def k0_mult8 (i : grid0.Coords) (k0_t5 : Fin (k0_t5_loop i).trips) : BitVec 32 :=
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c1_i32_56 : BitVec 32 := 1#32
  let arg12 : BitVec 32 := Scf.iv v52 c1_i32_56 k0_t5
  let c1_i32_80 : BitVec 32 := 1#32
  let v157 : BitVec 32 := Scalar.addi arg12 c1_i32_80
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let c1_i32_81 : BitVec 32 := 1#32
  let v158 : BitVec 32 := Scalar.subi v73 c1_i32_81
  let v159 : BitVec 32 := Scalar.minsi v157 v158
  let c512_i32_82 : BitVec 32 := 512#32
  let v160 : BitVec 32 := Scalar.muli v159 c512_i32_82
  v160
def k0_off13 (i : grid0.Coords) (k0_t5 : Fin (k0_t5_loop i).trips) : Fin 3 → Nat :=
  let c0_83 : Index := 0#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c1_i32_56 : BitVec 32 := 1#32
  let arg12 : BitVec 32 := Scf.iv v52 c1_i32_56 k0_t5
  let c1_i32_80 : BitVec 32 := 1#32
  let v157 : BitVec 32 := Scalar.addi arg12 c1_i32_80
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let c1_i32_81 : BitVec 32 := 1#32
  let v158 : BitVec 32 := Scalar.subi v73 c1_i32_81
  let v159 : BitVec 32 := Scalar.minsi v157 v158
  let c512_i32_82 : BitVec 32 := 512#32
  let v160 : BitVec 32 := Scalar.muli v159 c512_i32_82
  let v161 : BitVec 32 := v160
  let v162 : Index := Scalar.indexCast v161
  let c0_84 : Index := 0#32
  ![0, v162.toNat, 0]
def k0_off14 (i : grid0.Coords) (k0_t5 : Fin (k0_t5_loop i).trips) : Fin 4 → Nat :=
  let c0_98 : Index := 0#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c1_i32_56 : BitVec 32 := 1#32
  let arg12 : BitVec 32 := Scf.iv v52 c1_i32_56 k0_t5
  let v195 : Index := Scalar.indexCast arg12
  let c0_99 : Index := 0#32
  let c0_100 : Index := 0#32
  ![0, v195.toNat, 0, 0]
@[reducible] def k0_t6_loop (i : grid0.Coords) : Scf.Loop 32 :=
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v110 : BitVec 32 := Scalar.subi v73 v52
  let c1_i32_55 : BitVec 32 := 1#32
  let v112 : BitVec 32 := Scalar.divsi v110 c1_i32_55
  let v113 : BitVec 32 := Scalar.muli v112 c1_i32_55
  let v114 : BitVec 32 := Scalar.addi v52 v113
  let v111 : BitVec 32 := Scalar.addi v52 v110
  let c1_i32_57 : BitVec 32 := 1#32
  ⟨v114, v111, c1_i32_57⟩
def k0_mult9 (i : grid0.Coords) (k0_t6 : Fin (k0_t6_loop i).trips) : BitVec 32 :=
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v110 : BitVec 32 := Scalar.subi v73 v52
  let c1_i32_55 : BitVec 32 := 1#32
  let v112 : BitVec 32 := Scalar.divsi v110 c1_i32_55
  let v113 : BitVec 32 := Scalar.muli v112 c1_i32_55
  let v114 : BitVec 32 := Scalar.addi v52 v113
  let c1_i32_57 : BitVec 32 := 1#32
  let arg12 : BitVec 32 := Scf.iv v114 c1_i32_57 k0_t6
  let c1_i32_80 : BitVec 32 := 1#32
  let v157 : BitVec 32 := Scalar.addi arg12 c1_i32_80
  let c1_i32_81 : BitVec 32 := 1#32
  let v158 : BitVec 32 := Scalar.subi v73 c1_i32_81
  let v159 : BitVec 32 := Scalar.minsi v157 v158
  let c512_i32_82 : BitVec 32 := 512#32
  let v160 : BitVec 32 := Scalar.muli v159 c512_i32_82
  v160
def k0_off15 (i : grid0.Coords) (k0_t6 : Fin (k0_t6_loop i).trips) : Fin 3 → Nat :=
  let c0_83 : Index := 0#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v110 : BitVec 32 := Scalar.subi v73 v52
  let c1_i32_55 : BitVec 32 := 1#32
  let v112 : BitVec 32 := Scalar.divsi v110 c1_i32_55
  let v113 : BitVec 32 := Scalar.muli v112 c1_i32_55
  let v114 : BitVec 32 := Scalar.addi v52 v113
  let c1_i32_57 : BitVec 32 := 1#32
  let arg12 : BitVec 32 := Scf.iv v114 c1_i32_57 k0_t6
  let c1_i32_80 : BitVec 32 := 1#32
  let v157 : BitVec 32 := Scalar.addi arg12 c1_i32_80
  let c1_i32_81 : BitVec 32 := 1#32
  let v158 : BitVec 32 := Scalar.subi v73 c1_i32_81
  let v159 : BitVec 32 := Scalar.minsi v157 v158
  let c512_i32_82 : BitVec 32 := 512#32
  let v160 : BitVec 32 := Scalar.muli v159 c512_i32_82
  let v161 : BitVec 32 := v160
  let v162 : Index := Scalar.indexCast v161
  let c0_84 : Index := 0#32
  ![0, v162.toNat, 0]
def k0_off16 (i : grid0.Coords) (k0_t6 : Fin (k0_t6_loop i).trips) : Fin 4 → Nat :=
  let c0_98 : Index := 0#32
  let arg1 : BitVec 32 := BitVec.ofNat 32 (i 1).val
  let c256_i32_15 : BitVec 32 := 256#32
  let v34 : BitVec 32 := Scalar.muli arg1 c256_i32_15
  let c1_i32 : BitVec 32 := 1#32
  let v35 : BitVec 32 := Scalar.addi v34 c1_i32
  let c0_i32 : BitVec 32 := 0#32
  let v37 : BitVec 1 := Scalar.cmpi .sgt v35 c0_i32
  let v38 : BitVec 32 := Scalar.extui v37
  let c0_i32_16 : BitVec 32 := 0#32
  let v39 : BitVec 1 := Scalar.cmpi .slt v35 c0_i32_16
  let v40 : BitVec 32 := Scalar.extui v39
  let v41 : BitVec 32 := Scalar.subi v38 v40
  let c512_i32 : BitVec 32 := 512#32
  let c0_i32_17 : BitVec 32 := 0#32
  let v42 : BitVec 1 := Scalar.cmpi .sgt c512_i32 c0_i32_17
  let v43 : BitVec 32 := Scalar.extui v42
  let c0_i32_18 : BitVec 32 := 0#32
  let v44 : BitVec 1 := Scalar.cmpi .slt c512_i32 c0_i32_18
  let v45 : BitVec 32 := Scalar.extui v44
  let v46 : BitVec 32 := Scalar.subi v43 v45
  let v47 : BitVec 1 := Scalar.cmpi .ne v41 v46
  let v48 : BitVec 32 := Scalar.remsi v35 c512_i32
  let c0_i32_19 : BitVec 32 := 0#32
  let v49 : BitVec 1 := Scalar.cmpi .ne v48 c0_i32_19
  let v50 : BitVec 1 := Scalar.andi v47 v49
  let v36 : BitVec 32 := Scalar.divsi v35 c512_i32
  let c1_i32_20 : BitVec 32 := 1#32
  let v51 : BitVec 32 := Scalar.subi v36 c1_i32_20
  let v52 : BitVec 32 := Scalar.select v50 v51 v36
  let c256_i32_21 : BitVec 32 := 256#32
  let v53 : BitVec 32 := Scalar.muli arg1 c256_i32_21
  let c256_i32_22 : BitVec 32 := 256#32
  let v54 : BitVec 32 := Scalar.addi v53 c256_i32_22
  let c512_i32_23 : BitVec 32 := 512#32
  let v55 : BitVec 32 := Scalar.addi v54 c512_i32_23
  let c1_i32_24 : BitVec 32 := 1#32
  let v56 : BitVec 32 := Scalar.subi v55 c1_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c512_i32_25 : BitVec 32 := 512#32
  let c0_i32_28 : BitVec 32 := 0#32
  let v63 : BitVec 1 := Scalar.cmpi .sgt c512_i32_25 c0_i32_28
  let v64 : BitVec 32 := Scalar.extui v63
  let c0_i32_29 : BitVec 32 := 0#32
  let v65 : BitVec 1 := Scalar.cmpi .slt c512_i32_25 c0_i32_29
  let v66 : BitVec 32 := Scalar.extui v65
  let v67 : BitVec 32 := Scalar.subi v64 v66
  let v68 : BitVec 1 := Scalar.cmpi .ne v62 v67
  let v69 : BitVec 32 := Scalar.remsi v56 c512_i32_25
  let c0_i32_30 : BitVec 32 := 0#32
  let v70 : BitVec 1 := Scalar.cmpi .ne v69 c0_i32_30
  let v71 : BitVec 1 := Scalar.andi v68 v70
  let v57 : BitVec 32 := Scalar.divsi v56 c512_i32_25
  let c1_i32_31 : BitVec 32 := 1#32
  let v72 : BitVec 32 := Scalar.subi v57 c1_i32_31
  let v73 : BitVec 32 := Scalar.select v71 v72 v57
  let v110 : BitVec 32 := Scalar.subi v73 v52
  let c1_i32_55 : BitVec 32 := 1#32
  let v112 : BitVec 32 := Scalar.divsi v110 c1_i32_55
  let v113 : BitVec 32 := Scalar.muli v112 c1_i32_55
  let v114 : BitVec 32 := Scalar.addi v52 v113
  let c1_i32_57 : BitVec 32 := 1#32
  let arg12 : BitVec 32 := Scf.iv v114 c1_i32_57 k0_t6
  let v195 : Index := Scalar.indexCast arg12
  let c0_99 : Index := 0#32
  let c0_100 : Index := 0#32
  ![0, v195.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8704x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x17x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "neg" => some ⊥
  | _ => none
-- ==== ReferenceIdeal.lean ====
abbrev S4x64 : Shape := ⟨2, ![4, 64]⟩
abbrev S1x128 : Shape := ⟨2, ![1, 128]⟩
abbrev S6x8704x128 : Shape := ⟨3, ![6, 8704, 128]⟩
abbrev S6x17x128x512 : Shape := ⟨4, ![6, 17, 128, 512]⟩
abbrev S6x8448x128 : Shape := ⟨3, ![6, 8448, 128]⟩
abbrev S6x17x512x128 : Shape := ⟨4, ![6, 17, 512, 128]⟩
abbrev S8448 : Shape := ⟨1, ![8448]⟩
abbrev S8704 : Shape := ⟨1, ![8704]⟩
abbrev S1x64 : Shape := ⟨2, ![1, 64]⟩
abbrev S64 : Shape := ⟨1, ![64]⟩
abbrev S_ : Shape := ⟨0, ![]⟩
abbrev S6x8448x2x64 : Shape := ⟨4, ![6, 8448, 2, 64]⟩
abbrev S6x8704x2x64 : Shape := ⟨4, ![6, 8704, 2, 64]⟩
abbrev S2x6x8448x8704 : Shape := ⟨4, ![2, 6, 8448, 8704]⟩
abbrev S1x8704 : Shape := ⟨2, ![1, 8704]⟩
abbrev S8448x1 : Shape := ⟨2, ![8448, 1]⟩
abbrev S8448x8704 : Shape := ⟨2, ![8448, 8704]⟩
abbrev S2x6x8448 : Shape := ⟨3, ![2, 6, 8448]⟩
abbrev S2x6x8448x1 : Shape := ⟨4, ![2, 6, 8448, 1]⟩
abbrev S1x6x8448x8704 : Shape := ⟨4, ![1, 6, 8448, 8704]⟩
abbrev S6x8448x8704 : Shape := ⟨3, ![6, 8448, 8704]⟩
abbrev S6x128x8448 : Shape := ⟨3, ![6, 128, 8448]⟩
abbrev S8448x6x128 : Shape := ⟨3, ![8448, 6, 128]⟩
abbrev S8448x6 : Shape := ⟨2, ![8448, 6]⟩
abbrev S8448x6x1 : Shape := ⟨3, ![8448, 6, 1]⟩
abbrev S128 : Shape := ⟨1, ![128]⟩
abbrev S1x1x128 : Shape := ⟨3, ![1, 1, 128]⟩
abbrev S8448x768 : Shape := ⟨2, ![8448, 768]⟩

abbrev nBuf : Space → Nat
  | .hbm => 92
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S1x128, .f32⟩
  | .hbm, ⟨2, _⟩ => ⟨S6x8704x128, .bf16⟩
  | .hbm, ⟨3, _⟩ => ⟨S6x8704x128, .bf16⟩
  | .hbm, ⟨4, _⟩ => ⟨S6x17x128x512, .bf16⟩
  | .hbm, ⟨5, _⟩ => ⟨S6x8448x128, .bf16⟩
  | .hbm, ⟨6, _⟩ => ⟨S6x8448x128, .f32⟩
  | .hbm, ⟨7, _⟩ => ⟨S6x8704x128, .f32⟩
  | .hbm, ⟨8, _⟩ => ⟨S6x17x128x512, .f32⟩
  | .hbm, ⟨9, _⟩ => ⟨S6x17x512x128, .f32⟩
  | .hbm, ⟨10, _⟩ => ⟨S6x8704x128, .f32⟩
  | .hbm, ⟨11, _⟩ => ⟨S8448, .i32⟩
  | .hbm, ⟨12, _⟩ => ⟨S8704, .i32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S6x8448x2x64, .f32⟩
  | .hbm, ⟨33, _⟩ => ⟨S6x8704x2x64, .f32⟩
  | .hbm, ⟨34, _⟩ => ⟨S2x6x8448x8704, .f32⟩
  | .hbm, ⟨35, _⟩ => ⟨S_, .f32⟩
  | .hbm, ⟨36, _⟩ => ⟨S2x6x8448x8704, .f32⟩
  | .hbm, ⟨37, _⟩ => ⟨S2x6x8448x8704, .f32⟩
  | .hbm, ⟨38, _⟩ => ⟨S1x8704, .i32⟩
  | .hbm, ⟨39, _⟩ => ⟨S8448x1, .i32⟩
  | .hbm, ⟨40, _⟩ => ⟨S8448x8704, .i32⟩
  | .hbm, ⟨41, _⟩ => ⟨S8448x8704, .i32⟩
  | .hbm, ⟨42, _⟩ => ⟨S8448x8704, .i1⟩
  | .hbm, ⟨43, _⟩ => ⟨S_, .f32⟩
  | .hbm, ⟨44, _⟩ => ⟨S_, .f32⟩
  | .hbm, ⟨45, _⟩ => ⟨S2x6x8448x8704, .i1⟩
  | .hbm, ⟨46, _⟩ => ⟨S2x6x8448x8704, .f32⟩
  | .hbm, ⟨47, _⟩ => ⟨S2x6x8448x8704, .f32⟩
  | .hbm, ⟨48, _⟩ => ⟨S_, .f32⟩
  | .hbm, ⟨49, _⟩ => ⟨S2x6x8448, .f32⟩
  | .hbm, ⟨50, _⟩ => ⟨S_, .f32⟩
  | .hbm, ⟨51, _⟩ => ⟨S2x6x8448, .f32⟩
  | .hbm, ⟨52, _⟩ => ⟨S2x6x8448, .f32⟩
  | .hbm, ⟨53, _⟩ => ⟨S2x6x8448x1, .f32⟩
  | .hbm, ⟨54, _⟩ => ⟨S2x6x8448x8704, .f32⟩
  | .hbm, ⟨55, _⟩ => ⟨S2x6x8448x8704, .f32⟩
  | .hbm, ⟨56, _⟩ => ⟨S2x6x8448x8704, .f32⟩
  | .hbm, ⟨57, _⟩ => ⟨S_, .f32⟩
  | .hbm, ⟨58, _⟩ => ⟨S2x6x8448, .f32⟩
  | .hbm, ⟨59, _⟩ => ⟨S2x6x8448x1, .f32⟩
  | .hbm, ⟨60, _⟩ => ⟨S2x6x8448x8704, .f32⟩
  | .hbm, ⟨61, _⟩ => ⟨S2x6x8448x8704, .f32⟩
  | .hbm, ⟨62, _⟩ => ⟨S1x6x8448x8704, .f32⟩
  | .hbm, ⟨63, _⟩ => ⟨S6x8448x8704, .f32⟩
  | .hbm, ⟨64, _⟩ => ⟨S1x6x8448x8704, .f32⟩
  | .hbm, ⟨65, _⟩ => ⟨S6x8448x8704, .f32⟩
  | .hbm, ⟨66, _⟩ => ⟨S6x8448x8704, .f32⟩
  | .hbm, ⟨67, _⟩ => ⟨S6x8448x8704, .f32⟩
  | .hbm, ⟨68, _⟩ => ⟨S6x8448x8704, .f32⟩
  | .hbm, ⟨69, _⟩ => ⟨S6x128x8448, .f32⟩
  | .hbm, ⟨70, _⟩ => ⟨S8448x6x128, .f32⟩
  | .hbm, ⟨71, _⟩ => ⟨S8448x6x128, .f32⟩
  | .hbm, ⟨72, _⟩ => ⟨S_, .f32⟩
  | .hbm, ⟨73, _⟩ => ⟨S8448x6, .f32⟩
  | .hbm, ⟨74, _⟩ => ⟨S8448x6x1, .f32⟩
  | .hbm, ⟨75, _⟩ => ⟨S_, .f32⟩
  | .hbm, ⟨76, _⟩ => ⟨S8448x6x1, .f32⟩
  | .hbm, ⟨77, _⟩ => ⟨S8448x6x1, .f32⟩
  | .hbm, ⟨78, _⟩ => ⟨S_, .f32⟩
  | .hbm, ⟨79, _⟩ => ⟨S8448x6x1, .f32⟩
  | .hbm, ⟨80, _⟩ => ⟨S8448x6x1, .f32⟩
  | .hbm, ⟨81, _⟩ => ⟨S8448x6x1, .f32⟩
  | .hbm, ⟨82, _⟩ => ⟨S8448x6x128, .f32⟩
  | .hbm, ⟨83, _⟩ => ⟨S8448x6x128, .f32⟩
  | .hbm, ⟨84, _⟩ => ⟨S128, .f32⟩
  | .hbm, ⟨85, _⟩ => ⟨S1x1x128, .f32⟩
  | .hbm, ⟨86, _⟩ => ⟨S8448x6x128, .f32⟩
  | .hbm, ⟨87, _⟩ => ⟨S8448x6x128, .f32⟩
  | .hbm, ⟨88, _⟩ => ⟨S_, .f32⟩
  | .hbm, ⟨89, _⟩ => ⟨S8448x6x128, .f32⟩
  | .hbm, ⟨90, _⟩ => ⟨S8448x6x128, .f32⟩
  | .hbm, ⟨91, _⟩ => ⟨S8448x768, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== Kernel2.lean ====
abbrev S8208x2048 : Shape := ⟨2, ![8208, 2048]⟩
abbrev S2048 : Shape := ⟨1, ![2048]⟩
abbrev S2048x7696 : Shape := ⟨2, ![2048, 7696]⟩
abbrev S2048x256 : Shape := ⟨2, ![2048, 256]⟩
abbrev S2048x512 : Shape := ⟨2, ![2048, 512]⟩
abbrev S2048x16 : Shape := ⟨2, ![2048, 16]⟩
abbrev S2048x768 : Shape := ⟨2, ![2048, 768]⟩
abbrev S_ : Shape := ⟨0, ![]⟩
abbrev S2048x752 : Shape := ⟨2, ![2048, 752]⟩
abbrev S2048x8448 : Shape := ⟨2, ![2048, 8448]⟩
abbrev S2048x11x768 : Shape := ⟨3, ![2048, 11, 768]⟩
abbrev S11x2048x768 : Shape := ⟨3, ![11, 2048, 768]⟩
abbrev S1x2048 : Shape := ⟨2, ![1, 2048]⟩
abbrev S6x8704x128 : Shape := ⟨3, ![6, 8704, 128]⟩
abbrev S2x6x8208x128 : Shape := ⟨4, ![2, 6, 8208, 128]⟩
abbrev S6x34x128x256 : Shape := ⟨4, ![6, 34, 128, 256]⟩
abbrev S8704x768 : Shape := ⟨2, ![8704, 768]⟩
abbrev S512x2048 : Shape := ⟨2, ![512, 2048]⟩
abbrev S1x2048x768 : Shape := ⟨3, ![1, 2048, 768]⟩
abbrev S6x512x128 : Shape := ⟨3, ![6, 512, 128]⟩
abbrev S1x6x512x128 : Shape := ⟨4, ![1, 6, 512, 128]⟩
abbrev S6x2x128x256 : Shape := ⟨4, ![6, 2, 128, 256]⟩
abbrev S512x768 : Shape := ⟨2, ![512, 768]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1x1x512x128 : Shape := ⟨4, ![1, 1, 512, 128]⟩
abbrev S128x512 : Shape := ⟨2, ![128, 512]⟩
abbrev S128x256 : Shape := ⟨2, ![128, 256]⟩
abbrev S1x1x128x256 : Shape := ⟨4, ![1, 1, 128, 256]⟩

abbrev nBuf : Space → Nat
  | .hbm => 29
  | .vmem => 18
  | .smem => 0
  | _ => 0

abbrev bufTy : (tb : Table) → Fin (tcTables nBuf tb) → BufTy
  | .hbm, ⟨0, _⟩ => ⟨S8208x2048, .f32⟩
  | .hbm, ⟨1, _⟩ => ⟨S2048, .f32⟩
  | .hbm, ⟨2, _⟩ => ⟨S2048x7696, .f32⟩
  | .hbm, ⟨3, _⟩ => ⟨S2048x256, .f32⟩
  | .hbm, ⟨4, _⟩ => ⟨S2048x256, .f32⟩
  | .hbm, ⟨5, _⟩ => ⟨S2048x512, .f32⟩
  | .hbm, ⟨6, _⟩ => ⟨S2048x16, .f32⟩
  | .hbm, ⟨7, _⟩ => ⟨S2048x512, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S2048x768, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S2048x768, .f32⟩
  | .hbm, ⟨16, _⟩ => ⟨S_, .f32⟩
  | .hbm, ⟨17, _⟩ => ⟨S2048x752, .f32⟩
  | .hbm, ⟨18, _⟩ => ⟨S2048x8448, .f32⟩
  | .hbm, ⟨19, _⟩ => ⟨S2048x8448, .bf16⟩
  | .hbm, ⟨20, _⟩ => ⟨S2048x11x768, .bf16⟩
  | .hbm, ⟨21, _⟩ => ⟨S11x2048x768, .bf16⟩
  | .hbm, ⟨22, _⟩ => ⟨S1x2048, .f32⟩
  | .hbm, ⟨23, _⟩ => ⟨S6x8704x128, .bf16⟩
  | .hbm, ⟨24, _⟩ => ⟨S2x6x8208x128, .f32⟩
  | .hbm, ⟨25, _⟩ => ⟨S6x8704x128, .bf16⟩
  | .hbm, ⟨26, _⟩ => ⟨S2x6x8208x128, .f32⟩
  | .hbm, ⟨27, _⟩ => ⟨S6x34x128x256, .bf16⟩
  | .hbm, ⟨28, _⟩ => ⟨S8704x768, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x768, .bf16⟩
  | .local _ .vmem, ⟨4, _⟩ => ⟨S1x2048x768, .bf16⟩
  | .local _ .vmem, ⟨5, _⟩ => ⟨S6x512x128, .bf16⟩
  | .local _ .vmem, ⟨6, _⟩ => ⟨S6x512x128, .bf16⟩
  | .local _ .vmem, ⟨7, _⟩ => ⟨S1x6x512x128, .f32⟩
  | .local _ .vmem, ⟨8, _⟩ => ⟨S1x6x512x128, .f32⟩
  | .local _ .vmem, ⟨9, _⟩ => ⟨S6x512x128, .bf16⟩
  | .local _ .vmem, ⟨10, _⟩ => ⟨S6x512x128, .bf16⟩
  | .local _ .vmem, ⟨11, _⟩ => ⟨S1x6x512x128, .f32⟩
  | .local _ .vmem, ⟨12, _⟩ => ⟨S1x6x512x128, .f32⟩
  | .local _ .vmem, ⟨13, _⟩ => ⟨S6x2x128x256, .bf16⟩
  | .local _ .vmem, ⟨14, _⟩ => ⟨S6x2x128x256, .bf16⟩
  | .local _ .vmem, ⟨15, _⟩ => ⟨S512x768, .f32⟩
  | .local _ .vmem, ⟨16, _⟩ => ⟨S512x768, .f32⟩
  | .local _ .vmem, ⟨17, _⟩ => ⟨S512x2048, .bf16⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev main_v19_2 : Ref sig .tc := ⟨.hbm, 25, rfl⟩
abbrev main_v19_3 : Ref sig .tc := ⟨.hbm, 26, rfl⟩
abbrev main_v19_4 : Ref sig .tc := ⟨.hbm, 27, rfl⟩
abbrev main_v19_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![17, 4], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c1_i32 : BitVec 32 := 1#32
  let v4 : BitVec 1 := Scalar.cmpi .slt arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c1_i32_3 : BitVec 32 := 1#32
  let v8 : BitVec 1 := Scalar.cmpi .sge arg1 c1_i32_3
  let c2_i32 : BitVec 32 := 2#32
  let v9 : BitVec 1 := Scalar.cmpi .slt arg1 c2_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c2_i32_5 : BitVec 32 := 2#32
  let v13 : BitVec 1 := Scalar.cmpi .sge arg1 c2_i32_5
  let c3_i32 : BitVec 32 := 3#32
  let v14 : BitVec 1 := Scalar.cmpi .slt arg1 c3_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c3_i32_7 : BitVec 32 := 3#32
  let v18 : BitVec 1 := Scalar.cmpi .sge arg1 c3_i32_7
  let c4_i32 : BitVec 32 := 4#32
  let v19 : BitVec 1 := Scalar.cmpi .slt arg1 c4_i32
  let v20 : BitVec 1 := Scalar.andi v18 v19
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S6x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x6x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S6x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x6x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S6x2x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8208x2048 : Shape := ⟨2, ![8208, 2048]⟩
abbrev S2048 : Shape := ⟨1, ![2048]⟩
abbrev S2048x7696 : Shape := ⟨2, ![2048, 7696]⟩
abbrev S_ : Shape := ⟨0, ![]⟩
abbrev S8208 : Shape := ⟨1, ![8208]⟩
abbrev S8208x1 : Shape := ⟨2, ![8208, 1]⟩
abbrev S1x2048 : Shape := ⟨2, ![1, 2048]⟩
abbrev S8208x7696 : Shape := ⟨2, ![8208, 7696]⟩
abbrev S8704x7696 : Shape := ⟨2, ![8704, 7696]⟩
abbrev S8704x256 : Shape := ⟨2, ![8704, 256]⟩
abbrev S8704x512 : Shape := ⟨2, ![8704, 512]⟩
abbrev S8704x16 : Shape := ⟨2, ![8704, 16]⟩
abbrev S8704x768 : Shape := ⟨2, ![8704, 768]⟩
abbrev S8704x6x128 : Shape := ⟨3, ![8704, 6, 128]⟩
abbrev S6x8704x128 : Shape := ⟨3, ![6, 8704, 128]⟩
abbrev S6x34x256x128 : Shape := ⟨4, ![6, 34, 256, 128]⟩
abbrev S6x34x128x256 : Shape := ⟨4, ![6, 34, 128, 256]⟩

abbrev nBuf : Space → Nat
  | .hbm => 47
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S2048, .f32⟩
  | .hbm, ⟨2, _⟩ => ⟨S2048x7696, .f32⟩
  | .hbm, ⟨3, _⟩ => ⟨S8208x2048, .f32⟩
  | .hbm, ⟨4, _⟩ => ⟨S_, .f32⟩
  | .hbm, ⟨5, _⟩ => ⟨S8208, .f32⟩
  | .hbm, ⟨6, _⟩ => ⟨S8208x1, .f32⟩
  | .hbm, ⟨7, _⟩ => ⟨S_, .f32⟩
  | .hbm, ⟨8, _⟩ => ⟨S8208x1, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S8208x1, .f32⟩
  | .hbm, ⟨14, _⟩ => ⟨S8208x2048, .f32⟩
  | .hbm, ⟨15, _⟩ => ⟨S8208x2048, .f32⟩
  | .hbm, ⟨16, _⟩ => ⟨S1x2048, .f32⟩
  | .hbm, ⟨17, _⟩ => ⟨S8208x2048, .f32⟩
  | .hbm, ⟨18, _⟩ => ⟨S8208x2048, .f32⟩
  | .hbm, ⟨19, _⟩ => ⟨S8208x7696, .f32⟩
  | .hbm, ⟨20, _⟩ => ⟨S_, .i32⟩
  | .hbm, ⟨21, _⟩ => ⟨S_, .f32⟩
  | .hbm, ⟨22, _⟩ => ⟨S8704x7696, .f32⟩
  | .hbm, ⟨23, _⟩ => ⟨S8704x256, .f32⟩
  | .hbm, ⟨24, _⟩ => ⟨S8704x256, .f32⟩
  | .hbm, ⟨25, _⟩ => ⟨S8704x512, .f32⟩
  | .hbm, ⟨26, _⟩ => ⟨S8704x16, .f32⟩
  | .hbm, ⟨27, _⟩ => ⟨S8704x512, .f32⟩
  | .hbm, ⟨28, _⟩ => ⟨S8704x768, .f32⟩
  | .hbm, ⟨29, _⟩ => ⟨S8704x768, .f32⟩
  | .hbm, ⟨30, _⟩ => ⟨S8704x768, .f32⟩
  | .hbm, ⟨31, _⟩ => ⟨S8704x768, .f32⟩
  | .hbm, ⟨32, _⟩ => ⟨S8704x768, .f32⟩
  | .hbm, ⟨33, _⟩ => ⟨S8704x768, .f32⟩
  | .hbm, ⟨34, _⟩ => ⟨S8704x768, .f32⟩
  | .hbm, ⟨35, _⟩ => ⟨S8704x768, .f32⟩
  | .hbm, ⟨36, _⟩ => ⟨S8704x6x128, .f32⟩
  | .hbm, ⟨37, _⟩ => ⟨S6x8704x128, .f32⟩
  | .hbm, ⟨38, _⟩ => ⟨S6x34x256x128, .f32⟩
  | .hbm, ⟨39, _⟩ => ⟨S6x34x128x256, .f32⟩
  | .hbm, ⟨40, _⟩ => ⟨S8704x6x128, .f32⟩
  | .hbm, ⟨41, _⟩ => ⟨S6x8704x128, .f32⟩
  | .hbm, ⟨42, _⟩ => ⟨S6x8704x128, .bf16⟩
  | .hbm, ⟨43, _⟩ => ⟨S8704x6x128, .f32⟩
  | .hbm, ⟨44, _⟩ => ⟨S6x8704x128, .f32⟩
  | .hbm, ⟨45, _⟩ => ⟨S6x8704x128, .bf16⟩
  | .hbm, ⟨46, _⟩ => ⟨S6x34x128x256, .bf16⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Kernel3.lean ====
abbrev S8208x2048 : Shape := ⟨2, ![8208, 2048]⟩
abbrev S2048 : Shape := ⟨1, ![2048]⟩
abbrev S2048x7696 : Shape := ⟨2, ![2048, 7696]⟩
abbrev S2048x256 : Shape := ⟨2, ![2048, 256]⟩
abbrev S2048x512 : Shape := ⟨2, ![2048, 512]⟩
abbrev S2048x16 : Shape := ⟨2, ![2048, 16]⟩
abbrev S2048x768 : Shape := ⟨2, ![2048, 768]⟩
abbrev S_ : Shape := ⟨0, ![]⟩
abbrev S2048x752 : Shape := ⟨2, ![2048, 752]⟩
abbrev S2048x8448 : Shape := ⟨2, ![2048, 8448]⟩
abbrev S2048x11x768 : Shape := ⟨3, ![2048, 11, 768]⟩
abbrev S11x2048x768 : Shape := ⟨3, ![11, 2048, 768]⟩
abbrev S1x2048 : Shape := ⟨2, ![1, 2048]⟩
abbrev S8704x2304 : Shape := ⟨2, ![8704, 2304]⟩
abbrev S6x8704x128 : Shape := ⟨3, ![6, 8704, 128]⟩
abbrev S2x6x8208x128 : Shape := ⟨4, ![2, 6, 8208, 128]⟩
abbrev S6x17x128x512 : Shape := ⟨4, ![6, 17, 128, 512]⟩
abbrev S8704x768 : Shape := ⟨2, ![8704, 768]⟩
abbrev S512x2048 : Shape := ⟨2, ![512, 2048]⟩
abbrev S1x2048x768 : Shape := ⟨3, ![1, 2048, 768]⟩
abbrev S512x768 : Shape := ⟨2, ![512, 768]⟩
abbrev S6x512x128 : Shape := ⟨3, ![6, 512, 128]⟩
abbrev S1x6x512x128 : Shape := ⟨4, ![1, 6, 512, 128]⟩
abbrev S6x1x128x512 : Shape := ⟨4, ![6, 1, 128, 512]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1x1x512x128 : Shape := ⟨4, ![1, 1, 512, 128]⟩
abbrev S128x512 : Shape := ⟨2, ![128, 512]⟩
abbrev S1x1x128x512 : Shape := ⟨4, ![1, 1, 128, 512]⟩

abbrev nBuf : Space → Nat
  | .hbm => 30
  | .vmem => 20
  | .smem => 0
  | _ => 0

abbrev bufTy : (tb : Table) → Fin (tcTables nBuf tb) → BufTy
  | .hbm, ⟨0, _⟩ => ⟨S8208x2048, .f32⟩
  | .hbm, ⟨1, _⟩ => ⟨S2048, .f32⟩
  | .hbm, ⟨2, _⟩ => ⟨S2048x7696, .f32⟩
  | .hbm, ⟨3, _⟩ => ⟨S2048x256, .f32⟩
  | .hbm, ⟨4, _⟩ => ⟨S2048x256, .f32⟩
  | .hbm, ⟨5, _⟩ => ⟨S2048x512, .f32⟩
  | .hbm, ⟨6, _⟩ => ⟨S2048x16, .f32⟩
  | .hbm, ⟨7, _⟩ => ⟨S2048x512, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S2048x768, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S2048x768, .f32⟩
  | .hbm, ⟨16, _⟩ => ⟨S_, .f32⟩
  | .hbm, ⟨17, _⟩ => ⟨S2048x752, .f32⟩
  | .hbm, ⟨18, _⟩ => ⟨S2048x8448, .f32⟩
  | .hbm, ⟨19, _⟩ => ⟨S2048x8448, .bf16⟩
  | .hbm, ⟨20, _⟩ => ⟨S2048x11x768, .bf16⟩
  | .hbm, ⟨21, _⟩ => ⟨S11x2048x768, .bf16⟩
  | .hbm, ⟨22, _⟩ => ⟨S1x2048, .f32⟩
  | .hbm, ⟨23, _⟩ => ⟨S8704x2304, .f32⟩
  | .hbm, ⟨24, _⟩ => ⟨S6x8704x128, .bf16⟩
  | .hbm, ⟨25, _⟩ => ⟨S2x6x8208x128, .f32⟩
  | .hbm, ⟨26, _⟩ => ⟨S6x8704x128, .bf16⟩
  | .hbm, ⟨27, _⟩ => ⟨S2x6x8208x128, .f32⟩
  | .hbm, ⟨28, _⟩ => ⟨S6x17x128x512, .bf16⟩
  | .hbm, ⟨29, _⟩ => ⟨S8704x768, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x768, .bf16⟩
  | .local _ .vmem, ⟨4, _⟩ => ⟨S1x2048x768, .bf16⟩
  | .local _ .vmem, ⟨5, _⟩ => ⟨S512x768, .f32⟩
  | .local _ .vmem, ⟨6, _⟩ => ⟨S512x768, .f32⟩
  | .local _ .vmem, ⟨7, _⟩ => ⟨S6x512x128, .bf16⟩
  | .local _ .vmem, ⟨8, _⟩ => ⟨S6x512x128, .bf16⟩
  | .local _ .vmem, ⟨9, _⟩ => ⟨S1x6x512x128, .f32⟩
  | .local _ .vmem, ⟨10, _⟩ => ⟨S1x6x512x128, .f32⟩
  | .local _ .vmem, ⟨11, _⟩ => ⟨S6x512x128, .bf16⟩
  | .local _ .vmem, ⟨12, _⟩ => ⟨S6x512x128, .bf16⟩
  | .local _ .vmem, ⟨13, _⟩ => ⟨S1x6x512x128, .f32⟩
  | .local _ .vmem, ⟨14, _⟩ => ⟨S1x6x512x128, .f32⟩
  | .local _ .vmem, ⟨15, _⟩ => ⟨S6x1x128x512, .bf16⟩
  | .local _ .vmem, ⟨16, _⟩ => ⟨S6x1x128x512, .bf16⟩
  | .local _ .vmem, ⟨17, _⟩ => ⟨S512x768, .f32⟩
  | .local _ .vmem, ⟨18, _⟩ => ⟨S512x768, .f32⟩
  | .local _ .vmem, ⟨19, _⟩ => ⟨S512x2048, .bf16⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev main_v19_2 : Ref sig .tc := ⟨.hbm, 25, rfl⟩
abbrev main_v19_3 : Ref sig .tc := ⟨.hbm, 26, rfl⟩
abbrev main_v19_4 : Ref sig .tc := ⟨.hbm, 27, rfl⟩
abbrev main_v19_5 : Ref sig .tc := ⟨.hbm, 28, rfl⟩
abbrev main_v19_6 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![17, 7], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .sge arg1 c3_i32_3
  let c4_i32 : BitVec 32 := 4#32
  let v9 : BitVec 1 := Scalar.cmpi .slt arg1 c4_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c4_i32_5 : BitVec 32 := 4#32
  let v13 : BitVec 1 := Scalar.cmpi .sge arg1 c4_i32_5
  let c5_i32 : BitVec 32 := 5#32
  let v14 : BitVec 1 := Scalar.cmpi .slt arg1 c5_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c5_i32_7 : BitVec 32 := 5#32
  let v18 : BitVec 1 := Scalar.cmpi .sge arg1 c5_i32_7
  let c6_i32 : BitVec 32 := 6#32
  let v19 : BitVec 1 := Scalar.cmpi .slt arg1 c6_i32
  let v20 : BitVec 1 := Scalar.andi v18 v19
  let v21 : BitVec 32 := Scalar.extui v20
  let c0_i32_8 : BitVec 32 := 0#32
  let v22 : BitVec 1 := Scalar.cmpi .ne v21 c0_i32_8
  v22

def k0_cond6 (i : grid0.Coords) : BitVec 1 :=
  let arg1 : BitVec 32 := BitVec.ofNat 32 (i 1).val
  let c6_i32_9 : BitVec 32 := 6#32
  let v23 : BitVec 1 := Scalar.cmpi .sge arg1 c6_i32_9
  let c7_i32 : BitVec 32 := 7#32
  let v24 : BitVec 1 := Scalar.cmpi .slt arg1 c7_i32
  let v25 : BitVec 1 := Scalar.andi v23 v24
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S6x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x6x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S6x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x6x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S6x1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8208x2048 : Shape := ⟨2, ![8208, 2048]⟩
abbrev S2048 : Shape := ⟨1, ![2048]⟩
abbrev S2048x7696 : Shape := ⟨2, ![2048, 7696]⟩
abbrev S_ : Shape := ⟨0, ![]⟩
abbrev S8208 : Shape := ⟨1, ![8208]⟩
abbrev S8208x1 : Shape := ⟨2, ![8208, 1]⟩
abbrev S1x2048 : Shape := ⟨2, ![1, 2048]⟩
abbrev S8208x7696 : Shape := ⟨2, ![8208, 7696]⟩
abbrev S8704x7696 : Shape := ⟨2, ![8704, 7696]⟩
abbrev S8704x256 : Shape := ⟨2, ![8704, 256]⟩
abbrev S8704x512 : Shape := ⟨2, ![8704, 512]⟩
abbrev S8704x16 : Shape := ⟨2, ![8704, 16]⟩
abbrev S8704x768 : Shape := ⟨2, ![8704, 768]⟩
abbrev S8704x1552 : Shape := ⟨2, ![8704, 1552]⟩
abbrev S8704x2304 : Shape := ⟨2, ![8704, 2304]⟩
abbrev S8704x6x128 : Shape := ⟨3, ![8704, 6, 128]⟩
abbrev S6x8704x128 : Shape := ⟨3, ![6, 8704, 128]⟩
abbrev S6x17x512x128 : Shape := ⟨4, ![6, 17, 512, 128]⟩
abbrev S6x17x128x512 : Shape := ⟨4, ![6, 17, 128, 512]⟩

abbrev nBuf : Space → Nat
  | .hbm => 51
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S2048, .f32⟩
  | .hbm, ⟨2, _⟩ => ⟨S2048x7696, .f32⟩
  | .hbm, ⟨3, _⟩ => ⟨S8208x2048, .f32⟩
  | .hbm, ⟨4, _⟩ => ⟨S_, .f32⟩
  | .hbm, ⟨5, _⟩ => ⟨S8208, .f32⟩
  | .hbm, ⟨6, _⟩ => ⟨S8208x1, .f32⟩
  | .hbm, ⟨7, _⟩ => ⟨S_, .f32⟩
  | .hbm, ⟨8, _⟩ => ⟨S8208x1, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S8208x1, .f32⟩
  | .hbm, ⟨14, _⟩ => ⟨S8208x2048, .f32⟩
  | .hbm, ⟨15, _⟩ => ⟨S8208x2048, .f32⟩
  | .hbm, ⟨16, _⟩ => ⟨S1x2048, .f32⟩
  | .hbm, ⟨17, _⟩ => ⟨S8208x2048, .f32⟩
  | .hbm, ⟨18, _⟩ => ⟨S8208x2048, .f32⟩
  | .hbm, ⟨19, _⟩ => ⟨S8208x7696, .f32⟩
  | .hbm, ⟨20, _⟩ => ⟨S_, .i32⟩
  | .hbm, ⟨21, _⟩ => ⟨S_, .f32⟩
  | .hbm, ⟨22, _⟩ => ⟨S8704x7696, .f32⟩
  | .hbm, ⟨23, _⟩ => ⟨S8704x256, .f32⟩
  | .hbm, ⟨24, _⟩ => ⟨S8704x256, .f32⟩
  | .hbm, ⟨25, _⟩ => ⟨S8704x512, .f32⟩
  | .hbm, ⟨26, _⟩ => ⟨S8704x16, .f32⟩
  | .hbm, ⟨27, _⟩ => ⟨S8704x512, .f32⟩
  | .hbm, ⟨28, _⟩ => ⟨S8704x768, .f32⟩
  | .hbm, ⟨29, _⟩ => ⟨S8704x768, .f32⟩
  | .hbm, ⟨30, _⟩ => ⟨S8704x768, .f32⟩
  | .hbm, ⟨31, _⟩ => ⟨S8704x768, .f32⟩
  | .hbm, ⟨32, _⟩ => ⟨S8704x768, .f32⟩
  | .hbm, ⟨33, _⟩ => ⟨S8704x768, .f32⟩
  | .hbm, ⟨34, _⟩ => ⟨S8704x768, .f32⟩
  | .hbm, ⟨35, _⟩ => ⟨S8704x768, .f32⟩
  | .hbm, ⟨36, _⟩ => ⟨S8704x1552, .f32⟩
  | .hbm, ⟨37, _⟩ => ⟨S_, .i32⟩
  | .hbm, ⟨38, _⟩ => ⟨S_, .f32⟩
  | .hbm, ⟨39, _⟩ => ⟨S8704x2304, .f32⟩
  | .hbm, ⟨40, _⟩ => ⟨S8704x6x128, .f32⟩
  | .hbm, ⟨41, _⟩ => ⟨S6x8704x128, .f32⟩
  | .hbm, ⟨42, _⟩ => ⟨S6x17x512x128, .f32⟩
  | .hbm, ⟨43, _⟩ => ⟨S6x17x128x512, .f32⟩
  | .hbm, ⟨44, _⟩ => ⟨S8704x6x128, .f32⟩
  | .hbm, ⟨45, _⟩ => ⟨S6x8704x128, .f32⟩
  | .hbm, ⟨46, _⟩ => ⟨S6x8704x128, .bf16⟩
  | .hbm, ⟨47, _⟩ => ⟨S8704x6x128, .f32⟩
  | .hbm, ⟨48, _⟩ => ⟨S6x8704x128, .f32⟩
  | .hbm, ⟨49, _⟩ => ⟨S6x8704x128, .bf16⟩
  | .hbm, ⟨50, _⟩ => ⟨S6x17x128x512, .bf16⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_call1_v0 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Kernel4.lean ====
abbrev S6x8704x128 : Shape := ⟨3, ![6, 8704, 128]⟩
abbrev S6x34x128x256 : Shape := ⟨4, ![6, 34, 128, 256]⟩
abbrev S8448x768 : Shape := ⟨2, ![8448, 768]⟩
abbrev S3x256x128 : Shape := ⟨3, ![3, 256, 128]⟩
abbrev S3x8704x128 : Shape := ⟨3, ![3, 8704, 128]⟩
abbrev S3x34x128x256 : Shape := ⟨4, ![3, 34, 128, 256]⟩
abbrev S256x384 : Shape := ⟨2, ![256, 384]⟩
abbrev S3x1x256 : Shape := ⟨3, ![3, 1, 256]⟩
abbrev S3x128x256 : Shape := ⟨3, ![3, 128, 256]⟩
abbrev S256x256 : Shape := ⟨2, ![256, 256]⟩
abbrev S1x256 : Shape := ⟨2, ![1, 256]⟩
abbrev S1x256x128 : Shape := ⟨3, ![1, 256, 128]⟩
abbrev S256x128 : Shape := ⟨2, ![256, 128]⟩
abbrev S256x1 : Shape := ⟨2, ![256, 1]⟩
abbrev S256x512 : Shape := ⟨2, ![256, 512]⟩
abbrev S1x1x256 : Shape := ⟨3, ![1, 1, 256]⟩
abbrev S1x128x256 : Shape := ⟨3, ![1, 128, 256]⟩
abbrev S128x256 : Shape := ⟨2, ![128, 256]⟩
abbrev S1x1x128x256 : Shape := ⟨4, ![1, 1, 128, 256]⟩
abbrev S256 : Shape := ⟨1, ![256]⟩
abbrev S1 : Shape := ⟨1, ![1]⟩
abbrev S1x1x1 : Shape := ⟨3, ![1, 1, 1]⟩

abbrev nBuf : Space → Nat
  | .hbm => 4
  | .vmem => 10
  | .smem => 0
  | _ => 0

abbrev bufTy : (tb : Table) → Fin (tcTables nBuf tb) → BufTy
  | .hbm, ⟨0, _⟩ => ⟨S6x8704x128, .bf16⟩
  | .hbm, ⟨1, _⟩ => ⟨S6x8704x128, .bf16⟩
  | .hbm, ⟨2, _⟩ => ⟨S6x34x128x256, .bf16⟩
  | .hbm, ⟨3, _⟩ => ⟨S8448x768, .f32⟩
  | .local _ .vmem, ⟨0, _⟩ => ⟨S3x256x128, .bf16⟩
  | .local _ .vmem, ⟨1, _⟩ => ⟨S3x256x128, .bf16⟩
  | .local _ .vmem, ⟨2, _⟩ => ⟨S3x8704x128, .bf16⟩
  | .local _ .vmem, ⟨3, _⟩ => ⟨S3x8704x128, .bf16⟩
  | .local _ .vmem, ⟨4, _⟩ => ⟨S3x34x128x256, .bf16⟩
  | .local _ .vmem, ⟨5, _⟩ => ⟨S3x34x128x256, .bf16⟩
  | .local _ .vmem, ⟨6, _⟩ => ⟨S256x384, .f32⟩
  | .local _ .vmem, ⟨7, _⟩ => ⟨S256x384, .f32⟩
  | .local _ .vmem, ⟨8, _⟩ => ⟨S3x1x256, .f32⟩
  | .local _ .vmem, ⟨9, _⟩ => ⟨S3x128x256, .f32⟩
  | _, _ => ⟨S6x8704x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 33], ![false, false]⟩

def k0_mult1 (i : grid0.Coords) : BitVec 32 :=
  let arg1 : BitVec 32 := BitVec.ofNat 32 (i 1).val
  let c256_i32_8 : BitVec 32 := 256#32
  let v19 : BitVec 32 := Scalar.muli arg1 c256_i32_8
  v19
def k0_off1 (i : grid0.Coords) : Fin 3 → Nat :=
  let c0_9 : Index := 0#32
  let arg1 : BitVec 32 := BitVec.ofNat 32 (i 1).val
  let c256_i32_8 : BitVec 32 := 256#32
  let v19 : BitVec 32 := Scalar.muli arg1 c256_i32_8
  let v20 : BitVec 32 := v19
  let v21 : Index := Scalar.indexCast v20
  let c0_10 : Index := 0#32
  ![0, v21.toNat, 0]
def k0_off2 (i : grid0.Coords) : Fin 3 → Nat :=
  let c1 : Index := 1#32
  let arg1 : BitVec 32 := BitVec.ofNat 32 (i 1).val
  let c256_i32_8 : BitVec 32 := 256#32
  let v19 : BitVec 32 := Scalar.muli arg1 c256_i32_8
  let v20 : BitVec 32 := v19
  let v29 : Index := Scalar.indexCast v20
  let c0_16 : Index := 0#32
  ![1, v29.toNat, 0]
def k0_off3 (i : grid0.Coords) : Fin 3 → Nat :=
  let c2 : Index := 2#32
  let arg1 : BitVec 32 := BitVec.ofNat 32 (i 1).val
  let c256_i32_8 : BitVec 32 := 256#32
  let v19 : BitVec 32 := Scalar.muli arg1 c256_i32_8
  let v20 : BitVec 32 := v19
  let v37 : Index := Scalar.indexCast v20
  let c0_22 : Index := 0#32
  ![2, v37.toNat, 0]
def k0_off4 (i : grid0.Coords) : Fin 4 → Nat :=
  let c0_51 : Index := 0#32
  let arg1 : BitVec 32 := BitVec.ofNat 32 (i 1).val
  let v128 : Index := Scalar.indexCast arg1
  let c0_52 : Index := 0#32
  let c0_53 : Index := 0#32
  ![0, v128.toNat, 0, 0]
def k0_off5 (i : grid0.Coords) : Fin 4 → Nat :=
  let c1_70 : Index := 1#32
  let arg1 : BitVec 32 := BitVec.ofNat 32 (i 1).val
  let v157 : Index := Scalar.indexCast arg1
  let c0_71 : Index := 0#32
  let c0_72 : Index := 0#32
  ![1, v157.toNat, 0, 0]
def k0_off6 (i : grid0.Coords) : Fin 4 → Nat :=
  let c2_89 : Index := 2#32
  let arg1 : BitVec 32 := BitVec.ofNat 32 (i 1).val
  let v187 : Index := Scalar.indexCast arg1
  let c0_90 : Index := 0#32
  let c0_91 : Index := 0#32
  ![2, v187.toNat, 0, 0]
def k0_mult2 (i : grid0.Coords) (arg8 : BitVec 32) : BitVec 32 :=
  let arg1 : BitVec 32 := BitVec.ofNat 32 (i 1).val
  let c1_i32_114 : BitVec 32 := 1#32
  let v221 : BitVec 32 := Scalar.subi arg1 c1_i32_114
  let v222 : BitVec 32 := Scalar.subi v221 arg8
  let c256_i32_115 : BitVec 32 := 256#32
  let v223 : BitVec 32 := Scalar.muli v222 c256_i32_115
  v223

def k0_off7 (i : grid0.Coords) (arg8 : BitVec 32) : Fin 3 → Nat :=
  let c0_116 : Index := 0#32
  let arg1 : BitVec 32 := BitVec.ofNat 32 (i 1).val
  let c1_i32_114 : BitVec 32 := 1#32
  let v221 : BitVec 32 := Scalar.subi arg1 c1_i32_114
  let v222 : BitVec 32 := Scalar.subi v221 arg8
  let c256_i32_115 : BitVec 32 := 256#32
  let v223 : BitVec 32 := Scalar.muli v222 c256_i32_115
  let v224 : BitVec 32 := v223
  let v225 : Index := Scalar.indexCast v224
  let c0_117 : Index := 0#32
  ![0, v225.toNat, 0]
def k0_off8 (i : grid0.Coords) (arg8 : BitVec 32) : Fin 3 → Nat :=
  let c1_123 : Index := 1#32
  let arg1 : BitVec 32 := BitVec.ofNat 32 (i 1).val
  let c1_i32_114 : BitVec 32 := 1#32
  let v221 : BitVec 32 := Scalar.subi arg1 c1_i32_114
  let v222 : BitVec 32 := Scalar.subi v221 arg8
  let c256_i32_115 : BitVec 32 := 256#32
  let v223 : BitVec 32 := Scalar.muli v222 c256_i32_115
  let v224 : BitVec 32 := v223
  let v233 : Index := Scalar.indexCast v224
  let c0_124 : Index := 0#32
  ![1, v233.toNat, 0]
def k0_off9 (i : grid0.Coords) (arg8 : BitVec 32) : Fin 3 → Nat :=
  let c2_130 : Index := 2#32
  let arg1 : BitVec 32 := BitVec.ofNat 32 (i 1).val
  let c1_i32_114 : BitVec 32 := 1#32
  let v221 : BitVec 32 := Scalar.subi arg1 c1_i32_114
  let v222 : BitVec 32 := Scalar.subi v221 arg8
  let c256_i32_115 : BitVec 32 := 256#32
  let v223 : BitVec 32 := Scalar.muli v222 c256_i32_115
  let v224 : BitVec 32 := v223
  let v241 : Index := Scalar.indexCast v224
  let c0_131 : Index := 0#32
  ![2, v241.toNat, 0]
def k0_off10 (i : grid0.Coords) (arg8 : BitVec 32) : Fin 4 → Nat :=
  let c0_155 : Index := 0#32
  let arg1 : BitVec 32 := BitVec.ofNat 32 (i 1).val
  let c1_i32_114 : BitVec 32 := 1#32
  let v221 : BitVec 32 := Scalar.subi arg1 c1_i32_114
  let v222 : BitVec 32 := Scalar.subi v221 arg8
  let v317 : Index := Scalar.indexCast v222
  let c0_156 : Index := 0#32
  let c0_157 : Index := 0#32
  ![0, v317.toNat, 0, 0]
def k0_off11 (i : grid0.Coords) (arg8 : BitVec 32) : Fin 4 → Nat :=
  let c1_173 : Index := 1#32
  let arg1 : BitVec 32 := BitVec.ofNat 32 (i 1).val
  let c1_i32_114 : BitVec 32 := 1#32
  let v221 : BitVec 32 := Scalar.subi arg1 c1_i32_114
  let v222 : BitVec 32 := Scalar.subi v221 arg8
  let v344 : Index := Scalar.indexCast v222
  let c0_174 : Index := 0#32
  let c0_175 : Index := 0#32
  ![1, v344.toNat, 0, 0]
def k0_off12 (i : grid0.Coords) (arg8 : BitVec 32) : Fin 4 → Nat :=
  let c2_191 : Index := 2#32
  let arg1 : BitVec 32 := BitVec.ofNat 32 (i 1).val
  let c1_i32_114 : BitVec 32 := 1#32
  let v221 : BitVec 32 := Scalar.subi arg1 c1_i32_114
  let v222 : BitVec 32 := Scalar.subi v221 arg8
  let v372 : Index := Scalar.indexCast v222
  let c0_192 : Index := 0#32
  let c0_193 : Index := 0#32
  ![2, v372.toNat, 0, 0]

def k0_chk1 (i : grid0.Coords) (arg8 : BitVec 32) : Prop :=
  (256 ∣ (k0_mult2 i arg8).toNat) ∧
  (∀ a, (k0_off7 i arg8) a + S1x256x128.size a ≤ S3x8704x128.size a) ∧
  (∀ a, (k0_off8 i arg8) a + S1x256x128.size a ≤ S3x8704x128.size a) ∧
  (∀ a, (k0_off9 i arg8) a + S1x256x128.size a ≤ S3x8704x128.size a) ∧
  (∀ a, (k0_off10 i arg8) a + S1x1x128x256.size a ≤ S3x34x128x256.size a) ∧
  (∀ a, (k0_off11 i arg8) a + S1x1x128x256.size a ≤ S3x34x128x256.size a) ∧
  (∀ a, (k0_off12 i arg8) a + S1x1x128x256.size a ≤ S3x34x128x256.size a)
theorem k0_mult2_dvd : ∀ (i : grid0.Coords) (arg8 : BitVec 32) (k0_hw1 : k0_chk1 i arg8), 256 ∣ (k0_mult2 i arg8).toNat := fun i arg8 k0_hw1 => k0_hw1.1
theorem k0_off7_inb : ∀ (i : grid0.Coords) (arg8 : BitVec 32) (k0_hw1 : k0_chk1 i arg8), ∀ a, (k0_off7 i arg8) a + S1x256x128.size a ≤ S3x8704x128.size a := fun i arg8 k0_hw1 => k0_hw1.2.1
theorem k0_off8_inb : ∀ (i : grid0.Coords) (arg8 : BitVec 32) (k0_hw1 : k0_chk1 i arg8), ∀ a, (k0_off8 i arg8) a + S1x256x128.size a ≤ S3x8704x128.size a := fun i arg8 k0_hw1 => k0_hw1.2.2.1
theorem k0_off9_inb : ∀ (i : grid0.Coords) (arg8 : BitVec 32) (k0_hw1 : k0_chk1 i arg8), ∀ a, (k0_off9 i arg8) a + S1x256x128.size a ≤ S3x8704x128.size a := fun i arg8 k0_hw1 => k0_hw1.2.2.2.1
theorem k0_off10_inb : ∀ (i : grid0.Coords) (arg8 : BitVec 32) (k0_hw1 : k0_chk1 i arg8), ∀ a, (k0_off10 i arg8) a + S1x1x128x256.size a ≤ S3x34x128x256.size a := fun i arg8 k0_hw1 => k0_hw1.2.2.2.2.1
theorem k0_off11_inb : ∀ (i : grid0.Coords) (arg8 : BitVec 32) (k0_hw1 : k0_chk1 i arg8), ∀ a, (k0_off11 i arg8) a + S1x1x128x256.size a ≤ S3x34x128x256.size a := fun i arg8 k0_hw1 => k0_hw1.2.2.2.2.2.1
theorem k0_off12_inb : ∀ (i : grid0.Coords) (arg8 : BitVec 32) (k0_hw1 : k0_chk1 i arg8), ∀ a, (k0_off12 i arg8) a + S1x1x128x256.size a ≤ S3x34x128x256.size a := fun i arg8 k0_hw1 => k0_hw1.2.2.2.2.2.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S3x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x8704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3x34x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel4Ideal.lean ====
variable {F : FTy → Type} [FloatOps F] [Named F]
def κ : String → Option EReal := fun
  | "underflow" => some ⊥
  | _ => none
-- ==== Reference4Ideal.lean ====
abbrev S6x8704x128 : Shape := ⟨3, ![6, 8704, 128]⟩
abbrev S6x34x128x256 : Shape := ⟨4, ![6, 34, 128, 256]⟩
abbrev S6x8448x128 : Shape := ⟨3, ![6, 8448, 128]⟩
abbrev S6x34x256x128 : Shape := ⟨4, ![6, 34, 256, 128]⟩
abbrev S8448 : Shape := ⟨1, ![8448]⟩
abbrev S8704 : Shape := ⟨1, ![8704]⟩
abbrev S6x8448x8704 : Shape := ⟨3, ![6, 8448, 8704]⟩
abbrev S_ : Shape := ⟨0, ![]⟩
abbrev S1x8704 : Shape := ⟨2, ![1, 8704]⟩
abbrev S8448x1 : Shape := ⟨2, ![8448, 1]⟩
abbrev S8448x8704 : Shape := ⟨2, ![8448, 8704]⟩
abbrev S6x128x8448 : Shape := ⟨3, ![6, 128, 8448]⟩
abbrev S8448x6x128 : Shape := ⟨3, ![8448, 6, 128]⟩
abbrev S8448x768 : Shape := ⟨2, ![8448, 768]⟩

abbrev nBuf : Space → Nat
  | .hbm => 72
  | .vmem => 0
  | .smem => 0
  | _ => 0

abbrev bufTy : (tb : Table) → Fin (tcTables nBuf tb) → BufTy
  | .hbm, ⟨0, _⟩ => ⟨S6x8704x128, .bf16⟩
  | .hbm, ⟨1, _⟩ => ⟨S6x8704x128, .bf16⟩
  | .hbm, ⟨2, _⟩ => ⟨S6x34x128x256, .bf16⟩
  | .hbm, ⟨3, _⟩ => ⟨S6x8448x128, .bf16⟩
  | .hbm, ⟨4, _⟩ => ⟨S6x8448x128, .f32⟩
  | .hbm, ⟨5, _⟩ => ⟨S6x8704x128, .f32⟩
  | .hbm, ⟨6, _⟩ => ⟨S6x34x128x256, .f32⟩
  | .hbm, ⟨7, _⟩ => ⟨S6x34x256x128, .f32⟩
  | .hbm, ⟨8, _⟩ => ⟨S6x8704x128, .f32⟩
  | .hbm, ⟨9, _⟩ => ⟨S8448, .i32⟩
  | .hbm, ⟨10, _⟩ => ⟨S8704, .i32⟩
  | .hbm, ⟨11, _⟩ => ⟨S6x8448x8704, .f32⟩
  | .hbm, ⟨12, _⟩ => ⟨S_, .f32⟩
  | .hbm, ⟨13, _⟩ => ⟨S6x8448x8704, .f32⟩
  | .hbm, ⟨14, _⟩ => ⟨S6x8448x8704, .f32⟩
  | .hbm, ⟨15, _⟩ => ⟨S1x8704, .i32⟩
  | .hbm, ⟨16, _⟩ => ⟨S8448x1, .i32⟩
  | .hbm, ⟨17, _⟩ => ⟨S8448x8704, .i32⟩
  | .hbm, ⟨18, _⟩ => ⟨S8448x8704, .i32⟩
  | .hbm, ⟨19, _⟩ => ⟨S8448x8704, .i1⟩
  | .hbm, ⟨20, _⟩ => ⟨S6x8448x8704, .f32⟩
  | .hbm, ⟨21, _⟩ => ⟨S_, .f32⟩
  | .hbm, ⟨22, _⟩ => ⟨S6x8448x8704, .f32⟩
  | .hbm, ⟨23, _⟩ => ⟨S6x8448x8704, .f32⟩
  | .hbm, ⟨24, _⟩ => ⟨S6x8448x8704, .f32⟩
  | .hbm, ⟨25, _⟩ => ⟨S6x8448x8704, .f32⟩
  | .hbm, ⟨26, _⟩ => ⟨S6x8448x8704, .i1⟩
  | .hbm, ⟨27, _⟩ => ⟨S6x8448x8704, .f32⟩
  | .hbm, ⟨28, _⟩ => ⟨S6x8448x8704, .f32⟩
  | .hbm, ⟨29, _⟩ => ⟨S6x8448x8704, .f32⟩
  | .hbm, ⟨30, _⟩ => ⟨S6x8448x8704, .f32⟩
  | .hbm, ⟨31, _⟩ => ⟨S6x8448x8704, .f32⟩
  | .hbm, ⟨32, _⟩ => ⟨S6x8448x8704, .f32⟩
  | .hbm, ⟨33, _⟩ => ⟨S6x8448x8704, .f32⟩
  | .hbm, ⟨34, _⟩ => ⟨S6x8448x8704, .f32⟩
  | .hbm, ⟨35, _⟩ => ⟨S6x8448x8704, .f32⟩
  | .hbm, ⟨36, _⟩ => ⟨S6x8448x8704, .f32⟩
  | .hbm, ⟨37, _⟩ => ⟨S6x8448x8704, .f32⟩
  | .hbm, ⟨38, _⟩ => ⟨S_, .f32⟩
  | .hbm, ⟨39, _⟩ => ⟨S6x8448x8704, .f32⟩
  | .hbm, ⟨40, _⟩ => ⟨S6x8448x8704, .f32⟩
  | .hbm, ⟨41, _⟩ => ⟨S6x8448x8704, .f32⟩
  | .hbm, ⟨42, _⟩ => ⟨S6x8448x8704, .f32⟩
  | .hbm, ⟨43, _⟩ => ⟨S6x8448x8704, .i1⟩
  | .hbm, ⟨44, _⟩ => ⟨S6x8448x8704, .f32⟩
  | .hbm, ⟨45, _⟩ => ⟨S6x8448x8704, .f32⟩
  | .hbm, ⟨46, _⟩ => ⟨S6x8448x8704, .f32⟩
  | .hbm, ⟨47, _⟩ => ⟨S6x8448x8704, .f32⟩
  | .hbm, ⟨48, _⟩ => ⟨S6x8448x8704, .f32⟩
  | .hbm, ⟨49, _⟩ => ⟨S6x8448x8704, .f32⟩
  | .hbm, ⟨50, _⟩ => ⟨S6x8448x8704, .f32⟩
  | .hbm, ⟨51, _⟩ => ⟨S6x8448x8704, .f32⟩
  | .hbm, ⟨52, _⟩ => ⟨S6x8448x8704, .f32⟩
  | .hbm, ⟨53, _⟩ => ⟨S_, .f32⟩
  | .hbm, ⟨54, _⟩ => ⟨S_, .f32⟩
  | .hbm, ⟨55, _⟩ => ⟨S6x8448x8704, .i1⟩
  | .hbm, ⟨56, _⟩ => ⟨S6x8448x8704, .f32⟩
  | .hbm, ⟨57, _⟩ => ⟨S6x8448x8704, .f32⟩
  | .hbm, ⟨58, _⟩ => ⟨S_, .f32⟩
  | .hbm, ⟨59, _⟩ => ⟨S_, .f32⟩
  | .hbm, ⟨60, _⟩ => ⟨S6x8448x8704, .f32⟩
  | .hbm, ⟨61, _⟩ => ⟨S6x8448x8704, .f32⟩
  | .hbm, ⟨62, _⟩ => ⟨S6x8448x8704, .f32⟩
  | .hbm, ⟨63, _⟩ => ⟨S6x8448x8704, .f32⟩
  | .hbm, ⟨64, _⟩ => ⟨S_, .f32⟩
  | .hbm, ⟨65, _⟩ => ⟨S_, .f32⟩
  | .hbm, ⟨66, _⟩ => ⟨S6x8448x8704, .i1⟩
  | .hbm, ⟨67, _⟩ => ⟨S6x8448x8704, .f32⟩
  | .hbm, ⟨68, _⟩ => ⟨S6x8448x8704, .f32⟩
  | .hbm, ⟨69, _⟩ => ⟨S6x128x8448, .f32⟩
  | .hbm, ⟨70, _⟩ => ⟨S8448x6x128, .f32⟩
  | .hbm, ⟨71, _⟩ => ⟨S8448x768, .f32⟩
  | _, _ => ⟨S6x8704x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v18 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v19 : Ref sig .tc := ⟨.hbm, 57, rfl⟩
abbrev main_call3_cst : Ref sig .tc := ⟨.hbm, 58, rfl⟩
abbrev main_call3_v0 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== Proof.Bounds.lean ====
/-
  The six counted loops of the kernel's body, as numbers: how often each runs, and which key and value chunk each trip
  loads. Everything here is decided over the grid's points.
-/
module

public import proofs.«01_k».proof.Proof.Gen.KernelIdeal

@[expose] public section

noncomputable section

namespace Cert.Diff

open Cert.KernelIdeal Cert.KernelIdeal.Gen Idealize.ShloMosaic

/-- The chunks of 512 keys that lie below the first query of the block: no key in them is masked. -/
def full (n : ℕ) : ℕ := (256 * n + 1) / 512

/-- The chunks of 512 keys that reach the block's last query. -/
def need (n : ℕ) : ℕ := (256 * n + 767) / 512

theorem full_le_need (n : ℕ) : full n ≤ need n := by unfold full need; omega

theorem one_le_need (n : ℕ) : 1 ≤ need n := by unfold need; omega

theorem need_le {n : ℕ} (h : n < 33) : need n ≤ 17 := by unfold need; omega

/-- The pair loop runs once for each two full chunks. -/
theorem trips1 : ∀ i : grid0.Coords, (k0_t1_loop i).trips = full (i 1).val / 2 := by decide +kernel

/-- Its remainder is empty. -/
theorem trips2 : ∀ i : grid0.Coords, (k0_t2_loop i).trips = 0 := by decide +kernel

/-- The single loop takes the odd full chunk. -/
theorem trips3 : ∀ i : grid0.Coords, (k0_t3_loop i).trips = full (i 1).val - 2 * (full (i 1).val / 2) := by decide +kernel

/-- Its remainder is empty. -/
theorem trips4 : ∀ i : grid0.Coords, (k0_t4_loop i).trips = 0 := by decide +kernel

/-- The masked loop takes the chunks that meet the diagonal. -/
theorem trips5 : ∀ i : grid0.Coords, (k0_t5_loop i).trips = need (i 1).val - full (i 1).val := by decide +kernel

/-- Its remainder is empty. -/
theorem trips6 : ∀ i : grid0.Coords, (k0_t6_loop i).trips = 0 := by decide +kernel

/-- The chunk whose scores are computed while chunk `j` is folded in: the next one, the last chunk staying. -/
def nxt (n j : ℕ) : ℕ := min (j + 1) (need n - 1)

theorem off1 : ∀ (i : grid0.Coords) (k : Fin (k0_t1_loop i).trips),
    k0_off1 i k = ![0, 512 * nxt (i 1).val (2 * k.val), 0] := by decide +kernel

theorem off2 : ∀ (i : grid0.Coords) (k : Fin (k0_t1_loop i).trips), k0_off2 i k = ![0, 2 * k.val, 0, 0] := by
  decide +kernel

theorem off3 : ∀ (i : grid0.Coords) (k : Fin (k0_t1_loop i).trips),
    k0_off3 i k = ![0, 512 * nxt (i 1).val (2 * k.val + 1), 0] := by decide +kernel

theorem off4 : ∀ (i : grid0.Coords) (k : Fin (k0_t1_loop i).trips), k0_off4 i k = ![0, 2 * k.val + 1, 0, 0] := by
  decide +kernel

theorem off9 : ∀ (i : grid0.Coords) (k : Fin (k0_t3_loop i).trips),
    k0_off9 i k = ![0, 512 * nxt (i 1).val (2 * (full (i 1).val / 2) + k.val), 0] := by decide +kernel

theorem off10 : ∀ (i : grid0.Coords) (k : Fin (k0_t3_loop i).trips),
    k0_off10 i k = ![0, 2 * (full (i 1).val / 2) + k.val, 0, 0] := by decide +kernel

theorem off13 : ∀ (i : grid0.Coords) (k : Fin (k0_t5_loop i).trips),
    k0_off13 i k = ![0, 512 * nxt (i 1).val (full (i 1).val + k.val), 0] := by decide +kernel

theorem off14 : ∀ (i : grid0.Coords) (k : Fin (k0_t5_loop i).trips),
    k0_off14 i k = ![0, full (i 1).val + k.val, 0, 0] := by decide +kernel

end Cert.Diff
-- ==== Proof.Loop.lean ====
module

public import proofs.«01_k».proof.Proof.Gen.KernelIdeal.Value
public import proofs.«01_k».proof.Proof.Bounds
public import Idealize.ShloMosaic.Lib.VecWindow
public import Idealize.ShloMosaic.Lib.Writes
public import Idealize.ShloMosaic.Lib.Pipeline.Value

@[expose] public section

noncomputable section

namespace Cert.Diff

open Cert.KernelIdeal Cert.KernelIdeal.Gen Idealize.ShloMosaic Idealize.ShloMosaic.TcCoe Idealize.ShloMosaic.Tactic
open Idealize.SL Idealize.SL.RA Idealize.SL.Sem

variable {F : FTy → Type} [FloatOps F] [Named F]

/-- What the four scratch buffers hold between two key chunks: the running maximum, the running
    denominator, the running weighted sum of the values, and the scores of the chunk whose turn is
    next. -/
structure St (F : FTy → Type) [FloatOps F] [Named F] where
  m : FVec F S1x512 .f32
  l : FVec F S1x512 .f32
  a : FVec F S128x512 .f32
  s : FVec F S512x512 .f32

/-- The state read out of the contents of the four buffers. -/
def stOf (arg8 : Memref sig .tc .vmem S1x512 .f32) (arg9 : Memref sig .tc .vmem S1x512 .f32)
    (arg10 : Memref sig .tc .vmem S128x512 .f32) (arg11 : Memref sig .tc .vmem S512x512 .f32)
    (f8 : BufTy.Contents (Elt F) arg8.view.ty) (f9 : BufTy.Contents (Elt F) arg9.view.ty)
    (f10 : BufTy.Contents (Elt F) arg10.view.ty) (f11 : BufTy.Contents (Elt F) arg11.view.ty) : St F :=
  ⟨arg8.view.read (Elt F) f8, arg9.view.read (Elt F) f9, arg10.view.read (Elt F) f10, arg11.view.read (Elt F) f11⟩

/-- One key chunk: the (masked) scores `s'` of the chunk and its values `vb` update the three running
    quantities, and the next chunk's keys `kb` give the next scores. -/
def upd (v12 : FVec F S512x128 .bf16) (s' : FVec F S512x512 .f32) (kb : Vec F S1x512x128 .bf16)
    (vb : Vec F S1x1x128x512 .bf16) (st : St F) : St F :=
  ⟨k0_pay37 s' st.m, k0_pay40 s' st.m st.l, k0_pay41 s' st.m st.a vb, k0_pay36 v12 kb⟩

/-- A whole load of a row buffer reads it. -/
theorem ra_row (a : Memref sig .tc .vmem S1x512 .f32) (f : BufTy.Contents (Elt F) a.view.ty)
    (h : ∀ b, (![0, 0] : Fin 2 → ℕ) b + (![1, 512] : Fin 2 → ℕ) b ≤ S1x512.size b) :
    a.view.readAt (Elt F) (Rect.unit (s := S1x512) ![0, 0] ![1, 512] h).toLoadRect f = a.view.read (Elt F) f :=
  View.readAt_full a.view f h

/-- A whole load of the value sum reads it. -/
theorem ra_acc (a : Memref sig .tc .vmem S128x512 .f32) (f : BufTy.Contents (Elt F) a.view.ty)
    (h : ∀ b, (![0, 0] : Fin 2 → ℕ) b + (![128, 512] : Fin 2 → ℕ) b ≤ S128x512.size b) :
    a.view.readAt (Elt F) (Rect.unit (s := S128x512) ![0, 0] ![128, 512] h).toLoadRect f = a.view.read (Elt F) f :=
  View.readAt_full a.view f h

/-- A whole load of the scores reads them. -/
theorem ra_sc (a : Memref sig .tc .vmem S512x512 .f32) (f : BufTy.Contents (Elt F) a.view.ty)
    (h : ∀ b, (![0, 0] : Fin 2 → ℕ) b + (![512, 512] : Fin 2 → ℕ) b ≤ S512x512.size b) :
    a.view.readAt (Elt F) (Rect.unit (s := S512x512) ![0, 0] ![512, 512] h).toLoadRect f = a.view.read (Elt F) f :=
  View.readAt_full a.view f h

/-- After a whole store a row buffer holds what was stored. -/
theorem rw_row (a : Memref sig .tc .vmem S1x512 .f32) (f : BufTy.Contents (Elt F) a.view.ty)
    (h : ∀ b, (![0, 0] : Fin 2 → ℕ) b + (![1, 512] : Fin 2 → ℕ) b ≤ S1x512.size b) (w) (L) :
    a.view.read (Elt F) (a.view.writes (Elt F) f (⟨Rect.unit (s := S1x512) ![0, 0] ![1, 512] h, w⟩ :: L)) = w :=
  View.read_writes_full a.view f h w L

/-- After a whole store the value sum is what was stored. -/
theorem rw_acc (a : Memref sig .tc .vmem S128x512 .f32) (f : BufTy.Contents (Elt F) a.view.ty)
    (h : ∀ b, (![0, 0] : Fin 2 → ℕ) b + (![128, 512] : Fin 2 → ℕ) b ≤ S128x512.size b) (w) (L) :
    a.view.read (Elt F) (a.view.writes (Elt F) f (⟨Rect.unit (s := S128x512) ![0, 0] ![128, 512] h, w⟩ :: L)) = w :=
  View.read_writes_full a.view f h w L

/-- After a whole store the scores are what was stored. -/
theorem rw_sc (a : Memref sig .tc .vmem S512x512 .f32) (f : BufTy.Contents (Elt F) a.view.ty)
    (h : ∀ b, (![0, 0] : Fin 2 → ℕ) b + (![512, 512] : Fin 2 → ℕ) b ≤ S512x512.size b) (w) (L) :
    a.view.read (Elt F) (a.view.writes (Elt F) f (⟨Rect.unit (s := S512x512) ![0, 0] ![512, 512] h, w⟩ :: L)) = w :=
  View.read_writes_full a.view f h w L

/-- A whole load of a row buffer just stored whole. -/
theorem rc_row (a : Memref sig .tc .vmem S1x512 .f32) (f : BufTy.Contents (Elt F) a.view.ty) (h) (h') (w) (L) :
    a.view.readAt (Elt F) (Rect.unit (s := S1x512) ![0, 0] ![1, 512] h).toLoadRect
      (a.view.writes (Elt F) f (⟨Rect.unit (s := S1x512) ![0, 0] ![1, 512] h', w⟩ :: L)) = w := by
  rw [ra_row, rw_row]

/-- A recast to the same shape changes nothing. -/
theorem cast_row (v : FVec F S1x512 .f32) (h) : shapeCast S1x512 v h = v := shapeCast_self v h

/-- One trip of loop 1 is two chunks. -/
theorem step1 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S1x256x128 .bf16) (harg4 : arg4.IsWhole) (arg5 : Memref sig .tc .vmem S1x8704x128 .bf16) (harg5 : arg5.IsWhole) (arg6 : Memref sig .tc .vmem S1x17x128x512 .bf16) (harg6 : arg6.IsWhole) (arg7 : Memref sig .tc .vmem S256x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S512x512 .f32) (harg11 : arg11.IsWhole) (v12 : FVec F S512x128 .bf16) (v52 : BitVec 32) (v73 : BitVec 32) (v74 : BitVec 32) (X_arg5 : BufTy.Contents (Elt F) arg5.view.ty) (X_arg6 : BufTy.Contents (Elt F) arg6.view.ty) (k : Fin (k0_t1_loop i).trips)
    (f8 : BufTy.Contents (Elt F) arg8.view.ty) (f9 : BufTy.Contents (Elt F) arg9.view.ty)
    (f10 : BufTy.Contents (Elt F) arg10.view.ty) (f11 : BufTy.Contents (Elt F) arg11.view.ty) :
    stOf arg8 arg9 arg10 arg11 (arg8.view.writes (Elt F) f8 (tripL_k0_t1 (F := F) 𝒱 c bd i arg2 harg2 arg3 harg3 arg4 harg4 arg5 harg5 arg6 harg6 arg7 harg7 arg8 harg8 arg9 harg9 arg10 harg10 arg11 harg11 v12 v52 v73 v74 X_arg5 X_arg6 k f8 f9 f10 f11).1) (arg9.view.writes (Elt F) f9 (tripL_k0_t1 (F := F) 𝒱 c bd i arg2 harg2 arg3 harg3 arg4 harg4 arg5 harg5 arg6 harg6 arg7 harg7 arg8 harg8 arg9 harg9 arg10 harg10 arg11 harg11 v12 v52 v73 v74 X_arg5 X_arg6 k f8 f9 f10 f11).2.1) (arg10.view.writes (Elt F) f10 (tripL_k0_t1 (F := F) 𝒱 c bd i arg2 harg2 arg3 harg3 arg4 harg4 arg5 harg5 arg6 harg6 arg7 harg7 arg8 harg8 arg9 harg9 arg10 harg10 arg11 harg11 v12 v52 v73 v74 X_arg5 X_arg6 k f8 f9 f10 f11).2.2.1) (arg11.view.writes (Elt F) f11 (tripL_k0_t1 (F := F) 𝒱 c bd i arg2 harg2 arg3 harg3 arg4 harg4 arg5 harg5 arg6 harg6 arg7 harg7 arg8 harg8 arg9 harg9 arg10 harg10 arg11 harg11 v12 v52 v73 v74 X_arg5 X_arg6 k f8 f9 f10 f11).2.2.2)
      = (upd v12 (upd v12 (stOf arg8 arg9 arg10 arg11 f8 f9 f10 f11).s (View.readAt (Elt F) arg5.view (Rect.unit (s := S1x8704x128) (k0_off1 i k) S1x512x128.size (k0_off1_inb i k)).toLoadRect X_arg5) (View.readAt (Elt F) arg6.view (Rect.unit (s := S1x17x128x512) (k0_off2 i k) S1x1x128x512.size (k0_off2_inb i k)).toLoadRect X_arg6) (stOf arg8 arg9 arg10 arg11 f8 f9 f10 f11)).s (View.readAt (Elt F) arg5.view (Rect.unit (s := S1x8704x128) (k0_off3 i k) S1x512x128.size (k0_off3_inb i k)).toLoadRect X_arg5) (View.readAt (Elt F) arg6.view (Rect.unit (s := S1x17x128x512) (k0_off4 i k) S1x1x128x512.size (k0_off4_inb i k)).toLoadRect X_arg6) (upd v12 (stOf arg8 arg9 arg10 arg11 f8 f9 f10 f11).s (View.readAt (Elt F) arg5.view (Rect.unit (s := S1x8704x128) (k0_off1 i k) S1x512x128.size (k0_off1_inb i k)).toLoadRect X_arg5) (View.readAt (Elt F) arg6.view (Rect.unit (s := S1x17x128x512) (k0_off2 i k) S1x1x128x512.size (k0_off2_inb i k)).toLoadRect X_arg6) (stOf arg8 arg9 arg10 arg11 f8 f9 f10 f11))) := by
  unfold tripL_k0_t1 trip_k0_t1
  dsimp only
  sl_unfold_run_names
  simp only [stOf, upd, View.readCov, View.writes_append, rw_row, rw_acc, rw_sc, ra_row, ra_acc, ra_sc,
    k0_pay37, k0_pay38, k0_pay39, k0_pay40, k0_pay41, k0_pay36, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay68, k0_pay69, k0_pay70, k0_pay71, shapeCast_self]

/-- An invariant of the state that every trip of loop 1 keeps holds after any number of trips. -/
theorem loop1 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S1x256x128 .bf16) (harg4 : arg4.IsWhole) (arg5 : Memref sig .tc .vmem S1x8704x128 .bf16) (harg5 : arg5.IsWhole) (arg6 : Memref sig .tc .vmem S1x17x128x512 .bf16) (harg6 : arg6.IsWhole) (arg7 : Memref sig .tc .vmem S256x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S512x512 .f32) (harg11 : arg11.IsWhole) (v12 : FVec F S512x128 .bf16) (v52 : BitVec 32) (v73 : BitVec 32) (v74 : BitVec 32) (X_arg5 : BufTy.Contents (Elt F) arg5.view.ty) (X_arg6 : BufTy.Contents (Elt F) arg6.view.ty)
    (G8 : BufTy.Contents (Elt F) arg8.view.ty) (G9 : BufTy.Contents (Elt F) arg9.view.ty)
    (G10 : BufTy.Contents (Elt F) arg10.view.ty) (G11 : BufTy.Contents (Elt F) arg11.view.ty)
    (P : ℕ → St F → Prop) (h0 : P 0 (stOf arg8 arg9 arg10 arg11 G8 G9 G10 G11))
    (hs : ∀ (k : Fin (k0_t1_loop i).trips) (st : St F), P k.val st → P (k.val + 1) (upd v12 (upd v12 st.s (View.readAt (Elt F) arg5.view (Rect.unit (s := S1x8704x128) (k0_off1 i k) S1x512x128.size (k0_off1_inb i k)).toLoadRect X_arg5) (View.readAt (Elt F) arg6.view (Rect.unit (s := S1x17x128x512) (k0_off2 i k) S1x1x128x512.size (k0_off2_inb i k)).toLoadRect X_arg6) st).s (View.readAt (Elt F) arg5.view (Rect.unit (s := S1x8704x128) (k0_off3 i k) S1x512x128.size (k0_off3_inb i k)).toLoadRect X_arg5) (View.readAt (Elt F) arg6.view (Rect.unit (s := S1x17x128x512) (k0_off4 i k) S1x1x128x512.size (k0_off4_inb i k)).toLoadRect X_arg6) (upd v12 st.s (View.readAt (Elt F) arg5.view (Rect.unit (s := S1x8704x128) (k0_off1 i k) S1x512x128.size (k0_off1_inb i k)).toLoadRect X_arg5) (View.readAt (Elt F) arg6.view (Rect.unit (s := S1x17x128x512) (k0_off2 i k) S1x1x128x512.size (k0_off2_inb i k)).toLoadRect X_arg6) st))) :
    ∀ n : ℕ, n ≤ (k0_t1_loop i).trips → P n (stOf arg8 arg9 arg10 arg11 (arg8.view.writes (Elt F) G8 (pb_k0_t1 (F := F) 𝒱 c bd i arg2 harg2 arg3 harg3 arg4 harg4 arg5 harg5 arg6 harg6 arg7 harg7 arg8 harg8 arg9 harg9 arg10 harg10 arg11 harg11 v12 v52 v73 v74 X_arg5 X_arg6 G8 G9 G10 G11 n).1) (arg9.view.writes (Elt F) G9 (pb_k0_t1 (F := F) 𝒱 c bd i arg2 harg2 arg3 harg3 arg4 harg4 arg5 harg5 arg6 harg6 arg7 harg7 arg8 harg8 arg9 harg9 arg10 harg10 arg11 harg11 v12 v52 v73 v74 X_arg5 X_arg6 G8 G9 G10 G11 n).2.1) (arg10.view.writes (Elt F) G10 (pb_k0_t1 (F := F) 𝒱 c bd i arg2 harg2 arg3 harg3 arg4 harg4 arg5 harg5 arg6 harg6 arg7 harg7 arg8 harg8 arg9 harg9 arg10 harg10 arg11 harg11 v12 v52 v73 v74 X_arg5 X_arg6 G8 G9 G10 G11 n).2.2.1) (arg11.view.writes (Elt F) G11 (pb_k0_t1 (F := F) 𝒱 c bd i arg2 harg2 arg3 harg3 arg4 harg4 arg5 harg5 arg6 harg6 arg7 harg7 arg8 harg8 arg9 harg9 arg10 harg10 arg11 harg11 v12 v52 v73 v74 X_arg5 X_arg6 G8 G9 G10 G11 n).2.2.2)) := by
  intro n
  induction n with
  | zero => intro _; exact h0
  | succ n ih =>
    intro hn
    have h1 := hs ⟨n, hn⟩ _ (ih (Nat.le_of_lt hn))
    have h2 := pb_k0_t1_succ (F := F) 𝒱 c bd i arg2 harg2 arg3 harg3 arg4 harg4 arg5 harg5 arg6 harg6 arg7 harg7 arg8 harg8 arg9 harg9 arg10 harg10 arg11 harg11 v12 v52 v73 v74 X_arg5 X_arg6 G8 G9 G10 G11 ⟨n, hn⟩
    rw [show n + 1 = (⟨n, hn⟩ : Fin (k0_t1_loop i).trips).val + 1 from rfl, h2]
    dsimp only
    rw [View.writes_append, View.writes_append, View.writes_append, View.writes_append, step1]
    exact h1

/-- One trip of loop 3 is one chunk. -/
theorem step3 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S1x256x128 .bf16) (harg4 : arg4.IsWhole) (arg5 : Memref sig .tc .vmem S1x8704x128 .bf16) (harg5 : arg5.IsWhole) (arg6 : Memref sig .tc .vmem S1x17x128x512 .bf16) (harg6 : arg6.IsWhole) (arg7 : Memref sig .tc .vmem S256x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S512x512 .f32) (harg11 : arg11.IsWhole) (v12 : FVec F S512x128 .bf16) (v52 : BitVec 32) (v73 : BitVec 32) (v74 : BitVec 32) (v104 : BitVec 32) (X_arg5 : BufTy.Contents (Elt F) arg5.view.ty) (X_arg6 : BufTy.Contents (Elt F) arg6.view.ty) (k : Fin (k0_t3_loop i).trips)
    (f8 : BufTy.Contents (Elt F) arg8.view.ty) (f9 : BufTy.Contents (Elt F) arg9.view.ty)
    (f10 : BufTy.Contents (Elt F) arg10.view.ty) (f11 : BufTy.Contents (Elt F) arg11.view.ty) :
    stOf arg8 arg9 arg10 arg11 (arg8.view.writes (Elt F) f8 (tripL_k0_t3 (F := F) 𝒱 c bd i arg2 harg2 arg3 harg3 arg4 harg4 arg5 harg5 arg6 harg6 arg7 harg7 arg8 harg8 arg9 harg9 arg10 harg10 arg11 harg11 v12 v52 v73 v74 v104 X_arg5 X_arg6 k f8 f9 f10 f11).1) (arg9.view.writes (Elt F) f9 (tripL_k0_t3 (F := F) 𝒱 c bd i arg2 harg2 arg3 harg3 arg4 harg4 arg5 harg5 arg6 harg6 arg7 harg7 arg8 harg8 arg9 harg9 arg10 harg10 arg11 harg11 v12 v52 v73 v74 v104 X_arg5 X_arg6 k f8 f9 f10 f11).2.1) (arg10.view.writes (Elt F) f10 (tripL_k0_t3 (F := F) 𝒱 c bd i arg2 harg2 arg3 harg3 arg4 harg4 arg5 harg5 arg6 harg6 arg7 harg7 arg8 harg8 arg9 harg9 arg10 harg10 arg11 harg11 v12 v52 v73 v74 v104 X_arg5 X_arg6 k f8 f9 f10 f11).2.2.1) (arg11.view.writes (Elt F) f11 (tripL_k0_t3 (F := F) 𝒱 c bd i arg2 harg2 arg3 harg3 arg4 harg4 arg5 harg5 arg6 harg6 arg7 harg7 arg8 harg8 arg9 harg9 arg10 harg10 arg11 harg11 v12 v52 v73 v74 v104 X_arg5 X_arg6 k f8 f9 f10 f11).2.2.2)
      = (upd v12 (stOf arg8 arg9 arg10 arg11 f8 f9 f10 f11).s (View.readAt (Elt F) arg5.view (Rect.unit (s := S1x8704x128) (k0_off9 i k) S1x512x128.size (k0_off9_inb i k)).toLoadRect X_arg5) (View.readAt (Elt F) arg6.view (Rect.unit (s := S1x17x128x512) (k0_off10 i k) S1x1x128x512.size (k0_off10_inb i k)).toLoadRect X_arg6) (stOf arg8 arg9 arg10 arg11 f8 f9 f10 f11)) := by
  unfold tripL_k0_t3 trip_k0_t3
  dsimp only
  sl_unfold_run_names
  simp only [stOf, upd, View.readCov, View.writes_append, rw_row, rw_acc, rw_sc, ra_row, ra_acc, ra_sc,
    k0_pay37, k0_pay38, k0_pay39, k0_pay40, k0_pay41, k0_pay36, k0_pay76, k0_pay77, k0_pay78, shapeCast_self]

/-- An invariant of the state that every trip of loop 3 keeps holds after any number of trips. -/
theorem loop3 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S1x256x128 .bf16) (harg4 : arg4.IsWhole) (arg5 : Memref sig .tc .vmem S1x8704x128 .bf16) (harg5 : arg5.IsWhole) (arg6 : Memref sig .tc .vmem S1x17x128x512 .bf16) (harg6 : arg6.IsWhole) (arg7 : Memref sig .tc .vmem S256x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S512x512 .f32) (harg11 : arg11.IsWhole) (v12 : FVec F S512x128 .bf16) (v52 : BitVec 32) (v73 : BitVec 32) (v74 : BitVec 32) (v104 : BitVec 32) (X_arg5 : BufTy.Contents (Elt F) arg5.view.ty) (X_arg6 : BufTy.Contents (Elt F) arg6.view.ty)
    (G8 : BufTy.Contents (Elt F) arg8.view.ty) (G9 : BufTy.Contents (Elt F) arg9.view.ty)
    (G10 : BufTy.Contents (Elt F) arg10.view.ty) (G11 : BufTy.Contents (Elt F) arg11.view.ty)
    (P : ℕ → St F → Prop) (h0 : P 0 (stOf arg8 arg9 arg10 arg11 G8 G9 G10 G11))
    (hs : ∀ (k : Fin (k0_t3_loop i).trips) (st : St F), P k.val st → P (k.val + 1) (upd v12 st.s (View.readAt (Elt F) arg5.view (Rect.unit (s := S1x8704x128) (k0_off9 i k) S1x512x128.size (k0_off9_inb i k)).toLoadRect X_arg5) (View.readAt (Elt F) arg6.view (Rect.unit (s := S1x17x128x512) (k0_off10 i k) S1x1x128x512.size (k0_off10_inb i k)).toLoadRect X_arg6) st)) :
    ∀ n : ℕ, n ≤ (k0_t3_loop i).trips → P n (stOf arg8 arg9 arg10 arg11 (arg8.view.writes (Elt F) G8 (pb_k0_t3 (F := F) 𝒱 c bd i arg2 harg2 arg3 harg3 arg4 harg4 arg5 harg5 arg6 harg6 arg7 harg7 arg8 harg8 arg9 harg9 arg10 harg10 arg11 harg11 v12 v52 v73 v74 v104 X_arg5 X_arg6 G8 G9 G10 G11 n).1) (arg9.view.writes (Elt F) G9 (pb_k0_t3 (F := F) 𝒱 c bd i arg2 harg2 arg3 harg3 arg4 harg4 arg5 harg5 arg6 harg6 arg7 harg7 arg8 harg8 arg9 harg9 arg10 harg10 arg11 harg11 v12 v52 v73 v74 v104 X_arg5 X_arg6 G8 G9 G10 G11 n).2.1) (arg10.view.writes (Elt F) G10 (pb_k0_t3 (F := F) 𝒱 c bd i arg2 harg2 arg3 harg3 arg4 harg4 arg5 harg5 arg6 harg6 arg7 harg7 arg8 harg8 arg9 harg9 arg10 harg10 arg11 harg11 v12 v52 v73 v74 v104 X_arg5 X_arg6 G8 G9 G10 G11 n).2.2.1) (arg11.view.writes (Elt F) G11 (pb_k0_t3 (F := F) 𝒱 c bd i arg2 harg2 arg3 harg3 arg4 harg4 arg5 harg5 arg6 harg6 arg7 harg7 arg8 harg8 arg9 harg9 arg10 harg10 arg11 harg11 v12 v52 v73 v74 v104 X_arg5 X_arg6 G8 G9 G10 G11 n).2.2.2)) := by
  intro n
  induction n with
  | zero => intro _; exact h0
  | succ n ih =>
    intro hn
    have h1 := hs ⟨n, hn⟩ _ (ih (Nat.le_of_lt hn))
    have h2 := pb_k0_t3_succ (F := F) 𝒱 c bd i arg2 harg2 arg3 harg3 arg4 harg4 arg5 harg5 arg6 harg6 arg7 harg7 arg8 harg8 arg9 harg9 arg10 harg10 arg11 harg11 v12 v52 v73 v74 v104 X_arg5 X_arg6 G8 G9 G10 G11 ⟨n, hn⟩
    rw [show n + 1 = (⟨n, hn⟩ : Fin (k0_t3_loop i).trips).val + 1 from rfl, h2]
    dsimp only
    rw [View.writes_append, View.writes_append, View.writes_append, View.writes_append, step3]
    exact h1

/-- One trip of loop 5 is one masked chunk. -/
theorem step5 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S1x256x128 .bf16) (harg4 : arg4.IsWhole) (arg5 : Memref sig .tc .vmem S1x8704x128 .bf16) (harg5 : arg5.IsWhole) (arg6 : Memref sig .tc .vmem S1x17x128x512 .bf16) (harg6 : arg6.IsWhole) (arg7 : Memref sig .tc .vmem S256x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S512x512 .f32) (harg11 : arg11.IsWhole) (v12 : FVec F S512x128 .bf16) (v21 : IVec S1x512 32) (v52 : BitVec 32) (v73 : BitVec 32) (v109 : BitVec 32) (X_arg5 : BufTy.Contents (Elt F) arg5.view.ty) (X_arg6 : BufTy.Contents (Elt F) arg6.view.ty) (k : Fin (k0_t5_loop i).trips)
    (f8 : BufTy.Contents (Elt F) arg8.view.ty) (f9 : BufTy.Contents (Elt F) arg9.view.ty)
    (f10 : BufTy.Contents (Elt F) arg10.view.ty) (f11 : BufTy.Contents (Elt F) arg11.view.ty) :
    stOf arg8 arg9 arg10 arg11 (arg8.view.writes (Elt F) f8 (tripL_k0_t5 (F := F) 𝒱 c bd i arg2 harg2 arg3 harg3 arg4 harg4 arg5 harg5 arg6 harg6 arg7 harg7 arg8 harg8 arg9 harg9 arg10 harg10 arg11 harg11 v12 v21 v52 v73 v109 X_arg5 X_arg6 k f8 f9 f10 f11).1) (arg9.view.writes (Elt F) f9 (tripL_k0_t5 (F := F) 𝒱 c bd i arg2 harg2 arg3 harg3 arg4 harg4 arg5 harg5 arg6 harg6 arg7 harg7 arg8 harg8 arg9 harg9 arg10 harg10 arg11 harg11 v12 v21 v52 v73 v109 X_arg5 X_arg6 k f8 f9 f10 f11).2.1) (arg10.view.writes (Elt F) f10 (tripL_k0_t5 (F := F) 𝒱 c bd i arg2 harg2 arg3 harg3 arg4 harg4 arg5 harg5 arg6 harg6 arg7 harg7 arg8 harg8 arg9 harg9 arg10 harg10 arg11 harg11 v12 v21 v52 v73 v109 X_arg5 X_arg6 k f8 f9 f10 f11).2.2.1) (arg11.view.writes (Elt F) f11 (tripL_k0_t5 (F := F) 𝒱 c bd i arg2 harg2 arg3 harg3 arg4 harg4 arg5 harg5 arg6 harg6 arg7 harg7 arg8 harg8 arg9 harg9 arg10 harg10 arg11 harg11 v12 v21 v52 v73 v109 X_arg5 X_arg6 k f8 f9 f10 f11).2.2.2)
      = (upd v12 (k0_pay49 i v21 v52 1#32 k (stOf arg8 arg9 arg10 arg11 f8 f9 f10 f11).s) (View.readAt (Elt F) arg5.view (Rect.unit (s := S1x8704x128) (k0_off13 i k) S1x512x128.size (k0_off13_inb i k)).toLoadRect X_arg5) (View.readAt (Elt F) arg6.view (Rect.unit (s := S1x17x128x512) (k0_off14 i k) S1x1x128x512.size (k0_off14_inb i k)).toLoadRect X_arg6) (stOf arg8 arg9 arg10 arg11 f8 f9 f10 f11)) := by
  unfold tripL_k0_t5 trip_k0_t5
  dsimp only
  sl_unfold_run_names
  simp only [stOf, upd, View.readCov, View.writes_append, rw_row, rw_acc, rw_sc, ra_row, ra_acc, ra_sc,
    k0_pay37, k0_pay38, k0_pay39, k0_pay40, k0_pay41, k0_pay36, k0_pay48, k0_pay49, k0_pay50, k0_pay51, k0_pay52, k0_pay53, k0_pay54, k0_pay82, k0_pay83, k0_pay84, shapeCast_self]

/-- An invariant of the state that every trip of loop 5 keeps holds after any number of trips. -/
theorem loop5 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S1x256x128 .bf16) (harg4 : arg4.IsWhole) (arg5 : Memref sig .tc .vmem S1x8704x128 .bf16) (harg5 : arg5.IsWhole) (arg6 : Memref sig .tc .vmem S1x17x128x512 .bf16) (harg6 : arg6.IsWhole) (arg7 : Memref sig .tc .vmem S256x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S512x512 .f32) (harg11 : arg11.IsWhole) (v12 : FVec F S512x128 .bf16) (v21 : IVec S1x512 32) (v52 : BitVec 32) (v73 : BitVec 32) (v109 : BitVec 32) (X_arg5 : BufTy.Contents (Elt F) arg5.view.ty) (X_arg6 : BufTy.Contents (Elt F) arg6.view.ty)
    (G8 : BufTy.Contents (Elt F) arg8.view.ty) (G9 : BufTy.Contents (Elt F) arg9.view.ty)
    (G10 : BufTy.Contents (Elt F) arg10.view.ty) (G11 : BufTy.Contents (Elt F) arg11.view.ty)
    (P : ℕ → St F → Prop) (h0 : P 0 (stOf arg8 arg9 arg10 arg11 G8 G9 G10 G11))
    (hs : ∀ (k : Fin (k0_t5_loop i).trips) (st : St F), P k.val st → P (k.val + 1) (upd v12 (k0_pay49 i v21 v52 1#32 k st.s) (View.readAt (Elt F) arg5.view (Rect.unit (s := S1x8704x128) (k0_off13 i k) S1x512x128.size (k0_off13_inb i k)).toLoadRect X_arg5) (View.readAt (Elt F) arg6.view (Rect.unit (s := S1x17x128x512) (k0_off14 i k) S1x1x128x512.size (k0_off14_inb i k)).toLoadRect X_arg6) st)) :
    ∀ n : ℕ, n ≤ (k0_t5_loop i).trips → P n (stOf arg8 arg9 arg10 arg11 (arg8.view.writes (Elt F) G8 (pb_k0_t5 (F := F) 𝒱 c bd i arg2 harg2 arg3 harg3 arg4 harg4 arg5 harg5 arg6 harg6 arg7 harg7 arg8 harg8 arg9 harg9 arg10 harg10 arg11 harg11 v12 v21 v52 v73 v109 X_arg5 X_arg6 G8 G9 G10 G11 n).1) (arg9.view.writes (Elt F) G9 (pb_k0_t5 (F := F) 𝒱 c bd i arg2 harg2 arg3 harg3 arg4 harg4 arg5 harg5 arg6 harg6 arg7 harg7 arg8 harg8 arg9 harg9 arg10 harg10 arg11 harg11 v12 v21 v52 v73 v109 X_arg5 X_arg6 G8 G9 G10 G11 n).2.1) (arg10.view.writes (Elt F) G10 (pb_k0_t5 (F := F) 𝒱 c bd i arg2 harg2 arg3 harg3 arg4 harg4 arg5 harg5 arg6 harg6 arg7 harg7 arg8 harg8 arg9 harg9 arg10 harg10 arg11 harg11 v12 v21 v52 v73 v109 X_arg5 X_arg6 G8 G9 G10 G11 n).2.2.1) (arg11.view.writes (Elt F) G11 (pb_k0_t5 (F := F) 𝒱 c bd i arg2 harg2 arg3 harg3 arg4 harg4 arg5 harg5 arg6 harg6 arg7 harg7 arg8 harg8 arg9 harg9 arg10 harg10 arg11 harg11 v12 v21 v52 v73 v109 X_arg5 X_arg6 G8 G9 G10 G11 n).2.2.2)) := by
  intro n
  induction n with
  | zero => intro _; exact h0
  | succ n ih =>
    intro hn
    have h1 := hs ⟨n, hn⟩ _ (ih (Nat.le_of_lt hn))
    have h2 := pb_k0_t5_succ (F := F) 𝒱 c bd i arg2 harg2 arg3 harg3 arg4 harg4 arg5 harg5 arg6 harg6 arg7 harg7 arg8 harg8 arg9 harg9 arg10 harg10 arg11 harg11 v12 v21 v52 v73 v109 X_arg5 X_arg6 G8 G9 G10 G11 ⟨n, hn⟩
    rw [show n + 1 = (⟨n, hn⟩ : Fin (k0_t5_loop i).trips).val + 1 from rfl, h2]
    dsimp only
    rw [View.writes_append, View.writes_append, View.writes_append, View.writes_append, step5]
    exact h1

end Cert.Diff
-- ==== Proof.Chain.lean ====
module

public import proofs.«01_k».proof.Proof.Loop
public import Idealize.ShloMosaic.Lib.WholeRead
public import Idealize.ShloMosaic.Lib.Pointwise

@[expose] public section

noncomputable section

namespace Cert.Diff

open Cert.KernelIdeal Cert.KernelIdeal.Gen Idealize.ShloMosaic Idealize.ShloMosaic.TcCoe Idealize.ShloMosaic.Tactic
open Idealize.SL Idealize.SL.RA Idealize.SL.Sem

variable {F : FTy → Type} [FloatOps F] [Named F]

/-- The `j`-th chunk of 512 keys. -/
def KB (x3 : Vec F S1x8704x128 .bf16) (j : ℕ) : Vec F S1x512x128 .bf16 := fun y =>
  x3 (ix3 0 ⟨min (512 * j + (y 1).val) 8703, by omega⟩ (y 2))

/-- The `j`-th chunk of 512 transposed values. -/
def VB (x4 : Vec F S1x17x128x512 .bf16) (j : ℕ) : Vec F S1x1x128x512 .bf16 := fun y =>
  x4 (ix4 0 ⟨min j 16, by omega⟩ (y 2) (y 3))

/-- A load of 512 keys at row `512 j` is the `j`-th chunk of keys. -/
theorem read_KB (a : Memref sig .tc .vmem S1x8704x128 .bf16) (h : a.IsWhole) (x3 : Vec F S1x8704x128 .bf16)
    (off : Fin 3 → ℕ) (inb : ∀ b, off b + S1x512x128.size b ≤ S1x8704x128.size b) (j : ℕ) (e : off = ![0, 512 * j, 0]) :
    a.view.readAt (Elt F) (Rect.unit (s := S1x8704x128) off S1x512x128.size inb).toLoadRect (h.unread x3) = KB x3 j := by
  subst e
  funext y
  rw [Memref.IsWhole.readAt_unread]
  unfold KB
  congr 1
  funext b
  have h1 := inb 1
  have hb : (y 1).val < 512 := (y 1).isLt
  have h0 : (y 0).val < 1 := (y 0).isLt
  replace h1 : 512 * j + 512 ≤ 8704 := h1
  apply Fin.ext
  fin_cases b
  · show 0 + 1 * (y 0).val = 0
    omega
  · show 512 * j + 1 * (y 1).val = min (512 * j + (y 1).val) 8703
    omega
  · show 0 + 1 * (y 2).val = (y 2).val
    omega

/-- A load of one chunk of values. -/
theorem read_VB (a : Memref sig .tc .vmem S1x17x128x512 .bf16) (h : a.IsWhole) (x4 : Vec F S1x17x128x512 .bf16)
    (off : Fin 4 → ℕ) (inb : ∀ b, off b + S1x1x128x512.size b ≤ S1x17x128x512.size b) (j : ℕ) (e : off = ![0, j, 0, 0]) :
    a.view.readAt (Elt F) (Rect.unit (s := S1x17x128x512) off S1x1x128x512.size inb).toLoadRect (h.unread x4) = VB x4 j := by
  subst e
  funext y
  rw [Memref.IsWhole.readAt_unread]
  unfold VB
  congr 1
  funext b
  have h1 := inb 1
  have hb : (y 1).val < 1 := (y 1).isLt
  have h0 : (y 0).val < 1 := (y 0).isLt
  replace h1 : j + 1 ≤ 17 := h1
  apply Fin.ext
  fin_cases b
  · show 0 + 1 * (y 0).val = 0
    omega
  · show j + 1 * (y 1).val = min j 16
    omega
  · show 0 + 1 * (y 2).val = (y 2).val
    omega
  · show 0 + 1 * (y 3).val = (y 3).val
    omega

/-- Contents written in two parts are written one after the other. -/
theorem stOf_append (arg8 : Memref sig .tc .vmem S1x512 .f32) (arg9 : Memref sig .tc .vmem S1x512 .f32)
    (arg10 : Memref sig .tc .vmem S128x512 .f32) (arg11 : Memref sig .tc .vmem S512x512 .f32)
    (f8 f9 f10 f11) (A8 B8 A9 B9 A10 B10 A11 B11) :
    stOf (F := F) arg8 arg9 arg10 arg11 (arg8.view.writes (Elt F) f8 (A8 ++ B8)) (arg9.view.writes (Elt F) f9 (A9 ++ B9))
      (arg10.view.writes (Elt F) f10 (A10 ++ B10)) (arg11.view.writes (Elt F) f11 (A11 ++ B11))
      = stOf arg8 arg9 arg10 arg11 (arg8.view.writes (Elt F) (arg8.view.writes (Elt F) f8 B8) A8)
        (arg9.view.writes (Elt F) (arg9.view.writes (Elt F) f9 B9) A9)
        (arg10.view.writes (Elt F) (arg10.view.writes (Elt F) f10 B10) A10)
        (arg11.view.writes (Elt F) (arg11.view.writes (Elt F) f11 B11) A11) := by
  rw [View.writes_append, View.writes_append, View.writes_append, View.writes_append]

/-- The state the body starts from. -/
def st0 (q : FVec F S512x128 .bf16) (x3 : Vec F S1x8704x128 .bf16) : St F :=
  ⟨k0_pay64, k0_pay65, k0_pay66, k0_pay67 q (KB x3 0)⟩

set_option maxHeartbeats 4000000 in
/-- The whole run of the loops: an invariant that holds at the start and that every chunk keeps holds of the state
    whose sums the body divides at the end. -/

theorem chain (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1x256x128 .bf16) (harg4 : arg4.IsWhole) (arg5 : Memref sig .tc .vmem S1x8704x128 .bf16) (harg5 : arg5.IsWhole) (arg6 : Memref sig .tc .vmem S1x17x128x512 .bf16) (harg6 : arg6.IsWhole) (arg7 : Memref sig .tc .vmem S256x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S512x512 .f32) (harg11 : arg11.IsWhole)
    (x2 : Vec F S1x256x128 .bf16) (x3 : Vec F S1x8704x128 .bf16) (x4 : Vec F S1x17x128x512 .bf16)
    (P : ℕ → St F → Prop) (h0 : P 0 (st0 (kernelRun0_A.sl.r c arg4 harg4 x2) x3))
    (hu : ∀ (j : ℕ) (st : St F), j < full (i 1).val → P j st →
      P (j + 1) (upd (kernelRun0_A.sl.r c arg4 harg4 x2) st.s (KB x3 (nxt (i 1).val j)) (VB x4 j) st))
    (hm : ∀ (k : Fin (k0_t5_loop i).trips) (st : St F), P (full (i 1).val + k.val) st →
      P (full (i 1).val + k.val + 1) (upd (kernelRun0_A.sl.r c arg4 harg4 x2) (k0_pay49 i (k0_pay63 i) (kernelRun0_A.sl.v52 i) 1#32 k st.s)
        (KB x3 (nxt (i 1).val (full (i 1).val + k.val))) (VB x4 (full (i 1).val + k.val)) st)) :
    ∃ st : St F, P (need (i 1).val) st
      ∧ kernelRun0_A.sl.v130 c i arg2 harg2 arg3 harg3 arg4 harg4 arg5 harg5 arg6 harg6 arg7 harg7 arg8 harg8 arg9 harg9 arg10 harg10 arg11 harg11 x2 x3 x4 = st.a
      ∧ kernelRun0_A.sl.v131 c i arg2 harg2 arg3 harg3 arg4 harg4 arg5 harg5 arg6 harg6 arg7 harg7 arg8 harg8 arg9 harg9 arg10 harg10 arg11 harg11 x2 x3 x4 = st.l := by
  have e0 : P 0 (stOf arg8 arg9 arg10 arg11 (arg8.view.writes (Elt F) arg8.view.junk kernelRun0_A.sl.HS0_1) (arg9.view.writes (Elt F) arg9.view.junk kernelRun0_A.sl.HS1_1) (arg10.view.writes (Elt F) arg10.view.junk kernelRun0_A.sl.HS2_1) (arg11.view.writes (Elt F) arg11.view.junk (kernelRun0_A.sl.HS3_1 c arg4 harg4 arg5 harg5 x2 x3))) := by
    have : (stOf arg8 arg9 arg10 arg11 (arg8.view.writes (Elt F) arg8.view.junk kernelRun0_A.sl.HS0_1) (arg9.view.writes (Elt F) arg9.view.junk kernelRun0_A.sl.HS1_1) (arg10.view.writes (Elt F) arg10.view.junk kernelRun0_A.sl.HS2_1) (arg11.view.writes (Elt F) arg11.view.junk (kernelRun0_A.sl.HS3_1 c arg4 harg4 arg5 harg5 x2 x3))) = st0 (kernelRun0_A.sl.r c arg4 harg4 x2) x3 := by
      unfold st0 kernelRun0_A.sl.HS0_1 kernelRun0_A.sl.HS1_1 kernelRun0_A.sl.HS2_1 kernelRun0_A.sl.HS3_1
      rw [read_KB arg5 harg5 x3 _ _ 0 rfl]
      simp only [stOf]
      exact congrArg₂ (fun a b => a b) (congrArg₂ (fun a b => a b) (congrArg₂ (fun (a : FVec F S1x512 .f32) b => St.mk a b)
        (rw_row _ _ _ _ _) (rw_row _ _ _ _ _)) (rw_acc _ _ _ _ _)) (rw_sc _ _ _ _ _)
    rw [this]; exact h0
  obtain ⟨T1, hT1⟩ : ∃ T, T = pb_k0_t1 (F := F) Variants.none c none i arg2 harg2 arg3 harg3 arg4 harg4 arg5 harg5 arg6 harg6 arg7 harg7 arg8 harg8 arg9 harg9 arg10 harg10 arg11 harg11 (kernelRun0_A.sl.r c arg4 harg4 x2) (kernelRun0_A.sl.v52 i) (kernelRun0_A.sl.v73 i) 0#32 (harg5.unread x3) (harg6.unread x4) (arg8.view.writes (Elt F) arg8.view.junk kernelRun0_A.sl.HS0_1) (arg9.view.writes (Elt F) arg9.view.junk kernelRun0_A.sl.HS1_1) (arg10.view.writes (Elt F) arg10.view.junk kernelRun0_A.sl.HS2_1) (arg11.view.writes (Elt F) arg11.view.junk (kernelRun0_A.sl.HS3_1 c arg4 harg4 arg5 harg5 x2 x3)) (k0_t1_loop i).trips := ⟨_, rfl⟩
  have e1 : P (2 * (full (i 1).val / 2)) (stOf arg8 arg9 arg10 arg11 (arg8.view.writes (Elt F) arg8.view.junk (T1.1 ++ kernelRun0_A.sl.HS0_1)) (arg9.view.writes (Elt F) arg9.view.junk (T1.2.1 ++ kernelRun0_A.sl.HS1_1)) (arg10.view.writes (Elt F) arg10.view.junk (T1.2.2.1 ++ kernelRun0_A.sl.HS2_1)) (arg11.view.writes (Elt F) arg11.view.junk (T1.2.2.2 ++ (kernelRun0_A.sl.HS3_1 c arg4 harg4 arg5 harg5 x2 x3)))) := by
    have e := loop1 Variants.none c none i arg2 harg2 arg3 harg3 arg4 harg4 arg5 harg5 arg6 harg6 arg7 harg7 arg8 harg8 arg9 harg9 arg10 harg10 arg11 harg11 (kernelRun0_A.sl.r c arg4 harg4 x2) (kernelRun0_A.sl.v52 i) (kernelRun0_A.sl.v73 i) 0#32 (harg5.unread x3) (harg6.unread x4) (arg8.view.writes (Elt F) arg8.view.junk kernelRun0_A.sl.HS0_1) (arg9.view.writes (Elt F) arg9.view.junk kernelRun0_A.sl.HS1_1) (arg10.view.writes (Elt F) arg10.view.junk kernelRun0_A.sl.HS2_1) (arg11.view.writes (Elt F) arg11.view.junk (kernelRun0_A.sl.HS3_1 c arg4 harg4 arg5 harg5 x2 x3)) (fun n st => P (2 * n) st) e0 (by
      intro k st hp
      dsimp only at hp ⊢
      rw [read_KB arg5 harg5 x3 _ _ _ (off1 i k), read_VB arg6 harg6 x4 _ _ _ (off2 i k), read_KB arg5 harg5 x3 _ _ _ (off3 i k),
        read_VB arg6 harg6 x4 _ _ _ (off4 i k)]
      have hk : k.val < full (i 1).val / 2 := (trips1 i) ▸ k.isLt
      exact hu (2 * k.val + 1) _ (by omega) (hu (2 * k.val) _ (by omega) hp)
      ) (k0_t1_loop i).trips (Nat.le_refl _)
    have ht : (stOf arg8 arg9 arg10 arg11 (arg8.view.writes (Elt F) arg8.view.junk (T1.1 ++ kernelRun0_A.sl.HS0_1)) (arg9.view.writes (Elt F) arg9.view.junk (T1.2.1 ++ kernelRun0_A.sl.HS1_1)) (arg10.view.writes (Elt F) arg10.view.junk (T1.2.2.1 ++ kernelRun0_A.sl.HS2_1)) (arg11.view.writes (Elt F) arg11.view.junk (T1.2.2.2 ++ (kernelRun0_A.sl.HS3_1 c arg4 harg4 arg5 harg5 x2 x3)))) = stOf arg8 arg9 arg10 arg11 (arg8.view.writes (Elt F) (arg8.view.writes (Elt F) arg8.view.junk kernelRun0_A.sl.HS0_1) T1.1) (arg9.view.writes (Elt F) (arg9.view.writes (Elt F) arg9.view.junk kernelRun0_A.sl.HS1_1) T1.2.1) (arg10.view.writes (Elt F) (arg10.view.writes (Elt F) arg10.view.junk kernelRun0_A.sl.HS2_1) T1.2.2.1) (arg11.view.writes (Elt F) (arg11.view.writes (Elt F) arg11.view.junk (kernelRun0_A.sl.HS3_1 c arg4 harg4 arg5 harg5 x2 x3)) T1.2.2.2) := by
      exact stOf_append arg8 arg9 arg10 arg11 _ _ _ _ _ _ _ _ _ _ _ _
    rw [ht]
    have hn : 2 * (k0_t1_loop i).trips = 2 * (full (i 1).val / 2) := by
      rw [trips1 i]
    rw [← hn]
    rw [← hT1] at e
    exact e
  obtain ⟨T2, hT2⟩ : ∃ T, T = pb_k0_t2 (F := F) Variants.none c none i arg2 harg2 arg3 harg3 arg4 harg4 arg5 harg5 arg6 harg6 arg7 harg7 arg8 harg8 arg9 harg9 arg10 harg10 arg11 harg11 (kernelRun0_A.sl.r c arg4 harg4 x2) (kernelRun0_A.sl.v52 i) (kernelRun0_A.sl.v73 i) 0#32 (kernelRun0_A.sl.v103 i) (harg5.unread x3) (harg6.unread x4) (arg8.view.writes (Elt F) arg8.view.junk (T1.1 ++ kernelRun0_A.sl.HS0_1)) (arg9.view.writes (Elt F) arg9.view.junk (T1.2.1 ++ kernelRun0_A.sl.HS1_1)) (arg10.view.writes (Elt F) arg10.view.junk (T1.2.2.1 ++ kernelRun0_A.sl.HS2_1)) (arg11.view.writes (Elt F) arg11.view.junk (T1.2.2.2 ++ (kernelRun0_A.sl.HS3_1 c arg4 harg4 arg5 harg5 x2 x3))) (k0_t2_loop i).trips := ⟨_, rfl⟩
  have z2 : T2 = ([], [], [], []) := by
    rw [hT2, trips2 i, pb_k0_t2.eq_1]
  have e2 : P (2 * (full (i 1).val / 2)) (stOf arg8 arg9 arg10 arg11 (arg8.view.writes (Elt F) arg8.view.junk (T2.1 ++ (T1.1 ++ kernelRun0_A.sl.HS0_1))) (arg9.view.writes (Elt F) arg9.view.junk (T2.2.1 ++ (T1.2.1 ++ kernelRun0_A.sl.HS1_1))) (arg10.view.writes (Elt F) arg10.view.junk (T2.2.2.1 ++ (T1.2.2.1 ++ kernelRun0_A.sl.HS2_1))) (arg11.view.writes (Elt F) arg11.view.junk (T2.2.2.2 ++ (T1.2.2.2 ++ (kernelRun0_A.sl.HS3_1 c arg4 harg4 arg5 harg5 x2 x3))))) := by
    rw [z2]; exact e1
  obtain ⟨T3, hT3⟩ : ∃ T, T = pb_k0_t3 (F := F) Variants.none c none i arg2 harg2 arg3 harg3 arg4 harg4 arg5 harg5 arg6 harg6 arg7 harg7 arg8 harg8 arg9 harg9 arg10 harg10 arg11 harg11 (kernelRun0_A.sl.r c arg4 harg4 x2) (kernelRun0_A.sl.v52 i) (kernelRun0_A.sl.v73 i) 0#32 (kernelRun0_A.sl.v104 i) (harg5.unread x3) (harg6.unread x4) (arg8.view.writes (Elt F) arg8.view.junk (T2.1 ++ (T1.1 ++ kernelRun0_A.sl.HS0_1))) (arg9.view.writes (Elt F) arg9.view.junk (T2.2.1 ++ (T1.2.1 ++ kernelRun0_A.sl.HS1_1))) (arg10.view.writes (Elt F) arg10.view.junk (T2.2.2.1 ++ (T1.2.2.1 ++ kernelRun0_A.sl.HS2_1))) (arg11.view.writes (Elt F) arg11.view.junk (T2.2.2.2 ++ (T1.2.2.2 ++ (kernelRun0_A.sl.HS3_1 c arg4 harg4 arg5 harg5 x2 x3)))) (k0_t3_loop i).trips := ⟨_, rfl⟩
  have e3 : P (full (i 1).val) (stOf arg8 arg9 arg10 arg11 (arg8.view.writes (Elt F) arg8.view.junk (T3.1 ++ (T2.1 ++ (T1.1 ++ kernelRun0_A.sl.HS0_1)))) (arg9.view.writes (Elt F) arg9.view.junk (T3.2.1 ++ (T2.2.1 ++ (T1.2.1 ++ kernelRun0_A.sl.HS1_1)))) (arg10.view.writes (Elt F) arg10.view.junk (T3.2.2.1 ++ (T2.2.2.1 ++ (T1.2.2.1 ++ kernelRun0_A.sl.HS2_1)))) (arg11.view.writes (Elt F) arg11.view.junk (T3.2.2.2 ++ (T2.2.2.2 ++ (T1.2.2.2 ++ (kernelRun0_A.sl.HS3_1 c arg4 harg4 arg5 harg5 x2 x3)))))) := by
    have e := loop3 Variants.none c none i arg2 harg2 arg3 harg3 arg4 harg4 arg5 harg5 arg6 harg6 arg7 harg7 arg8 harg8 arg9 harg9 arg10 harg10 arg11 harg11 (kernelRun0_A.sl.r c arg4 harg4 x2) (kernelRun0_A.sl.v52 i) (kernelRun0_A.sl.v73 i) 0#32 (kernelRun0_A.sl.v104 i) (harg5.unread x3) (harg6.unread x4) (arg8.view.writes (Elt F) arg8.view.junk (T2.1 ++ (T1.1 ++ kernelRun0_A.sl.HS0_1))) (arg9.view.writes (Elt F) arg9.view.junk (T2.2.1 ++ (T1.2.1 ++ kernelRun0_A.sl.HS1_1))) (arg10.view.writes (Elt F) arg10.view.junk (T2.2.2.1 ++ (T1.2.2.1 ++ kernelRun0_A.sl.HS2_1))) (arg11.view.writes (Elt F) arg11.view.junk (T2.2.2.2 ++ (T1.2.2.2 ++ (kernelRun0_A.sl.HS3_1 c arg4 harg4 arg5 harg5 x2 x3)))) (fun n st => P (2 * (full (i 1).val / 2) + n) st) e2 (by
      intro k st hp
      dsimp only at hp ⊢
      rw [read_KB arg5 harg5 x3 _ _ _ (off9 i k), read_VB arg6 harg6 x4 _ _ _ (off10 i k)]
      have hk : k.val < full (i 1).val - 2 * (full (i 1).val / 2) := (trips3 i) ▸ k.isLt
      exact hu (2 * (full (i 1).val / 2) + k.val) _ (by omega) hp
      ) (k0_t3_loop i).trips (Nat.le_refl _)
    have ht : (stOf arg8 arg9 arg10 arg11 (arg8.view.writes (Elt F) arg8.view.junk (T3.1 ++ (T2.1 ++ (T1.1 ++ kernelRun0_A.sl.HS0_1)))) (arg9.view.writes (Elt F) arg9.view.junk (T3.2.1 ++ (T2.2.1 ++ (T1.2.1 ++ kernelRun0_A.sl.HS1_1)))) (arg10.view.writes (Elt F) arg10.view.junk (T3.2.2.1 ++ (T2.2.2.1 ++ (T1.2.2.1 ++ kernelRun0_A.sl.HS2_1)))) (arg11.view.writes (Elt F) arg11.view.junk (T3.2.2.2 ++ (T2.2.2.2 ++ (T1.2.2.2 ++ (kernelRun0_A.sl.HS3_1 c arg4 harg4 arg5 harg5 x2 x3)))))) = stOf arg8 arg9 arg10 arg11 (arg8.view.writes (Elt F) (arg8.view.writes (Elt F) arg8.view.junk (T2.1 ++ (T1.1 ++ kernelRun0_A.sl.HS0_1))) T3.1) (arg9.view.writes (Elt F) (arg9.view.writes (Elt F) arg9.view.junk (T2.2.1 ++ (T1.2.1 ++ kernelRun0_A.sl.HS1_1))) T3.2.1) (arg10.view.writes (Elt F) (arg10.view.writes (Elt F) arg10.view.junk (T2.2.2.1 ++ (T1.2.2.1 ++ kernelRun0_A.sl.HS2_1))) T3.2.2.1) (arg11.view.writes (Elt F) (arg11.view.writes (Elt F) arg11.view.junk (T2.2.2.2 ++ (T1.2.2.2 ++ (kernelRun0_A.sl.HS3_1 c arg4 harg4 arg5 harg5 x2 x3)))) T3.2.2.2) := by
      exact stOf_append arg8 arg9 arg10 arg11 _ _ _ _ _ _ _ _ _ _ _ _
    rw [ht]
    have hn : 2 * (full (i 1).val / 2) + (k0_t3_loop i).trips = full (i 1).val := by
      rw [trips3 i]; omega
    rw [← hn]
    rw [← hT3] at e
    exact e
  obtain ⟨T4, hT4⟩ : ∃ T, T = pb_k0_t4 (F := F) Variants.none c none i arg2 harg2 arg3 harg3 arg4 harg4 arg5 harg5 arg6 harg6 arg7 harg7 arg8 harg8 arg9 harg9 arg10 harg10 arg11 harg11 (kernelRun0_A.sl.r c arg4 harg4 x2) (k0_pay63 i) (kernelRun0_A.sl.v52 i) (kernelRun0_A.sl.v73 i) (kernelRun0_A.sl.v109 i) (harg5.unread x3) (harg6.unread x4) (arg8.view.writes (Elt F) arg8.view.junk (T3.1 ++ (T2.1 ++ (T1.1 ++ kernelRun0_A.sl.HS0_1)))) (arg9.view.writes (Elt F) arg9.view.junk (T3.2.1 ++ (T2.2.1 ++ (T1.2.1 ++ kernelRun0_A.sl.HS1_1)))) (arg10.view.writes (Elt F) arg10.view.junk (T3.2.2.1 ++ (T2.2.2.1 ++ (T1.2.2.1 ++ kernelRun0_A.sl.HS2_1)))) (arg11.view.writes (Elt F) arg11.view.junk (T3.2.2.2 ++ (T2.2.2.2 ++ (T1.2.2.2 ++ (kernelRun0_A.sl.HS3_1 c arg4 harg4 arg5 harg5 x2 x3))))) (k0_t4_loop i).trips := ⟨_, rfl⟩
  have z4 : T4 = ([], [], [], []) := by
    rw [hT4, trips4 i, pb_k0_t4.eq_1]
  have e4 : P (full (i 1).val) (stOf arg8 arg9 arg10 arg11 (arg8.view.writes (Elt F) arg8.view.junk (T4.1 ++ (T3.1 ++ (T2.1 ++ (T1.1 ++ kernelRun0_A.sl.HS0_1))))) (arg9.view.writes (Elt F) arg9.view.junk (T4.2.1 ++ (T3.2.1 ++ (T2.2.1 ++ (T1.2.1 ++ kernelRun0_A.sl.HS1_1))))) (arg10.view.writes (Elt F) arg10.view.junk (T4.2.2.1 ++ (T3.2.2.1 ++ (T2.2.2.1 ++ (T1.2.2.1 ++ kernelRun0_A.sl.HS2_1))))) (arg11.view.writes (Elt F) arg11.view.junk (T4.2.2.2 ++ (T3.2.2.2 ++ (T2.2.2.2 ++ (T1.2.2.2 ++ (kernelRun0_A.sl.HS3_1 c arg4 harg4 arg5 harg5 x2 x3))))))) := by
    rw [z4]; exact e3
  obtain ⟨T5, hT5⟩ : ∃ T, T = pb_k0_t5 (F := F) Variants.none c none i arg2 harg2 arg3 harg3 arg4 harg4 arg5 harg5 arg6 harg6 arg7 harg7 arg8 harg8 arg9 harg9 arg10 harg10 arg11 harg11 (kernelRun0_A.sl.r c arg4 harg4 x2) (k0_pay63 i) (kernelRun0_A.sl.v52 i) (kernelRun0_A.sl.v73 i) (kernelRun0_A.sl.v109 i) (harg5.unread x3) (harg6.unread x4) (arg8.view.writes (Elt F) arg8.view.junk (T4.1 ++ (T3.1 ++ (T2.1 ++ (T1.1 ++ kernelRun0_A.sl.HS0_1))))) (arg9.view.writes (Elt F) arg9.view.junk (T4.2.1 ++ (T3.2.1 ++ (T2.2.1 ++ (T1.2.1 ++ kernelRun0_A.sl.HS1_1))))) (arg10.view.writes (Elt F) arg10.view.junk (T4.2.2.1 ++ (T3.2.2.1 ++ (T2.2.2.1 ++ (T1.2.2.1 ++ kernelRun0_A.sl.HS2_1))))) (arg11.view.writes (Elt F) arg11.view.junk (T4.2.2.2 ++ (T3.2.2.2 ++ (T2.2.2.2 ++ (T1.2.2.2 ++ (kernelRun0_A.sl.HS3_1 c arg4 harg4 arg5 harg5 x2 x3)))))) (k0_t5_loop i).trips := ⟨_, rfl⟩
  have e5 : P (need (i 1).val) (stOf arg8 arg9 arg10 arg11 (arg8.view.writes (Elt F) arg8.view.junk (T5.1 ++ (T4.1 ++ (T3.1 ++ (T2.1 ++ (T1.1 ++ kernelRun0_A.sl.HS0_1)))))) (arg9.view.writes (Elt F) arg9.view.junk (T5.2.1 ++ (T4.2.1 ++ (T3.2.1 ++ (T2.2.1 ++ (T1.2.1 ++ kernelRun0_A.sl.HS1_1)))))) (arg10.view.writes (Elt F) arg10.view.junk (T5.2.2.1 ++ (T4.2.2.1 ++ (T3.2.2.1 ++ (T2.2.2.1 ++ (T1.2.2.1 ++ kernelRun0_A.sl.HS2_1)))))) (arg11.view.writes (Elt F) arg11.view.junk (T5.2.2.2 ++ (T4.2.2.2 ++ (T3.2.2.2 ++ (T2.2.2.2 ++ (T1.2.2.2 ++ (kernelRun0_A.sl.HS3_1 c arg4 harg4 arg5 harg5 x2 x3)))))))) := by
    have e := loop5 Variants.none c none i arg2 harg2 arg3 harg3 arg4 harg4 arg5 harg5 arg6 harg6 arg7 harg7 arg8 harg8 arg9 harg9 arg10 harg10 arg11 harg11 (kernelRun0_A.sl.r c arg4 harg4 x2) (k0_pay63 i) (kernelRun0_A.sl.v52 i) (kernelRun0_A.sl.v73 i) (kernelRun0_A.sl.v109 i) (harg5.unread x3) (harg6.unread x4) (arg8.view.writes (Elt F) arg8.view.junk (T4.1 ++ (T3.1 ++ (T2.1 ++ (T1.1 ++ kernelRun0_A.sl.HS0_1))))) (arg9.view.writes (Elt F) arg9.view.junk (T4.2.1 ++ (T3.2.1 ++ (T2.2.1 ++ (T1.2.1 ++ kernelRun0_A.sl.HS1_1))))) (arg10.view.writes (Elt F) arg10.view.junk (T4.2.2.1 ++ (T3.2.2.1 ++ (T2.2.2.1 ++ (T1.2.2.1 ++ kernelRun0_A.sl.HS2_1))))) (arg11.view.writes (Elt F) arg11.view.junk (T4.2.2.2 ++ (T3.2.2.2 ++ (T2.2.2.2 ++ (T1.2.2.2 ++ (kernelRun0_A.sl.HS3_1 c arg4 harg4 arg5 harg5 x2 x3)))))) (fun n st => P (full (i 1).val + n) st) e4 (by
      intro k st hp
      dsimp only at hp ⊢
      rw [read_KB arg5 harg5 x3 _ _ _ (off13 i k), read_VB arg6 harg6 x4 _ _ _ (off14 i k)]
      exact hm k _ hp
      ) (k0_t5_loop i).trips (Nat.le_refl _)
    have ht : (stOf arg8 arg9 arg10 arg11 (arg8.view.writes (Elt F) arg8.view.junk (T5.1 ++ (T4.1 ++ (T3.1 ++ (T2.1 ++ (T1.1 ++ kernelRun0_A.sl.HS0_1)))))) (arg9.view.writes (Elt F) arg9.view.junk (T5.2.1 ++ (T4.2.1 ++ (T3.2.1 ++ (T2.2.1 ++ (T1.2.1 ++ kernelRun0_A.sl.HS1_1)))))) (arg10.view.writes (Elt F) arg10.view.junk (T5.2.2.1 ++ (T4.2.2.1 ++ (T3.2.2.1 ++ (T2.2.2.1 ++ (T1.2.2.1 ++ kernelRun0_A.sl.HS2_1)))))) (arg11.view.writes (Elt F) arg11.view.junk (T5.2.2.2 ++ (T4.2.2.2 ++ (T3.2.2.2 ++ (T2.2.2.2 ++ (T1.2.2.2 ++ (kernelRun0_A.sl.HS3_1 c arg4 harg4 arg5 harg5 x2 x3)))))))) = stOf arg8 arg9 arg10 arg11 (arg8.view.writes (Elt F) (arg8.view.writes (Elt F) arg8.view.junk (T4.1 ++ (T3.1 ++ (T2.1 ++ (T1.1 ++ kernelRun0_A.sl.HS0_1))))) T5.1) (arg9.view.writes (Elt F) (arg9.view.writes (Elt F) arg9.view.junk (T4.2.1 ++ (T3.2.1 ++ (T2.2.1 ++ (T1.2.1 ++ kernelRun0_A.sl.HS1_1))))) T5.2.1) (arg10.view.writes (Elt F) (arg10.view.writes (Elt F) arg10.view.junk (T4.2.2.1 ++ (T3.2.2.1 ++ (T2.2.2.1 ++ (T1.2.2.1 ++ kernelRun0_A.sl.HS2_1))))) T5.2.2.1) (arg11.view.writes (Elt F) (arg11.view.writes (Elt F) arg11.view.junk (T4.2.2.2 ++ (T3.2.2.2 ++ (T2.2.2.2 ++ (T1.2.2.2 ++ (kernelRun0_A.sl.HS3_1 c arg4 harg4 arg5 harg5 x2 x3)))))) T5.2.2.2) := by
      exact stOf_append arg8 arg9 arg10 arg11 _ _ _ _ _ _ _ _ _ _ _ _
    rw [ht]
    have hn : full (i 1).val + (k0_t5_loop i).trips = need (i 1).val := by
      rw [trips5 i]; have := full_le_need (i 1).val; omega
    rw [← hn]
    rw [← hT5] at e
    exact e
  obtain ⟨T6, hT6⟩ : ∃ T, T = pb_k0_t6 (F := F) Variants.none c none i arg2 harg2 arg3 harg3 arg4 harg4 arg5 harg5 arg6 harg6 arg7 harg7 arg8 harg8 arg9 harg9 arg10 harg10 arg11 harg11 (kernelRun0_A.sl.r c arg4 harg4 x2) (k0_pay63 i) (kernelRun0_A.sl.v52 i) (kernelRun0_A.sl.v73 i) (kernelRun0_A.sl.v109 i) (kernelRun0_A.sl.v114 i) (harg5.unread x3) (harg6.unread x4) (arg8.view.writes (Elt F) arg8.view.junk (T5.1 ++ (T4.1 ++ (T3.1 ++ (T2.1 ++ (T1.1 ++ kernelRun0_A.sl.HS0_1)))))) (arg9.view.writes (Elt F) arg9.view.junk (T5.2.1 ++ (T4.2.1 ++ (T3.2.1 ++ (T2.2.1 ++ (T1.2.1 ++ kernelRun0_A.sl.HS1_1)))))) (arg10.view.writes (Elt F) arg10.view.junk (T5.2.2.1 ++ (T4.2.2.1 ++ (T3.2.2.1 ++ (T2.2.2.1 ++ (T1.2.2.1 ++ kernelRun0_A.sl.HS2_1)))))) (arg11.view.writes (Elt F) arg11.view.junk (T5.2.2.2 ++ (T4.2.2.2 ++ (T3.2.2.2 ++ (T2.2.2.2 ++ (T1.2.2.2 ++ (kernelRun0_A.sl.HS3_1 c arg4 harg4 arg5 harg5 x2 x3))))))) (k0_t6_loop i).trips := ⟨_, rfl⟩
  have z6 : T6 = ([], [], [], []) := by
    rw [hT6, trips6 i, pb_k0_t6.eq_1]
  have e6 : P (need (i 1).val) (stOf arg8 arg9 arg10 arg11 (arg8.view.writes (Elt F) arg8.view.junk (T6.1 ++ (T5.1 ++ (T4.1 ++ (T3.1 ++ (T2.1 ++ (T1.1 ++ kernelRun0_A.sl.HS0_1))))))) (arg9.view.writes (Elt F) arg9.view.junk (T6.2.1 ++ (T5.2.1 ++ (T4.2.1 ++ (T3.2.1 ++ (T2.2.1 ++ (T1.2.1 ++ kernelRun0_A.sl.HS1_1))))))) (arg10.view.writes (Elt F) arg10.view.junk (T6.2.2.1 ++ (T5.2.2.1 ++ (T4.2.2.1 ++ (T3.2.2.1 ++ (T2.2.2.1 ++ (T1.2.2.1 ++ kernelRun0_A.sl.HS2_1))))))) (arg11.view.writes (Elt F) arg11.view.junk (T6.2.2.2 ++ (T5.2.2.2 ++ (T4.2.2.2 ++ (T3.2.2.2 ++ (T2.2.2.2 ++ (T1.2.2.2 ++ (kernelRun0_A.sl.HS3_1 c arg4 harg4 arg5 harg5 x2 x3))))))))) := by
    rw [z6]; exact e5
  refine ⟨_, e6, ?_, ?_⟩
  all_goals subst hT6 hT5 hT4 hT3 hT2 hT1
  · exact ra_acc arg10 _ _
  · exact ra_row arg9 _ _

end Cert.Diff
-- ==== Proof.Payload.lean ====
module

public import proofs.«01_k».proof.Proof.Chain
public import Idealize.ShloMosaic.Lib.Pointwise
public import Idealize.ShloMosaic.Lib.WordCmp

@[expose] public section

set_option maxRecDepth 16384

noncomputable section

namespace Cert.Diff

open Cert.KernelIdeal Cert.KernelIdeal.Gen Idealize.ShloMosaic Idealize.ShloMosaic.TcCoe Idealize.ShloMosaic.Tactic

/-- The floating-point word of minus infinity. -/
theorem ofBits_bot : Ideal.ofBits .f32 0xFF800000#32 = ⊥ := by
  simp [Ideal.ofBits, Ideal.ieee]

/-- The named mask value is minus infinity. -/
theorem named_bot : (Named.named Cert.KernelIdeal.κ "neg" (φ := .f32) 0xF149F2CA#32 : Ideal .f32) = (⊥ : EReal) :=
  IdealRules.named_const.ideal_named_scalar _ _ _ _ rfl

/-- The score of key `r` against the stacked query `c`. -/
def sc (q : FVec Ideal S512x128 .bf16) (x3 : Vec Ideal S1x8704x128 .bf16) (r : ℕ) (c : Fin 512) : EReal :=
  ∑ d : Fin 128, x3 (ix3 0 ⟨min r 8703, by omega⟩ d) * q (ix2 c d)

/-- Lane `d` of the value of key `r`. -/
def vv (x4 : Vec Ideal S1x17x128x512 .bf16) (r : ℕ) (d : Fin 128) : EReal :=
  x4 (ix4 0 ⟨min (r / 512) 16, by omega⟩ d ⟨r % 512, by omega⟩)

/-- The scores of a chunk of keys. -/
theorem pay36_at (q : FVec Ideal S512x128 .bf16) (x3 : Vec Ideal S1x8704x128 .bf16) (j : ℕ) (r c : Fin 512) :
    k0_pay36 (F := Ideal) q (KB x3 j) (ix2 r c) = sc q x3 (512 * j + r.val) c := by
  pointwise [k0_pay36, KB, sc]

/-- The new running maximum. -/
theorem pay37_at (s : FVec Ideal S512x512 .f32) (m : FVec Ideal S1x512 .f32) (c : Fin 512) :
    k0_pay37 (F := Ideal) s m (ix2 0 c) = max (m (ix2 0 c)) (Finset.univ.fold max ⊥ fun r : Fin 512 => s (ix2 r c)) := by
  pointwise [k0_pay37]
  rw [ofBits_bot]

theorem pay40_at (s : FVec Ideal S512x512 .f32) (m l : FVec Ideal S1x512 .f32) (c : Fin 512) :
    k0_pay40 (F := Ideal) s m l (ix2 0 c) = Ideal.exp (m (ix2 0 c) - k0_pay37 (F := Ideal) s m (ix2 0 c)) * l (ix2 0 c)
      + ∑ r : Fin 512, Ideal.exp (s (ix2 r c) - k0_pay37 (F := Ideal) s m (ix2 0 c)) := by
  pointwise [k0_pay40, k0_pay38, k0_pay39]

theorem pay41_at (s : FVec Ideal S512x512 .f32) (m : FVec Ideal S1x512 .f32) (a : FVec Ideal S128x512 .f32)
    (x4 : Vec Ideal S1x17x128x512 .bf16) (j : ℕ) (d : Fin 128) (c : Fin 512) :
    k0_pay41 (F := Ideal) s m a (VB x4 j) (ix2 d c) = Ideal.exp (m (ix2 0 c) - k0_pay37 (F := Ideal) s m (ix2 0 c)) * a (ix2 d c)
      + ∑ r : Fin 512, vv x4 (512 * j + r.val) d * Ideal.exp (s (ix2 r c) - k0_pay37 (F := Ideal) s m (ix2 0 c)) := by
  pointwise [k0_pay41, k0_pay38, k0_pay39, VB, vv]
  refine congrArg (_ + ·) (Finset.sum_congr rfl fun x _ => ?_)
  have h1 : (512 * j + x.val) / 512 = j := by omega
  have h2 : (512 * j + x.val) % 512 = x.val := by omega
  simp only [h1, h2]

theorem pay64_at (y) : (k0_pay64 : FVec Ideal S1x512 .f32) y = (⊥ : EReal) := by
  pointwise [k0_pay64]
  exact named_bot

theorem pay65_at (y) : (k0_pay65 : FVec Ideal S1x512 .f32) y = (0 : EReal) := by
  pointwise [k0_pay65]

theorem pay66_at (y) : (k0_pay66 : FVec Ideal S128x512 .f32) y = (0 : EReal) := by
  pointwise [k0_pay66]

theorem pay67_at (q : FVec Ideal S512x128 .bf16) (x3 : Vec Ideal S1x8704x128 .bf16) (r c : Fin 512) :
    k0_pay67 (F := Ideal) q (KB x3 0) (ix2 r c) = sc q x3 r.val c := by
  pointwise [k0_pay67, KB, sc]

/-- The first key of a masked chunk, as a word. -/
theorem word_row : ∀ (i : grid0.Coords) (k : Fin (k0_t5_loop i).trips),
    (Scalar.muli (Scf.iv (kernelRun0_A.sl.v52 i) 1#32 k.val) 512#32).toNat = 512 * (full (i 1).val + k.val) := by
  decide +kernel

/-- The first query of a block, as a word. -/
theorem word_q : ∀ i : grid0.Coords, (Scalar.muli (BitVec.ofNat 32 (i 1).val) 256#32).toNat = 256 * (i 1).val := by
  decide +kernel

/-- The query a lane belongs to, as a word. -/
theorem word_c : ∀ c : Fin 512, (Scalar.select (IntOp.cmpi CmpIPredicate.slt (BitVec.ofNat 32 c.val) 256#32)
    (BitVec.ofNat 32 c.val) (IntOp.subi (BitVec.ofNat 32 c.val) 256#32)).toNat = c.val % 256 := by
  decide +kernel

/-- The causal mask of a masked chunk. -/
theorem pay49_at (i : grid0.Coords) (k : Fin (k0_t5_loop i).trips) (s : FVec Ideal S512x512 .f32) (r c : Fin 512) :
    k0_pay49 (F := Ideal) i (k0_pay63 i) (kernelRun0_A.sl.v52 i) 1#32 k s (ix2 r c)
      = if 512 * (full (i 1).val + k.val) + r.val ≤ 256 * (i 1).val + c.val % 256 then s (ix2 r c) else (⊥ : EReal) := by
  pointwise [k0_pay49, k0_pay63]
  rw [named_bot]
  have hr := word_row i k
  have hq := word_q i
  have hc := word_c c
  generalize Scalar.muli (Scf.iv (kernelRun0_A.sl.v52 i) 1#32 k.val) 512#32 = A at hr ⊢
  generalize Scalar.muli (BitVec.ofNat 32 (i 1).val) 256#32 = B at hq ⊢
  generalize Scalar.select (IntOp.cmpi CmpIPredicate.slt (BitVec.ofNat 32 c.val) 256#32)
    (BitVec.ofNat 32 c.val) (IntOp.subi (BitVec.ofNat 32 c.val) 256#32) = C at hc ⊢
  have hi : (i 1).val < 33 := (i 1).isLt
  have hk : k.val < need (i 1).val - full (i 1).val := (trips5 i) ▸ k.isLt
  have hn := need_le hi
  have e1 : (IntOp.addi A (BitVec.ofNat 32 r.val)).toNat = 512 * (full (i 1).val + k.val) + r.val := by
    show (A + BitVec.ofNat 32 r.val).toNat = _
    rw [BitVec.toNat_add, hr, BitVec.toNat_ofNat]
    omega
  have e2 : (IntOp.addi B C).toNat = 256 * (i 1).val + c.val % 256 := by
    show (B + C).toNat = _
    rw [BitVec.toNat_add, hq, hc]
    omega
  have e := WordCmp.cmpi_sle_of_lt (x := IntOp.addi A (BitVec.ofNat 32 r.val)) (y := IntOp.addi B C)
    (by rw [e1]; omega) (by rw [e2]; omega)
  rw [e, e1, e2]
  unfold Scalar.select
  by_cases h : 512 * (full (i 1).val + k.val) + r.val ≤ 256 * (i 1).val + c.val % 256
  · simp [h]
  · simp [h]

end Cert.Diff
-- ==== Proof.Online.lean ====
/-
  The running softmax in the extended reals: what one chunk of keys does to a running maximum, a running denominator and
  a running weighted sum, when all three are taken relative to the maximum so far.
-/
module

public import Idealize.ShloMosaic.Lib.Pointwise

@[expose] public section

noncomputable section

namespace Cert.Diff

open Idealize.ShloMosaic

/-- An exponential is never negative. -/
theorem exp_nonneg (x : EReal) : 0 ≤ Ideal.exp x := by
  induction x with
  | bot => exact le_refl _
  | top => exact le_top
  | coe r => exact EReal.coe_nonneg.mpr (Real.exp_pos r).le

/-- The exponential of a score relative to a bound of it is a real number of the unit interval. -/
theorem exp_sub_coe {s m : EReal} (h : s ≤ m) : ∃ x : ℝ, 0 ≤ x ∧ x ≤ 1 ∧ Ideal.exp (s - m) = (x : EReal) := by
  induction m with
  | bot =>
    obtain rfl : s = ⊥ := le_bot_iff.mp h
    exact ⟨0, le_refl _, zero_le_one, rfl⟩
  | top =>
    refine ⟨0, le_refl _, zero_le_one, ?_⟩
    rw [EReal.sub_top]; rfl
  | coe b =>
    induction s with
    | bot => exact ⟨0, le_refl _, zero_le_one, by rw [EReal.bot_sub]; rfl⟩
    | top => exact absurd h (by simp)
    | coe a =>
      refine ⟨Real.exp (a - b), (Real.exp_pos _).le, ?_, rfl⟩
      have : a ≤ b := EReal.coe_le_coe_iff.mp h
      exact Real.exp_le_one_iff.mpr (by linarith)

/-- Moving the reference of an exponential from one bound to a larger one is a multiplication. -/
theorem exp_sub_trans {s m m' : EReal} (h : s ≤ m) (h' : m ≤ m') :
    Ideal.exp (m - m') * Ideal.exp (s - m) = Ideal.exp (s - m') := by
  induction m' with
  | bot =>
    obtain rfl : m = ⊥ := le_bot_iff.mp h'
    obtain rfl : s = ⊥ := le_bot_iff.mp h
    show (0 : EReal) * 0 = 0
    simp
  | top =>
    rw [EReal.sub_top, EReal.sub_top]
    show (0 : EReal) * _ = 0
    simp
  | coe c =>
    induction m with
    | bot =>
      obtain rfl : s = ⊥ := le_bot_iff.mp h
      rw [EReal.bot_sub, EReal.bot_sub]
      show (0 : EReal) * 0 = 0
      simp
    | top => exact absurd h' (by simp)
    | coe b =>
      induction s with
      | bot =>
        rw [EReal.bot_sub, EReal.bot_sub]
        show _ * (0 : EReal) = 0
        simp
      | top => exact absurd h (by simp)
      | coe a =>
        show ((Real.exp (b - c) : ℝ) : EReal) * ((Real.exp (a - b) : ℝ) : EReal) = ((Real.exp (a - c) : ℝ) : EReal)
        rw [← EReal.coe_mul, ← Real.exp_add]
        congr 2; ring

/-- A nonnegative real number multiplies a sum term by term. -/
theorem mul_sum_of_coe {ι : Type} (t : Finset ι) (f : ι → EReal) (x : ℝ) (hx : 0 ≤ x) :
    (x : EReal) * ∑ i ∈ t, f i = ∑ i ∈ t, (x : EReal) * f i := by
  classical
  induction t using Finset.induction_on with
  | empty => simp
  | insert a t ha ih =>
    rw [Finset.sum_insert ha, Finset.sum_insert ha,
      EReal.left_distrib_of_nonneg_of_ne_top (EReal.coe_nonneg.mpr hx) (EReal.coe_ne_top x), ih]

/-- The same on the right. -/
theorem sum_mul_of_coe {ι : Type} (t : Finset ι) (f : ι → EReal) (x : ℝ) (hx : 0 ≤ x) :
    (∑ i ∈ t, f i) * (x : EReal) = ∑ i ∈ t, f i * (x : EReal) := by
  rw [mul_comm, mul_sum_of_coe t f x hx]
  exact Finset.sum_congr rfl fun i _ => mul_comm _ _

/-- The largest of the first `n` scores. -/
def mx (s : ℕ → EReal) (n : ℕ) : EReal := (Finset.range n).sup s

theorem le_mx (s : ℕ → EReal) {n r : ℕ} (h : r < n) : s r ≤ mx s n := Finset.le_sup (f := s) (Finset.mem_range.mpr h)

theorem mx_mono (s : ℕ → EReal) {n n' : ℕ} (h : n ≤ n') : mx s n ≤ mx s n' :=
  Finset.sup_mono (Finset.range_mono h)

/-- The largest of the first scores and of one further chunk. -/
theorem mx_add (s : ℕ → EReal) (n k : ℕ) :
    max (mx s n) (Finset.univ.fold max ⊥ fun r : Fin k => s (n + r.val)) = mx s (n + k) := by
  have e : (Finset.univ.fold max ⊥ fun r : Fin k => s (n + r.val)) = Finset.univ.sup fun r : Fin k => s (n + r.val) := rfl
  rw [e]
  apply le_antisymm
  · refine max_le (mx_mono s (Nat.le_add_right _ _)) (Finset.sup_le fun r _ => le_mx s (by omega))
  · refine Finset.sup_le fun r hr => ?_
    have hr := Finset.mem_range.mp hr
    by_cases h : r < n
    · exact le_max_of_le_left (le_mx s h)
    · refine le_max_of_le_right ?_
      have := Finset.le_sup (f := fun r : Fin k => s (n + r.val)) (Finset.mem_univ ⟨r - n, by omega⟩)
      dsimp only at this
      rwa [show n + (r - n) = r by omega] at this

/-- The weights of the first `n` keys, relative to their largest score, against `f`. -/
def wsum (s f : ℕ → EReal) (n : ℕ) : EReal := ∑ r ∈ Finset.range n, f r * Ideal.exp (s r - mx s n)

/-- The denominator: the weights alone. -/
def den (s : ℕ → EReal) (n : ℕ) : EReal := ∑ r ∈ Finset.range n, Ideal.exp (s r - mx s n)

theorem mul_left_comm' (a b c : EReal) : a * (b * c) = b * (a * c) := by
  rw [← mul_assoc, mul_comm a b, mul_assoc]

/-- One chunk folded into a weighted sum. -/
theorem wsum_add (s f : ℕ → EReal) (n k : ℕ) :
    Ideal.exp (mx s n - mx s (n + k)) * wsum s f n
      + ∑ r : Fin k, f (n + r.val) * Ideal.exp (s (n + r.val) - mx s (n + k)) = wsum s f (n + k) := by
  unfold wsum
  rw [Finset.sum_range_add, Finset.sum_range (fun r => f (n + r) * Ideal.exp (s (n + r) - mx s (n + k)))]
  refine congrArg (· + _) ?_
  obtain ⟨x, hx, -, e⟩ := exp_sub_coe (mx_mono s (Nat.le_add_right n k))
  have e' := e
  rw [e, mul_sum_of_coe _ _ x hx]
  refine Finset.sum_congr rfl fun r hr => ?_
  rw [mul_left_comm', ← e', exp_sub_trans (le_mx s (Finset.mem_range.mp hr)) (mx_mono s (Nat.le_add_right n k))]

/-- One chunk folded into the denominator. -/
theorem den_add (s : ℕ → EReal) (n k : ℕ) :
    Ideal.exp (mx s n - mx s (n + k)) * den s n + ∑ r : Fin k, Ideal.exp (s (n + r.val) - mx s (n + k))
      = den s (n + k) := by
  have h := wsum_add s (fun _ => 1) n k
  simpa only [wsum, one_mul, den] using h

end Cert.Diff
-- ==== Proof.Inv.lean ====
/-
  The state of the loops after any number of key chunks, in closed form, and what the body divides at the end.
-/
module

public import proofs.«01_k».proof.Proof.Payload
public import proofs.«01_k».proof.Proof.Online

@[expose] public section

set_option maxRecDepth 16384

noncomputable section

namespace Cert.Diff

open Cert.KernelIdeal Cert.KernelIdeal.Gen Idealize.ShloMosaic Idealize.ShloMosaic.TcCoe Idealize.ShloMosaic.Tactic

/-- The causally masked score of key `r` for lane `c` of query block `n`. -/
def mk (n : ℕ) (q : FVec Ideal S512x128 .bf16) (x3 : Vec Ideal S1x8704x128 .bf16) (c : Fin 512) (r : ℕ) : EReal :=
  if r ≤ 256 * n + c.val % 256 then sc q x3 r c else ⊥

/-- After `j` chunks: the maximum, the denominator and the weighted values of the first `512 j` keys, and the raw scores
    of the next chunk. -/
def Inv (n : ℕ) (q : FVec Ideal S512x128 .bf16) (x3 : Vec Ideal S1x8704x128 .bf16) (x4 : Vec Ideal S1x17x128x512 .bf16)
    (j : ℕ) (st : St Ideal) : Prop :=
  (∀ c : Fin 512, st.m (ix2 0 c) = mx (mk n q x3 c) (512 * j))
  ∧ (∀ c : Fin 512, st.l (ix2 0 c) = den (mk n q x3 c) (512 * j))
  ∧ (∀ (d : Fin 128) (c : Fin 512), st.a (ix2 d c) = wsum (mk n q x3 c) (fun r => vv x4 r d) (512 * j))
  ∧ (∀ r c : Fin 512, st.s (ix2 r c) = sc q x3 (512 * min j (need n - 1) + r.val) c)

/-- The starting state. -/
theorem inv0 (n : ℕ) (q : FVec Ideal S512x128 .bf16) (x3 : Vec Ideal S1x8704x128 .bf16)
    (x4 : Vec Ideal S1x17x128x512 .bf16) : Inv n q x3 x4 0 (st0 q x3) := by
  refine ⟨fun c => ?_, fun c => ?_, fun d c => ?_, fun r c => ?_⟩
  · exact (pay64_at (ix2 0 c)).trans (by simp [mx])
  · exact (pay65_at (ix2 0 c)).trans (by simp [den])
  · exact (pay66_at (ix2 d c)).trans (by simp [wsum])
  · refine (pay67_at q x3 r c).trans ?_
    rw [Nat.zero_min, Nat.mul_zero, Nat.zero_add]

/-- One chunk keeps the closed form, given its masked scores. -/
theorem inv_step (n : ℕ) (q : FVec Ideal S512x128 .bf16) (x3 : Vec Ideal S1x8704x128 .bf16)
    (x4 : Vec Ideal S1x17x128x512 .bf16) (j : ℕ) (st : St Ideal) (h : Inv n q x3 x4 j st)
    (s' : FVec Ideal S512x512 .f32) (hs : ∀ r c : Fin 512, s' (ix2 r c) = mk n q x3 c (512 * j + r.val)) :
    Inv n q x3 x4 (j + 1) (upd q s' (KB x3 (nxt n j)) (VB x4 j) st) := by
  obtain ⟨h1, h2, h3, h4⟩ := h
  have hm : ∀ c : Fin 512, k0_pay37 (F := Ideal) s' st.m (ix2 0 c) = mx (mk n q x3 c) (512 * j + 512) := by
    intro c
    rw [pay37_at, h1, ← mx_add]
    simp only [hs]
  refine ⟨fun c => ?_, fun c => ?_, fun d c => ?_, fun r c => ?_⟩
  · exact hm c
  · refine (pay40_at s' st.m st.l c).trans ?_
    rw [hm, h1, h2, Nat.mul_succ, ← den_add]
    simp only [hs]
  · refine (pay41_at s' st.m st.a x4 j d c).trans ?_
    rw [hm, h1, h3, Nat.mul_succ, ← wsum_add]
    simp only [hs]
  · exact pay36_at q x3 (nxt n j) r c

/-- What the body divides at the end, given the queries `q` it multiplies the keys by: the weighted values and the
    denominator of all the keys of the block's chunks. -/
theorem final (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1x256x128 .bf16) (harg4 : arg4.IsWhole) (arg5 : Memref sig .tc .vmem S1x8704x128 .bf16) (harg5 : arg5.IsWhole) (arg6 : Memref sig .tc .vmem S1x17x128x512 .bf16) (harg6 : arg6.IsWhole) (arg7 : Memref sig .tc .vmem S256x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S512x512 .f32) (harg11 : arg11.IsWhole)
    (x2 : Vec Ideal S1x256x128 .bf16) (x3 : Vec Ideal S1x8704x128 .bf16) (x4 : Vec Ideal S1x17x128x512 .bf16)
    (q : FVec Ideal S512x128 .bf16) (hq : kernelRun0_A.sl.r c arg4 harg4 x2 = q) :
    (∀ (d : Fin 128) (e : Fin 512), kernelRun0_A.sl.v130 c i arg2 harg2 arg3 harg3 arg4 harg4 arg5 harg5 arg6 harg6 arg7 harg7 arg8 harg8 arg9 harg9 arg10 harg10 arg11 harg11 x2 x3 x4 (ix2 d e)
        = wsum (mk (i 1).val q x3 e) (fun r => vv x4 r d) (512 * need (i 1).val))
      ∧ ∀ e : Fin 512, kernelRun0_A.sl.v131 c i arg2 harg2 arg3 harg3 arg4 harg4 arg5 harg5 arg6 harg6 arg7 harg7 arg8 harg8 arg9 harg9 arg10 harg10 arg11 harg11 x2 x3 x4 (ix2 0 e)
        = den (mk (i 1).val q x3 e) (512 * need (i 1).val) := by
  obtain ⟨st, hst, ha, hl⟩ := chain (F := Ideal) c i arg2 harg2 arg3 harg3 arg4 harg4 arg5 harg5 arg6 harg6 arg7 harg7 arg8 harg8 arg9 harg9 arg10 harg10 arg11 harg11 x2 x3 x4 (Inv (i 1).val q x3 x4)
    (by rw [hq]; exact inv0 _ _ _ _)
    (by
      intro j st hj h
      rw [hq]
      refine inv_step _ _ _ _ _ _ h _ fun r e => ?_
      have hf := full_le_need (i 1).val
      rw [h.2.2.2 r e, Nat.min_eq_left (by omega)]
      unfold mk
      rw [if_pos]
      have hr := r.isLt
      unfold full at hj
      omega)
    (by
      intro k st h
      rw [hq]
      refine inv_step _ _ _ _ _ _ h _ fun r e => ?_
      have hk : k.val < need (i 1).val - full (i 1).val := (trips5 i) ▸ k.isLt
      rw [pay49_at, h.2.2.2 r e, Nat.min_eq_left (by omega)]
      rfl)
  refine ⟨fun d e => ?_, fun e => ?_⟩
  · exact (congrFun ha _).trans (hst.2.2.1 d e)
  · exact (congrFun hl _).trans (hst.2.1 e)

end Cert.Diff
-- ==== Proof.Combine.lean ====
/-
  Why dividing the two weighted sums and then taking their difference is the same, after the per-head normalization, as
  weighting the values by the difference of the two softmaxes. Where a denominator vanishes both sides are zero.
-/
module

public import proofs.«01_k».proof.Proof.Online

@[expose] public section

noncomputable section

namespace Cert.Diff

open Idealize.ShloMosaic

/-- A sum of reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The squares of the 128 lanes, averaged, a small number added, and the reciprocal root taken, times a lane. -/
def ny (w eps : EReal) (o : Fin 128 → EReal) (d : Fin 128) : EReal :=
  o d * Ideal.rsqrt (Ideal.div (∑ x, o x * o x) w + eps)

/-- A square is never negative. -/
theorem sq_nonneg' (x : EReal) : 0 ≤ x * x := by
  induction x with
  | bot => simp
  | top => simp
  | coe r => rw [← EReal.coe_mul]; exact EReal.coe_nonneg.mpr (mul_self_nonneg r)

/-- If each lane is zero or infinite, every normalized lane is zero. -/
theorem ny_zero (w eps : ℝ) (hw : 0 < w) (o : Fin 128 → EReal) (h : ∀ d, o d = 0 ∨ o d = ⊤ ∨ o d = ⊥) (d : Fin 128) :
    ny w eps o d = 0 := by
  unfold ny
  rcases h d with h0 | hi
  · rw [h0, zero_mul]
  · have hs : ∑ x, o x * o x = ⊤ := by
      refine top_le_iff.mp ?_
      have h1 := Finset.single_le_sum (f := fun x => o x * o x) (fun x _ => sq_nonneg' (o x)) (Finset.mem_univ d)
      have h2 : o d * o d = ⊤ := by
        rcases hi with h | h <;> rw [h] <;> simp
      exact h2 ▸ h1
    have hd : Ideal.div ⊤ (w : EReal) = ⊤ := by
      unfold Ideal.div
      rw [if_neg (by exact_mod_cast hw.ne'), ← EReal.coe_inv]
      exact EReal.top_mul_coe_of_pos (inv_pos.mpr hw)
    rw [hs, hd, EReal.top_add_coe]
    show o d * (0 : EReal) = 0
    rw [mul_zero]

/-- A sum of real multiples of an infinite number is zero or infinite. -/
theorem sum_inf (t : Finset ℕ) (v : ℕ → ℝ) (z : EReal) (hz : z = ⊤ ∨ z = ⊥) :
    (∑ k ∈ t, (v k : EReal) * z) = 0 ∨ (∑ k ∈ t, (v k : EReal) * z) = ⊤ ∨ (∑ k ∈ t, (v k : EReal) * z) = ⊥ := by
  classical
  have h1 : ∀ k, (v k : EReal) * z = 0 ∨ (v k : EReal) * z = ⊤ ∨ (v k : EReal) * z = ⊥ := by
    intro k
    rcases lt_trichotomy (v k) 0 with h | h | h
    · rcases hz with hz | hz <;> subst hz
      · exact .inr (.inr (EReal.coe_mul_top_of_neg h))
      · exact .inr (.inl (EReal.coe_mul_bot_of_neg h))
    · rw [h]; simp
    · rcases hz with hz | hz <;> subst hz
      · exact .inr (.inl (EReal.coe_mul_top_of_pos h))
      · exact .inr (.inr (EReal.coe_mul_bot_of_pos h))
  induction t using Finset.induction_on with
  | empty => simp
  | insert a t ha ih =>
    rw [Finset.sum_insert ha]
    rcases h1 a with h | h | h <;> rcases ih with i | i | i <;> rw [h, i] <;> simp

/-- The softmax weight of key `k`. -/
def pw (s : ℕ → EReal) (N k : ℕ) : EReal := Ideal.div (Ideal.exp (s k - mx s N)) (den s N)

/-- With a vanishing denominator every weight is minus infinity, and so is every quotient of weighted values. -/
theorem den_zero (s : ℕ → EReal) (N : ℕ) (h : den s N = 0) :
    (∀ k, k < N → pw s N k = ⊥) ∧ ∀ f : ℕ → EReal, Ideal.div (wsum s f N) (den s N) = ⊥ := by
  have h0 : ∀ k, k < N → Ideal.exp (s k - mx s N) = 0 := by
    intro k hk
    have h1 := Finset.single_le_sum (f := fun r => Ideal.exp (s r - mx s N)) (s := Finset.range N)
      (fun r _ => exp_nonneg _) (Finset.mem_range.mpr hk)
    exact le_antisymm (h1.trans (le_of_eq h)) (exp_nonneg _)
  refine ⟨fun k hk => ?_, fun f => ?_⟩
  · unfold pw Ideal.div
    rw [if_pos h, h0 k hk, if_neg (lt_irrefl _)]
  · have : wsum s f N = 0 := Finset.sum_eq_zero fun r hr => by rw [h0 r (Finset.mem_range.mp hr), mul_zero]
    unfold Ideal.div
    rw [if_pos h, this, if_neg (lt_irrefl _)]

/-- With a denominator that does not vanish every weight is real, and the quotient of weighted values is the weights'
    own sum. -/
theorem den_pos (s : ℕ → EReal) (N : ℕ) (h : den s N ≠ 0) :
    ∃ p : ℕ → ℝ, (∀ k, k < N → pw s N k = (p k : EReal))
      ∧ ∀ v : ℕ → ℝ, Ideal.div (wsum s (fun k => (v k : EReal)) N) (den s N)
          = ((∑ k ∈ Finset.range N, v k * p k : ℝ) : EReal) := by
  have he : ∀ k, ∃ x : ℝ, k < N → Ideal.exp (s k - mx s N) = (x : EReal) := by
    intro k
    by_cases hk : k < N
    · obtain ⟨x, -, -, e⟩ := exp_sub_coe (le_mx s hk)
      exact ⟨x, fun _ => e⟩
    · exact ⟨0, fun h => absurd h hk⟩
  choose e he using he
  have hd : den s N = ((∑ k ∈ Finset.range N, e k : ℝ) : EReal) := by
    rw [coe_sum]
    exact Finset.sum_congr rfl fun k hk => he k (Finset.mem_range.mp hk)
  refine ⟨fun k => e k * (∑ k ∈ Finset.range N, e k)⁻¹, fun k hk => ?_, fun v => ?_⟩
  · unfold pw Ideal.div
    rw [if_neg h, he k hk, hd, ← EReal.coe_inv, ← EReal.coe_mul]
  · have hw : wsum s (fun k => (v k : EReal)) N = ((∑ k ∈ Finset.range N, v k * e k : ℝ) : EReal) := by
      rw [coe_sum]
      refine Finset.sum_congr rfl fun k hk => ?_
      rw [he k (Finset.mem_range.mp hk), EReal.coe_mul]
    unfold Ideal.div
    rw [if_neg h, hw, hd, ← EReal.coe_inv, ← EReal.coe_mul, Finset.sum_mul]
    congr 1
    exact Finset.sum_congr rfl fun k _ => by ring

/-- The kernel's lanes: the difference of two quotients. -/
def oK (s0 s1 : ℕ → EReal) (v : Fin 128 → ℕ → EReal) (lam : EReal) (N : ℕ) (d : Fin 128) : EReal :=
  Ideal.div (wsum s0 (v d) N) (den s0 N) - lam * Ideal.div (wsum s1 (v d) N) (den s1 N)

/-- The reference's lanes: the values weighted by the difference of the two softmaxes. -/
def oR (s0 s1 : ℕ → EReal) (v : Fin 128 → ℕ → EReal) (lam : EReal) (N : ℕ) (d : Fin 128) : EReal :=
  ∑ k ∈ Finset.range N, v d k * (pw s0 N k - lam * pw s1 N k)

/-- After the normalization the two agree, for finite values and a finite lambda. -/
theorem combine (s0 s1 : ℕ → EReal) (v : Fin 128 → ℕ → EReal) (hv : ∀ d k, ∃ x : ℝ, v d k = (x : EReal)) (lam : ℝ)
    (N : ℕ) (w eps : ℝ) (hw : 0 < w) (d : Fin 128) :
    ny w eps (oK s0 s1 v lam N) d = ny w eps (oR s0 s1 v lam N) d := by
  choose u hu using hv
  have hu' : ∀ d, v d = fun k => (u d k : EReal) := fun d => funext fun k => hu d k
  -- both sides are zero once every lane of each is zero or infinite
  have hz : ∀ z : EReal, (z = ⊤ ∨ z = ⊥) → (∀ k, k < N → pw s0 N k - lam * pw s1 N k = z) →
      (∀ d, oK s0 s1 v lam N d = ⊤ ∨ oK s0 s1 v lam N d = ⊥) →
      ny w eps (oK s0 s1 v lam N) d = ny w eps (oR s0 s1 v lam N) d := by
    intro z hz hr hk
    rw [ny_zero w eps hw _ (fun d => .inr (hk d)), ny_zero w eps hw _ (fun d => ?_)]
    have e : oR s0 s1 v lam N d = ∑ k ∈ Finset.range N, (u d k : EReal) * z :=
      Finset.sum_congr rfl fun k hk => by rw [hr k (Finset.mem_range.mp hk), hu d k]
    rw [e]
    exact sum_inf _ _ _ hz
  by_cases h0 : den s0 N = 0
  · obtain ⟨a0, b0⟩ := den_zero s0 N h0
    refine hz ⊥ (.inr rfl) (fun k hk => ?_) (fun d => .inr ?_)
    · rw [a0 k hk, EReal.bot_sub]
    · unfold oK; rw [b0, EReal.bot_sub]
  · obtain ⟨p0, a0, b0⟩ := den_pos s0 N h0
    by_cases h1 : den s1 N = 0
    · obtain ⟨a1, b1⟩ := den_zero s1 N h1
      rcases lt_trichotomy lam 0 with hl | hl | hl
      · have hb : (lam : EReal) * ⊥ = ⊤ := EReal.coe_mul_bot_of_neg hl
        refine hz ⊥ (.inr rfl) (fun k hk => ?_) (fun d => .inr ?_)
        · rw [a0 k hk, a1 k hk, hb, EReal.sub_top]
        · unfold oK; rw [hu', b0, b1, hb, EReal.sub_top]
      · subst hl
        have : oK s0 s1 v ((0 : ℝ) : EReal) N = oR s0 s1 v ((0 : ℝ) : EReal) N := by
          funext d
          unfold oK oR
          rw [hu', b0, EReal.coe_zero, zero_mul, sub_zero, coe_sum]
          refine Finset.sum_congr rfl fun k hk => ?_
          rw [a0 k (Finset.mem_range.mp hk), zero_mul, sub_zero, EReal.coe_mul]
        rw [this]
      · have hb : (lam : EReal) * ⊥ = ⊥ := EReal.coe_mul_bot_of_pos hl
        refine hz ⊤ (.inl rfl) (fun k hk => ?_) (fun d => .inl ?_)
        · rw [a0 k hk, a1 k hk, hb, EReal.coe_sub_bot]
        · unfold oK; rw [hu', b0, b1, hb, EReal.coe_sub_bot]
    · obtain ⟨p1, a1, b1⟩ := den_pos s1 N h1
      have : oK s0 s1 v lam N = oR s0 s1 v lam N := by
        funext d
        unfold oK oR
        rw [hu', b0, b1]
        have e : ∀ k ∈ Finset.range N, (u d k : EReal) * (pw s0 N k - lam * pw s1 N k)
            = ((u d k * (p0 k - lam * p1 k) : ℝ) : EReal) := by
          intro k hk
          have hk := Finset.mem_range.mp hk
          rw [a0 k hk, a1 k hk, ← EReal.coe_mul, ← EReal.coe_sub, ← EReal.coe_mul]
        rw [Finset.sum_congr rfl e, ← coe_sum, ← EReal.coe_mul, ← EReal.coe_sub]
        congr 1
        rw [Finset.mul_sum, ← Finset.sum_sub_distrib]
        exact Finset.sum_congr rfl fun k _ => by ring
      rw [this]

/-- Keys whose score is minus infinity change nothing. -/
theorem mx_ext (s : ℕ → EReal) {n N : ℕ} (h : n ≤ N) (hs : ∀ r, n ≤ r → s r = ⊥) : mx s n = mx s N := by
  apply le_antisymm (mx_mono s h)
  refine Finset.sup_le fun r hr => ?_
  by_cases hn : r < n
  · exact le_mx s hn
  · rw [hs r (by omega)]; exact bot_le

theorem wsum_ext (s f : ℕ → EReal) {n N : ℕ} (h : n ≤ N) (hs : ∀ r, n ≤ r → s r = ⊥) : wsum s f n = wsum s f N := by
  unfold wsum
  rw [← mx_ext s h hs]
  refine Finset.sum_subset (Finset.range_mono h) fun r _ hr => ?_
  rw [hs r (by simpa using hr), EReal.bot_sub]
  show f r * (0 : EReal) = 0
  rw [mul_zero]

theorem den_ext (s : ℕ → EReal) {n N : ℕ} (h : n ≤ N) (hs : ∀ r, n ≤ r → s r = ⊥) : den s n = den s N := by
  have := wsum_ext s (fun _ => 1) h hs
  simpa only [wsum, one_mul, den] using this

end Cert.Diff
-- ==== Proof.Ref.lean ====
/-
  The reference, stage by stage: its composed term is cut into named stages, and each stage is read at an index.
-/
module

public import proofs.«01_k».proof.Proof.Gen.ReferenceIdeal.Run
public import Idealize.ShloMosaic.Lib.Pointwise
public import Idealize.ShloMosaic.Lib.WordCmp
public import proofs.«01_k».proof.Proof.Combine

@[expose] public section

set_option maxRecDepth 16384

noncomputable section

namespace Cert.Diff.Ref

open Cert.ReferenceIdeal Cert.ReferenceIdeal.Gen Cert.ReferenceIdeal.Value Idealize.ShloMosaic Idealize.ShloMosaic.TcCoe Idealize.ShloMosaic.StableHlo
open Idealize.SL Idealize.SL.RA Idealize.SL.Sem Idealize.ShloMosaic.Tactic

variable {F : FTy → Type} [FloatOps F] [Named F]

/-- The masked, scaled scores of both maps. -/
def rS (x2 x3 : FVec F S6x8704x128 .bf16) : FVec F S2x6x8448x8704 .f32 := select (broadcastInDim S2x6x8448x8704 ![2, 3] bcast_S8448x8704_S2x6x8448x8704_2_3 (cmpi .sle (broadcastInDim S8448x8704 ![0, 1] bcast_S1x8704_S8448x8704_0_1 (broadcastInDim S1x8704 ![1] bcast_S8704_S1x8704_1 (iotaInDim S8704 32 0))) (broadcastInDim S8448x8704 ![0, 1] bcast_S8448x1_S8448x8704_0_1 (broadcastInDim S8448x1 ![0] bcast_S8448_S8448x1_0 (iotaInDim S8448 32 0))))) (mulf (Host.dotGeneral dot_S6x8448x2x64_S6x8704x2x64_S2x6x8448x8704_3_3_1_1_20_20 none (shapeCast _ (extf .f32 (extractStridedSlice S6x8448x128 ![0, 0, 0] x2 slices_S6x8704x128_S6x8448x128_0_0_0) bitsLt_bf16_f32) shapeCasts_S6x8448x128_S6x8448x2x64) (shapeCast _ (extf .f32 x3 bitsLt_bf16_f32) shapeCasts_S6x8704x128_S6x8704x2x64)) (broadcastInDim S2x6x8448x8704 ![] bcast_S_S2x6x8448x8704 (constant S_ .f32 0x3E000000#32))) (broadcastInDim S2x6x8448x8704 ![] bcast_S_S2x6x8448x8704 (id (constant S_ .f32 0xFF800000#32)))

/-- Each row's largest score. -/
def rM (s : FVec F S2x6x8448x8704 .f32) : FVec F S2x6x8448 .f32 := maximumf (broadcastInDim S2x6x8448 ![] bcast_S_S2x6x8448 (constant S_ .f32 0xFF800000#32)) (Host.reduce FloatOps.maximumf s (constant S_ .f32 0xFF800000#32) reducesTo_S2x6x8448x8704_S2x6x8448_d3 h_S_)

/-- The exponentials of the scores less their row's largest. -/
def rE (s : FVec F S2x6x8448x8704 .f32) : FVec F S2x6x8448x8704 .f32 := Host.exp (subf s (broadcastInDim S2x6x8448x8704 ![0, 1, 2, 3] bcast_S2x6x8448x1_S2x6x8448x8704_0_1_2_3 (broadcastInDim S2x6x8448x1 ![0, 1, 2] bcast_S2x6x8448_S2x6x8448x1_0_1_2 (rM s))))

/-- The softmax of both maps. -/
def rP (s : FVec F S2x6x8448x8704 .f32) : FVec F S2x6x8448x8704 .f32 := Host.divf (rE s) (broadcastInDim S2x6x8448x8704 ![0, 1, 2, 3] bcast_S2x6x8448x1_S2x6x8448x8704_0_1_2_3 (broadcastInDim S2x6x8448x1 ![0, 1, 2] bcast_S2x6x8448_S2x6x8448x1_0_1_2 (Host.reduceAdd (rE s) (constant S_ .f32 0x00000000#32) reducesTo_S2x6x8448x8704_S2x6x8448_d3 h_S_)))

/-- Lambda. -/
def rL (x0 : FVec F S4x64 .f32) : FVec F S_ .f32 := addf (subf (Host.exp (Host.reduceAdd (mulf (shapeCast _ (extractStridedSlice S1x64 ![0, 0] x0 slices_S4x64_S1x64_0_0) shapeCasts_S1x64_S64) (shapeCast _ (extractStridedSlice S1x64 ![1, 0] x0 slices_S4x64_S1x64_1_0) shapeCasts_S1x64_S64)) (constant S_ .f32 0x00000000#32) reducesTo_S64_S_d0 h_S_)) (Host.exp (Host.reduceAdd (mulf (shapeCast _ (extractStridedSlice S1x64 ![2, 0] x0 slices_S4x64_S1x64_2_0) shapeCasts_S1x64_S64) (shapeCast _ (extractStridedSlice S1x64 ![3, 0] x0 slices_S4x64_S1x64_3_0) shapeCasts_S1x64_S64)) (constant S_ .f32 0x00000000#32) reducesTo_S64_S_d0 h_S_))) (constant S_ .f32 0x3E4CCCCD#32)

/-- The first map less lambda times the second. -/
def rW (lam : FVec F S_ .f32) (p : FVec F S2x6x8448x8704 .f32) : FVec F S6x8448x8704 .f32 := subf (shapeCast _ (extractStridedSlice S1x6x8448x8704 ![0, 0, 0, 0] p slices_S2x6x8448x8704_S1x6x8448x8704_0_0_0_0) shapeCasts_S1x6x8448x8704_S6x8448x8704) (mulf (broadcastInDim S6x8448x8704 ![] bcast_S_S6x8448x8704 lam) (shapeCast _ (extractStridedSlice S1x6x8448x8704 ![1, 0, 0, 0] p slices_S2x6x8448x8704_S1x6x8448x8704_1_0_0_0) shapeCasts_S1x6x8448x8704_S6x8448x8704))

/-- The weighted values. -/
def rO (w : FVec F S6x8448x8704 .f32) (x4 : FVec F S6x17x128x512 .bf16) : FVec F S8448x6x128 .f32 := transpose S8448x6x128 [2, 0, 1] (Host.dotGeneral dot_S6x8704x128_S6x8448x8704_S6x128x8448_1_2_2_1_0_0 none (shapeCast _ (transpose S6x17x512x128 [0, 1, 3, 2] (extf .f32 x4 bitsLt_bf16_f32) transposes_S6x17x128x512_S6x17x512x128_0_1_3_2) shapeCasts_S6x17x512x128_S6x8704x128) w) transposes_S6x128x8448_S8448x6x128_2_0_1

/-- The per-head normalization. -/
def rY (o : FVec F S8448x6x128 .f32) (x1 : FVec F S1x128 .f32) : FVec F S8448x768 .f32 := shapeCast _ (mulf (mulf (mulf o (broadcastInDim S8448x6x128 ![0, 1, 2] bcast_S8448x6x1_S8448x6x128_0_1_2 (Host.rsqrt (addf (Host.divf (broadcastInDim S8448x6x1 ![0, 1] bcast_S8448x6_S8448x6x1_0_1 (Host.reduceAdd (mulf o o) (constant S_ .f32 0x00000000#32) reducesTo_S8448x6x128_S8448x6_d2 h_S_)) (broadcastInDim S8448x6x1 ![] bcast_S_S8448x6x1 (constant S_ .f32 0x43000000#32))) (broadcastInDim S8448x6x1 ![] bcast_S_S8448x6x1 (constant S_ .f32 0x358637BD#32)))))) (broadcastInDim S8448x6x128 ![0, 1, 2] bcast_S1x1x128_S8448x6x128_0_1_2 (broadcastInDim S1x1x128 ![2] bcast_S128_S1x1x128_2 (shapeCast _ x1 shapeCasts_S1x128_S128)))) (broadcastInDim S8448x6x128 ![] bcast_S_S8448x6x128 (constant S_ .f32 0x3F4CCCCD#32))) shapeCasts_S8448x6x128_S8448x768

/-- The reference's result is its stages, one after the other. -/
theorem res_eq (m : (ℓ : Loc nD τ sig) → Buf (Elt F) ℓ) (c : Dev nD) :
    res_main_v71 m c = rY (rO (rW (rL (m ((c.tc : Thread nD τ).loc main_arg0)))
      (rP (rS (m ((c.tc : Thread nD τ).loc main_arg2)) (m ((c.tc : Thread nD τ).loc main_arg3)))))
      (m ((c.tc : Thread nD τ).loc main_arg4))) (m ((c.tc : Thread nD τ).loc main_arg1)) := rfl

/-- The floating-point word of minus infinity. -/
theorem bits_bot : Ideal.ofBits .f32 0xFF800000#32 = ⊥ := by simp [Ideal.ofBits, Ideal.ieee]

/-- The masked, scaled score of key `r` against query `q` in head `h` and map `a`. -/
def score (x2 x3 : FVec Ideal ⟨3, ![6, 8704, 128]⟩ .bf16) (a : Fin 2) (h : Fin 6) (q : Fin 8448) (r : ℕ) : EReal :=
  if r ≤ q.val then
    (∑ x : Fin 64, x2 (ix3 h ⟨q.val, by omega⟩ ⟨a.val * 64 + x.val, by omega⟩)
      * x3 (ix3 h ⟨min r 8703, by omega⟩ ⟨a.val * 64 + x.val, by omega⟩)) * Ideal.ofBits .f32 0x3E000000#32
  else ⊥

theorem rS_at (x2 x3 : FVec Ideal S6x8704x128 .bf16) (a : Fin 2) (h : Fin 6) (q : Fin 8448) (k : Fin 8704) :
    rS (F := Ideal) x2 x3 (ix4 a h q k) = score x2 x3 a h q k.val := by
  pointwise [rS]
  have hb : (id (constant (F := Ideal) S_ .f32 4286578688#32) ix0 : EReal) = ⊥ := bits_bot
  rw [WordCmp.cmpi_sle_ofNat (by omega) (by omega), hb]
  unfold score Scalar.select
  have hk : min k.val 8703 = k.val := by omega
  simp only [hk]
  by_cases hq : k.val ≤ q.val
  · simp [hq]
  · simp [hq]

/-- A row maximum, at any sizes. -/
theorem reduce_max {n0 n1 n2 n3 : ℕ} (v : FVec Ideal ⟨4, ![n0, n1, n2, n3]⟩ .f32) (c : FVec Ideal S_ .f32)
    (h : (⟨4, ![n0, n1, n2, n3]⟩ : Shape).ReducesTo [3] ⟨3, ![n0, n1, n2]⟩) (hu) (a : Fin n0) (b : Fin n1) (e : Fin n2) :
    Host.reduce FloatOps.maximumf v c h hu (ix3 a b e)
      = Finset.univ.fold max (c (Shape.Idx.first hu) : EReal) fun k : Fin n3 => v (ix4 a b e k) := by
  simp only [pointwise]

/-- A row maximum against a row of least elements, at any sizes. -/
theorem row_max {n0 n1 n2 n3 : ℕ} (w : FVec Ideal ⟨3, ![n0, n1, n2]⟩ .f32) (v : FVec Ideal ⟨4, ![n0, n1, n2, n3]⟩ .f32)
    (c : FVec Ideal S_ .f32) (h : (⟨4, ![n0, n1, n2, n3]⟩ : Shape).ReducesTo [3] ⟨3, ![n0, n1, n2]⟩) (hu) (a : Fin n0)
    (b : Fin n1) (e : Fin n2) (f : ℕ → EReal) (hf : ∀ k : Fin n3, v (ix4 a b e k) = f k.val)
    (hw : w (ix3 a b e) = (⊥ : EReal)) (hc : c (Shape.Idx.first hu) = (⊥ : EReal)) :
    maximumf w (Host.reduce FloatOps.maximumf v c h hu) (ix3 a b e) = mx f n3 := by
  have h1 : maximumf w (Host.reduce FloatOps.maximumf v c h hu) (ix3 a b e)
      = max (w (ix3 a b e) : EReal) (Host.reduce FloatOps.maximumf v c h hu (ix3 a b e)) := rfl
  have hm := mx_add f 0 n3
  have h2 : mx f 0 = ⊥ := rfl
  rw [h2] at hm
  simp only [Nat.zero_add] at hm
  rw [h1, hw, reduce_max, hc, ← hm]
  simp only [hf]

/-- A row's largest score. -/
theorem rM_at (s : FVec Ideal S2x6x8448x8704 .f32) (a : Fin 2) (h : Fin 6) (q : Fin 8448) (f : ℕ → EReal)
    (hf : ∀ k : Fin 8704, s (ix4 a h q k) = f k.val) :
    rM (F := Ideal) s (ix3 a h q) = mx f 8704 :=
  row_max _ s _ _ _ a h q f hf bits_bot bits_bot

theorem rE_at (s : FVec Ideal S2x6x8448x8704 .f32) (a : Fin 2) (h : Fin 6) (q : Fin 8448) (k : Fin 8704) :
    rE (F := Ideal) s (ix4 a h q k) = Ideal.exp (s (ix4 a h q k) - rM (F := Ideal) s (ix3 a h q)) := by
  pointwise [rE]

/-- The softmax weight. -/
theorem rP_at (s : FVec Ideal S2x6x8448x8704 .f32) (a : Fin 2) (h : Fin 6) (q : Fin 8448) (f : ℕ → EReal)
    (hf : ∀ k : Fin 8704, s (ix4 a h q k) = f k.val) (k : Fin 8704) :
    rP (F := Ideal) s (ix4 a h q k) = pw f 8704 k.val := by
  pointwise [rP]
  simp only [rE_at, rM_at s a h q f hf, hf]
  unfold pw den
  rw [Finset.sum_range]

/-- Lambda. -/
def lam (x0 : FVec Ideal ⟨2, ![4, 64]⟩ .f32) : EReal :=
  Ideal.exp (∑ x : Fin 64, x0 (ix2 0 x) * x0 (ix2 1 x)) - Ideal.exp (∑ x : Fin 64, x0 (ix2 2 x) * x0 (ix2 3 x))
    + Ideal.ofBits .f32 0x3E4CCCCD#32

theorem rL_at (x0 : FVec Ideal S4x64 .f32) (y : S_.Idx) : rL (F := Ideal) x0 y = lam x0 := by
  pointwise [rL]
  rfl

theorem rW_at (l : FVec Ideal S_ .f32) (p : FVec Ideal S2x6x8448x8704 .f32) (h : Fin 6) (q : Fin 8448) (k : Fin 8704) :
    rW (F := Ideal) l p (ix3 h q k) = (p (ix4 0 h q k) : EReal) - l ix0 * p (ix4 1 h q k) := by
  pointwise [rW]

/-- Lane `d` of the value of key `r` in head `h`. -/
def val (x4 : FVec Ideal ⟨4, ![6, 17, 128, 512]⟩ .bf16) (h : Fin 6) (d : Fin 128) (r : ℕ) : EReal :=
  x4 (ix4 h ⟨min (r / 512) 16, by omega⟩ d ⟨r % 512, by omega⟩)

theorem rO_at (w : FVec Ideal S6x8448x8704 .f32) (x4 : FVec Ideal S6x17x128x512 .bf16) (h : Fin 6) (q : Fin 8448)
    (d : Fin 128) (f : ℕ → EReal) (hf : ∀ k : Fin 8704, w (ix3 h q k) = f k.val) :
    rO (F := Ideal) w x4 (ix3 q h d) = ∑ k ∈ Finset.range 8704, val x4 h d k * f k := by
  pointwise [rO]
  rw [Finset.sum_range]
  refine Finset.sum_congr rfl fun k _ => ?_
  rw [hf]
  unfold val
  have hk : min (k.val / 512) 16 = k.val / 512 := by omega
  simp only [hk]

theorem rY_at (o : FVec Ideal S8448x6x128 .f32) (x1 : FVec Ideal S1x128 .f32) (q : Fin 8448) (e : Fin 768) :
    rY (F := Ideal) o x1 (ix2 q e) = ny (Ideal.ofBits .f32 0x43000000#32) (Ideal.ofBits .f32 0x358637BD#32)
        (fun d => o (ix3 q ⟨e.val / 128, by omega⟩ d)) ⟨e.val % 128, by omega⟩
      * x1 (ix2 0 ⟨e.val % 128, by omega⟩) * Ideal.ofBits .f32 0x3F4CCCCD#32 := by
  pointwise [rY]
  rfl

/-- The reference's result: lane `e % 128` of head `e / 128` of query `q`. -/
theorem res_at (x0 : FVec Ideal S4x64 .f32) (x1 : FVec Ideal S1x128 .f32) (x2 x3 : FVec Ideal S6x8704x128 .bf16)
    (x4 : FVec Ideal S6x17x128x512 .bf16) (q : Fin 8448) (e : Fin 768) :
    rY (F := Ideal) (rO (rW (rL x0) (rP (rS x2 x3))) x4) x1 (ix2 q e)
      = ny (Ideal.ofBits .f32 0x43000000#32) (Ideal.ofBits .f32 0x358637BD#32)
        (oR (score x2 x3 0 ⟨e.val / 128, by omega⟩ q) (score x2 x3 1 ⟨e.val / 128, by omega⟩ q)
          (val x4 ⟨e.val / 128, by omega⟩) (lam x0) 8704) ⟨e.val % 128, by omega⟩
      * x1 (ix2 0 ⟨e.val % 128, by omega⟩) * Ideal.ofBits .f32 0x3F4CCCCD#32 := by
  rw [rY_at]
  congr 4
  funext d
  refine rO_at _ x4 _ q d _ fun k => ?_
  rw [rW_at, rL_at, rP_at _ 0 _ q _ (fun k => rS_at x2 x3 0 _ q k), rP_at _ 1 _ q _ (fun k => rS_at x2 x3 1 _ q k)]

end Cert.Diff.Ref
-- ==== Proof.Out.lean ====
/-
  What the body stores for one block of 256 queries of one head, lane by lane, in the reference's own terms.
-/
module

public import proofs.«01_k».proof.Proof.Inv
public import proofs.«01_k».proof.Proof.Ref

@[expose] public section

set_option maxRecDepth 16384

noncomputable section

namespace Cert.Diff

open Cert.KernelIdeal Cert.KernelIdeal.Gen Idealize.ShloMosaic Idealize.ShloMosaic.TcCoe Idealize.ShloMosaic.Tactic

/-- The stacked queries: map `a` keeps its own 64 lanes, and all are scaled. -/
theorem pay62_at (v : Vec Ideal S1x256x128 .bf16) (a : Fin 2) (p : Fin 256) (d : Fin 128) :
    (k0_pay62 (F := Ideal) v (ix2 ⟨256 * a.val + p.val, by omega⟩ d) : EReal)
      = (if d.val / 64 = a.val then v (ix3 0 p d) else 0) * Ideal.ofBits .bf16 0x3E00#16 := by
  pointwise [k0_pay62]
  have h1 : IntOp.cmpi .slt (BitVec.ofNat 32 d.val) 64#32 = BitVec.ofBool (decide (d.val < 64)) :=
    WordCmp.cmpi_slt_ofNat (by omega) (by omega)
  have h2 : IntOp.cmpi .sge (BitVec.ofNat 32 d.val) 64#32 = BitVec.ofBool (decide (64 ≤ d.val)) :=
    WordCmp.cmpi_sge_ofNat (by omega) (by omega)
  rw [h1, h2]
  unfold Scalar.select
  rcases (show a = 0 ∨ a = 1 by omega) with rfl | rfl
  · have e : (⟨256 * (0 : Fin 2).val + p.val, by omega⟩ : Fin 256) = p := Fin.ext (by simp)
    rw [dif_pos (show 256 * (0 : Fin 2).val + p.val < 256 by simp)]
    simp only [e]
    by_cases hd : d.val < 64
    · have : d.val / 64 = 0 := by omega
      simp [hd, this]
    · have : ¬ d.val / 64 = 0 := by omega
      simp [hd, this]
  · have e : (⟨256 * (1 : Fin 2).val + p.val - 256, by omega⟩ : Fin 256) = p := Fin.ext (by simp)
    rw [dif_neg (show ¬ 256 * (1 : Fin 2).val + p.val < 256 by simp)]
    simp only [e]
    by_cases hd : 64 ≤ d.val
    · have : d.val / 64 = 1 := by omega
      simp [hd, this]
    · have : ¬ d.val / 64 = 1 := by omega
      simp [hd, this]

/-- The scale, one eighth, is the same number in both formats. -/
theorem eighth : Ideal.ofBits .bf16 0x3E00#16 = ((1 / 8 : ℝ) : EReal) ∧ Ideal.ofBits .f32 0x3E000000#32 = ((1 / 8 : ℝ) : EReal) := by
  constructor <;> (simp [Ideal.ofBits, Ideal.ieee, -EReal.coe_mul]; norm_num)

/-- A sum over 128 lanes that keeps the 64 lanes of one map. -/
theorem sum_half (f : Fin 128 → EReal) (a : Fin 2) :
    (∑ d : Fin 128, if d.val / 64 = a.val then f d else 0) = ∑ x : Fin 64, f ⟨a.val * 64 + x.val, by omega⟩ := by
  rw [← Finset.sum_filter]
  refine (Finset.sum_bij (fun (x : Fin 64) _ => (⟨a.val * 64 + x.val, by omega⟩ : Fin 128)) ?_ ?_ ?_ ?_).symm
  · intro x _
    rw [Finset.mem_filter]
    exact ⟨Finset.mem_univ _, show (a.val * 64 + x.val) / 64 = a.val by omega⟩
  · intro x _ y _ h
    have := congrArg Fin.val h
    dsimp only at this
    exact Fin.ext (by omega)
  · intro d hd
    have hd := (Finset.mem_filter.mp hd).2
    exact ⟨⟨d.val - a.val * 64, by omega⟩, Finset.mem_univ _, Fin.ext (by dsimp only; omega)⟩
  · intro x _; rfl

/-- The kernel's masked score of a lane is the reference's, when the blocks are the head's queries and keys. -/
theorem mk_eq (X2 X3 : FVec Ideal ⟨3, ![6, 8704, 128]⟩ .bf16) (h : Fin 6) (n : ℕ) (hn : n < 33)
    (x2 : Vec Ideal S1x256x128 .bf16) (x3 : Vec Ideal S1x8704x128 .bf16)
    (h2 : ∀ (p : Fin 256) (d : Fin 128), x2 (ix3 0 p d) = X2 (ix3 h ⟨256 * n + p.val, by omega⟩ d))
    (h3 : ∀ (r : Fin 8704) (d : Fin 128), x3 (ix3 0 r d) = X3 (ix3 h r d)) (a : Fin 2) (p : Fin 256) :
    mk n (k0_pay62 (F := Ideal) x2) x3 ⟨256 * a.val + p.val, by omega⟩
      = Ref.score X2 X3 a h ⟨256 * n + p.val, by omega⟩ := by
  funext r
  have hc : (256 * a.val + p.val) % 256 = p.val := by omega
  unfold mk Ref.score
  simp only [hc]
  by_cases hr : r ≤ 256 * n + p.val
  · rw [if_pos hr, if_pos hr, eighth.2]
    unfold sc
    have e : ∀ d : Fin 128, x3 (ix3 0 ⟨min r 8703, by omega⟩ d)
        * (k0_pay62 (F := Ideal) x2 (ix2 ⟨256 * a.val + p.val, by omega⟩ d) : EReal)
        = (if d.val / 64 = a.val then X2 (ix3 h ⟨256 * n + p.val, by omega⟩ d) * X3 (ix3 h ⟨min r 8703, by omega⟩ d)
            else 0) * ((1 / 8 : ℝ) : EReal) := by
      intro d
      rw [pay62_at, eighth.1, h3, h2]
      by_cases hd : d.val / 64 = a.val
      · rw [if_pos hd, if_pos hd, ← mul_assoc, mul_comm (X3 _)]
      · rw [if_neg hd, if_neg hd, zero_mul, mul_zero]
    rw [Finset.sum_congr rfl fun d _ => e d, ← sum_mul_of_coe _ _ _ (by norm_num), sum_half]
  · rw [if_neg hr, if_neg hr]

/-- The difference of the two quotients. -/
theorem pay88_at (a b e f : Vec Ideal S1x64 .f32) (A : FVec Ideal S128x512 .f32) (L : FVec Ideal S1x512 .f32)
    (p : Fin 256) (d : Fin 128) :
    (k0_pay88 (F := Ideal) a b e f A L (ix2 p d) : EReal)
      = Ideal.div (A (ix2 d ⟨256 * (0 : Fin 2).val + p.val, by omega⟩)) (L (ix2 0 ⟨256 * (0 : Fin 2).val + p.val, by omega⟩))
        - (Ideal.exp (∑ x, a (ix2 0 x) * b (ix2 0 x)) - Ideal.exp (∑ x, e (ix2 0 x) * f (ix2 0 x))
            + Ideal.ofBits .f32 0x3E4CCCCD#32)
          * Ideal.div (A (ix2 d ⟨256 * (1 : Fin 2).val + p.val, by omega⟩)) (L (ix2 0 ⟨256 * (1 : Fin 2).val + p.val, by omega⟩)) := by
  have e0 : (⟨256 * (0 : Fin 2).val + p.val, by omega⟩ : Fin 512) = ⟨p.val, by omega⟩ := Fin.ext (by simp)
  have e1 : (⟨256 * (1 : Fin 2).val + p.val, by omega⟩ : Fin 512) = ⟨256 + p.val, by omega⟩ := Fin.ext (by simp)
  rw [e0, e1]
  pointwise [k0_pay88]

/-- The sum of the squared lanes. -/
theorem pay89_at (a b e f : Vec Ideal S1x64 .f32) (A : FVec Ideal S128x512 .f32) (L : FVec Ideal S1x512 .f32) (p : Fin 256) :
    (k0_pay89 (F := Ideal) a b e f A L (ix2 p 0) : EReal)
      = ∑ x, (k0_pay88 (F := Ideal) a b e f A L (ix2 p x) : EReal) * k0_pay88 (F := Ideal) a b e f A L (ix2 p x) := by
  pointwise [k0_pay89]

/-- The normalized, scaled block. -/
theorem pay1_at (o : FVec Ideal S256x128 .f32) (dn : Vec Ideal S1x128 .f32) (ss : FVec Ideal S256x1 .f32) (p : Fin 256)
    (d : Fin 128) (g : Fin 128 → EReal) (hg : ∀ x, o (ix2 p x) = g x) (hs : ss (ix2 p 0) = ∑ x, g x * g x) :
    (k0_pay1 (F := Ideal) o dn ss (ix2 p d) : EReal)
      = ny (Ideal.ofBits .f32 0x43000000#32) (Ideal.ofBits .f32 0x358637BD#32) g d * dn (ix2 0 d)
        * Ideal.ofBits .f32 0x3F4CCCCD#32 := by
  pointwise [k0_pay1]
  rw [hg, hs]
  rfl

/-- The divisor of the mean is a positive real, and the number added to it is real. -/
theorem wd : ∃ w : ℝ, 0 < w ∧ Ideal.ofBits .f32 0x43000000#32 = (w : EReal) :=
  ⟨128, by norm_num, by simp [Ideal.ofBits, Ideal.ieee, -EReal.coe_mul]; norm_num⟩

theorem epsd : ∃ e : ℝ, Ideal.ofBits .f32 0x358637BD#32 = (e : EReal) := by
  simp [Ideal.ofBits, Ideal.ieee, -EReal.coe_mul]

end Cert.Diff
-- ==== Proof.Block.lean ====
/-
  What the body stores for one block of 256 queries of one head is the reference's value there.
-/
module

public import proofs.«01_k».proof.Proof.Out

@[expose] public section

set_option maxRecDepth 16384

noncomputable section

namespace Cert.Diff

open Cert.KernelIdeal Cert.KernelIdeal.Gen Idealize.ShloMosaic Idealize.ShloMosaic.TcCoe Idealize.ShloMosaic.Tactic

theorem hz2 : (![0, 0] : Fin 2 → Nat) = fun _ => 0 := funext fun a => by fin_cases a <;> rfl

/-- A load of row `k` of the lambda vectors. -/
theorem read_row (a : Memref sig .tc .vmem S4x64 .f32) (h : a.IsWhole) (x0 : Vec Ideal S4x64 .f32) (k : Fin 4)
    (inb : ∀ b, (![k.val, 0] : Fin 2 → ℕ) b + S1x64.size b ≤ S4x64.size b) (x : Fin 64) :
    a.view.readAt (Elt Ideal) (Rect.unit (s := S4x64) ![k.val, 0] S1x64.size inb).toLoadRect (h.unread x0) (ix2 0 x)
      = x0 (ix2 k x) := by
  rw [Memref.IsWhole.readAt_unread]
  congr 1
  funext b
  fin_cases b
  · exact Fin.ext (by show k.val + 1 * 0 = k.val; omega)
  · exact Fin.ext (by show 0 + 1 * x.val = x.val; omega)

/-- A load of the whole row of normalization weights. -/
theorem read_dn (a : Memref sig .tc .vmem S1x128 .f32) (h : a.IsWhole) (x1 : Vec Ideal S1x128 .f32)
    (inb : ∀ b, (![0, 0] : Fin 2 → ℕ) b + S1x128.size b ≤ S1x128.size b) (d : Fin 128) :
    a.view.readAt (Elt Ideal) (Rect.unit (s := S1x128) ![0, 0] S1x128.size inb).toLoadRect (h.unread x1) (ix2 0 d)
      = x1 (ix2 0 d) := by
  rw [Memref.IsWhole.readAt_unread]
  congr 1
  funext b
  fin_cases b
  · rfl
  · exact Fin.ext (by show 0 + 1 * d.val = d.val; omega)

/-- The load of the whole block of queries. -/
theorem read_q (a : Memref sig .tc .vmem S1x256x128 .bf16) (h : a.IsWhole) (x2 : Vec Ideal S1x256x128 .bf16)
    (inb : ∀ b, (![0, 0, 0] : Fin 3 → ℕ) b + S1x256x128.size b ≤ S1x256x128.size b) :
    a.view.readAt (Elt Ideal) (Rect.unit (s := S1x256x128) ![0, 0, 0] S1x256x128.size inb).toLoadRect (h.unread x2) = x2 := by
  funext y
  rw [Memref.IsWhole.readAt_unread]
  congr 1
  funext b
  fin_cases b
  · exact Fin.ext (by show 0 + 1 * (y 0).val = (y 0).val; omega)
  · exact Fin.ext (by show 0 + 1 * (y 1).val = (y 1).val; omega)
  · exact Fin.ext (by show 0 + 1 * (y 2).val = (y 2).val; omega)

/-- A finite sum of reals, in the extended reals. -/
theorem coe_sum' {ι : Type} (s : Finset ι) (f : ι → ℝ) : ((∑ x ∈ s, f x : ℝ) : EReal) = ∑ x ∈ s, (f x : EReal) :=
  map_sum (⟨⟨Real.toEReal, EReal.coe_zero⟩, EReal.coe_add⟩ : ℝ →+ EReal) f s

/-- Lambda is finite when the vectors that it is made of are. -/
theorem lam_real (x0 : FVec Ideal ⟨2, ![4, 64]⟩ .f32) (h : ∀ a b, ∃ x : ℝ, x0 (ix2 a b) = (x : EReal)) :
    ∃ x : ℝ, Ref.lam x0 = (x : EReal) := by
  choose u hu using h
  have e : ∀ a b : Fin 4, (∑ x : Fin 64, x0 (ix2 a x) * x0 (ix2 b x)) = ((∑ x : Fin 64, u a x * u b x : ℝ) : EReal) := by
    intro a b
    rw [coe_sum']
    exact Finset.sum_congr rfl fun x _ => by rw [hu, hu, EReal.coe_mul]
  have c : ∃ y : ℝ, Ideal.ofBits .f32 0x3E4CCCCD#32 = (y : EReal) := by
    simp [Ideal.ofBits, Ideal.ieee, -EReal.coe_mul]
  obtain ⟨y, hy⟩ := c
  unfold Ref.lam
  rw [e, e, hy]
  exact ⟨Real.exp (∑ x : Fin 64, u 0 x * u 1 x) - Real.exp (∑ x : Fin 64, u 2 x * u 3 x) + y, rfl⟩

/-- One lane of what the body stores, for the block of queries `n` of head `h`. -/
theorem out_at (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1x256x128 .bf16) (harg4 : arg4.IsWhole) (arg5 : Memref sig .tc .vmem S1x8704x128 .bf16) (harg5 : arg5.IsWhole) (arg6 : Memref sig .tc .vmem S1x17x128x512 .bf16) (harg6 : arg6.IsWhole) (arg7 : Memref sig .tc .vmem S256x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S512x512 .f32) (harg11 : arg11.IsWhole)
    (x0 : Vec Ideal S4x64 .f32) (x1 : Vec Ideal S1x128 .f32)
    (x2 : Vec Ideal S1x256x128 .bf16) (x3 : Vec Ideal S1x8704x128 .bf16) (x4 : Vec Ideal S1x17x128x512 .bf16)
    (X0 : FVec Ideal ⟨2, ![4, 64]⟩ .f32) (X1 : FVec Ideal ⟨2, ![1, 128]⟩ .f32)
    (X2 X3 : FVec Ideal ⟨3, ![6, 8704, 128]⟩ .bf16) (X4 : FVec Ideal ⟨4, ![6, 17, 128, 512]⟩ .bf16) (h : Fin 6)
    (hn : (i 1).val < 33) (h0 : ∀ a b, x0 (ix2 a b) = X0 (ix2 a b)) (h1 : ∀ d, x1 (ix2 0 d) = X1 (ix2 0 d))
    (h2 : ∀ (p : Fin 256) (d : Fin 128), x2 (ix3 0 p d) = X2 (ix3 h ⟨256 * (i 1).val + p.val, by omega⟩ d))
    (h3 : ∀ (r : Fin 8704) (d : Fin 128), x3 (ix3 0 r d) = X3 (ix3 h r d))
    (h4 : ∀ (a : Fin 17) (d : Fin 128) (r : Fin 512), x4 (ix4 0 a d r) = X4 (ix4 h a d r))
    (f0 : ∀ a b, ∃ x : ℝ, X0 (ix2 a b) = (x : EReal)) (f4 : ∀ a b d r, ∃ x : ℝ, X4 (ix4 a b d r) = (x : EReal))
    (p : Fin 256) (d : Fin 128) :
    (out0_A_5 c i arg2 harg2 arg3 harg3 arg4 harg4 arg5 harg5 arg6 harg6 arg7 harg7 arg8 harg8 arg9 harg9 arg10 harg10 arg11 harg11 x0 x1 x2 x3 x4 (ix2 p d) : EReal)
      = ny (Ideal.ofBits .f32 0x43000000#32) (Ideal.ofBits .f32 0x358637BD#32)
          (oR (Ref.score X2 X3 0 h ⟨256 * (i 1).val + p.val, by omega⟩) (Ref.score X2 X3 1 h ⟨256 * (i 1).val + p.val, by omega⟩)
            (Ref.val X4 h) (Ref.lam X0) 8704) d
        * X1 (ix2 0 d) * Ideal.ofBits .f32 0x3F4CCCCD#32 := by
  obtain ⟨lam, hlam⟩ := lam_real X0 f0
  obtain ⟨w, hw, ew⟩ := wd
  obtain ⟨eps, ee⟩ := epsd
  have hfin := final c i arg2 harg2 arg3 harg3 arg4 harg4 arg5 harg5 arg6 harg6 arg7 harg7 arg8 harg8 arg9 harg9 arg10 harg10 arg11 harg11 x2 x3 x4 (k0_pay62 (F := Ideal) x2)
    (congrArg (k0_pay62 (F := Ideal)) (read_q arg4 harg4 x2 _))
  have hn1 : 512 * need (i 1).val ≤ 8704 := by have := need_le hn; omega
  have hn2 : ∀ a : Fin 2, ∀ r, 512 * need (i 1).val ≤ r →
      Ref.score X2 X3 a h ⟨256 * (i 1).val + p.val, by omega⟩ r = ⊥ := by
    intro a r hr
    unfold Ref.score
    rw [if_neg]
    unfold need at hr
    dsimp only
    omega
  have hmk := fun a => mk_eq X2 X3 h (i 1).val hn x2 x3 h2 h3 a p
  have hvv : ∀ x : Fin 128, (fun r => vv x4 r x) = Ref.val X4 h x := fun x => funext fun r => h4 _ _ _
  -- one quotient of the kernel
  have hq : ∀ (a : Fin 2) (x : Fin 128),
      Ideal.div (kernelRun0_A.sl.v130 c i arg2 harg2 arg3 harg3 arg4 harg4 arg5 harg5 arg6 harg6 arg7 harg7 arg8 harg8 arg9 harg9 arg10 harg10 arg11 harg11 x2 x3 x4 (ix2 x ⟨256 * a.val + p.val, by omega⟩))
        (kernelRun0_A.sl.v131 c i arg2 harg2 arg3 harg3 arg4 harg4 arg5 harg5 arg6 harg6 arg7 harg7 arg8 harg8 arg9 harg9 arg10 harg10 arg11 harg11 x2 x3 x4 (ix2 0 ⟨256 * a.val + p.val, by omega⟩))
      = Ideal.div (wsum (Ref.score X2 X3 a h ⟨256 * (i 1).val + p.val, by omega⟩) (Ref.val X4 h x) 8704)
          (den (Ref.score X2 X3 a h ⟨256 * (i 1).val + p.val, by omega⟩) 8704) := by
    intro a x
    rw [hfin.1, hfin.2, hmk, hvv, wsum_ext _ _ hn1 (hn2 a), den_ext _ hn1 (hn2 a)]
  -- the lanes before the normalization
  have ho : ∀ x : Fin 128, (k0_pay88 (F := Ideal)
        (arg2.view.readAt (Elt Ideal) (Rect.unit (s := S4x64) ![0, 0] S1x64.size inb_S4x64_S1x64_0_0).toLoadRect (harg2.unread x0))
        (arg2.view.readAt (Elt Ideal) (Rect.unit (s := S4x64) ![1, 0] S1x64.size inb_S4x64_S1x64_1_0).toLoadRect (harg2.unread x0))
        (arg2.view.readAt (Elt Ideal) (Rect.unit (s := S4x64) ![2, 0] S1x64.size inb_S4x64_S1x64_2_0).toLoadRect (harg2.unread x0))
        (arg2.view.readAt (Elt Ideal) (Rect.unit (s := S4x64) ![3, 0] S1x64.size inb_S4x64_S1x64_3_0).toLoadRect (harg2.unread x0))
        (kernelRun0_A.sl.v130 c i arg2 harg2 arg3 harg3 arg4 harg4 arg5 harg5 arg6 harg6 arg7 harg7 arg8 harg8 arg9 harg9 arg10 harg10 arg11 harg11 x2 x3 x4) (kernelRun0_A.sl.v131 c i arg2 harg2 arg3 harg3 arg4 harg4 arg5 harg5 arg6 harg6 arg7 harg7 arg8 harg8 arg9 harg9 arg10 harg10 arg11 harg11 x2 x3 x4) (ix2 p x) : EReal)
      = oK (Ref.score X2 X3 0 h ⟨256 * (i 1).val + p.val, by omega⟩) (Ref.score X2 X3 1 h ⟨256 * (i 1).val + p.val, by omega⟩)
          (Ref.val X4 h) lam 8704 x := by
    intro x
    rw [pay88_at, hq 0 x, hq 1 x]
    have r0 := fun y => (read_row arg2 harg2 x0 0 inb_S4x64_S1x64_0_0 y).trans (h0 0 y)
    have r1 := fun y => (read_row arg2 harg2 x0 1 inb_S4x64_S1x64_1_0 y).trans (h0 1 y)
    have r2 := fun y => (read_row arg2 harg2 x0 2 inb_S4x64_S1x64_2_0 y).trans (h0 2 y)
    have r3 := fun y => (read_row arg2 harg2 x0 3 inb_S4x64_S1x64_3_0 y).trans (h0 3 y)
    unfold oK
    rw [← hlam]
    unfold Ref.lam
    congr 2
    refine congrArg (· + _) (congrArg₂ (· - ·) (congrArg Ideal.exp (Finset.sum_congr rfl fun y _ => ?_))
      (congrArg Ideal.exp (Finset.sum_congr rfl fun y _ => ?_)))
    · exact congrArg₂ (· * ·) (r0 y) (r1 y)
    · exact congrArg₂ (· * ·) (r2 y) (r3 y)
  unfold out0_A_5
  rw [View.read_writes_junk_eq_canon]
  unfold kernelRun0_A
  dsimp only
  rw [View.canon_unit_zero hz2]
  refine (pay1_at _ _ _ p d _ ho ?_).trans ?_
  · refine (pay89_at _ _ _ _ _ _ p).trans (Finset.sum_congr rfl fun x _ => ?_)
    exact congrArg₂ (· * ·) (ho x) (ho x)
  · rw [hlam, ew, ee, combine _ _ (Ref.val X4 h) (fun x k => f4 h _ x _) lam 8704 w eps hw d]
    congr 2
    exact (read_dn arg3 harg3 x1 _ d).trans (h1 d)

end Cert.Diff
-- ==== Proof.Pre.lean ====
/-
  The precondition read back: the lambda vectors and the values are finite.
-/
module

public import proofs.«01_k».proof.Proof.Gen.Pre_finite_values
public import Idealize.ShloMosaic.Lib.ReduceAll
public import Idealize.ShloMosaic.Lib.WordArith
public import Idealize.ShloMosaic.Lib.Pointwise

@[expose] public section

set_option maxRecDepth 16384

noncomputable section

namespace Cert.Diff

open Idealize.ShloMosaic Idealize.ShloMosaic.Tactic Cert.Pre_finite_values Cert.Pre_finite_values.Gen

/-- An extended real whose absolute value is below infinity is real. -/
theorem real_of_lt (φ : FTy) (x : EReal)
    (h : FloatOps.cmpf (F := Ideal) (φ := .f32) .olt (FloatOps.absf (F := Ideal) (φ := .f32) x) (Ideal.ofBits .f32 0x7F800000#32) = 1#1) :
    ∃ r : ℝ, x = (r : EReal) := by
  have hb : Ideal.ofBits .f32 0x7F800000#32 = ⊤ := by simp [Ideal.ofBits, Ideal.ieee]
  rw [hb] at h
  induction x using EReal.rec with
  | bot => simp [Ideal.cmpf_def, Ideal.absf_def, Ideal.cmp] at h
  | top => simp [Ideal.cmpf_def, Ideal.absf_def, Ideal.cmp] at h
  | coe r => exact ⟨r, rfl⟩

instance : Subsingleton S_.Idx := ⟨fun _ _ => funext fun a => a.elim0⟩

/-- Under the precondition every entry of the lambda vectors and of the values is real. -/
theorem pre_real (x0 : FVec Ideal S4x64 .f32) (x1 : FVec Ideal S1x128 .f32) (x2 x3 : FVec Ideal S6x8704x128 .bf16)
    (x4 : FVec Ideal S6x17x128x512 .bf16) (h : fn (F := Ideal) x0 x1 x2 x3 x4 = fun _ => 1#1) :
    (∀ i, ∃ r : ℝ, x0 i = (r : EReal)) ∧ ∀ i, ∃ r : ℝ, x4 i = (r : EReal) := by
  dsimp only [fn] at h
  have h := congrFun h ValueIdx.ix0
  have h := IntOp.andi_eq_one.mp h
  exact ⟨fun i => real_of_lt .f32 _ (Host.reduce_andi_all _ _ _ _ _ h.1 i),
    fun i => real_of_lt .f32 _ (Host.reduce_andi_all _ _ _ _ _ h.2 i)⟩

end Cert.Diff
-- ==== Proof.Assemble.lean ====
/-
  The blocks put together: the result array is the reference's value, and with it the algebraic claim.
-/
module

public import proofs.«01_k».proof.Defs
public import proofs.«01_k».proof.Proof.Block
public import proofs.«01_k».proof.Proof.Pre
public import proofs.«01_k».proof.Proof.Gen.KernelIdeal.Value
public import Idealize.ShloMosaic.Lib.Pipeline.ValueKit.Point

@[expose] public section

set_option maxRecDepth 16384

noncomputable section

namespace Cert.Diff

open Cert.KernelIdeal Cert.KernelIdeal.Gen Cert.KernelIdeal.Value Idealize.ShloMosaic Idealize.ShloMosaic.TcCoe
open Idealize.ShloMosaic.Tactic Idealize.SL.Sem

/-- The reference's result, as a function of the arguments. -/
def G (x0 : FVec Ideal ⟨2, ![4, 64]⟩ .f32) (x1 : FVec Ideal ⟨2, ![1, 128]⟩ .f32)
    (x2 x3 : FVec Ideal ⟨3, ![6, 8704, 128]⟩ .bf16) (x4 : FVec Ideal ⟨4, ![6, 17, 128, 512]⟩ .bf16) :
    FVec Ideal ⟨2, ![8448, 768]⟩ .f32 :=
  Ref.rY (F := Ideal) (Ref.rO (Ref.rW (Ref.rL x0) (Ref.rP (Ref.rS x2 x3))) x4) x1

theorem idx0 : ∀ t : Fin cfg0.N, win0_0.index t (0 : Fin 2) = 0 ∧ win0_0.index t (1 : Fin 2) = 0
    ∧ win0_1.index t (0 : Fin 2) = 0 ∧ win0_1.index t (1 : Fin 2) = 0 := (by decide +kernel : ∀ t : Fin grid0.N, _)
theorem idx2 : ∀ t : Fin cfg0.N, win0_2.index t (0 : Fin 3) = (grid0.coords t 0).val
    ∧ win0_2.index t (1 : Fin 3) = (grid0.coords t 1).val ∧ win0_2.index t (2 : Fin 3) = 0 :=
  (by decide +kernel : ∀ t : Fin grid0.N, _)
theorem idx3 : ∀ t : Fin cfg0.N, win0_3.index t (0 : Fin 3) = (grid0.coords t 0).val
    ∧ win0_3.index t (1 : Fin 3) = 0 ∧ win0_3.index t (2 : Fin 3) = 0 :=
  (by decide +kernel : ∀ t : Fin grid0.N, _)
theorem idx4 : ∀ t : Fin cfg0.N, win0_4.index t (0 : Fin 4) = (grid0.coords t 0).val
    ∧ win0_4.index t (1 : Fin 4) = 0 ∧ win0_4.index t (2 : Fin 4) = 0 ∧ win0_4.index t (3 : Fin 4) = 0 :=
  (by decide +kernel : ∀ t : Fin grid0.N, _)
theorem idx5 : ∀ t : Fin cfg0.N, win0_5.index t (0 : Fin 2) = (grid0.coords t 1).val
    ∧ win0_5.index t (1 : Fin 2) = (grid0.coords t 0).val :=
  (by decide +kernel : ∀ t : Fin grid0.N, _)

variable (m : (ℓ : Loc nD τ sig) → Buf (Elt Ideal) ℓ) (ρ : Dev nD → PrngReg)

/-- The block of queries at a grid point. -/
theorem blk2 (c : Dev nD) (t : Fin cfg0.N) (p : Fin 256) (d : Fin 128) (h0 : (grid0.coords t 0).val < 6)
    (h1 : (grid0.coords t 1).val < 33) :
    iblk m c 2 t (ix3 0 p d) = m ((c : Thread nD τ).loc main_arg2)
      (ix3 ⟨(grid0.coords t 0).val, h0⟩ ⟨256 * (grid0.coords t 1).val + p.val, by omega⟩ d) := by
  obtain ⟨e0, e1, e2⟩ := idx2 t
  blk_ext [iblk, V, e0, e1, e2]

theorem blk3 (c : Dev nD) (t : Fin cfg0.N) (r : Fin 8704) (d : Fin 128) (h0 : (grid0.coords t 0).val < 6) :
    iblk m c 3 t (ix3 0 r d) = m ((c : Thread nD τ).loc main_arg3) (ix3 ⟨(grid0.coords t 0).val, h0⟩ r d) := by
  obtain ⟨e0, e1, e2⟩ := idx3 t
  blk_ext [iblk, V, e0, e1, e2]

theorem blk4 (c : Dev nD) (t : Fin cfg0.N) (a : Fin 17) (d : Fin 128) (r : Fin 512) (h0 : (grid0.coords t 0).val < 6) :
    iblk m c 4 t (ix4 0 a d r) = m ((c : Thread nD τ).loc main_arg4) (ix4 ⟨(grid0.coords t 0).val, h0⟩ a d r) := by
  obtain ⟨e0, e1, e2, e3⟩ := idx4 t
  blk_ext [iblk, V, e0, e1, e2, e3]

theorem blk0 (c : Dev nD) (t : Fin cfg0.N) (a : Fin 4) (b : Fin 64) :
    iblk m c 0 t (ix2 a b) = m ((c : Thread nD τ).loc main_arg0) (ix2 a b) := by
  obtain ⟨e0, e1, e2, e3⟩ := idx0 t
  blk_ext [iblk, V, e0, e1, e2, e3]

theorem blk1 (c : Dev nD) (t : Fin cfg0.N) (d : Fin 128) :
    iblk m c 1 t (ix2 0 d) = m ((c : Thread nD τ).loc main_arg1) (ix2 0 d) := by
  obtain ⟨e0, e1, e2, e3⟩ := idx0 t
  blk_ext [iblk, V, e0, e1, e2, e3]

/-- The result array after the run is the reference's value of the arguments. -/
theorem final5 (c : Dev nD)
    (f0 : ∀ i, ∃ x : ℝ, m ((c : Thread nD τ).loc main_arg0) i = (x : EReal))
    (f4 : ∀ i, ∃ x : ℝ, m ((c : Thread nD τ).loc main_arg4) i = (x : EReal)) :
    (dats m 0 c).arrAt 5 cfg0.N = G (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  refine (congrFun (flushed5_A m c t) y).trans ?_
  obtain ⟨e0, e1⟩ := idx5 t
  have h0 : (grid0.coords t 0).val < 6 := (grid0.coords t 0).isLt
  have h1 : (grid0.coords t 1).val < 33 := (grid0.coords t 1).isLt
  have hy0 : (y 0).val < 256 := (y 0).isLt
  have hy1 : (y 1).val < 128 := (y 1).isLt
  have he : ((cfg0.win 5).blk t).view.emb y = ix2 ⟨256 * (grid0.coords t 1).val + (y 0).val, by omega⟩
      ⟨128 * (grid0.coords t 0).val + (y 1).val, by omega⟩ := by
    blk_ext [e0, e1]
  rw [he]
  refine Eq.trans ?_ (Ref.res_at _ _ _ _ _ _ _).symm
  have hd : (⟨(128 * (grid0.coords t 0).val + (y 1).val) / 128, by omega⟩ : Fin 6) = ⟨(grid0.coords t 0).val, h0⟩ :=
    Fin.ext (by dsimp only; omega)
  have hr : (⟨(128 * (grid0.coords t 0).val + (y 1).val) % 128, by omega⟩ : Fin 128) = y 1 :=
    Fin.ext (by show (128 * (grid0.coords t 0).val + (y 1).val) % 128 = (y 1).val; omega)
  simp only [hd, hr]
  refine Eq.trans ?_ (out_at c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) scM0_1 (Memref.isWhole_whole _) scM0_2
    (Memref.isWhole_whole _) scM0_3 (Memref.isWhole_whole _) (iblk m c 0 t) (iblk m c 1 t) (iblk m c 2 t) (iblk m c 3 t)
    (iblk m c 4 t) (m ((c : Thread nD τ).loc main_arg0)) (m ((c : Thread nD τ).loc main_arg1))
    (m ((c : Thread nD τ).loc main_arg2)) (m ((c : Thread nD τ).loc main_arg3)) (m ((c : Thread nD τ).loc main_arg4))
    ⟨(grid0.coords t 0).val, h0⟩ h1 (fun a b => blk0 m c t a b) (fun d => blk1 m c t d)
    (fun p d => blk2 m c t p d h0 h1) (fun r d => blk3 m c t r d h0) (fun a d r => blk4 m c t a d r h0)
    (fun a b => f0 _) (fun a b d r => f4 _) (y 0) (y 1))
  have key : ∀ X : Vec Ideal S256x128 .f32, (cfg0.win 5).cut (grid0.coords t) X y = X (ix2 (y 0) (y 1)) :=
    fun X => congrArg X (funext fun a => by fin_cases a <;> rfl)
  exact key _

/-- The algebraic claim: for finite lambda vectors and values, kernel and reference leave the same array. -/
theorem algebraic : Cert.algebraic_KernelIdeal_ReferenceIdeal_pre_finite_values := by
  intro m ρ m' ρ' hpre hagree
  have hf := fun c => pre_real _ _ _ _ _ (hpre c)
  refine ⟨fun c => G (m ((c : Thread nD τ).loc main_arg0)) (m ((c : Thread nD τ).loc main_arg1))
      (m ((c : Thread nD τ).loc main_arg2)) (m ((c : Thread nD τ).loc main_arg3)) (m ((c : Thread nD τ).loc main_arg4)), ?_, ?_⟩
  · exact (θ_run Cert.KernelIdeal.defs _ _).mono
      (fun r h c => ⟨(h c).1.trans (final5 m c (hf c).1 (hf c).2), (h c).2⟩) (run_blocks m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4⟩ := hagree c
    refine (Ref.res_eq m' c).trans ?_
    rw [a0, a1, a2, a3, a4]
    rfl

end Cert.Diff
-- ==== Proof.InRun.lean ====
module

public import proofs.«01_k».proof.Proof.Gen.Kernel2Ideal.Frame
public import proofs.«01_k».proof.Proof.Gen.Kernel2Ideal.Points
public import Idealize.ShloMosaic.Lib.WholeRead
public import Idealize.ShloMosaic.Lib.Pipeline.Value
public import proofs.«01_k».proof.Proof.Gen.Kernel2Ideal.Skeleton

/-! The body of the in-projection kernel, run once for each of its four inner grid steps (the model's program).
At inner step 0 the body normalises the token block into its scratch and writes the first output from it; at the
steps 1, 2 and 3 it writes the other outputs from the scratch it finds. -/

@[expose] public section

set_option maxRecDepth 16384

noncomputable section

namespace Cert.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-- The stores that fill the first output's block (queries), from the normalised tokens `H` and the weight tile `W`. -/
def P5 (H : Vec F S512x2048 .bf16) (W : Vec F S1x2048x768 .bf16) : List (View.Piece (Elt F) S6x512x128 .bf16) :=
  [⟨Rect.unit (s := S6x512x128) ![5, 0, 0] S1x512x128.size inb_S6x512x128_S1x512x128_5_0_0, k0_pay2 (k0_pay19 H W)⟩,
   ⟨Rect.unit (s := S6x512x128) ![4, 0, 0] S1x512x128.size inb_S6x512x128_S1x512x128_4_0_0, k0_pay18 H W⟩,
   ⟨Rect.unit (s := S6x512x128) ![3, 0, 0] S1x512x128.size inb_S6x512x128_S1x512x128_3_0_0, k0_pay17 H W⟩,
   ⟨Rect.unit (s := S6x512x128) ![2, 0, 0] S1x512x128.size inb_S6x512x128_S1x512x128_2_0_0, k0_pay16 H W⟩,
   ⟨Rect.unit (s := S6x512x128) ![1, 0, 0] S1x512x128.size inb_S6x512x128_S1x512x128_1_0_0, k0_pay15 H W⟩,
   ⟨Rect.unit (s := S6x512x128) ![0, 0, 0] S1x512x128.size inb_S6x512x128_S1x512x128_0_0_0, k0_pay14 H W⟩]

/-- The stores that fill the second output's block (keys, one per head). -/
def P7 (H : Vec F S512x2048 .bf16) (W : Vec F S1x2048x768 .bf16) : List (View.Piece (Elt F) S6x512x128 .bf16) :=
  [⟨Rect.unit (s := S6x512x128) ![5, 0, 0] S1x512x128.size inb_S6x512x128_S1x512x128_5_0_0, k0_pay9 (k0_pay20 H W)⟩,
   ⟨Rect.unit (s := S6x512x128) ![4, 0, 0] S1x512x128.size inb_S6x512x128_S1x512x128_4_0_0, k0_pay8 (k0_pay20 H W)⟩,
   ⟨Rect.unit (s := S6x512x128) ![3, 0, 0] S1x512x128.size inb_S6x512x128_S1x512x128_3_0_0, k0_pay7 (k0_pay20 H W)⟩,
   ⟨Rect.unit (s := S6x512x128) ![2, 0, 0] S1x512x128.size inb_S6x512x128_S1x512x128_2_0_0, k0_pay6 (k0_pay20 H W)⟩,
   ⟨Rect.unit (s := S6x512x128) ![1, 0, 0] S1x512x128.size inb_S6x512x128_S1x512x128_1_0_0, k0_pay5 (k0_pay20 H W)⟩,
   ⟨Rect.unit (s := S6x512x128) ![0, 0, 0] S1x512x128.size inb_S6x512x128_S1x512x128_0_0_0, k0_pay4 (k0_pay20 H W)⟩]

/-- The stores that fill the third output's block (values, transposed, in chunks of 256 tokens). -/
def P9 (H : Vec F S512x2048 .bf16) (W : Vec F S1x2048x768 .bf16) : List (View.Piece (Elt F) S6x2x128x256 .bf16) :=
  [⟨Rect.unit (s := S6x2x128x256) ![5, 1, 0, 0] S1x1x128x256.size inb_S6x2x128x256_S1x1x128x256_5_1_0_0, k0_pay11 (k0_pay50 (k0_pay27 H W))⟩,
   ⟨Rect.unit (s := S6x2x128x256) ![5, 0, 0, 0] S1x1x128x256.size inb_S6x2x128x256_S1x1x128x256_5_0_0_0, k0_pay10 (k0_pay51 (k0_pay27 H W))⟩,
   ⟨Rect.unit (s := S6x2x128x256) ![4, 1, 0, 0] S1x1x128x256.size inb_S6x2x128x256_S1x1x128x256_4_1_0_0, k0_pay49 (k0_pay27 H W)⟩,
   ⟨Rect.unit (s := S6x2x128x256) ![4, 0, 0, 0] S1x1x128x256.size inb_S6x2x128x256_S1x1x128x256_4_0_0_0, k0_pay48 (k0_pay27 H W)⟩,
   ⟨Rect.unit (s := S6x2x128x256) ![3, 1, 0, 0] S1x1x128x256.size inb_S6x2x128x256_S1x1x128x256_3_1_0_0, k0_pay46 (k0_pay27 H W)⟩,
   ⟨Rect.unit (s := S6x2x128x256) ![3, 0, 0, 0] S1x1x128x256.size inb_S6x2x128x256_S1x1x128x256_3_0_0_0, k0_pay45 (k0_pay27 H W)⟩,
   ⟨Rect.unit (s := S6x2x128x256) ![2, 1, 0, 0] S1x1x128x256.size inb_S6x2x128x256_S1x1x128x256_2_1_0_0, k0_pay43 (k0_pay41 (k0_pay27 H W))⟩,
   ⟨Rect.unit (s := S6x2x128x256) ![2, 0, 0, 0] S1x1x128x256.size inb_S6x2x128x256_S1x1x128x256_2_0_0_0, k0_pay42 (k0_pay27 H W)⟩,
   ⟨Rect.unit (s := S6x2x128x256) ![1, 1, 0, 0] S1x1x128x256.size inb_S6x2x128x256_S1x1x128x256_1_1_0_0, k0_pay40 (k0_pay27 H W)⟩,
   ⟨Rect.unit (s := S6x2x128x256) ![1, 0, 0, 0] S1x1x128x256.size inb_S6x2x128x256_S1x1x128x256_1_0_0_0, k0_pay39 (k0_pay27 H W)⟩,
   ⟨Rect.unit (s := S6x2x128x256) ![0, 1, 0, 0] S1x1x128x256.size inb_S6x2x128x256_S1x1x128x256_0_1_0_0, k0_pay37 (k0_pay27 H W)⟩,
   ⟨Rect.unit (s := S6x2x128x256) ![0, 0, 0, 0] S1x1x128x256.size inb_S6x2x128x256_S1x1x128x256_0_0_0_0, k0_pay36 (k0_pay27 H W)⟩]

theorem cover5 (H : Vec F S512x2048 .bf16) (W : Vec F S1x2048x768 .bf16) : ∀ y, ∃ p ∈ P5 H W, y ∈ p.1.set :=
  View.cover_of_tiledL (P5 H W) S1x512x128.size (by sl_kernel_rfl)

theorem cover7 (H : Vec F S512x2048 .bf16) (W : Vec F S1x2048x768 .bf16) : ∀ y, ∃ p ∈ P7 H W, y ∈ p.1.set :=
  View.cover_of_tiledL (P7 H W) S1x512x128.size (by sl_kernel_rfl)

theorem cover9 (H : Vec F S512x2048 .bf16) (W : Vec F S1x2048x768 .bf16) : ∀ y, ∃ p ∈ P9 H W, y ∈ p.1.set :=
  View.cover_of_tiledL (P9 H W) S1x1x128x256.size (by sl_kernel_rfl)

/-- The block of queries, keys, values those stores leave. -/
def O5 (H : Vec F S512x2048 .bf16) (W : Vec F S1x2048x768 .bf16) : Vec F S6x512x128 .bf16 := View.canon (P5 H W)
def O7 (H : Vec F S512x2048 .bf16) (W : Vec F S1x2048x768 .bf16) : Vec F S6x512x128 .bf16 := View.canon (P7 H W)
def O9 (H : Vec F S512x2048 .bf16) (W : Vec F S1x2048x768 .bf16) : Vec F S6x2x128x256 .bf16 := View.canon (P9 H W)

/-- The condition of the kernel's first branch, as the kernel computes it: the inner step is 0. -/
abbrev c1 (i : grid0.Coords) : BitVec 1 :=
  Scalar.cmpi .ne (Scalar.extui (Scalar.cmpi .eq (BitVec.ofNat 32 (i 1).val) 0#32) : BitVec 32) 0#32

/-- Every staging buffer of the call and the scratch, at stated contents. -/
def Held (c : Dev nD) (arg2 : Memref sig .tc .vmem S512x2048 .f32) (arg3 : Memref sig .tc .vmem S1x2048 .f32) (arg4 : Memref sig .tc .vmem S1x2048x768 .bf16)
    (arg5 : Memref sig .tc .vmem S6x512x128 .bf16) (arg6 : Memref sig .tc .vmem S1x6x512x128 .f32) (arg7 : Memref sig .tc .vmem S6x512x128 .bf16)
    (arg8 : Memref sig .tc .vmem S1x6x512x128 .f32) (arg9 : Memref sig .tc .vmem S6x2x128x256 .bf16) (arg10 : Memref sig .tc .vmem S512x768 .f32)
    (arg11 : Memref sig .tc .vmem S512x2048 .bf16)
    (x2 : Vec F S512x2048 .f32) (x3 : Vec F S1x2048 .f32) (x4 : Vec F S1x2048x768 .bf16) (x5 : Vec F S6x512x128 .bf16) (x6 : Vec F S1x6x512x128 .f32)
    (x7 : Vec F S6x512x128 .bf16) (x8 : Vec F S1x6x512x128 .f32) (x9 : Vec F S6x2x128x256 .bf16) (x10 : Vec F S512x768 .f32) (x11 : Vec F S512x2048 .bf16) : sProp 𝕄 :=
  iprop(owns (c : Thread nD τ) arg2 fullShare x2 ∗ owns (c : Thread nD τ) arg3 fullShare x3 ∗ owns (c : Thread nD τ) arg4 fullShare x4
    ∗ owns (c : Thread nD τ) arg5 fullShare x5 ∗ owns (c : Thread nD τ) arg6 fullShare x6 ∗ owns (c : Thread nD τ) arg7 fullShare x7
    ∗ owns (c : Thread nD τ) arg8 fullShare x8 ∗ owns (c : Thread nD τ) arg9 fullShare x9 ∗ owns (c : Thread nD τ) arg10 fullShare x10
    ∗ owns (c : Thread nD τ) arg11 fullShare x11)

theorem zero2 : (![0, 0] : Fin 2 → ℕ) = fun _ => 0 := by funext a; fin_cases a <;> rfl
theorem zero3 : (![0, 0, 0] : Fin 3 → ℕ) = fun _ => 0 := by funext a; fin_cases a <;> rfl

/-- A load of a whole buffer reads what the buffer holds. -/
theorem ld_full {S : Shape} {e : EltTy} (a : Memref sig .tc .vmem S e) (h : a.IsWhole) {off : Fin S.rank → ℕ}
    (inb : ∀ a, off a + S.size a ≤ S.size a) (h0 : off = fun _ => 0) (X : S.Idx → Elt F e) :
    View.readAt (Elt F) a.view (Rect.unit off S.size inb).toLoadRect (h.unread X) = X := by
  funext x
  rw [h.readAt_unread]
  exact congrFun (View.ld_unit_zero h0 inb X) x

/-- A store over a whole buffer leaves what it stored. -/
theorem left_full {S : Shape} {e : EltTy} (a : Memref sig .tc .vmem S e) (f : a.view.ty.Contents (Elt F)) {off : Fin S.rank → ℕ}
    (inb : ∀ a, off a + S.size a ≤ S.size a) (h0 : off = fun _ => 0) (w : S.Idx → Elt F e) :
    a.view.read (Elt F) (a.view.writes (Elt F) f [⟨Rect.unit off S.size inb, w⟩]) = w :=
  (View.read_writes_eq_canon _ _ _ fun y => ⟨_, List.mem_singleton_self _, View.mem_set_unit_zero h0 inb y⟩).trans
    (View.canon_unit_zero h0 inb w)

/-- Those stores over a buffer leave the block, whatever it held. -/
theorem left5 (a : Memref sig .tc .vmem S6x512x128 .bf16) (f : a.view.ty.Contents (Elt F)) {H H' : Vec F S512x2048 .bf16} {W W' : Vec F S1x2048x768 .bf16}
    (hH : H' = H) (hW : W' = W) : a.view.read (Elt F) (a.view.writes (Elt F) f (P5 H' W')) = O5 H W := by
  subst hH hW; exact View.read_writes_eq_canon _ _ _ (cover5 _ _)

/-- Those stores over a buffer leave the block, whatever it held. -/
theorem left7 (a : Memref sig .tc .vmem S6x512x128 .bf16) (f : a.view.ty.Contents (Elt F)) {H H' : Vec F S512x2048 .bf16} {W W' : Vec F S1x2048x768 .bf16}
    (hH : H' = H) (hW : W' = W) : a.view.read (Elt F) (a.view.writes (Elt F) f (P7 H' W')) = O7 H W := by
  subst hH hW; exact View.read_writes_eq_canon _ _ _ (cover7 _ _)

/-- Those stores over a buffer leave the block, whatever it held. -/
theorem left9 (a : Memref sig .tc .vmem S6x2x128x256 .bf16) (f : a.view.ty.Contents (Elt F)) {H H' : Vec F S512x2048 .bf16} {W W' : Vec F S1x2048x768 .bf16}
    (hH : H' = H) (hW : W' = W) : a.view.read (Elt F) (a.view.writes (Elt F) f (P9 H' W')) = O9 H W := by
  subst hH hW; exact View.read_writes_eq_canon _ _ _ (cover9 _ _)

section Run

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x768 .bf16) (harg4 : arg4.IsWhole)
    (arg5 : Memref sig .tc .vmem S6x512x128 .bf16) (harg5 : arg5.IsWhole) (arg6 : Memref sig .tc .vmem S1x6x512x128 .f32) (harg6 : arg6.IsWhole) (arg7 : Memref sig .tc .vmem S6x512x128 .bf16) (harg7 : arg7.IsWhole)
    (arg8 : Memref sig .tc .vmem S1x6x512x128 .f32) (harg8 : arg8.IsWhole) (arg9 : Memref sig .tc .vmem S6x2x128x256 .bf16) (harg9 : arg9.IsWhole) (arg10 : Memref sig .tc .vmem S512x768 .f32) (harg10 : arg10.IsWhole)
    (arg11 : Memref sig .tc .vmem S512x2048 .bf16) (harg11 : arg11.IsWhole)
    (x2 : Vec F S512x2048 .f32) (x3 : Vec F S1x2048 .f32) (x4 : Vec F S1x2048x768 .bf16) (x5 : Vec F S6x512x128 .bf16) (x6 : Vec F S1x6x512x128 .f32)
    (x7 : Vec F S6x512x128 .bf16) (x8 : Vec F S1x6x512x128 .f32) (x9 : Vec F S6x2x128x256 .bf16) (x10 : Vec F S512x768 .f32) (x11 : Vec F S512x2048 .bf16)

set_option maxHeartbeats 1600000 in
/-- At inner step 0 the body leaves the normalised tokens in the scratch and the queries of them in the first output. -/
theorem run0 (h0 : c1 i = 1#1) (h1 : k0_cond2 i = 1#1) (h2 : ¬ k0_cond3 i = 1#1) (h3 : ¬ k0_cond4 i = 1#1) (h4 : ¬ k0_cond5 i = 1#1) (E : Set ℕ) (K : PUnit → sProp 𝕄) :
    iprop(Held c arg2 arg3 arg4 arg5 arg6 arg7 arg8 arg9 arg10 arg11 x2 x3 x4 x5 x6 x7 x8 x9 x10 x11 ∗ (Held c arg2 arg3 arg4 arg5 arg6 arg7 arg8 arg9 arg10 arg11 x2 x3 x4 (O5 (k0_pay1 i x2 x3) x4) x6 x7 x8 x9 x10 (k0_pay1 i x2 x3) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  simp only [k0_part1_eq_skeleton]
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact left5 arg5 _ ((View.readCov_unit_zero _ zero2 _ _).trans (congrArg₂ (k0_pay1 i) (ld_full arg2 harg2 _ zero2 _) (ld_full arg3 harg3 _ zero2 _))) (ld_full arg4 harg4 _ zero3 _)
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  iexists _; isplitr; swap; · iexact H11
  ipureintro; exact (left_full arg11 _ _ zero2 _).trans (congrArg₂ (k0_pay1 i) (ld_full arg2 harg2 _ zero2 _) (ld_full arg3 harg3 _ zero2 _))

set_option maxHeartbeats 1600000 in
/-- At inner step 1 it leaves the keys of the scratch's tokens in the third output and something in the second. -/
theorem run1 (h0 : ¬ c1 i = 1#1) (h1 : ¬ k0_cond2 i = 1#1) (h2 : k0_cond3 i = 1#1) (h3 : ¬ k0_cond4 i = 1#1) (h4 : ¬ k0_cond5 i = 1#1) (E : Set ℕ) (K : PUnit → sProp 𝕄) :
    iprop(Held c arg2 arg3 arg4 arg5 arg6 arg7 arg8 arg9 arg10 arg11 x2 x3 x4 x5 x6 x7 x8 x9 x10 x11 ∗ ((∃ z, Held c arg2 arg3 arg4 arg5 arg6 arg7 arg8 arg9 arg10 arg11 x2 x3 x4 x5 z (O7 x11 x4) x8 x9 x10 x11) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  simp only [k0_part2_eq_skeleton]
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec
  sl_step
  iapply Hk
  iexists (arg6.view.read (Elt F) _)
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; rfl
  isplitl [H7]
  · iexists _; isplitr; swap; · iexact H7
    ipureintro; exact left7 arg7 _ (ld_full arg11 harg11 _ zero2 _) (ld_full arg4 harg4 _ zero3 _)
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  iexists _; isplitr; swap; · iexact H11
  ipureintro; exact harg11.read_unread _

set_option maxHeartbeats 1600000 in
/-- At inner step 2 it leaves the transposed values in the fifth output and something in the fourth. -/
theorem run2 (h0 : ¬ c1 i = 1#1) (h1 : ¬ k0_cond2 i = 1#1) (h2 : ¬ k0_cond3 i = 1#1) (h3 : k0_cond4 i = 1#1) (h4 : ¬ k0_cond5 i = 1#1) (E : Set ℕ) (K : PUnit → sProp 𝕄) :
    iprop(Held c arg2 arg3 arg4 arg5 arg6 arg7 arg8 arg9 arg10 arg11 x2 x3 x4 x5 x6 x7 x8 x9 x10 x11 ∗ ((∃ z, Held c arg2 arg3 arg4 arg5 arg6 arg7 arg8 arg9 arg10 arg11 x2 x3 x4 x5 x6 x7 z (O9 x11 x4) x10 x11) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  simp only [k0_part3_eq_skeleton, k0_part4_eq_skeleton, k0_part5_eq_skeleton]
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec
  sl_step
  iapply Hk
  iexists (arg8.view.read (Elt F) _)
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; rfl
  isplitl [H9]
  · iexists _; isplitr; swap; · iexact H9
    ipureintro; exact left9 arg9 _ (ld_full arg11 harg11 _ zero2 _) (ld_full arg4 harg4 _ zero3 _)
  isplitl [H10]
  · iexists _; isplitr; swap; · iexact H10
    ipureintro; exact harg10.read_unread _
  iexists _; isplitr; swap; · iexact H11
  ipureintro; exact harg11.read_unread _

set_option maxHeartbeats 1600000 in
/-- At inner step 3 it leaves the gate's projection in the last output. -/
theorem run3 (h0 : ¬ c1 i = 1#1) (h1 : ¬ k0_cond2 i = 1#1) (h2 : ¬ k0_cond3 i = 1#1) (h3 : ¬ k0_cond4 i = 1#1) (h4 : k0_cond5 i = 1#1) (E : Set ℕ) (K : PUnit → sProp 𝕄) :
    iprop(Held c arg2 arg3 arg4 arg5 arg6 arg7 arg8 arg9 arg10 arg11 x2 x3 x4 x5 x6 x7 x8 x9 x10 x11 ∗ (Held c arg2 arg3 arg4 arg5 arg6 arg7 arg8 arg9 arg10 arg11 x2 x3 x4 x5 x6 x7 x8 x9 (k0_pay12 x11 x4) x11 -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  simp only [cc0_inproj_eq_skeleton]; unfold cc0_inproj_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; rw [ld_full arg4 harg4 _ zero3, ld_full arg11 harg11 _ zero2]; exact left_full arg10 _ _ zero2 _
  iexists _; isplitr; swap; · iexact H11
  ipureintro; exact harg11.read_unread _

end Run

end Cert.In

end
-- ==== Proof.InDat.lean ====
module

public import proofs.«01_k».proof.Proof.InRun
public import Idealize.ShloMosaic.Lib.Pipeline.Frame

/-! What the in-projection call leaves in its buffers, point by point, and the run of the whole program (the model's program).
The relation `after` says of each output block what is known of it once the body has run at a grid point: filled from the
normalised tokens at the output's own inner step, kept at the others. -/

@[expose] public section

set_option maxRecDepth 16384

noncomputable section

namespace Cert.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond_1 : ∀ t : Fin cfg0.N, (c1 (grid0.coords t) = 1#1 ↔ t.val % 4 = 0) :=
  (by decide +kernel : ∀ t : Fin grid0.N, (c1 (grid0.coords t) = 1#1 ↔ t.val % 4 = 0))
theorem cond_2 : ∀ t : Fin cfg0.N, (k0_cond2 (grid0.coords t) = 1#1 ↔ t.val % 4 = 0) :=
  (by decide +kernel : ∀ t : Fin grid0.N, (k0_cond2 (grid0.coords t) = 1#1 ↔ t.val % 4 = 0))
theorem cond_3 : ∀ t : Fin cfg0.N, (k0_cond3 (grid0.coords t) = 1#1 ↔ t.val % 4 = 1) :=
  (by decide +kernel : ∀ t : Fin grid0.N, (k0_cond3 (grid0.coords t) = 1#1 ↔ t.val % 4 = 1))
theorem cond_4 : ∀ t : Fin cfg0.N, (k0_cond4 (grid0.coords t) = 1#1 ↔ t.val % 4 = 2) :=
  (by decide +kernel : ∀ t : Fin grid0.N, (k0_cond4 (grid0.coords t) = 1#1 ↔ t.val % 4 = 2))
theorem cond_5 : ∀ t : Fin cfg0.N, (k0_cond5 (grid0.coords t) = 1#1 ↔ t.val % 4 = 3) :=
  (by decide +kernel : ∀ t : Fin grid0.N, (k0_cond5 (grid0.coords t) = 1#1 ↔ t.val % 4 = 3))

/-- The scratch operand, a whole buffer of the kernel's own. -/
abbrev scM : Memref sig .tc .vmem S512x2048 .bf16 := Memref.whole cc0_scratch0

/-- What the region holds of the scratch and the generator register, the scratch at some contents. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The grid point at which the token block of step `n` is normalised: the first of its four. -/
def pt (n : ℕ) : Fin cfg0.N := ⟨(n / 4 * 4) % 68, Nat.mod_lt _ (by decide)⟩

/-- `H` is a normalised token block of step `n`: normalised from the block of tokens fetched there, whatever the rows past
the array's end hold. -/
def HOf (c : Dev nD) (n : ℕ) (H : Vec F S512x2048 .bf16) : Prop :=
  ∃ d : Vec F S512x2048 .f32, H = k0_pay1 (grid0.coords (pt n))
    ((cfg0.win 0).fill (cfg0.grid.coords (pt n)) d (iblk m c 0 (pt n)) : Vec F S512x2048 .f32) (iblk m c 1 (pt 0) : Vec F S1x2048 .f32)

/-- What the body leaves in each window's buffer at a point, of what it finds there. -/
def after (c : Dev nD) : (w : Fin cfg0.W) → Fin cfg0.N → (Y X : (cfg0.win w).block.Idx → Elt F (cfg0.win w).elt) → Prop
  | 0 => fun _ Y X => X = Y
  | 1 => fun _ Y X => X = Y
  | 2 => fun _ Y X => X = Y
  | 3 => fun t Y X => (t.val % 4 = 0 → ∃ H, HOf m c t.val H ∧ X = O5 H (iblk m c 2 t : Vec F S1x2048x768 .bf16)) ∧ (t.val % 4 ≠ 0 → X = Y)
  | 4 => fun _ _ _ => True
  | 5 => fun t Y X => (t.val % 4 = 1 → ∃ H, HOf m c t.val H ∧ X = O7 H (iblk m c 2 t : Vec F S1x2048x768 .bf16)) ∧ (t.val % 4 ≠ 1 → X = Y)
  | 6 => fun _ _ _ => True
  | 7 => fun t Y X => (t.val % 4 = 2 → ∃ H, HOf m c t.val H ∧ X = O9 H (iblk m c 2 t : Vec F S1x2048x768 .bf16)) ∧ (t.val % 4 ≠ 2 → X = Y)
  | 8 => fun t Y X => (t.val % 4 = 3 → ∃ H, HOf m c t.val H ∧ X = k0_pay12 H (iblk m c 2 t : Vec F S1x2048x768 .bf16)) ∧ (t.val % 4 ≠ 3 → X = Y)
  | ⟨_ + 9, h⟩ => absurd h (Nat.not_lt.2 (Nat.le_add_left _ _))

/-- The scratch between points: inside a group of four it holds the group's normalised tokens. -/
def Inv (c : Dev nD) (t : Fin (cfg0.N + 1)) : sProp 𝕄 :=
  iprop((∃ H, ⌜t.val % 4 ≠ 0 → HOf m c t.val H⌝ ∗ owns (c : Thread nD τ) scM fullShare H) ∗ (∃ r, prngReg c r))

/-- The proof data of the call. -/
def rdat (c : Dev nD) : RDat τ (Elt F) Unit ℕ (UR sig nD τ) ℕ cfg0 c where
  A := fun w => V m c (Pipeline.arrRef spec0 w)
  after := after m c
  Φ := Inv m c
  q := fun _ => fullShare
  owed := fun _ => 0

theorem pt_of_mod {t : Fin cfg0.N} (h : t.val % 4 = 0) : pt t.val = t := by
  have := t.isLt; have hN : cfg0.N = 68 := N_0
  apply Fin.ext; show (t.val / 4 * 4) % 68 = t.val; omega

theorem pt_succ {n : ℕ} (h : (n + 1) % 4 ≠ 0) : pt (n + 1) = pt n := by
  apply Fin.ext; show ((n + 1) / 4 * 4) % 68 = (n / 4 * 4) % 68
  rw [show (n + 1) / 4 = n / 4 from by omega]

theorem HOf_succ {c : Dev nD} {n : ℕ} (h : (n + 1) % 4 ≠ 0) {H : Vec F S512x2048 .bf16} (hH : HOf m c n H) : HOf m c (n + 1) H := by
  unfold HOf at *; rw [pt_succ h]; exact hH

/-- The token window's buffer where it is fetched. -/
theorem finds0 {c : Dev nD} {t : Fin cfg0.N} (h : t.val % 4 = 0) {Y} (hY : (rdat m c).Finds 0 t Y) :
    ∃ d : Vec F S512x2048 .f32, Y = ((cfg0.win 0).fill (cfg0.grid.coords t) d (iblk m c 0 t) : Vec F S512x2048 .f32) :=
  ((rdat m c).finds_of_fetch ((fetch0_0 t).2 h) Y).1 hY

/-- The scale window's buffer holds the scale at every point. -/
theorem finds1 {c : Dev nD} : ∀ (n : ℕ) (hn : n < cfg0.N) {Y}, (rdat m c).Finds 1 ⟨n, hn⟩ Y → Y = (iblk m c 1 (pt 0) : Vec F S1x2048 .f32)
  | 0, hn, Y, hY => by
    obtain ⟨d, rfl⟩ := ((rdat m c).finds_of_fetch ((fetch0_1 ⟨0, hn⟩).2 rfl) Y).1 hY
    rfl
  | n + 1, hn, Y, hY => by
    have hN : cfg0.N = 68 := N_0
    have hf : (cfg0.win 1).fetch ⟨n + 1, hn⟩ = false := Bool.eq_false_iff.2 fun h => by
      have := (fetch0_1 _).1 h; simp only at this; omega
    rcases ((rdat m c).finds_of_pos hf (Nat.succ_ne_zero n) Y).1 hY with h | ⟨Y', hY', h⟩
    · exact absurd h (by simp [Window.flush])
    · have e : Y = Y' := h
      rw [e]; exact finds1 n _ hY'

/-- The weight window's buffer holds the point's tile. -/
theorem finds2 {c : Dev nD} {t : Fin cfg0.N} {Y} (hY : (rdat m c).Finds 2 t Y) : Y = (iblk m c 2 t : Vec F S1x2048x768 .bf16) := by
  obtain ⟨d, rfl⟩ := ((rdat m c).finds_of_fetch (fetch0_2 t) Y).1 hY
  rfl

/-- The body table's row at a point is the body there. -/
theorem defs₀_row (t : Fin cfg0.N) : defs₀ (F := F) .tc cfg0.body (cfg0.bodyArgs t (cfg0.slots t)) = bodyAt0 t := by
  unfold defs₀; rw [Defs.onTc_tc]

set_option maxHeartbeats 1600000 in
/-- The body at a point of inner step 0. -/
theorem body0 (c : Dev nD) (t : Fin cfg0.N) (h : t.val % 4 = 0) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8))
      ⊢ wp frame (wpE (defs₀ (F := F)) Variants.none c none) Set.univ (bodyAt0 t) fun _ =>
          iprop((rdat m c).Φ t.succ ∗ (rdat m c).owesAt () t.succ
            ∗ (∃ X, ⌜after m c 0 t (Y 0) X⌝ ∗ owns (c : Thread nD τ) ((cfg0.win 0).stage (cfg0.slots t 0)) fullShare X) ∗ (∃ X, ⌜after m c 1 t (Y 1) X⌝ ∗ owns (c : Thread nD τ) ((cfg0.win 1).stage (cfg0.slots t 1)) fullShare X) ∗ (∃ X, ⌜after m c 2 t (Y 2) X⌝ ∗ owns (c : Thread nD τ) ((cfg0.win 2).stage (cfg0.slots t 2)) fullShare X) ∗ (∃ X, ⌜after m c 3 t (Y 3) X⌝ ∗ owns (c : Thread nD τ) ((cfg0.win 3).stage (cfg0.slots t 3)) fullShare X) ∗ (∃ X, ⌜after m c 4 t (Y 4) X⌝ ∗ owns (c : Thread nD τ) ((cfg0.win 4).stage (cfg0.slots t 4)) fullShare X) ∗ (∃ X, ⌜after m c 5 t (Y 5) X⌝ ∗ owns (c : Thread nD τ) ((cfg0.win 5).stage (cfg0.slots t 5)) fullShare X) ∗ (∃ X, ⌜after m c 6 t (Y 6) X⌝ ∗ owns (c : Thread nD τ) ((cfg0.win 6).stage (cfg0.slots t 6)) fullShare X) ∗ (∃ X, ⌜after m c 7 t (Y 7) X⌝ ∗ owns (c : Thread nD τ) ((cfg0.win 7).stage (cfg0.slots t 7)) fullShare X) ∗ (∃ X, ⌜after m c 8 t (Y 8) X⌝ ∗ owns (c : Thread nD τ) ((cfg0.win 8).stage (cfg0.slots t 8)) fullShare X)) := by
  rw [show (rdat m c).Φ t.castSucc = Inv m c t.castSucc from rfl, show (rdat m c).Φ t.succ = Inv m c t.succ from rfl,
    show (rdat m c).owesAt () t.succ = (rdat m c).owesAt () t.castSucc from rfl]
  unfold Inv bodyAt0
  obtain ⟨d, e0⟩ := finds0 m h (hY 0)
  have e1 := finds1 m t.val t.isLt (hY 1)
  have e2 := finds2 m (hY 2)
  iintro ⟨⟨⟨%H, %hH, HS⟩, Hg⟩, Ho, H2, H3, H4, H5, H6, H7, H8, H9, H10⟩
  iapply (run0 c (grid0.coords t) _ _ _ _ _ _ _ _ _ _ _ _ _ _ _ _ _ _ _ _ (Y 0) (Y 1) (Y 2) (Y 3) (Y 4) (Y 5) (Y 6) (Y 7) (Y 8) H ((cond_1 t).2 h) ((cond_2 t).2 h) (fun h' => absurd ((cond_3 t).1 h') (by omega)) (fun h' => absurd ((cond_4 t).1 h') (by omega)) (fun h' => absurd ((cond_5 t).1 h') (by omega)) Set.univ _)
  unfold Held
  isplitl [HS H2 H3 H4 H5 H6 H7 H8 H9 H10]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iintro ⟨H2, H3, H4, H5, H6, H7, H8, H9, H10, HS⟩
  have hH' : HOf m c t.val (k0_pay1 (grid0.coords t) (Y 0) (Y 1)) := ⟨d, by rw [pt_of_mod h, e0, e1]⟩
  isplitl [HS Hg]
  · isplitl [HS]
    · iexists _; isplitr; swap; · iexact HS
      ipureintro; intro hne; exact HOf_succ m hne hH'
    iexact Hg
  isplitl [Ho]; · iexact Ho
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact ⟨fun _ => ⟨_, hH', by rw [e2]⟩, fun h' => absurd h h'⟩
  isplitl [H6]
  · iexists _; isplitr; swap; · iexact H6
    ipureintro; exact trivial
  isplitl [H7]
  · iexists _; isplitr; swap; · iexact H7
    ipureintro; exact ⟨fun h' => absurd (h.symm.trans h') (by decide), fun _ => rfl⟩
  isplitl [H8]
  · iexists _; isplitr; swap; · iexact H8
    ipureintro; exact trivial
  isplitl [H9]
  · iexists _; isplitr; swap; · iexact H9
    ipureintro; exact ⟨fun h' => absurd (h.symm.trans h') (by decide), fun _ => rfl⟩
  iexists _; isplitr; swap; · iexact H10
  ipureintro; exact ⟨fun h' => absurd (h.symm.trans h') (by decide), fun _ => rfl⟩

set_option maxHeartbeats 1600000 in
/-- The body at a point of inner step 1. -/
theorem body1 (c : Dev nD) (t : Fin cfg0.N) (h : t.val % 4 = 1) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8))
      ⊢ wp frame (wpE (defs₀ (F := F)) Variants.none c none) Set.univ (bodyAt0 t) fun _ =>
          iprop((rdat m c).Φ t.succ ∗ (rdat m c).owesAt () t.succ
            ∗ (∃ X, ⌜after m c 0 t (Y 0) X⌝ ∗ owns (c : Thread nD τ) ((cfg0.win 0).stage (cfg0.slots t 0)) fullShare X) ∗ (∃ X, ⌜after m c 1 t (Y 1) X⌝ ∗ owns (c : Thread nD τ) ((cfg0.win 1).stage (cfg0.slots t 1)) fullShare X) ∗ (∃ X, ⌜after m c 2 t (Y 2) X⌝ ∗ owns (c : Thread nD τ) ((cfg0.win 2).stage (cfg0.slots t 2)) fullShare X) ∗ (∃ X, ⌜after m c 3 t (Y 3) X⌝ ∗ owns (c : Thread nD τ) ((cfg0.win 3).stage (cfg0.slots t 3)) fullShare X) ∗ (∃ X, ⌜after m c 4 t (Y 4) X⌝ ∗ owns (c : Thread nD τ) ((cfg0.win 4).stage (cfg0.slots t 4)) fullShare X) ∗ (∃ X, ⌜after m c 5 t (Y 5) X⌝ ∗ owns (c : Thread nD τ) ((cfg0.win 5).stage (cfg0.slots t 5)) fullShare X) ∗ (∃ X, ⌜after m c 6 t (Y 6) X⌝ ∗ owns (c : Thread nD τ) ((cfg0.win 6).stage (cfg0.slots t 6)) fullShare X) ∗ (∃ X, ⌜after m c 7 t (Y 7) X⌝ ∗ owns (c : Thread nD τ) ((cfg0.win 7).stage (cfg0.slots t 7)) fullShare X) ∗ (∃ X, ⌜after m c 8 t (Y 8) X⌝ ∗ owns (c : Thread nD τ) ((cfg0.win 8).stage (cfg0.slots t 8)) fullShare X)) := by
  rw [show (rdat m c).Φ t.castSucc = Inv m c t.castSucc from rfl, show (rdat m c).Φ t.succ = Inv m c t.succ from rfl,
    show (rdat m c).owesAt () t.succ = (rdat m c).owesAt () t.castSucc from rfl]
  unfold Inv bodyAt0
  have e2 := finds2 m (hY 2)
  iintro ⟨⟨⟨%H, %hH, HS⟩, Hg⟩, Ho, H2, H3, H4, H5, H6, H7, H8, H9, H10⟩
  iapply (run1 c (grid0.coords t) _ _ _ _ _ _ _ _ _ _ _ _ _ _ _ _ _ _ _ _ (Y 0) (Y 1) (Y 2) (Y 3) (Y 4) (Y 5) (Y 6) (Y 7) (Y 8) H (fun h' => absurd ((cond_1 t).1 h') (by omega)) (fun h' => absurd ((cond_2 t).1 h') (by omega)) ((cond_3 t).2 h) (fun h' => absurd ((cond_4 t).1 h') (by omega)) (fun h' => absurd ((cond_5 t).1 h') (by omega)) Set.univ _)
  unfold Held
  isplitl [HS H2 H3 H4 H5 H6 H7 H8 H9 H10]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iintro ⟨%z, H2, H3, H4, H5, H6, H7, H8, H9, H10, HS⟩
  have hH' : HOf m c t.val H := hH (by show ¬ t.val % 4 = 0; omega)
  isplitl [HS Hg]
  · isplitl [HS]
    · iexists _; isplitr; swap; · iexact HS
      ipureintro; intro hne; exact HOf_succ m hne hH'
    iexact Hg
  isplitl [Ho]; · iexact Ho
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact ⟨fun h' => absurd (h.symm.trans h') (by decide), fun _ => rfl⟩
  isplitl [H6]
  · iexists _; isplitr; swap; · iexact H6
    ipureintro; exact trivial
  isplitl [H7]
  · iexists _; isplitr; swap; · iexact H7
    ipureintro; exact ⟨fun _ => ⟨_, hH', by rw [e2]⟩, fun h' => absurd h h'⟩
  isplitl [H8]
  · iexists _; isplitr; swap; · iexact H8
    ipureintro; exact trivial
  isplitl [H9]
  · iexists _; isplitr; swap; · iexact H9
    ipureintro; exact ⟨fun h' => absurd (h.symm.trans h') (by decide), fun _ => rfl⟩
  iexists _; isplitr; swap; · iexact H10
  ipureintro; exact ⟨fun h' => absurd (h.symm.trans h') (by decide), fun _ => rfl⟩

set_option maxHeartbeats 1600000 in
/-- The body at a point of inner step 2. -/
theorem body2 (c : Dev nD) (t : Fin cfg0.N) (h : t.val % 4 = 2) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8))
      ⊢ wp frame (wpE (defs₀ (F := F)) Variants.none c none) Set.univ (bodyAt0 t) fun _ =>
          iprop((rdat m c).Φ t.succ ∗ (rdat m c).owesAt () t.succ
            ∗ (∃ X, ⌜after m c 0 t (Y 0) X⌝ ∗ owns (c : Thread nD τ) ((cfg0.win 0).stage (cfg0.slots t 0)) fullShare X) ∗ (∃ X, ⌜after m c 1 t (Y 1) X⌝ ∗ owns (c : Thread nD τ) ((cfg0.win 1).stage (cfg0.slots t 1)) fullShare X) ∗ (∃ X, ⌜after m c 2 t (Y 2) X⌝ ∗ owns (c : Thread nD τ) ((cfg0.win 2).stage (cfg0.slots t 2)) fullShare X) ∗ (∃ X, ⌜after m c 3 t (Y 3) X⌝ ∗ owns (c : Thread nD τ) ((cfg0.win 3).stage (cfg0.slots t 3)) fullShare X) ∗ (∃ X, ⌜after m c 4 t (Y 4) X⌝ ∗ owns (c : Thread nD τ) ((cfg0.win 4).stage (cfg0.slots t 4)) fullShare X) ∗ (∃ X, ⌜after m c 5 t (Y 5) X⌝ ∗ owns (c : Thread nD τ) ((cfg0.win 5).stage (cfg0.slots t 5)) fullShare X) ∗ (∃ X, ⌜after m c 6 t (Y 6) X⌝ ∗ owns (c : Thread nD τ) ((cfg0.win 6).stage (cfg0.slots t 6)) fullShare X) ∗ (∃ X, ⌜after m c 7 t (Y 7) X⌝ ∗ owns (c : Thread nD τ) ((cfg0.win 7).stage (cfg0.slots t 7)) fullShare X) ∗ (∃ X, ⌜after m c 8 t (Y 8) X⌝ ∗ owns (c : Thread nD τ) ((cfg0.win 8).stage (cfg0.slots t 8)) fullShare X)) := by
  rw [show (rdat m c).Φ t.castSucc = Inv m c t.castSucc from rfl, show (rdat m c).Φ t.succ = Inv m c t.succ from rfl,
    show (rdat m c).owesAt () t.succ = (rdat m c).owesAt () t.castSucc from rfl]
  unfold Inv bodyAt0
  have e2 := finds2 m (hY 2)
  iintro ⟨⟨⟨%H, %hH, HS⟩, Hg⟩, Ho, H2, H3, H4, H5, H6, H7, H8, H9, H10⟩
  iapply (run2 c (grid0.coords t) _ _ _ _ _ _ _ _ _ _ _ _ _ _ _ _ _ _ _ _ (Y 0) (Y 1) (Y 2) (Y 3) (Y 4) (Y 5) (Y 6) (Y 7) (Y 8) H (fun h' => absurd ((cond_1 t).1 h') (by omega)) (fun h' => absurd ((cond_2 t).1 h') (by omega)) (fun h' => absurd ((cond_3 t).1 h') (by omega)) ((cond_4 t).2 h) (fun h' => absurd ((cond_5 t).1 h') (by omega)) Set.univ _)
  unfold Held
  isplitl [HS H2 H3 H4 H5 H6 H7 H8 H9 H10]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iintro ⟨%z, H2, H3, H4, H5, H6, H7, H8, H9, H10, HS⟩
  have hH' : HOf m c t.val H := hH (by show ¬ t.val % 4 = 0; omega)
  isplitl [HS Hg]
  · isplitl [HS]
    · iexists _; isplitr; swap; · iexact HS
      ipureintro; intro hne; exact HOf_succ m hne hH'
    iexact Hg
  isplitl [Ho]; · iexact Ho
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact ⟨fun h' => absurd (h.symm.trans h') (by decide), fun _ => rfl⟩
  isplitl [H6]
  · iexists _; isplitr; swap; · iexact H6
    ipureintro; exact trivial
  isplitl [H7]
  · iexists _; isplitr; swap; · iexact H7
    ipureintro; exact ⟨fun h' => absurd (h.symm.trans h') (by decide), fun _ => rfl⟩
  isplitl [H8]
  · iexists _; isplitr; swap; · iexact H8
    ipureintro; exact trivial
  isplitl [H9]
  · iexists _; isplitr; swap; · iexact H9
    ipureintro; exact ⟨fun _ => ⟨_, hH', by rw [e2]⟩, fun h' => absurd h h'⟩
  iexists _; isplitr; swap; · iexact H10
  ipureintro; exact ⟨fun h' => absurd (h.symm.trans h') (by decide), fun _ => rfl⟩

set_option maxHeartbeats 1600000 in
/-- The body at a point of inner step 3. -/
theorem body3 (c : Dev nD) (t : Fin cfg0.N) (h : t.val % 4 = 3) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8))
      ⊢ wp frame (wpE (defs₀ (F := F)) Variants.none c none) Set.univ (bodyAt0 t) fun _ =>
          iprop((rdat m c).Φ t.succ ∗ (rdat m c).owesAt () t.succ
            ∗ (∃ X, ⌜after m c 0 t (Y 0) X⌝ ∗ owns (c : Thread nD τ) ((cfg0.win 0).stage (cfg0.slots t 0)) fullShare X) ∗ (∃ X, ⌜after m c 1 t (Y 1) X⌝ ∗ owns (c : Thread nD τ) ((cfg0.win 1).stage (cfg0.slots t 1)) fullShare X) ∗ (∃ X, ⌜after m c 2 t (Y 2) X⌝ ∗ owns (c : Thread nD τ) ((cfg0.win 2).stage (cfg0.slots t 2)) fullShare X) ∗ (∃ X, ⌜after m c 3 t (Y 3) X⌝ ∗ owns (c : Thread nD τ) ((cfg0.win 3).stage (cfg0.slots t 3)) fullShare X) ∗ (∃ X, ⌜after m c 4 t (Y 4) X⌝ ∗ owns (c : Thread nD τ) ((cfg0.win 4).stage (cfg0.slots t 4)) fullShare X) ∗ (∃ X, ⌜after m c 5 t (Y 5) X⌝ ∗ owns (c : Thread nD τ) ((cfg0.win 5).stage (cfg0.slots t 5)) fullShare X) ∗ (∃ X, ⌜after m c 6 t (Y 6) X⌝ ∗ owns (c : Thread nD τ) ((cfg0.win 6).stage (cfg0.slots t 6)) fullShare X) ∗ (∃ X, ⌜after m c 7 t (Y 7) X⌝ ∗ owns (c : Thread nD τ) ((cfg0.win 7).stage (cfg0.slots t 7)) fullShare X) ∗ (∃ X, ⌜after m c 8 t (Y 8) X⌝ ∗ owns (c : Thread nD τ) ((cfg0.win 8).stage (cfg0.slots t 8)) fullShare X)) := by
  rw [show (rdat m c).Φ t.castSucc = Inv m c t.castSucc from rfl, show (rdat m c).Φ t.succ = Inv m c t.succ from rfl,
    show (rdat m c).owesAt () t.succ = (rdat m c).owesAt () t.castSucc from rfl]
  unfold Inv bodyAt0
  have e2 := finds2 m (hY 2)
  iintro ⟨⟨⟨%H, %hH, HS⟩, Hg⟩, Ho, H2, H3, H4, H5, H6, H7, H8, H9, H10⟩
  iapply (run3 c (grid0.coords t) _ _ _ _ _ _ _ _ _ _ _ _ _ _ _ _ _ _ _ _ (Y 0) (Y 1) (Y 2) (Y 3) (Y 4) (Y 5) (Y 6) (Y 7) (Y 8) H (fun h' => absurd ((cond_1 t).1 h') (by omega)) (fun h' => absurd ((cond_2 t).1 h') (by omega)) (fun h' => absurd ((cond_3 t).1 h') (by omega)) (fun h' => absurd ((cond_4 t).1 h') (by omega)) ((cond_5 t).2 h) Set.univ _)
  unfold Held
  isplitl [HS H2 H3 H4 H5 H6 H7 H8 H9 H10]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iintro ⟨H2, H3, H4, H5, H6, H7, H8, H9, H10, HS⟩
  have hH' : HOf m c t.val H := hH (by show ¬ t.val % 4 = 0; omega)
  isplitl [HS Hg]
  · isplitl [HS]
    · iexists _; isplitr; swap; · iexact HS
      ipureintro; intro hne; exact HOf_succ m hne hH'
    iexact Hg
  isplitl [Ho]; · iexact Ho
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact ⟨fun h' => absurd (h.symm.trans h') (by decide), fun _ => rfl⟩
  isplitl [H6]
  · iexists _; isplitr; swap; · iexact H6
    ipureintro; exact trivial
  isplitl [H7]
  · iexists _; isplitr; swap; · iexact H7
    ipureintro; exact ⟨fun h' => absurd (h.symm.trans h') (by decide), fun _ => rfl⟩
  isplitl [H8]
  · iexists _; isplitr; swap; · iexact H8
    ipureintro; exact trivial
  isplitl [H9]
  · iexists _; isplitr; swap; · iexact H9
    ipureintro; exact ⟨fun h' => absurd (h.symm.trans h') (by decide), fun _ => rfl⟩
  iexists _; isplitr; swap; · iexact H10
  ipureintro; exact ⟨fun _ => ⟨_, hH', by rw [e2]⟩, fun h' => absurd h h'⟩

/-- What the body does at every grid point. -/
theorem body (c : Dev nD) : (rdat m c).BodyObligation (defs₀ (F := F)) Variants.none () Set.univ := fun t Y hY => by
  rw [bigSep_W0, bigSep_W0, defs₀_row]
  have h4 := Nat.mod_lt t.val (show 0 < 4 by decide)
  rcases (by omega : t.val % 4 = 0 ∨ t.val % 4 = 1 ∨ t.val % 4 = 2 ∨ t.val % 4 = 3) with h | h | h | h
  · exact body0 m c t h Y hY
  · exact body1 m c t h Y hY
  · exact body2 m c t h Y hY
  · exact body3 m c t h Y hY

set_option backward.isDefEq.respectTransparency.types false in
/-- The program runs to its end from any memory, leaving the call's arrays as the proof data say, every other buffer as the
call found it, and every semaphore at zero. -/
theorem run_main : θ_run defs (onTc (τ := τ) (main (F := F))) (s₀ m ρ)
    (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := body m) (hshare := fun c w => by unfold RDat.share; split <;> rfl) (howed := fun _ _ => rfl) (V := V m)
    (hmain := hmain m Variants.none) (hA := fun _ _ => rfl)
    (hin := fun c => by
      show Pipeline.ΦA spec0 c ⊢ Inv m c 0
      rw [PhiA_eq]; unfold Inv
      iintro ⟨⟨%d, Hd⟩, Hr⟩
      isplitl [Hd]
      · iexists d; isplitr
        · ipureintro; intro h; exact absurd rfl h
        iexact Hd
      iexact Hr)
    (hout := fun c => by
      show Inv m c _ ⊢ Pipeline.ΦA spec0 c
      rw [PhiA_eq]; unfold Inv
      iintro ⟨⟨%d, -, Hd⟩, Hr⟩
      isplitl [Hd]
      · iexists d; iexact Hd
      iexact Hr)

/-- The program leaves its arguments as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      (Pipeline.RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.In

end
-- ==== Proof.InVal.lean ====
module

public import proofs.«01_k».proof.Proof.InDat
public import Idealize.ShloMosaic.Lib.Pointwise
public import Idealize.ShloMosaic.Lib.WordCmp
public import Idealize.ShloMosaic.Lib.Pipeline.ValueKit.Point

/-! The in-projection's blocks over the extended reals, entry by entry. -/

@[expose] public section

set_option maxRecDepth 16384

noncomputable section

namespace Cert.In

open Cert.Kernel2Ideal Cert.Kernel2Ideal.Gen Idealize.ShloMosaic Idealize.ShloMosaic.TcCoe
open Idealize.ShloMosaic.Tactic Idealize.SL.Sem

/-- Entry `k` of a token's normalised and scaled vector. -/
def nrm (x g : Fin 2048 → EReal) (k : Fin 2048) : EReal :=
  x k * Ideal.rsqrt (Ideal.div (∑ j, x j * x j) (Ideal.ofBits .f32 0x45000000#32) + Ideal.ofBits .f32 0x358637BD#32) * g k

/-- A normalised token block: the rows past the last token are zero, whatever was read there. -/
theorem pay1_at (i : grid0.Coords) (x : FVec Ideal S512x2048 .f32) (g : FVec Ideal S1x2048 .f32) (p : Fin 512) (k : Fin 2048)
    (hi : (i 0).val < 17) :
    k0_pay1 (F := Ideal) i x g (ix2 p k)
      = if 512 * (i 0).val + p.val < 8208 then nrm (fun j => x (ix2 p j)) (fun j => g (ix2 0 j)) k else 0 := by
  pointwise [k0_pay1]
  have hw : IntOp.addi (Scalar.muli (BitVec.ofNat 32 (i 0).val) 512#32) (BitVec.ofNat 32 p.val) = BitVec.ofNat 32 (512 * (i 0).val + p.val) := by
    apply BitVec.eq_of_toNat_eq
    simp [IntOp.addi, Scalar.muli, IntOp.muli]
    omega
  rw [hw, WordCmp.cmpi_slt_ofNat (by omega) (by omega)]
  unfold Scalar.select nrm
  by_cases hp : 512 * (i 0).val + p.val < 8208
  · simp [hp]
  · simp [hp]

theorem pay12_at (H : FVec Ideal S512x2048 .bf16) (W : FVec Ideal S1x2048x768 .bf16) (p : Fin 512) (n : Fin 768) :
    k0_pay12 (F := Ideal) H W (ix2 p n) = ∑ k : Fin 2048, H (ix2 p k) * W (ix3 0 k n) := by
  pointwise [k0_pay12]

theorem pay13_eq (H : FVec Ideal S512x2048 .bf16) (W : FVec Ideal S1x2048x768 .bf16) : k0_pay13 (F := Ideal) H W = k0_pay12 H W := rfl
theorem pay20_eq (H : FVec Ideal S512x2048 .bf16) (W : FVec Ideal S1x2048x768 .bf16) : k0_pay20 (F := Ideal) H W = k0_pay12 H W := rfl
theorem pay27_eq (H : FVec Ideal S512x2048 .bf16) (W : FVec Ideal S1x2048x768 .bf16) : k0_pay27 (F := Ideal) H W = k0_pay12 H W := rfl

/-- The entry of head `h`, token `p`, lane `d` in a product whose columns are the heads side by side. -/
def head (acc : FVec Ideal S512x768 .f32) (h : Fin 6) (p : Fin 512) (d : Fin 128) : EReal :=
  acc (ix2 p ⟨128 * h.val + d.val, by omega⟩)

/-- One head's block of a product, with a leading axis of one. -/
theorem slice_at (acc : FVec Ideal S512x768 .f32) (h : Fin 6) (o : ℕ) (ho : o = 128 * h.val) (hs : S512x768.Slices ![0, o] S512x128)
    (a : Fin 1) (p : Fin 512) (d : Fin 128) :
    shapeCast S1x512x128 (truncf (F := Ideal) .bf16 (extractStridedSlice S512x128 ![0, o] acc hs) bitsLt_bf16_f32 : FVec Ideal S512x128 .bf16) shapeCasts_S512x128_S1x512x128 (ix3 a p d)
      = head acc h p d := by
  subst ho
  pointwise [head]

/-- Where a head's block lies in the output's block. -/
theorem emb5 (h : Fin 6) (hb : ∀ i, _ ) (a : Fin 1) (b : Fin 512) (c : Fin 128) :
    (Rect.unit (s := S6x512x128) ![h.val, 0, 0] S1x512x128.size hb).emb (ix3 a b c : S1x512x128.Idx) = (ix3 h b c : S6x512x128.Idx) := by
  blk_ext []

/-- Head `h`'s store is its head of the product. -/
theorem piece5 (acc : FVec Ideal S512x768 .f32) (h : Fin 6) (o : ℕ) (ho : o = 128 * h.val) (hs : S512x768.Slices ![0, o] S512x128)
    (hb : ∀ i, _) (w : Vec Ideal S1x512x128 .bf16)
    (hw : w = shapeCast S1x512x128 (truncf (F := Ideal) .bf16 (extractStridedSlice S512x128 ![0, o] acc hs) bitsLt_bf16_f32 : FVec Ideal S512x128 .bf16) shapeCasts_S512x128_S1x512x128)
    (G : S6x512x128.Idx → Elt Ideal .bf16) (hG : ∀ h p d, G (ix3 h p d) = head acc h p d) :
    ∀ x : (Rect.unit (s := S6x512x128) ![h.val, 0, 0] S1x512x128.size hb).shape.Idx,
      w x = G ((Rect.unit (s := S6x512x128) ![h.val, 0, 0] S1x512x128.size hb).emb x) := by
  intro x
  obtain ⟨a, b, c, rfl⟩ : ∃ (a : Fin 1) (b : Fin 512) (c : Fin 128), x = (ix3 a b c : S1x512x128.Idx) := ⟨x 0, x 1, x 2, by blk_ext []⟩
  rw [hw]
  exact (slice_at acc h o ho hs a b c).trans ((hG h b c).symm.trans (congrArg G (emb5 h hb a b c).symm))

/-- The heads of a product as one array. -/
def heads (acc : FVec Ideal S512x768 .f32) : S6x512x128.Idx → Elt Ideal .bf16 := fun y => head acc (y 0) (y 1) (y 2)

/-- The queries' block is any array each of its stores agrees with. -/
theorem O5_apply {F : FTy → Type} [FloatOps F] (H : Vec F S512x2048 .bf16) (W : Vec F S1x2048x768 .bf16)
    (G : S6x512x128.Idx → Elt F .bf16) (hp : ∀ q ∈ P5 (F := F) H W, ∀ x : q.1.shape.Idx, q.2 x = G (q.1.emb x)) (y : S6x512x128.Idx) :
    O5 (F := F) H W y = G y := by
  unfold O5
  have h := cover5 H W y
  exact View.canon_apply_of_pieces G (P5 (F := F) H W) hp y h

/-- The keys' block is any array each of its stores agrees with. -/
theorem O7_apply {F : FTy → Type} [FloatOps F] (H : Vec F S512x2048 .bf16) (W : Vec F S1x2048x768 .bf16)
    (G : S6x512x128.Idx → Elt F .bf16) (hp : ∀ q ∈ P7 (F := F) H W, ∀ x : q.1.shape.Idx, q.2 x = G (q.1.emb x)) (y : S6x512x128.Idx) :
    O7 (F := F) H W y = G y := by
  unfold O7
  have h := cover7 H W y
  exact View.canon_apply_of_pieces G (P7 (F := F) H W) hp y h

/-- The values' block is any array each of its stores agrees with. -/
theorem O9_apply {F : FTy → Type} [FloatOps F] (H : Vec F S512x2048 .bf16) (W : Vec F S1x2048x768 .bf16)
    (G : S6x2x128x256.Idx → Elt F .bf16) (hp : ∀ q ∈ P9 (F := F) H W, ∀ x : q.1.shape.Idx, q.2 x = G (q.1.emb x)) (y : S6x2x128x256.Idx) :
    O9 (F := F) H W y = G y := by
  unfold O9
  have h := cover9 H W y
  exact View.canon_apply_of_pieces G (P9 (F := F) H W) hp y h

/-- There is an array of heads that every store of this block agrees with. -/
theorem P5_eq (H : Vec Ideal S512x2048 .bf16) (W : Vec Ideal S1x2048x768 .bf16) : ∃ G : S6x512x128.Idx → Elt Ideal .bf16,
    (∀ (h : Fin 6) (p : Fin 512) (d : Fin 128), G (ix3 h p d : S6x512x128.Idx) = head (k0_pay12 H W) h p d) ∧ ∀ q ∈ P5 (F := Ideal) H W, ∀ x : q.1.shape.Idx, q.2 x = G (q.1.emb x) := by
  refine ⟨heads (k0_pay12 H W), fun _ _ _ => rfl, ?_⟩
  unfold P5
  simp only [List.forall_mem_cons]
  refine ⟨?_, ?_, ?_, ?_, ?_, ?_, fun _ h => absurd h List.not_mem_nil⟩
  · exact piece5 (k0_pay12 H W) 5 640 rfl _ _ _ rfl _ (fun _ _ _ => rfl)
  · exact piece5 (k0_pay12 H W) 4 512 rfl _ _ _ rfl _ (fun _ _ _ => rfl)
  · exact piece5 (k0_pay12 H W) 3 384 rfl _ _ _ rfl _ (fun _ _ _ => rfl)
  · exact piece5 (k0_pay12 H W) 2 256 rfl _ _ _ rfl _ (fun _ _ _ => rfl)
  · exact piece5 (k0_pay12 H W) 1 128 rfl _ _ _ rfl _ (fun _ _ _ => rfl)
  · exact piece5 (k0_pay12 H W) 0 0 rfl _ _ _ rfl _ (fun _ _ _ => rfl)

/-- The queries' block: head `h` of token `p` is that part of the token's product. -/
theorem O5_at (H : Vec Ideal S512x2048 .bf16) (W : Vec Ideal S1x2048x768 .bf16) (h : Fin 6) (p : Fin 512) (d : Fin 128) :
    O5 (F := Ideal) H W (ix3 h p d : S6x512x128.Idx) = head (k0_pay12 H W) h p d := by
  obtain ⟨G, hG, hp⟩ := P5_eq H W
  exact (O5_apply H W G hp _).trans (hG h p d)

/-- There is an array of heads that every store of this block agrees with. -/
theorem P7_eq (H : Vec Ideal S512x2048 .bf16) (W : Vec Ideal S1x2048x768 .bf16) : ∃ G : S6x512x128.Idx → Elt Ideal .bf16,
    (∀ (h : Fin 6) (p : Fin 512) (d : Fin 128), G (ix3 h p d : S6x512x128.Idx) = head (k0_pay12 H W) h p d) ∧ ∀ q ∈ P7 (F := Ideal) H W, ∀ x : q.1.shape.Idx, q.2 x = G (q.1.emb x) := by
  refine ⟨heads (k0_pay12 H W), fun _ _ _ => rfl, ?_⟩
  unfold P7
  simp only [List.forall_mem_cons]
  refine ⟨?_, ?_, ?_, ?_, ?_, ?_, fun _ h => absurd h List.not_mem_nil⟩
  · exact piece5 (k0_pay12 H W) 5 640 rfl _ _ _ rfl _ (fun _ _ _ => rfl)
  · exact piece5 (k0_pay12 H W) 4 512 rfl _ _ _ rfl _ (fun _ _ _ => rfl)
  · exact piece5 (k0_pay12 H W) 3 384 rfl _ _ _ rfl _ (fun _ _ _ => rfl)
  · exact piece5 (k0_pay12 H W) 2 256 rfl _ _ _ rfl _ (fun _ _ _ => rfl)
  · exact piece5 (k0_pay12 H W) 1 128 rfl _ _ _ rfl _ (fun _ _ _ => rfl)
  · exact piece5 (k0_pay12 H W) 0 0 rfl _ _ _ rfl _ (fun _ _ _ => rfl)

/-- The keys' block: head `h` of token `p` is that part of the token's product. -/
theorem O7_at (H : Vec Ideal S512x2048 .bf16) (W : Vec Ideal S1x2048x768 .bf16) (h : Fin 6) (p : Fin 512) (d : Fin 128) :
    O7 (F := Ideal) H W (ix3 h p d : S6x512x128.Idx) = head (k0_pay12 H W) h p d := by
  obtain ⟨G, hG, hp⟩ := P7_eq H W
  exact (O7_apply H W G hp _).trans (hG h p d)

/-- One head's block of a product transposed, and a chunk of 256 tokens of it. -/
theorem sliceT_at (acc : FVec Ideal S512x768 .f32) (h : Fin 6) (o : ℕ) (ho : o = 128 * h.val) (hs : S512x768.Slices ![0, o] S512x128)
    (q : Fin 2) (o2 : ℕ) (ho2 : o2 = 256 * q.val) (hs2 : S128x512.Slices ![0, o2] S128x256)
    (a a' : Fin 1) (d : Fin 128) (r : Fin 256) :
    shapeCast S1x1x128x256 (truncf (F := Ideal) .bf16 (extractStridedSlice S128x256 ![0, o2] (transpose S128x512 [1, 0] (extractStridedSlice S512x128 ![0, o] acc hs)
      transposes_S512x128_p1_0_S128x512) hs2) bitsLt_bf16_f32 : FVec Ideal S128x256 .bf16) shapeCasts_S128x256_S1x1x128x256 (ix4 a a' d r)
      = head acc h ⟨256 * q.val + r.val, by omega⟩ d := by
  subst ho ho2
  pointwise [head]

/-- Where a chunk of a head's transposed block lies in the output's block. -/
theorem emb9 (h : Fin 6) (q : Fin 2) (hb : ∀ i, _ ) (a b : Fin 1) (d : Fin 128) (r : Fin 256) :
    (Rect.unit (s := S6x2x128x256) ![h.val, q.val, 0, 0] S1x1x128x256.size hb).emb (ix4 a b d r : S1x1x128x256.Idx) = (ix4 h q d r : S6x2x128x256.Idx) := by
  blk_ext []

/-- The store of chunk `q` of head `h` is that chunk of the head, transposed. -/
theorem piece9 (acc : FVec Ideal S512x768 .f32) (h : Fin 6) (o : ℕ) (ho : o = 128 * h.val) (hs : S512x768.Slices ![0, o] S512x128)
    (q : Fin 2) (o2 : ℕ) (ho2 : o2 = 256 * q.val) (hs2 : S128x512.Slices ![0, o2] S128x256)
    (hb : ∀ i, _) (w : Vec Ideal S1x1x128x256 .bf16)
    (hw : w = shapeCast S1x1x128x256 (truncf (F := Ideal) .bf16 (extractStridedSlice S128x256 ![0, o2] (transpose S128x512 [1, 0] (extractStridedSlice S512x128 ![0, o] acc hs)
      transposes_S512x128_p1_0_S128x512) hs2) bitsLt_bf16_f32 : FVec Ideal S128x256 .bf16) shapeCasts_S128x256_S1x1x128x256)
    (G : S6x2x128x256.Idx → Elt Ideal .bf16) (hG : ∀ (h : Fin 6) (q : Fin 2) (d : Fin 128) (r : Fin 256), G (ix4 h q d r) = head acc h ⟨256 * q.val + r.val, by omega⟩ d) :
    ∀ x : (Rect.unit (s := S6x2x128x256) ![h.val, q.val, 0, 0] S1x1x128x256.size hb).shape.Idx,
      w x = G ((Rect.unit (s := S6x2x128x256) ![h.val, q.val, 0, 0] S1x1x128x256.size hb).emb x) := by
  intro x
  obtain ⟨a, b, c, d, rfl⟩ : ∃ (a : Fin 1) (b : Fin 1) (c : Fin 128) (d : Fin 256), x = (ix4 a b c d : S1x1x128x256.Idx) := ⟨x 0, x 1, x 2, x 3, by blk_ext []⟩
  rw [hw]
  exact (sliceT_at acc h o ho hs q o2 ho2 hs2 a b c d).trans ((hG h q c d).symm.trans (congrArg G (emb9 h q hb a b c d).symm))

/-- The heads of a product, transposed and in chunks of 256 tokens, as one array. -/
def headsT (acc : FVec Ideal S512x768 .f32) : S6x2x128x256.Idx → Elt Ideal .bf16 :=
  fun y => head acc (y 0) ⟨256 * (y 1).val + (y 3).val, by have := (y 1).isLt; have := (y 3).isLt; simp [S6x2x128x256] at *; omega⟩ (y 2)

/-- There is an array of heads that every store of this block agrees with. -/
theorem P9_eq (H : Vec Ideal S512x2048 .bf16) (W : Vec Ideal S1x2048x768 .bf16) : ∃ G : S6x2x128x256.Idx → Elt Ideal .bf16,
    (∀ (h : Fin 6) (q : Fin 2) (d : Fin 128) (r : Fin 256), G (ix4 h q d r : S6x2x128x256.Idx) = head (k0_pay12 H W) h ⟨256 * q.val + r.val, by omega⟩ d) ∧ ∀ q ∈ P9 (F := Ideal) H W, ∀ x : q.1.shape.Idx, q.2 x = G (q.1.emb x) := by
  refine ⟨headsT (k0_pay12 H W), fun _ _ _ _ => rfl, ?_⟩
  unfold P9
  simp only [List.forall_mem_cons]
  refine ⟨?_, ?_, ?_, ?_, ?_, ?_, ?_, ?_, ?_, ?_, ?_, ?_, fun _ h => absurd h List.not_mem_nil⟩
  · exact piece9 (k0_pay12 H W) 5 640 rfl _ 1 256 rfl _ _ _ rfl _ (fun _ _ _ _ => rfl)
  · exact piece9 (k0_pay12 H W) 5 640 rfl _ 0 0 rfl _ _ _ rfl _ (fun _ _ _ _ => rfl)
  · exact piece9 (k0_pay12 H W) 4 512 rfl _ 1 256 rfl _ _ _ rfl _ (fun _ _ _ _ => rfl)
  · exact piece9 (k0_pay12 H W) 4 512 rfl _ 0 0 rfl _ _ _ rfl _ (fun _ _ _ _ => rfl)
  · exact piece9 (k0_pay12 H W) 3 384 rfl _ 1 256 rfl _ _ _ rfl _ (fun _ _ _ _ => rfl)
  · exact piece9 (k0_pay12 H W) 3 384 rfl _ 0 0 rfl _ _ _ rfl _ (fun _ _ _ _ => rfl)
  · exact piece9 (k0_pay12 H W) 2 256 rfl _ 1 256 rfl _ _ _ rfl _ (fun _ _ _ _ => rfl)
  · exact piece9 (k0_pay12 H W) 2 256 rfl _ 0 0 rfl _ _ _ rfl _ (fun _ _ _ _ => rfl)
  · exact piece9 (k0_pay12 H W) 1 128 rfl _ 1 256 rfl _ _ _ rfl _ (fun _ _ _ _ => rfl)
  · exact piece9 (k0_pay12 H W) 1 128 rfl _ 0 0 rfl _ _ _ rfl _ (fun _ _ _ _ => rfl)
  · exact piece9 (k0_pay12 H W) 0 0 rfl _ 1 256 rfl _ _ _ rfl _ (fun _ _ _ _ => rfl)
  · exact piece9 (k0_pay12 H W) 0 0 rfl _ 0 0 rfl _ _ _ rfl _ (fun _ _ _ _ => rfl)

/-- The values' block: head `h` of token `256 q + r`, transposed. -/
theorem O9_at (H : Vec Ideal S512x2048 .bf16) (W : Vec Ideal S1x2048x768 .bf16) (h : Fin 6) (q : Fin 2) (d : Fin 128) (r : Fin 256) :
    O9 (F := Ideal) H W (ix4 h q d r : S6x2x128x256.Idx) = head (k0_pay12 H W) h ⟨256 * q.val + r.val, by omega⟩ d := by
  obtain ⟨G, hG, hp⟩ := P9_eq H W
  exact (O9_apply H W G hp _).trans (hG h q d r)

end Cert.In

end
-- ==== Proof.InHost.lean ====
module

public import proofs.«01_k».proof.Proof.InVal
public import Idealize.ShloMosaic.Lib.Pointwise
public import Idealize.ShloMosaic.Lib.WordCmp
public import Idealize.ShloMosaic.Lib.Pipeline.ValueKit.Point

/-! The packed weights the in-projection reads, entry by entry: the host's slices and concatenation undone. -/

@[expose] public section
set_option maxRecDepth 16384
noncomputable section
namespace Cert.In
open Cert.Kernel2Ideal Cert.Kernel2Ideal.Gen Idealize.ShloMosaic Idealize.ShloMosaic.TcCoe
open Idealize.ShloMosaic.Tactic Idealize.SL.Sem

/-- The weight matrix's column groups in the kernel's order, with a gap of zeros. -/
def packed (w : FVec Ideal S2048x7696 .f32) : FVec Ideal S2048x8448 .f32 :=
  concatenate S2048x8448 1 [⟨S2048x256, extractStridedSlice S2048x256 ![0, 0] w slices_S2048x7696_S2048x256_0_0⟩, ⟨S2048x256, extractStridedSlice S2048x256 ![0, 256] w slices_S2048x7696_S2048x256_0_256⟩, ⟨S2048x512, extractStridedSlice S2048x512 ![0, 512] w slices_S2048x7696_S2048x512_0_512⟩, ⟨S2048x512, extractStridedSlice S2048x512 ![0, 1040] w slices_S2048x7696_S2048x512_0_1040⟩, ⟨S2048x16, extractStridedSlice S2048x16 ![0, 1024] w slices_S2048x7696_S2048x16_0_1024⟩, ⟨S2048x752, broadcastInDim S2048x752 ![] bcast_S_S2048x752 (constant (F := Ideal) S_ .f32 0x00000000#32)⟩, ⟨S2048x768, extractStridedSlice S2048x768 ![0, 1552] w slices_S2048x7696_S2048x768_0_1552⟩, ⟨S2048x768, extractStridedSlice S2048x768 ![0, 2320] w slices_S2048x7696_S2048x768_0_2320⟩, ⟨S2048x768, extractStridedSlice S2048x768 ![0, 3088] w slices_S2048x7696_S2048x768_0_3088⟩, ⟨S2048x768, extractStridedSlice S2048x768 ![0, 3856] w slices_S2048x7696_S2048x768_0_3856⟩, ⟨S2048x768, extractStridedSlice S2048x768 ![0, 4624] w slices_S2048x7696_S2048x768_0_4624⟩, ⟨S2048x768, extractStridedSlice S2048x768 ![0, 5392] w slices_S2048x7696_S2048x768_0_5392⟩, ⟨S2048x768, extractStridedSlice S2048x768 ![0, 6160] w slices_S2048x7696_S2048x768_0_6160⟩, ⟨S2048x768, extractStridedSlice S2048x768 ![0, 6928] w slices_S2048x7696_S2048x768_0_6928⟩]
    concatenates_S2048x256_S2048x256_S2048x512_S2048x512_S2048x16_S2048x752_S2048x768_S2048x768_S2048x768_S2048x768_S2048x768_S2048x768_S2048x768_S2048x768_S2048x8448_d1

theorem packed_0 (w : FVec Ideal S2048x7696 .f32) (k : Fin 2048) (n : Fin 768) :
    packed w (ix2 k ⟨5376 + n.val, by omega⟩) = w (ix2 k ⟨4624 + n.val, by omega⟩) := by
  unfold packed
  refine (concatenate_apply_piece (t := S2048x8448) 1 _ _ (ix2 k ⟨5376 + n.val, by omega⟩) 10 (by simp) S2048x768
    (extractStridedSlice S2048x768 ![0, 4624] w slices_S2048x7696_S2048x768_0_4624) rfl rfl 5376 (by simp) (ix2 k n) ?_ rfl).trans ?_
  · intro b hb
    match b with
    | 0 => rfl
    | 1 => exact absurd rfl hb
  · pointwise []

theorem packed_1 (w : FVec Ideal S2048x7696 .f32) (k : Fin 2048) (n : Fin 768) :
    packed w (ix2 k ⟨6144 + n.val, by omega⟩) = w (ix2 k ⟨5392 + n.val, by omega⟩) := by
  unfold packed
  refine (concatenate_apply_piece (t := S2048x8448) 1 _ _ (ix2 k ⟨6144 + n.val, by omega⟩) 11 (by simp) S2048x768
    (extractStridedSlice S2048x768 ![0, 5392] w slices_S2048x7696_S2048x768_0_5392) rfl rfl 6144 (by simp) (ix2 k n) ?_ rfl).trans ?_
  · intro b hb
    match b with
    | 0 => rfl
    | 1 => exact absurd rfl hb
  · pointwise []

theorem packed_2 (w : FVec Ideal S2048x7696 .f32) (k : Fin 2048) (n : Fin 768) :
    packed w (ix2 k ⟨6912 + n.val, by omega⟩) = w (ix2 k ⟨6160 + n.val, by omega⟩) := by
  unfold packed
  refine (concatenate_apply_piece (t := S2048x8448) 1 _ _ (ix2 k ⟨6912 + n.val, by omega⟩) 12 (by simp) S2048x768
    (extractStridedSlice S2048x768 ![0, 6160] w slices_S2048x7696_S2048x768_0_6160) rfl rfl 6912 (by simp) (ix2 k n) ?_ rfl).trans ?_
  · intro b hb
    match b with
    | 0 => rfl
    | 1 => exact absurd rfl hb
  · pointwise []

theorem packed_3 (w : FVec Ideal S2048x7696 .f32) (k : Fin 2048) (n : Fin 768) :
    packed w (ix2 k ⟨7680 + n.val, by omega⟩) = w (ix2 k ⟨6928 + n.val, by omega⟩) := by
  unfold packed
  refine (concatenate_apply_piece (t := S2048x8448) 1 _ _ (ix2 k ⟨7680 + n.val, by omega⟩) 13 (by simp) S2048x768
    (extractStridedSlice S2048x768 ![0, 6928] w slices_S2048x7696_S2048x768_0_6928) rfl rfl 7680 (by simp) (ix2 k n) ?_ rfl).trans ?_
  · intro b hb
    match b with
    | 0 => rfl
    | 1 => exact absurd rfl hb
  · pointwise []

variable (m : (ℓ : Loc nD τ sig) → Buf (Elt Ideal) ℓ)

/-- The scale as the call reads it. -/
theorem V18_at (c : Dev nD) (k : Fin 2048) : V m c main_v18 (ix2 0 k) = m ((c : Thread nD τ).loc main_arg1) (ix1 k) := by
  have h : V m c main_v18 = (shapeCast S1x2048 (m ((c : Thread nD τ).loc main_arg1) : FVec Ideal S2048 .f32) shapeCasts_S2048_S1x2048 : FVec Ideal S1x2048 .f32) := by
    unfold_abbrev_sides
    after_results
    rfl
  rw [h]
  pointwise []

theorem V17_eq (c : Dev nD) : V m c main_v17 = (transpose S11x2048x768 [1, 0, 2]
    (shapeCast S2048x11x768 (truncf (F := Ideal) .bf16 (packed (m ((c : Thread nD τ).loc main_arg2))) bitsLt_bf16_f32 : FVec Ideal S2048x8448 .bf16) shapeCasts_S2048x8448_S2048x11x768)
    transposes_S2048x11x768_S11x2048x768_1_0_2 : FVec Ideal S11x2048x768 .bf16) := by
  unfold_abbrev_sides
  after_results
  rfl

theorem V17_at (c : Dev nD) (a : Fin 11) (k : Fin 2048) (n : Fin 768) :
    V m c main_v17 (ix3 a k n) = packed (m ((c : Thread nD τ).loc main_arg2)) (ix2 k ⟨a.val * 768 + n.val, by omega⟩) := by
  rw [V17_eq]
  generalize packed _ = P
  pointwise []

end Cert.In

end
-- ==== Proof.InBlk.lean ====
module

public import proofs.«01_k».proof.Proof.InHost
public import Idealize.ShloMosaic.Lib.Pointwise
public import Idealize.ShloMosaic.Lib.WordCmp
public import Idealize.ShloMosaic.Lib.Pipeline.ValueKit.Point
@[expose] public section
set_option maxRecDepth 16384
noncomputable section
namespace Cert.In
open Cert.Kernel2Ideal Cert.Kernel2Ideal.Gen Idealize.ShloMosaic Idealize.ShloMosaic.TcCoe
open Idealize.ShloMosaic.Tactic Idealize.SL.Sem

variable (m : (ℓ : Loc nD τ sig) → Buf (Elt Ideal) ℓ)

/-- Entry `k` of token `r`'s normalised vector, zero past the last token. -/
def tok (x : FVec Ideal S8208x2048 .f32) (g : FVec Ideal S2048 .f32) (r : ℕ) (k : Fin 2048) : EReal :=
  if h : r < 8208 then nrm (fun j => x (ix2 ⟨r, h⟩ j)) (fun j => g (ix1 j)) k else 0

theorem ixs : ∀ t : Fin cfg0.N, win0_0.index t (0 : Fin 2) = t.val / 4 ∧ win0_0.index t (1 : Fin 2) = 0
    ∧ win0_1.index t (0 : Fin 2) = 0 ∧ win0_1.index t (1 : Fin 2) = 0
    ∧ win0_2.index t (0 : Fin 3) = 7 + t.val % 4 ∧ win0_2.index t (1 : Fin 3) = 0 ∧ win0_2.index t (2 : Fin 3) = 0
    ∧ (grid0.coords t 0).val = t.val / 4 := (by decide +kernel : ∀ t : Fin grid0.N, _)

theorem xs0 : ∀ t : Fin cfg0.N, (cfg0.win 0).xsize (cfg0.grid.coords t) (0 : Fin 2) = min 512 (8208 - 512 * (t.val / 4))
    ∧ (cfg0.win 0).xsize (cfg0.grid.coords t) (1 : Fin 2) = 2048 := (by decide +kernel : ∀ t : Fin grid0.N, _)

/-- The token block at a point, on its rows inside the array. -/
theorem fill0_at (c : Dev nD) (t : Fin cfg0.N) (d : Vec Ideal S512x2048 .f32) (p : Fin 512) (k : Fin 2048) (hp : 512 * (t.val / 4) + p.val < 8208) :
    ((cfg0.win 0).fill (cfg0.grid.coords t) d (iblk m c 0 t) : Vec Ideal S512x2048 .f32) (ix2 p k)
      = m ((c : Thread nD τ).loc main_arg0) (ix2 ⟨512 * (t.val / 4) + p.val, hp⟩ k) := by
  obtain ⟨e0, e1, -⟩ := ixs t
  obtain ⟨x0, x1⟩ := xs0 t
  have hm : (cfg0.win 0).moved (cfg0.grid.coords t) (ix2 p k) = true := by
    rw [Pipeline.Window.moved_iff]
    intro a
    match a with
    | 0 => rw [x0]; show p.val < _; omega
    | 1 => rw [x1]; exact k.isLt
  unfold Pipeline.Window.fill
  rw [dif_pos hm, ← V_main_arg0 m c]
  blk_ext [iblk, e0, e1]

theorem g_at (c : Dev nD) (t : Fin cfg0.N) (k : Fin 2048) : iblk m c 1 t (ix2 0 k) = m ((c : Thread nD τ).loc main_arg1) (ix1 k) := by
  obtain ⟨-, -, e0, e1, -⟩ := ixs t
  rw [← V18_at m c k]
  blk_ext [iblk, e0, e1]

/-- The packed weights' last four tiles are the last four column groups. -/
theorem packed_at (w : FVec Ideal S2048x7696 .f32) (j : Fin 4) (k : Fin 2048) (n : Fin 768) :
    packed w (ix2 k ⟨(7 + j.val) * 768 + n.val, by omega⟩) = w (ix2 k ⟨4624 + 768 * j.val + n.val, by omega⟩) :=
  match j with
  | 0 => packed_0 w k n
  | 1 => packed_1 w k n
  | 2 => packed_2 w k n
  | 3 => packed_3 w k n

/-- The weight tile at a point. -/
theorem wt_at (c : Dev nD) (t : Fin cfg0.N) (k : Fin 2048) (n : Fin 768) :
    iblk m c 2 t (ix3 0 k n) = m ((c : Thread nD τ).loc main_arg2) (ix2 k ⟨4624 + 768 * (t.val % 4) + n.val, by omega⟩) := by
  obtain ⟨-, -, -, -, e0, e1, e2, -⟩ := ixs t
  have h : iblk m c 2 t (ix3 0 k n) = V m c main_v17 (ix3 ⟨7 + t.val % 4, by omega⟩ k n) := by
    blk_ext [iblk, e0, e1, e2]
  rw [h, V17_at]
  exact packed_at _ ⟨t.val % 4, Nat.mod_lt _ (by decide)⟩ k n

/-- A normalised token block, entry by entry. -/
theorem HOf_at (c : Dev nD) (t : Fin cfg0.N) (H : Vec Ideal S512x2048 .bf16) (h : HOf m c t.val H) (p : Fin 512) (k : Fin 2048) :
    H (ix2 p k) = tok (m ((c : Thread nD τ).loc main_arg0)) (m ((c : Thread nD τ).loc main_arg1)) (512 * (t.val / 4) + p.val) k := by
  obtain ⟨d, rfl⟩ := h
  have ht : (t.val : ℕ) < 68 := t.isLt
  have hpt : (pt t.val).val / 4 = t.val / 4 := by show (t.val / 4 * 4) % 68 / 4 = _; omega
  obtain ⟨-, -, -, -, -, -, -, hc⟩ := ixs (pt t.val)
  rw [hpt] at hc
  rw [pay1_at _ _ _ _ _ (by rw [hc]; omega), hc]
  unfold tok
  by_cases hp : 512 * (t.val / 4) + p.val < 8208
  · rw [if_pos hp, dif_pos hp]
    have ex : (fun j => ((cfg0.win 0).fill (cfg0.grid.coords (pt t.val)) d (iblk m c 0 (pt t.val)) : Vec Ideal S512x2048 .f32) (ix2 p j))
        = fun j => m ((c : Thread nD τ).loc main_arg0) (ix2 ⟨512 * (t.val / 4) + p.val, hp⟩ j) := by
      funext j
      rw [fill0_at m c (pt t.val) d p j (by rw [hpt]; exact hp)]
      simp only [hpt]
    have eg : (fun j => iblk m c 1 (pt 0) (ix2 0 j)) = fun j => m ((c : Thread nD τ).loc main_arg1) (ix1 j) := by
      funext j; exact g_at m c _ j
    exact congrArg₂ (fun a b => nrm a b k) ex eg
  · rw [if_neg hp, dif_neg hp]

/-- The product a point makes of a normalised block and its weight tile, entry by entry. -/
theorem acc_at (c : Dev nD) (t : Fin cfg0.N) (H : Vec Ideal S512x2048 .bf16) (h : HOf m c t.val H) (p : Fin 512) (n : Fin 768) :
    k0_pay12 (F := Ideal) H (iblk m c 2 t : Vec Ideal S1x2048x768 .bf16) (ix2 p n)
      = ∑ k : Fin 2048, tok (m ((c : Thread nD τ).loc main_arg0)) (m ((c : Thread nD τ).loc main_arg1)) (512 * (t.val / 4) + p.val) k
          * m ((c : Thread nD τ).loc main_arg2) (ix2 k ⟨4624 + 768 * (t.val % 4) + n.val, by omega⟩) := by
  rw [pay12_at]
  refine Finset.sum_congr rfl fun k _ => ?_
  rw [HOf_at m c t H h p k, wt_at m c t k n]

end Cert.In

end
-- ==== Proof.InFin.lean ====
module

public import proofs.«01_k».proof.Proof.InBlk
public import Idealize.ShloMosaic.Lib.Pointwise
public import Idealize.ShloMosaic.Lib.Pipeline.ValueKit
public import Idealize.ShloMosaic.Lib.Pipeline.ArrRel
public import Idealize.ShloMosaic.Lib.Pipeline.ValueKit.Point
@[expose] public section
set_option maxRecDepth 16384
noncomputable section
namespace Cert.In
open Cert.Kernel2Ideal Cert.Kernel2Ideal.Gen Idealize.ShloMosaic Idealize.ShloMosaic.TcCoe
open Idealize.ShloMosaic.Tactic Idealize.SL.Sem

open Idealize.ShloMosaic.Pipeline (RDat Cfg Window cellOf)

variable (m : (ℓ : Loc nD τ sig) → Buf (Elt Ideal) ℓ) (ρ : Dev nD → PrngReg)

/-- Entry `n` of column group `j` of a token's projection. -/
def proj (x : FVec Ideal S8208x2048 .f32) (g : FVec Ideal S2048 .f32) (w : FVec Ideal S2048x7696 .f32) (j : Fin 4) (r : ℕ) (n : Fin 768) : EReal :=
  ∑ k : Fin 2048, tok x g r k * w (ix2 k ⟨4624 + 768 * j.val + n.val, by omega⟩)

/-- The queries (`j = 0`) or keys (`j = 1`) as one array of heads. -/
def GH (x : FVec Ideal S8208x2048 .f32) (g : FVec Ideal S2048 .f32) (w : FVec Ideal S2048x7696 .f32) (j : Fin 4) : FVec Ideal S6x8704x128 .bf16 :=
  fun y => proj x g w j (y 1).val ⟨128 * (y 0).val + (y 2).val, by have := (y 0).isLt; have := (y 2).isLt; simp [S6x8704x128] at *; omega⟩

/-- The values, transposed and in chunks of 256 tokens. -/
def GV (x : FVec Ideal S8208x2048 .f32) (g : FVec Ideal S2048 .f32) (w : FVec Ideal S2048x7696 .f32) : FVec Ideal S6x34x128x256 .bf16 :=
  fun y => proj x g w 2 (256 * (y 1).val + (y 3).val) ⟨128 * (y 0).val + (y 2).val, by have := (y 0).isLt; have := (y 2).isLt; simp [S6x34x128x256] at *; omega⟩

/-- The gate. -/
def GG (x : FVec Ideal S8208x2048 .f32) (g : FVec Ideal S2048 .f32) (w : FVec Ideal S2048x7696 .f32) : FVec Ideal S8704x768 .f32 :=
  fun y => proj x g w 3 (y 0).val (y 1)

theorem fetch3 : ∀ t : Fin cfg0.N, (cfg0.win 3).fetch t = false := fun t => by simp [Window.fetch]
theorem flush3 : ∀ t : Fin cfg0.N, ((cfg0.win 3).flush t = true ↔ t.val % 4 = 3) := (by decide +kernel : ∀ t : Fin grid0.N, _)
theorem fetch5 : ∀ t : Fin cfg0.N, (cfg0.win 5).fetch t = false := fun t => by simp [Window.fetch]
theorem flush5 : ∀ t : Fin cfg0.N, ((cfg0.win 5).flush t = true ↔ t.val % 4 = 3) := (by decide +kernel : ∀ t : Fin grid0.N, _)
theorem fetch7 : ∀ t : Fin cfg0.N, (cfg0.win 7).fetch t = false := fun t => by simp [Window.fetch]
theorem flush7 : ∀ t : Fin cfg0.N, ((cfg0.win 7).flush t = true ↔ t.val % 4 = 3) := (by decide +kernel : ∀ t : Fin grid0.N, _)
theorem fetch8 : ∀ t : Fin cfg0.N, (cfg0.win 8).fetch t = false := fun t => by simp [Window.fetch]
theorem flush8 : ∀ t : Fin cfg0.N, ((cfg0.win 8).flush t = true ↔ t.val % 4 = 3) := (by decide +kernel : ∀ t : Fin grid0.N, _)

/-- A block kept from its own inner step on is, at a later point of the same four, what was left at that step. -/
theorem back (c : Dev nD) (w : Fin cfg0.W) (j : ℕ) (hf : ∀ t, (cfg0.win w).fetch t = false) (hfl : ∀ t : Fin cfg0.N, ((cfg0.win w).flush t = true ↔ t.val % 4 = 3))
    (hk : ∀ t Y X, (rdat m c).after w t Y X → t.val % 4 ≠ j → X = Y) :
    ∀ (n : ℕ) (t : Fin cfg0.N), t.val % 4 = j + n → ∀ X, (rdat m c).Leaves w t X → ∃ t0 : Fin cfg0.N, t0.val + n = t.val ∧ (rdat m c).Leaves w t0 X
  | 0, t, _, X, h => ⟨t, rfl, h⟩
  | n + 1, t, ht, X, h => by
    obtain ⟨Y, hY, ha⟩ := h
    obtain rfl := hk t Y X ha (by omega)
    rcases ((rdat m c).finds_of_pos (hf t) (by omega) X).1 hY with h | h
    · exact absurd ((hfl _).1 h) (by show ¬ (t.val - 1) % 4 = 3; omega)
    · obtain ⟨t0, h0, hl⟩ := back c w j hf hfl hk n ⟨t.val - 1, _⟩ (by show (t.val - 1) % 4 = j + n; omega) X h
      exact ⟨t0, by have : t0.val + n = t.val - 1 := h0; omega, hl⟩

/-- What the write-back of output window 3 writes: the block made at inner step 0 of the same four points. -/
theorem left3_of (c : Dev nD) (t : Fin cfg0.N) (ht : t.val % 4 = 3) (X) (h : (rdat m c).Leaves 3 t X) :
    ∃ (t0 : Fin cfg0.N) (H : Vec Ideal S512x2048 .bf16), t0.val / 4 = t.val / 4 ∧ t0.val % 4 = 0 ∧ HOf m c t0.val H ∧ X = O5 H (iblk m c 2 t0 : Vec Ideal S1x2048x768 .bf16) := by
  obtain ⟨t0, h0, Y, -, ha⟩ := back m c 3 0 fetch3 flush3 (fun t Y X h => h.2) 3 t (by omega) X h
  obtain ⟨H, hH, hX⟩ := ha.1 (by omega)
  exact ⟨t0, H, by omega, by omega, hH, hX⟩

/-- What the write-back of output window 5 writes: the block made at inner step 1 of the same four points. -/
theorem left5_of (c : Dev nD) (t : Fin cfg0.N) (ht : t.val % 4 = 3) (X) (h : (rdat m c).Leaves 5 t X) :
    ∃ (t0 : Fin cfg0.N) (H : Vec Ideal S512x2048 .bf16), t0.val / 4 = t.val / 4 ∧ t0.val % 4 = 1 ∧ HOf m c t0.val H ∧ X = O7 H (iblk m c 2 t0 : Vec Ideal S1x2048x768 .bf16) := by
  obtain ⟨t0, h0, Y, -, ha⟩ := back m c 5 1 fetch5 flush5 (fun t Y X h => h.2) 2 t (by omega) X h
  obtain ⟨H, hH, hX⟩ := ha.1 (by omega)
  exact ⟨t0, H, by omega, by omega, hH, hX⟩

/-- What the write-back of output window 7 writes: the block made at inner step 2 of the same four points. -/
theorem left7_of (c : Dev nD) (t : Fin cfg0.N) (ht : t.val % 4 = 3) (X) (h : (rdat m c).Leaves 7 t X) :
    ∃ (t0 : Fin cfg0.N) (H : Vec Ideal S512x2048 .bf16), t0.val / 4 = t.val / 4 ∧ t0.val % 4 = 2 ∧ HOf m c t0.val H ∧ X = O9 H (iblk m c 2 t0 : Vec Ideal S1x2048x768 .bf16) := by
  obtain ⟨t0, h0, Y, -, ha⟩ := back m c 7 2 fetch7 flush7 (fun t Y X h => h.2) 1 t (by omega) X h
  obtain ⟨H, hH, hX⟩ := ha.1 (by omega)
  exact ⟨t0, H, by omega, by omega, hH, hX⟩

/-- What the write-back of output window 8 writes: the block made at inner step 3 of the same four points. -/
theorem left8_of (c : Dev nD) (t : Fin cfg0.N) (ht : t.val % 4 = 3) (X) (h : (rdat m c).Leaves 8 t X) :
    ∃ (t0 : Fin cfg0.N) (H : Vec Ideal S512x2048 .bf16), t0.val / 4 = t.val / 4 ∧ t0.val % 4 = 3 ∧ HOf m c t0.val H ∧ X = k0_pay12 H (iblk m c 2 t0 : Vec Ideal S1x2048x768 .bf16) := by
  obtain ⟨t0, h0, Y, -, ha⟩ := back m c 8 3 fetch8 flush8 (fun t Y X h => h.2) 0 t (by omega) X h
  obtain ⟨H, hH, hX⟩ := ha.1 (by omega)
  exact ⟨t0, H, by omega, by omega, hH, hX⟩

theorem ixo : ∀ t : Fin cfg0.N, win0_3.index t (0 : Fin 3) = 0 ∧ win0_3.index t (1 : Fin 3) = t.val / 4 ∧ win0_3.index t (2 : Fin 3) = 0
    ∧ win0_5.index t (0 : Fin 3) = 0 ∧ win0_5.index t (1 : Fin 3) = t.val / 4 ∧ win0_5.index t (2 : Fin 3) = 0
    ∧ win0_7.index t (0 : Fin 4) = 0 ∧ win0_7.index t (1 : Fin 4) = t.val / 4 ∧ win0_7.index t (2 : Fin 4) = 0 ∧ win0_7.index t (3 : Fin 4) = 0
    ∧ win0_8.index t (0 : Fin 2) = t.val / 4 ∧ win0_8.index t (1 : Fin 2) = 0 := (by decide +kernel : ∀ t : Fin grid0.N, _)

/-- The array of queries after the run. -/
theorem final3 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 3 cfg0.N
      = GH (m ((c : Thread nD τ).loc main_arg0)) (m ((c : Thread nD τ).loc main_arg1)) (m ((c : Thread nD τ).loc main_arg2)) 0 := by
  refine ((rdat m c).withAfter after).arrAt_eq_of_covers 3 _ (by decide +kernel) fun t hf y => ?_
  obtain ⟨t0, H, ht, hj, hH, hX⟩ := left3_of m c t ((flush3 t).1 hf) _ (hL 3 t hf)
  obtain ⟨e0, e1, e2, -⟩ := ixo t
  have htl : t.val < 68 := t.isLt
  obtain ⟨h, p, d, rfl⟩ : ∃ (h : Fin 6) (p : Fin 512) (d : Fin 128), y = (ix3 h p d : S6x512x128.Idx) := ⟨y 0, y 1, y 2, by blk_ext []⟩
  have he : ((cfg0.win 3).blk t).view.emb (ix3 h p d : S6x512x128.Idx) = (ix3 h ⟨512 * (t.val / 4) + p.val, by omega⟩ d : S6x8704x128.Idx) := by
    blk_ext [e0, e1, e2]
  refine Eq.trans ?_ (congrArg _ he.symm)
  show after 3 t (ix3 h p d : S6x512x128.Idx) = _
  rw [hX, O5_at]
  unfold head
  rw [acc_at m c t0 H hH, ht]
  unfold GH proj
  simp only [hj]
  rfl

/-- The array of keys after the run. -/
theorem final5 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 5 cfg0.N
      = GH (m ((c : Thread nD τ).loc main_arg0)) (m ((c : Thread nD τ).loc main_arg1)) (m ((c : Thread nD τ).loc main_arg2)) 1 := by
  refine ((rdat m c).withAfter after).arrAt_eq_of_covers 5 _ (by decide +kernel) fun t hf y => ?_
  obtain ⟨t0, H, ht, hj, hH, hX⟩ := left5_of m c t ((flush5 t).1 hf) _ (hL 5 t hf)
  obtain ⟨-, -, -, e0, e1, e2, -⟩ := ixo t
  have htl : t.val < 68 := t.isLt
  obtain ⟨h, p, d, rfl⟩ : ∃ (h : Fin 6) (p : Fin 512) (d : Fin 128), y = (ix3 h p d : S6x512x128.Idx) := ⟨y 0, y 1, y 2, by blk_ext []⟩
  have he : ((cfg0.win 5).blk t).view.emb (ix3 h p d : S6x512x128.Idx) = (ix3 h ⟨512 * (t.val / 4) + p.val, by omega⟩ d : S6x8704x128.Idx) := by
    blk_ext [e0, e1, e2]
  refine Eq.trans ?_ (congrArg _ he.symm)
  show after 5 t (ix3 h p d : S6x512x128.Idx) = _
  rw [hX, O7_at]
  unfold head
  rw [acc_at m c t0 H hH, ht]
  unfold GH proj
  simp only [hj]
  rfl

/-- The array of values after the run. -/
theorem final7 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 7 cfg0.N
      = GV (m ((c : Thread nD τ).loc main_arg0)) (m ((c : Thread nD τ).loc main_arg1)) (m ((c : Thread nD τ).loc main_arg2)) := by
  refine ((rdat m c).withAfter after).arrAt_eq_of_covers 7 _ (by decide +kernel) fun t hf y => ?_
  obtain ⟨t0, H, ht, hj, hH, hX⟩ := left7_of m c t ((flush7 t).1 hf) _ (hL 7 t hf)
  obtain ⟨-, -, -, -, -, -, e0, e1, e2, e3, -⟩ := ixo t
  have htl : t.val < 68 := t.isLt
  obtain ⟨h, q, d, r, rfl⟩ : ∃ (h : Fin 6) (q : Fin 2) (d : Fin 128) (r : Fin 256), y = (ix4 h q d r : S6x2x128x256.Idx) := ⟨y 0, y 1, y 2, y 3, by blk_ext []⟩
  have he : ((cfg0.win 7).blk t).view.emb (ix4 h q d r : S6x2x128x256.Idx) = (ix4 h ⟨2 * (t.val / 4) + q.val, by omega⟩ d r : S6x34x128x256.Idx) := by
    blk_ext [e0, e1, e2, e3]
  refine Eq.trans ?_ (congrArg _ he.symm)
  show after 7 t (ix4 h q d r : S6x2x128x256.Idx) = _
  rw [hX, O9_at]
  unfold head
  rw [acc_at m c t0 H hH, ht]
  unfold GV proj
  have hr : 512 * (t.val / 4) + (256 * q.val + r.val) = 256 * (2 * (t.val / 4) + q.val) + r.val := by omega
  simp only [hj, hr]
  rfl

/-- The array of gates after the run. -/
theorem final8 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 8 cfg0.N
      = GG (m ((c : Thread nD τ).loc main_arg0)) (m ((c : Thread nD τ).loc main_arg1)) (m ((c : Thread nD τ).loc main_arg2)) := by
  refine ((rdat m c).withAfter after).arrAt_eq_of_covers 8 _ (by decide +kernel) fun t hf y => ?_
  obtain ⟨t0, H, ht, hj, hH, hX⟩ := left8_of m c t ((flush8 t).1 hf) _ (hL 8 t hf)
  obtain ⟨-, -, -, -, -, -, -, -, -, -, e0, e1⟩ := ixo t
  have htl : t.val < 68 := t.isLt
  obtain ⟨p, n, rfl⟩ : ∃ (p : Fin 512) (n : Fin 768), y = (ix2 p n : S512x768.Idx) := ⟨y 0, y 1, by blk_ext []⟩
  have he : ((cfg0.win 8).blk t).view.emb (ix2 p n : S512x768.Idx) = (ix2 ⟨512 * (t.val / 4) + p.val, by omega⟩ n : S8704x768.Idx) := by
    blk_ext [e0, e1]
  refine Eq.trans ?_ (congrArg _ he.symm)
  show after 8 t (ix2 p n : S512x768.Idx) = _
  rw [hX, acc_at m c t0 H hH, ht]
  unfold GG proj
  simp only [hj]
  rfl

/-- The program leaves in its four claimed results the projections, and its arguments as they were. -/
theorem run_values : θ_run defs (onTc (τ := τ) (main (F := Ideal))) ⟨m, fun _ => 0, ρ⟩ fun r => ∀ c : Dev nD,
      r.2.mem ((c.tc : Thread nD τ).loc main_v19_0) = GH (m ((c : Thread nD τ).loc main_arg0)) (m ((c : Thread nD τ).loc main_arg1)) (m ((c : Thread nD τ).loc main_arg2)) 0
      ∧ r.2.mem ((c.tc : Thread nD τ).loc main_v19_2) = GH (m ((c : Thread nD τ).loc main_arg0)) (m ((c : Thread nD τ).loc main_arg1)) (m ((c : Thread nD τ).loc main_arg2)) 1
      ∧ r.2.mem ((c.tc : Thread nD τ).loc main_v19_4) = GV (m ((c : Thread nD τ).loc main_arg0)) (m ((c : Thread nD τ).loc main_arg1)) (m ((c : Thread nD τ).loc main_arg2))
      ∧ r.2.mem ((c.tc : Thread nD τ).loc main_v19_5) = GG (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_main m ρ)
  obtain ⟨after, hL, hA⟩ := Pipeline.RDat.FramePost.exists_exact h.1 c
  exact ⟨(hA 3).trans (final3 m c after hL), (hA 5).trans (final5 m c after hL), (hA 7).trans (final7 m c after hL), (hA 8).trans (final8 m c after hL),
      (Pipeline.RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩

end Cert.In

end
-- ==== Proof.InRef.lean ====
module

public import proofs.«01_k».proof.Defs
public import proofs.«01_k».proof.Proof.InFin
public import proofs.«01_k».proof.Proof.Gen.Reference2Ideal.Read
public import proofs.«01_k».proof.Proof.Gen.Reference2Ideal.Run
public import Idealize.ShloMosaic.Lib.Pointwise

/-! The reference's projections, entry by entry, and the value claim of the in-projection. -/

@[expose] public section

set_option maxRecDepth 16384

noncomputable section

namespace Cert.InRef

open Cert.Reference2Ideal Cert.Reference2Ideal.Gen Cert.Reference2Ideal.Value Idealize.ShloMosaic Idealize.ShloMosaic.TcCoe
open Idealize.ShloMosaic.Tactic Idealize.SL.Sem
open Cert.Reference2Ideal.Read
open Cert.In (nrm tok proj GH GV GG)

variable (x0 : FVec Ideal S8208x2048 .f32) (x1 : FVec Ideal S2048 .f32) (x2 : FVec Ideal S2048x7696 .f32)

/-- An entry of the normalised tokens: the token's entry over the root of its mean square, times the gain. -/
theorem v12_at (r : Fin 8208) (k : Fin 2048) : val_main_v12 (F := Ideal) x0 x1 (ix2 r k) = nrm (fun j => x0 (ix2 r j)) (fun j => x1 (ix1 j)) k := by
  unfold nrm
  pointwise [val_main_v12, val_main_v11, val_main_v10, val_main_v9, val_main_v8, val_main_v7, val_main_v6, val_main_v5, val_main_v4, val_main_v3, val_main_v2, val_main_v1, val_main_v0, val_main_cst, val_main_cst_0, val_main_cst_1]

/-- An entry of the product of the normalised tokens and the weight. -/
theorem v13_at (r : Fin 8208) (n : Fin 7696) : val_main_v13 (F := Ideal) x0 x1 x2 (ix2 r n) = ∑ k : Fin 2048, nrm (fun j => x0 (ix2 r j)) (fun j => x1 (ix1 j)) k * x2 (ix2 k n) := by
  simp only [← v12_at]
  unfold val_main_v13
  generalize val_main_v12 (F := Ideal) x0 x1 = X
  pointwise []

/-- The value the projections are padded with is zero. -/
theorem fill_zero (i : S_.Idx) : val_main_call0_v0 (F := Ideal) i = 0 := by
  change (((0#32 : BitVec 32).toInt : ℝ) : EReal) = 0
  simp

/-- An entry of the padded projections: a row past the tokens is zero. -/
theorem v14_at (j : Fin 4) (r : Fin 8704) (n : Fin 768) : val_main_v14 (F := Ideal) x0 x1 x2 (ix2 r ⟨4624 + 768 * j.val + n.val, by omega⟩) = proj x0 x1 x2 j r.val n := by
  unfold val_main_v14 proj tok
  have h := v13_at x0 x1 x2
  have hn : 4624 + 768 * j.val + n.val < 7696 := by omega
  generalize val_main_v13 (F := Ideal) x0 x1 x2 = X at h ⊢
  by_cases hr : r.val < 8208
  · simp only [hr, dite_true]
    rw [← h ⟨r.val, hr⟩]
    pointwise []
    exact dif_pos ⟨hr, hn⟩
  · simp only [hr, dite_false, zero_mul, Finset.sum_const_zero]
    pointwise []
    exact (dif_neg fun q => hr q.1).trans (fill_zero _)

/-- The reference's gates are the projection the kernel leaves. -/
theorem v27_at (y : S8704x768.Idx) : val_main_v27 (F := Ideal) x0 x1 x2 y = GG x0 x1 x2 y := by
  obtain ⟨r, n, rfl⟩ : ∃ (r : Fin 8704) (n : Fin 768), y = (ix2 r n : S8704x768.Idx) := ⟨y 0, y 1, by blk_ext []⟩
  refine Eq.trans ?_ (v14_at x0 x1 x2 3 r n)
  unfold val_main_v27
  generalize val_main_v14 (F := Ideal) x0 x1 x2 = X
  pointwise []

/-- The reference's queries, by heads are the projection the kernel leaves. -/
theorem v34_at (y : S6x8704x128.Idx) : val_main_v34 (F := Ideal) x0 x1 x2 y = GH x0 x1 x2 0 y := by
  obtain ⟨h, r, d, rfl⟩ : ∃ (h : Fin 6) (r : Fin 8704) (d : Fin 128), y = (ix3 h r d : S6x8704x128.Idx) := ⟨y 0, y 1, y 2, by blk_ext []⟩
  refine Eq.trans ?_ (v14_at x0 x1 x2 0 r ⟨128 * h.val + d.val, by omega⟩)
  unfold val_main_v34 val_main_v33 val_main_v32 val_main_v24
  generalize val_main_v14 (F := Ideal) x0 x1 x2 = X
  pointwise []
  simp only [Nat.mul_comm 128]

/-- The reference's keys, by heads are the projection the kernel leaves. -/
theorem v37_at (y : S6x8704x128.Idx) : val_main_v37 (F := Ideal) x0 x1 x2 y = GH x0 x1 x2 1 y := by
  obtain ⟨h, r, d, rfl⟩ : ∃ (h : Fin 6) (r : Fin 8704) (d : Fin 128), y = (ix3 h r d : S6x8704x128.Idx) := ⟨y 0, y 1, y 2, by blk_ext []⟩
  refine Eq.trans ?_ (v14_at x0 x1 x2 1 r ⟨128 * h.val + d.val, by omega⟩)
  unfold val_main_v37 val_main_v36 val_main_v35 val_main_v25
  generalize val_main_v14 (F := Ideal) x0 x1 x2 = X
  pointwise []
  simp only [Nat.mul_comm 128]

/-- The reference's values, by heads and blocks of 256 tokens, transposed are the projection the kernel leaves. -/
theorem v38_at (y : S6x34x128x256.Idx) : val_main_v38 (F := Ideal) x0 x1 x2 y = GV x0 x1 x2 y := by
  obtain ⟨h, q, d, r, rfl⟩ : ∃ (h : Fin 6) (q : Fin 34) (d : Fin 128) (r : Fin 256), y = (ix4 h q d r : S6x34x128x256.Idx) := ⟨y 0, y 1, y 2, y 3, by blk_ext []⟩
  refine Eq.trans ?_ (v14_at x0 x1 x2 2 ⟨256 * q.val + r.val, by omega⟩ ⟨128 * h.val + d.val, by omega⟩)
  unfold val_main_v38 val_main_v31 val_main_v30 val_main_v29 val_main_v28 val_main_v26
  generalize val_main_v14 (F := Ideal) x0 x1 x2 = X
  pointwise []
  simp only [Nat.mul_comm 128, Nat.mul_comm 256]

variable {y0 : FVec Ideal S8208x2048 .f32} {y1 : FVec Ideal S2048 .f32} {y2 : FVec Ideal S2048x7696 .f32}

/-- The reference's four results on arguments equal to `y0`, `y1`, `y2` are the four projections of those. -/
theorem results (a0 : x0 = y0) (a1 : x1 = y1) (a2 : x2 = y2) :
    val_main_v34 (F := Ideal) x0 x1 x2 = GH y0 y1 y2 0 ∧ val_main_v37 (F := Ideal) x0 x1 x2 = GH y0 y1 y2 1
      ∧ val_main_v38 (F := Ideal) x0 x1 x2 = GV y0 y1 y2 ∧ val_main_v27 (F := Ideal) x0 x1 x2 = GG y0 y1 y2 := by
  subst a0 a1 a2
  exact ⟨funext fun y => v34_at _ _ _ y, funext fun y => v37_at _ _ _ y, funext fun y => v38_at _ _ _ y, funext fun y => v27_at _ _ _ y⟩

/-- The algebraic claim of the in-projection: kernel and reference leave the same queries, keys, values and gates. -/
theorem algebraic : Cert.algebraic_Kernel2Ideal_Reference2Ideal := by
  intro m ρ m' ρ' _ hagree
  refine ⟨fun c => GH (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) 0,
    fun c => GH (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) 1,
    fun c => GV (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    fun c => GG (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    Cert.In.run_values m ρ, ?_⟩
  refine (θ_run Cert.Reference2Ideal.defs _ _).mono (fun r h c => ?_) (Cert.Reference2Ideal.Value.run (F := Ideal) m' ρ')
  obtain ⟨a0, a1, a2⟩ := hagree c
  obtain ⟨h0, h1, h2, h3, hargs⟩ := h c
  obtain ⟨e0, e1, e2, e3⟩ := results _ _ _ a0 a1 a2
  exact ⟨(h0.trans (val_main_v34_eq _ _ _)).trans e0, (h1.trans (val_main_v37_eq _ _ _)).trans e1,
    (h2.trans (val_main_v38_eq _ _ _)).trans e2, (h3.trans (val_main_v27_eq _ _ _)).trans e3, hargs⟩

end Cert.InRef

end
-- ==== Proof.In3Run.lean ====
module

public import proofs.«01_k».proof.Proof.Gen.Kernel3Ideal.Frame
public import proofs.«01_k».proof.Proof.Gen.Kernel3Ideal.Points
public import Idealize.ShloMosaic.Lib.WholeRead
public import Idealize.ShloMosaic.Lib.Pipeline.Value
public import proofs.«01_k».proof.Proof.Gen.Kernel3Ideal.Skeleton

/-! The body of the in-projection kernel, run once for each kind of inner grid step (the model's program).
At inner step 0 the body normalises the token block into its scratch; every step writes its own outputs from the scratch. -/

@[expose] public section

set_option maxRecDepth 16384

noncomputable section

namespace Cert.In3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

/-- The condition of the kernel's first branch, as the kernel computes it: the inner step is 0. -/
abbrev c1 (i : grid0.Coords) : BitVec 1 :=
  Scalar.cmpi .ne (Scalar.extui (Scalar.cmpi .eq (BitVec.ofNat 32 (i 1).val) 0#32) : BitVec 32) 0#32

/-- Every staging buffer of the call and the scratch, at stated contents. -/
def Held (c : Dev nD) (arg2 : Memref sig .tc .vmem S512x2048 .f32) (arg3 : Memref sig .tc .vmem S1x2048 .f32) (arg4 : Memref sig .tc .vmem S1x2048x768 .bf16) (arg5 : Memref sig .tc .vmem S512x768 .f32) (arg6 : Memref sig .tc .vmem S6x512x128 .bf16) (arg7 : Memref sig .tc .vmem S1x6x512x128 .f32) (arg8 : Memref sig .tc .vmem S6x512x128 .bf16) (arg9 : Memref sig .tc .vmem S1x6x512x128 .f32) (arg10 : Memref sig .tc .vmem S6x1x128x512 .bf16) (arg11 : Memref sig .tc .vmem S512x768 .f32) (arg12 : Memref sig .tc .vmem S512x2048 .bf16)
    (x2 : Vec F S512x2048 .f32) (x3 : Vec F S1x2048 .f32) (x4 : Vec F S1x2048x768 .bf16) (x5 : Vec F S512x768 .f32) (x6 : Vec F S6x512x128 .bf16) (x7 : Vec F S1x6x512x128 .f32) (x8 : Vec F S6x512x128 .bf16) (x9 : Vec F S1x6x512x128 .f32) (x10 : Vec F S6x1x128x512 .bf16) (x11 : Vec F S512x768 .f32) (x12 : Vec F S512x2048 .bf16) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12)

theorem zero2 : (![0, 0] : Fin 2 → ℕ) = fun _ => 0 := by funext a; fin_cases a <;> rfl
theorem zero3 : (![0, 0, 0] : Fin 3 → ℕ) = fun _ => 0 := by funext a; fin_cases a <;> rfl

/-- A load of a whole buffer reads what the buffer holds. -/
theorem ld_full {S : Shape} {e : EltTy} (a : Memref sig .tc .vmem S e) (h : a.IsWhole) {off : Fin S.rank → ℕ}
    (inb : ∀ a, off a + S.size a ≤ S.size a) (h0 : off = fun _ => 0) (X : S.Idx → Elt F e) :
    View.readAt (Elt F) a.view (Rect.unit off S.size inb).toLoadRect (h.unread X) = X := by
  funext x
  rw [h.readAt_unread]
  exact congrFun (View.ld_unit_zero h0 inb X) x

/-- A store over a whole buffer leaves what it stored. -/
theorem left_full {S : Shape} {e : EltTy} (a : Memref sig .tc .vmem S e) (f : a.view.ty.Contents (Elt F)) {off : Fin S.rank → ℕ}
    (inb : ∀ a, off a + S.size a ≤ S.size a) (h0 : off = fun _ => 0) (w : S.Idx → Elt F e) :
    a.view.read (Elt F) (a.view.writes (Elt F) f [⟨Rect.unit off S.size inb, w⟩]) = w :=
  (View.read_writes_eq_canon _ _ _ fun y => ⟨_, List.mem_singleton_self _, View.mem_set_unit_zero h0 inb y⟩).trans
    (View.canon_unit_zero h0 inb w)

/-- The stores that fill the block of queries, from the normalised tokens `H` and the weight tile `W`. -/
def P6 (H : Vec F S512x2048 .bf16) (W : Vec F S1x2048x768 .bf16) : List (View.Piece (Elt F) S6x512x128 .bf16) :=
  [⟨Rect.unit (s := S6x512x128) ![5, 0, 0] S1x512x128.size inb_S6x512x128_S1x512x128_5_0_0, k0_pay3 (k0_pay19 H W)⟩,
   ⟨Rect.unit (s := S6x512x128) ![4, 0, 0] S1x512x128.size inb_S6x512x128_S1x512x128_4_0_0, k0_pay18 H W⟩,
   ⟨Rect.unit (s := S6x512x128) ![3, 0, 0] S1x512x128.size inb_S6x512x128_S1x512x128_3_0_0, k0_pay17 H W⟩,
   ⟨Rect.unit (s := S6x512x128) ![2, 0, 0] S1x512x128.size inb_S6x512x128_S1x512x128_2_0_0, k0_pay16 H W⟩,
   ⟨Rect.unit (s := S6x512x128) ![1, 0, 0] S1x512x128.size inb_S6x512x128_S1x512x128_1_0_0, k0_pay15 H W⟩,
   ⟨Rect.unit (s := S6x512x128) ![0, 0, 0] S1x512x128.size inb_S6x512x128_S1x512x128_0_0_0, k0_pay14 H W⟩]

theorem cover6 (H : Vec F S512x2048 .bf16) (W : Vec F S1x2048x768 .bf16) : ∀ y, ∃ p ∈ P6 H W, y ∈ p.1.set :=
  View.cover_of_tiledL (P6 H W) S1x512x128.size (by sl_kernel_rfl)

/-- The block of queries those stores leave. -/
def O6 (H : Vec F S512x2048 .bf16) (W : Vec F S1x2048x768 .bf16) : Vec F S6x512x128 .bf16 := View.canon (P6 H W)

/-- Those stores over a buffer leave the block, whatever it held. -/
theorem left6 (a : Memref sig .tc .vmem S6x512x128 .bf16) (f : a.view.ty.Contents (Elt F)) {H H' : Vec F S512x2048 .bf16} {W W' : Vec F S1x2048x768 .bf16}
    (hH : H' = H) (hW : W' = W) : a.view.read (Elt F) (a.view.writes (Elt F) f (P6 H' W')) = O6 H W := by
  subst hH hW; exact View.read_writes_eq_canon _ _ _ (cover6 _ _)

/-- The stores that fill the block of keys, from the normalised tokens `H` and the weight tile `W`. -/
def P8 (H : Vec F S512x2048 .bf16) (W : Vec F S1x2048x768 .bf16) : List (View.Piece (Elt F) S6x512x128 .bf16) :=
  [⟨Rect.unit (s := S6x512x128) ![5, 0, 0] S1x512x128.size inb_S6x512x128_S1x512x128_5_0_0, k0_pay10 (k0_pay20 H W)⟩,
   ⟨Rect.unit (s := S6x512x128) ![4, 0, 0] S1x512x128.size inb_S6x512x128_S1x512x128_4_0_0, k0_pay9 (k0_pay20 H W)⟩,
   ⟨Rect.unit (s := S6x512x128) ![3, 0, 0] S1x512x128.size inb_S6x512x128_S1x512x128_3_0_0, k0_pay8 (k0_pay20 H W)⟩,
   ⟨Rect.unit (s := S6x512x128) ![2, 0, 0] S1x512x128.size inb_S6x512x128_S1x512x128_2_0_0, k0_pay7 (k0_pay20 H W)⟩,
   ⟨Rect.unit (s := S6x512x128) ![1, 0, 0] S1x512x128.size inb_S6x512x128_S1x512x128_1_0_0, k0_pay6 (k0_pay20 H W)⟩,
   ⟨Rect.unit (s := S6x512x128) ![0, 0, 0] S1x512x128.size inb_S6x512x128_S1x512x128_0_0_0, k0_pay5 (k0_pay20 H W)⟩]

theorem cover8 (H : Vec F S512x2048 .bf16) (W : Vec F S1x2048x768 .bf16) : ∀ y, ∃ p ∈ P8 H W, y ∈ p.1.set :=
  View.cover_of_tiledL (P8 H W) S1x512x128.size (by sl_kernel_rfl)

/-- The block of keys those stores leave. -/
def O8 (H : Vec F S512x2048 .bf16) (W : Vec F S1x2048x768 .bf16) : Vec F S6x512x128 .bf16 := View.canon (P8 H W)

/-- Those stores over a buffer leave the block, whatever it held. -/
theorem left8 (a : Memref sig .tc .vmem S6x512x128 .bf16) (f : a.view.ty.Contents (Elt F)) {H H' : Vec F S512x2048 .bf16} {W W' : Vec F S1x2048x768 .bf16}
    (hH : H' = H) (hW : W' = W) : a.view.read (Elt F) (a.view.writes (Elt F) f (P8 H' W')) = O8 H W := by
  subst hH hW; exact View.read_writes_eq_canon _ _ _ (cover8 _ _)

/-- The stores that fill the block of transposed values, from the normalised tokens `H` and the weight tile `W`. -/
def P10 (H : Vec F S512x2048 .bf16) (W : Vec F S1x2048x768 .bf16) : List (View.Piece (Elt F) S6x1x128x512 .bf16) :=
  [⟨Rect.unit (s := S6x1x128x512) ![5, 0, 0, 0] S1x1x128x512.size inb_S6x1x128x512_S1x1x128x512_5_0_0_0, k0_pay11 (k0_pay40 (k0_pay27 H W))⟩,
   ⟨Rect.unit (s := S6x1x128x512) ![4, 0, 0, 0] S1x1x128x512.size inb_S6x1x128x512_S1x1x128x512_4_0_0_0, k0_pay39 (k0_pay27 H W)⟩,
   ⟨Rect.unit (s := S6x1x128x512) ![3, 0, 0, 0] S1x1x128x512.size inb_S6x1x128x512_S1x1x128x512_3_0_0_0, k0_pay38 (k0_pay27 H W)⟩,
   ⟨Rect.unit (s := S6x1x128x512) ![2, 0, 0, 0] S1x1x128x512.size inb_S6x1x128x512_S1x1x128x512_2_0_0_0, k0_pay37 (k0_pay27 H W)⟩,
   ⟨Rect.unit (s := S6x1x128x512) ![1, 0, 0, 0] S1x1x128x512.size inb_S6x1x128x512_S1x1x128x512_1_0_0_0, k0_pay36 (k0_pay27 H W)⟩,
   ⟨Rect.unit (s := S6x1x128x512) ![0, 0, 0, 0] S1x1x128x512.size inb_S6x1x128x512_S1x1x128x512_0_0_0_0, k0_pay35 (k0_pay27 H W)⟩]

theorem cover10 (H : Vec F S512x2048 .bf16) (W : Vec F S1x2048x768 .bf16) : ∀ y, ∃ p ∈ P10 H W, y ∈ p.1.set :=
  View.cover_of_tiledL (P10 H W) S1x1x128x512.size (by sl_kernel_rfl)

/-- The block of transposed values those stores leave. -/
def O10 (H : Vec F S512x2048 .bf16) (W : Vec F S1x2048x768 .bf16) : Vec F S6x1x128x512 .bf16 := View.canon (P10 H W)

/-- Those stores over a buffer leave the block, whatever it held. -/
theorem left10 (a : Memref sig .tc .vmem S6x1x128x512 .bf16) (f : a.view.ty.Contents (Elt F)) {H H' : Vec F S512x2048 .bf16} {W W' : Vec F S1x2048x768 .bf16}
    (hH : H' = H) (hW : W' = W) : a.view.read (Elt F) (a.view.writes (Elt F) f (P10 H' W')) = O10 H W := by
  subst hH hW; exact View.read_writes_eq_canon _ _ _ (cover10 _ _)

section Run

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x768 .bf16) (harg4 : arg4.IsWhole) (arg5 : Memref sig .tc .vmem S512x768 .f32) (harg5 : arg5.IsWhole) (arg6 : Memref sig .tc .vmem S6x512x128 .bf16) (harg6 : arg6.IsWhole) (arg7 : Memref sig .tc .vmem S1x6x512x128 .f32) (harg7 : arg7.IsWhole) (arg8 : Memref sig .tc .vmem S6x512x128 .bf16) (harg8 : arg8.IsWhole) (arg9 : Memref sig .tc .vmem S1x6x512x128 .f32) (harg9 : arg9.IsWhole) (arg10 : Memref sig .tc .vmem S6x1x128x512 .bf16) (harg10 : arg10.IsWhole) (arg11 : Memref sig .tc .vmem S512x768 .f32) (harg11 : arg11.IsWhole) (arg12 : Memref sig .tc .vmem S512x2048 .bf16) (harg12 : arg12.IsWhole)
    (x2 : Vec F S512x2048 .f32) (x3 : Vec F S1x2048 .f32) (x4 : Vec F S1x2048x768 .bf16) (x5 : Vec F S512x768 .f32) (x6 : Vec F S6x512x128 .bf16) (x7 : Vec F S1x6x512x128 .f32) (x8 : Vec F S6x512x128 .bf16) (x9 : Vec F S1x6x512x128 .f32) (x10 : Vec F S6x1x128x512 .bf16) (x11 : Vec F S512x768 .f32) (x12 : Vec F S512x2048 .bf16)

set_option maxHeartbeats 1600000 in
/-- At inner step 0 the body leaves the normalised tokens in the scratch and a projection of them in the first output. -/
theorem run0 (h0 : c1 i = 1#1) (h1 : k0_cond2 i = 1#1) (h2 : ¬ k0_cond3 i = 1#1) (h3 : ¬ k0_cond4 i = 1#1) (h4 : ¬ k0_cond5 i = 1#1) (h5 : ¬ k0_cond6 i = 1#1) (E : Set ℕ) (K : PUnit → sProp 𝕄) :
    iprop(Held c arg2 arg3 arg4 arg5 arg6 arg7 arg8 arg9 arg10 arg11 arg12 x2 x3 x4 x5 x6 x7 x8 x9 x10 x11 x12 ∗ (Held c arg2 arg3 arg4 arg5 arg6 arg7 arg8 arg9 arg10 arg11 arg12 x2 x3 x4 (k0_pay2 (k0_pay1 i x2 x3) x4) x6 x7 x8 x9 x10 x11 (k0_pay1 i x2 x3) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K := by
  simp only [cc0_inproj_eq_skeleton]; unfold cc0_inproj_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact (left_full arg5 _ _ zero2 _).trans (congrArg₂ k0_pay2 ((View.readCov_unit_zero _ zero2 _ _).trans (congrArg₂ (k0_pay1 i) (ld_full arg2 harg2 _ zero2 _) (ld_full arg3 harg3 _ zero2 _))) (ld_full arg4 harg4 _ zero3 _))
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  iexists _; isplitr; swap; · iexact H12
  ipureintro; exact (left_full arg12 _ _ zero2 _).trans (congrArg₂ (k0_pay1 i) (ld_full arg2 harg2 _ zero2 _) (ld_full arg3 harg3 _ zero2 _))

set_option maxHeartbeats 1600000 in
/-- At the inner steps 1 and 2 it leaves a projection of the scratch's tokens in the first output. -/
theorem run1 (h0 : ¬ c1 i = 1#1) (h1 : k0_cond2 i = 1#1) (h2 : ¬ k0_cond3 i = 1#1) (h3 : ¬ k0_cond4 i = 1#1) (h4 : ¬ k0_cond5 i = 1#1) (h5 : ¬ k0_cond6 i = 1#1) (E : Set ℕ) (K : PUnit → sProp 𝕄) :
    iprop(Held c arg2 arg3 arg4 arg5 arg6 arg7 arg8 arg9 arg10 arg11 arg12 x2 x3 x4 x5 x6 x7 x8 x9 x10 x11 x12 ∗ (Held c arg2 arg3 arg4 arg5 arg6 arg7 arg8 arg9 arg10 arg11 arg12 x2 x3 x4 (k0_pay2 x12 x4) x6 x7 x8 x9 x10 x11 x12 -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K := by
  simp only [cc0_inproj_eq_skeleton]; unfold cc0_inproj_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; rw [ld_full arg4 harg4 _ zero3, ld_full arg12 harg12 _ zero2]; exact left_full arg5 _ _ zero2 _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  iexists _; isplitr; swap; · iexact H12
  ipureintro; exact harg12.read_unread _

set_option maxHeartbeats 1600000 in
/-- At inner step 3 it leaves the queries of the scratch's tokens in the second output. -/
theorem run3 (h0 : ¬ c1 i = 1#1) (h1 : ¬ k0_cond2 i = 1#1) (h2 : k0_cond3 i = 1#1) (h3 : ¬ k0_cond4 i = 1#1) (h4 : ¬ k0_cond5 i = 1#1) (h5 : ¬ k0_cond6 i = 1#1) (E : Set ℕ) (K : PUnit → sProp 𝕄) :
    iprop(Held c arg2 arg3 arg4 arg5 arg6 arg7 arg8 arg9 arg10 arg11 arg12 x2 x3 x4 x5 x6 x7 x8 x9 x10 x11 x12 ∗ (Held c arg2 arg3 arg4 arg5 arg6 arg7 arg8 arg9 arg10 arg11 arg12 x2 x3 x4 x5 (O6 x12 x4) x7 x8 x9 x10 x11 x12 -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K := by
  simp only [cc0_inproj_eq_skeleton]; unfold cc0_inproj_skel
  simp only [k0_part1_eq_skeleton]
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact left6 arg6 _ (ld_full arg12 harg12 _ zero2 _) (ld_full arg4 harg4 _ zero3 _)
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  iexists _; isplitr; swap; · iexact H12
  ipureintro; exact harg12.read_unread _

set_option maxHeartbeats 1600000 in
/-- At inner step 4 it leaves the keys in the fourth output and something in the third. -/
theorem run4 (h0 : ¬ c1 i = 1#1) (h1 : ¬ k0_cond2 i = 1#1) (h2 : ¬ k0_cond3 i = 1#1) (h3 : k0_cond4 i = 1#1) (h4 : ¬ k0_cond5 i = 1#1) (h5 : ¬ k0_cond6 i = 1#1) (E : Set ℕ) (K : PUnit → sProp 𝕄) :
    iprop(Held c arg2 arg3 arg4 arg5 arg6 arg7 arg8 arg9 arg10 arg11 arg12 x2 x3 x4 x5 x6 x7 x8 x9 x10 x11 x12 ∗ ((∃ z, Held c arg2 arg3 arg4 arg5 arg6 arg7 arg8 arg9 arg10 arg11 arg12 x2 x3 x4 x5 x6 z (O8 x12 x4) x9 x10 x11 x12) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K := by
  simp only [cc0_inproj_eq_skeleton]; unfold cc0_inproj_skel
  simp only [k0_part2_eq_skeleton]
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec
  sl_step
  iapply Hk
  iexists (arg7.view.read (Elt F) _)
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; rfl
  isplitl [H8]
  · iexists _; isplitr; swap; · iexact H8
    ipureintro; exact left8 arg8 _ (ld_full arg12 harg12 _ zero2 _) (ld_full arg4 harg4 _ zero3 _)
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  iexists _; isplitr; swap; · iexact H12
  ipureintro; exact harg12.read_unread _

set_option maxHeartbeats 1600000 in
/-- At inner step 5 it leaves the transposed values in the sixth output and something in the fifth. -/
theorem run5 (h0 : ¬ c1 i = 1#1) (h1 : ¬ k0_cond2 i = 1#1) (h2 : ¬ k0_cond3 i = 1#1) (h3 : ¬ k0_cond4 i = 1#1) (h4 : k0_cond5 i = 1#1) (h5 : ¬ k0_cond6 i = 1#1) (E : Set ℕ) (K : PUnit → sProp 𝕄) :
    iprop(Held c arg2 arg3 arg4 arg5 arg6 arg7 arg8 arg9 arg10 arg11 arg12 x2 x3 x4 x5 x6 x7 x8 x9 x10 x11 x12 ∗ ((∃ z, Held c arg2 arg3 arg4 arg5 arg6 arg7 arg8 arg9 arg10 arg11 arg12 x2 x3 x4 x5 x6 x7 x8 z (O10 x12 x4) x11 x12) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K := by
  simp only [cc0_inproj_eq_skeleton]; unfold cc0_inproj_skel
  simp only [k0_part3_eq_skeleton, k0_part4_eq_skeleton]
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec
  sl_step
  iapply Hk
  iexists (arg9.view.read (Elt F) _)
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; rfl
  isplitl [H10]
  · iexists _; isplitr; swap; · iexact H10
    ipureintro; exact left10 arg10 _ (ld_full arg12 harg12 _ zero2 _) (ld_full arg4 harg4 _ zero3 _)
  isplitl [H11]
  · iexists _; isplitr; swap; · iexact H11
    ipureintro; exact harg11.read_unread _
  iexists _; isplitr; swap; · iexact H12
  ipureintro; exact harg12.read_unread _

set_option maxHeartbeats 1600000 in
/-- At inner step 6 it leaves the gate's projection in the last output. -/
theorem run6 (h0 : ¬ c1 i = 1#1) (h1 : ¬ k0_cond2 i = 1#1) (h2 : ¬ k0_cond3 i = 1#1) (h3 : ¬ k0_cond4 i = 1#1) (h4 : ¬ k0_cond5 i = 1#1) (h5 : k0_cond6 i = 1#1) (E : Set ℕ) (K : PUnit → sProp 𝕄) :
    iprop(Held c arg2 arg3 arg4 arg5 arg6 arg7 arg8 arg9 arg10 arg11 arg12 x2 x3 x4 x5 x6 x7 x8 x9 x10 x11 x12 ∗ (Held c arg2 arg3 arg4 arg5 arg6 arg7 arg8 arg9 arg10 arg11 arg12 x2 x3 x4 x5 x6 x7 x8 x9 x10 (k0_pay12 x12 x4) x12 -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K := by
  simp only [cc0_inproj_eq_skeleton]; unfold cc0_inproj_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; rw [ld_full arg4 harg4 _ zero3, ld_full arg12 harg12 _ zero2]; exact left_full arg11 _ _ zero2 _
  iexists _; isplitr; swap; · iexact H12
  ipureintro; exact harg12.read_unread _

end Run

end Cert.In3

end
-- ==== Proof.In3Dat.lean ====
module

public import proofs.«01_k».proof.Proof.In3Run
public import Idealize.ShloMosaic.Lib.Pipeline.Frame

/-! What the in-projection call leaves in its buffers, point by point, and the run of the whole program (the model's program).
The relation `after` says of each output block what is known of it once the body has run at a grid point: filled from the
normalised tokens at the output's own inner step, kept at the others. -/

@[expose] public section

set_option maxRecDepth 16384

noncomputable section

namespace Cert.In3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond_1 : ∀ t : Fin cfg0.N, (c1 (grid0.coords t) = 1#1 ↔ t.val % 7 = 0) :=
  (by decide +kernel : ∀ t : Fin grid0.N, (c1 (grid0.coords t) = 1#1 ↔ t.val % 7 = 0))
theorem cond_2 : ∀ t : Fin cfg0.N, (k0_cond2 (grid0.coords t) = 1#1 ↔ t.val % 7 ≤ 2) :=
  (by decide +kernel : ∀ t : Fin grid0.N, (k0_cond2 (grid0.coords t) = 1#1 ↔ t.val % 7 ≤ 2))
theorem cond_3 : ∀ t : Fin cfg0.N, (k0_cond3 (grid0.coords t) = 1#1 ↔ t.val % 7 = 3) :=
  (by decide +kernel : ∀ t : Fin grid0.N, (k0_cond3 (grid0.coords t) = 1#1 ↔ t.val % 7 = 3))
theorem cond_4 : ∀ t : Fin cfg0.N, (k0_cond4 (grid0.coords t) = 1#1 ↔ t.val % 7 = 4) :=
  (by decide +kernel : ∀ t : Fin grid0.N, (k0_cond4 (grid0.coords t) = 1#1 ↔ t.val % 7 = 4))
theorem cond_5 : ∀ t : Fin cfg0.N, (k0_cond5 (grid0.coords t) = 1#1 ↔ t.val % 7 = 5) :=
  (by decide +kernel : ∀ t : Fin grid0.N, (k0_cond5 (grid0.coords t) = 1#1 ↔ t.val % 7 = 5))
theorem cond_6 : ∀ t : Fin cfg0.N, (k0_cond6 (grid0.coords t) = 1#1 ↔ t.val % 7 = 6) :=
  (by decide +kernel : ∀ t : Fin grid0.N, (k0_cond6 (grid0.coords t) = 1#1 ↔ t.val % 7 = 6))

/-- The scratch operand, a whole buffer of the kernel's own. -/
abbrev scM : Memref sig .tc .vmem S512x2048 .bf16 := Memref.whole cc0_scratch0

/-- What the region holds of the scratch and the generator register, the scratch at some contents. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The grid point at which the token block of step `n` is normalised: the first of its seven. -/
def pt (n : ℕ) : Fin cfg0.N := ⟨(n / 7 * 7) % 119, Nat.mod_lt _ (by decide)⟩

/-- `H` is a normalised token block of step `n`: normalised from the block of tokens fetched there, whatever the rows past
the array's end hold. -/
def HOf (c : Dev nD) (n : ℕ) (H : Vec F S512x2048 .bf16) : Prop :=
  ∃ d : Vec F S512x2048 .f32, H = k0_pay1 (grid0.coords (pt n))
    ((cfg0.win 0).fill (cfg0.grid.coords (pt n)) d (iblk m c 0 (pt n)) : Vec F S512x2048 .f32) (iblk m c 1 (pt 0) : Vec F S1x2048 .f32)

/-- What the body leaves in each window's buffer at a point, of what it finds there. -/
def after (c : Dev nD) : (w : Fin cfg0.W) → Fin cfg0.N → (Y X : (cfg0.win w).block.Idx → Elt F (cfg0.win w).elt) → Prop
  | 0 => fun _ Y X => X = Y
  | 1 => fun _ Y X => X = Y
  | 2 => fun _ Y X => X = Y
  | 3 => fun t Y X => (t.val % 7 ≤ 2 → ∃ H, HOf m c t.val H ∧ X = k0_pay2 H (iblk m c 2 t : Vec F S1x2048x768 .bf16)) ∧ (¬ t.val % 7 ≤ 2 → X = Y)
  | 4 => fun t Y X => (t.val % 7 = 3 → ∃ H, HOf m c t.val H ∧ X = O6 H (iblk m c 2 t : Vec F S1x2048x768 .bf16)) ∧ (¬ t.val % 7 = 3 → X = Y)
  | 5 => fun _ _ _ => True
  | 6 => fun t Y X => (t.val % 7 = 4 → ∃ H, HOf m c t.val H ∧ X = O8 H (iblk m c 2 t : Vec F S1x2048x768 .bf16)) ∧ (¬ t.val % 7 = 4 → X = Y)
  | 7 => fun _ _ _ => True
  | 8 => fun t Y X => (t.val % 7 = 5 → ∃ H, HOf m c t.val H ∧ X = O10 H (iblk m c 2 t : Vec F S1x2048x768 .bf16)) ∧ (¬ t.val % 7 = 5 → X = Y)
  | 9 => fun t Y X => (t.val % 7 = 6 → ∃ H, HOf m c t.val H ∧ X = k0_pay12 H (iblk m c 2 t : Vec F S1x2048x768 .bf16)) ∧ (¬ t.val % 7 = 6 → X = Y)
  | ⟨_ + 10, h⟩ => absurd h (Nat.not_lt.2 (Nat.le_add_left _ _))

/-- The scratch between points: inside a group of seven it holds the group's normalised tokens. -/
def Inv (c : Dev nD) (t : Fin (cfg0.N + 1)) : sProp 𝕄 :=
  iprop((∃ H, ⌜t.val % 7 ≠ 0 → HOf m c t.val H⌝ ∗ owns (c : Thread nD τ) scM fullShare H) ∗ (∃ r, prngReg c r))

/-- The proof data of the call. -/
def rdat (c : Dev nD) : RDat τ (Elt F) Unit ℕ (UR sig nD τ) ℕ cfg0 c where
  A := fun w => V m c (Pipeline.arrRef spec0 w)
  after := after m c
  Φ := Inv m c
  q := fun _ => fullShare
  owed := fun _ => 0

theorem pt_of_mod {t : Fin cfg0.N} (h : t.val % 7 = 0) : pt t.val = t := by
  have := t.isLt; have hN : cfg0.N = 119 := N_0
  apply Fin.ext; show (t.val / 7 * 7) % 119 = t.val; omega

theorem pt_succ {n : ℕ} (h : (n + 1) % 7 ≠ 0) : pt (n + 1) = pt n := by
  apply Fin.ext; show ((n + 1) / 7 * 7) % 119 = (n / 7 * 7) % 119
  rw [show (n + 1) / 7 = n / 7 from by omega]

theorem HOf_succ {c : Dev nD} {n : ℕ} (h : (n + 1) % 7 ≠ 0) {H : Vec F S512x2048 .bf16} (hH : HOf m c n H) : HOf m c (n + 1) H := by
  unfold HOf at *; rw [pt_succ h]; exact hH

/-- The token window's buffer where it is fetched. -/
theorem finds0 {c : Dev nD} {t : Fin cfg0.N} (h : t.val % 7 = 0) {Y} (hY : (rdat m c).Finds 0 t Y) :
    ∃ d : Vec F S512x2048 .f32, Y = ((cfg0.win 0).fill (cfg0.grid.coords t) d (iblk m c 0 t) : Vec F S512x2048 .f32) :=
  ((rdat m c).finds_of_fetch ((fetch0_0 t).2 h) Y).1 hY

/-- The scale window's buffer holds the scale at every point. -/
theorem finds1 {c : Dev nD} : ∀ (n : ℕ) (hn : n < cfg0.N) {Y}, (rdat m c).Finds 1 ⟨n, hn⟩ Y → Y = (iblk m c 1 (pt 0) : Vec F S1x2048 .f32)
  | 0, hn, Y, hY => by
    obtain ⟨d, rfl⟩ := ((rdat m c).finds_of_fetch ((fetch0_1 ⟨0, hn⟩).2 rfl) Y).1 hY
    rfl
  | n + 1, hn, Y, hY => by
    have hN : cfg0.N = 119 := N_0
    have hf : (cfg0.win 1).fetch ⟨n + 1, hn⟩ = false := Bool.eq_false_iff.2 fun h => by
      have := (fetch0_1 _).1 h; simp only at this; omega
    rcases ((rdat m c).finds_of_pos hf (Nat.succ_ne_zero n) Y).1 hY with h | ⟨Y', hY', h⟩
    · exact absurd h (by simp [Window.flush])
    · have e : Y = Y' := h
      rw [e]; exact finds1 n _ hY'

/-- The weight window's buffer holds the point's tile. -/
theorem finds2 {c : Dev nD} {t : Fin cfg0.N} {Y} (hY : (rdat m c).Finds 2 t Y) : Y = (iblk m c 2 t : Vec F S1x2048x768 .bf16) := by
  obtain ⟨d, rfl⟩ := ((rdat m c).finds_of_fetch (fetch0_2 t) Y).1 hY
  rfl

/-- The body table's row at a point is the body there. -/
theorem defs₀_row (t : Fin cfg0.N) : defs₀ (F := F) .tc cfg0.body (cfg0.bodyArgs t (cfg0.slots t)) = bodyAt0 t := by
  unfold defs₀; rw [Defs.onTc_tc]

set_option maxHeartbeats 1600000 in
/-- The body at a point of inner step 0. -/
theorem body0 (c : Dev nD) (t : Fin cfg0.N) (h : t.val % 7 = 0) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9))
      ⊢ wp frame (wpE (defs₀ (F := F)) Variants.none c none) Set.univ (bodyAt0 t) fun _ =>
          iprop((rdat m c).Φ t.succ ∗ (rdat m c).owesAt () t.succ
            ∗ (∃ X, ⌜after m c 0 t (Y 0) X⌝ ∗ owns (c : Thread nD τ) ((cfg0.win 0).stage (cfg0.slots t 0)) fullShare X) ∗ (∃ X, ⌜after m c 1 t (Y 1) X⌝ ∗ owns (c : Thread nD τ) ((cfg0.win 1).stage (cfg0.slots t 1)) fullShare X) ∗ (∃ X, ⌜after m c 2 t (Y 2) X⌝ ∗ owns (c : Thread nD τ) ((cfg0.win 2).stage (cfg0.slots t 2)) fullShare X) ∗ (∃ X, ⌜after m c 3 t (Y 3) X⌝ ∗ owns (c : Thread nD τ) ((cfg0.win 3).stage (cfg0.slots t 3)) fullShare X) ∗ (∃ X, ⌜after m c 4 t (Y 4) X⌝ ∗ owns (c : Thread nD τ) ((cfg0.win 4).stage (cfg0.slots t 4)) fullShare X) ∗ (∃ X, ⌜after m c 5 t (Y 5) X⌝ ∗ owns (c : Thread nD τ) ((cfg0.win 5).stage (cfg0.slots t 5)) fullShare X) ∗ (∃ X, ⌜after m c 6 t (Y 6) X⌝ ∗ owns (c : Thread nD τ) ((cfg0.win 6).stage (cfg0.slots t 6)) fullShare X) ∗ (∃ X, ⌜after m c 7 t (Y 7) X⌝ ∗ owns (c : Thread nD τ) ((cfg0.win 7).stage (cfg0.slots t 7)) fullShare X) ∗ (∃ X, ⌜after m c 8 t (Y 8) X⌝ ∗ owns (c : Thread nD τ) ((cfg0.win 8).stage (cfg0.slots t 8)) fullShare X) ∗ (∃ X, ⌜after m c 9 t (Y 9) X⌝ ∗ owns (c : Thread nD τ) ((cfg0.win 9).stage (cfg0.slots t 9)) fullShare X)) := by
  rw [show (rdat m c).Φ t.castSucc = Inv m c t.castSucc from rfl, show (rdat m c).Φ t.succ = Inv m c t.succ from rfl,
    show (rdat m c).owesAt () t.succ = (rdat m c).owesAt () t.castSucc from rfl]
  unfold Inv bodyAt0
  obtain ⟨d, e0⟩ := finds0 m h (hY 0)
  have e1 := finds1 m t.val t.isLt (hY 1)
  have e2 := finds2 m (hY 2)
  iintro ⟨⟨⟨%H, %hH, HS⟩, Hg⟩, Ho, H2, H3, H4, H5, H6, H7, H8, H9, H10, H11⟩
  iapply (run0 c (grid0.coords t) _ _ _ _ _ _ _ _ _ _ _ _ _ _ _ _ _ _ _ _ _ _ (Y 0) (Y 1) (Y 2) (Y 3) (Y 4) (Y 5) (Y 6) (Y 7) (Y 8) (Y 9) H ((cond_1 t).2 (by omega)) ((cond_2 t).2 (by omega)) (fun h' => absurd ((cond_3 t).1 h') (by omega)) (fun h' => absurd ((cond_4 t).1 h') (by omega)) (fun h' => absurd ((cond_5 t).1 h') (by omega)) (fun h' => absurd ((cond_6 t).1 h') (by omega)) Set.univ _)
  unfold Held
  isplitl [HS H2 H3 H4 H5 H6 H7 H8 H9 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  iintro ⟨H2, H3, H4, H5, H6, H7, H8, H9, H10, H11, HS⟩
  have hH' : HOf m c t.val (k0_pay1 (grid0.coords t) (Y 0) (Y 1)) := ⟨d, by rw [pt_of_mod h, e0, e1]⟩
  isplitl [HS Hg]
  · isplitl [HS]
    · iexists _; isplitr; swap; · iexact HS
      ipureintro; intro hne; exact HOf_succ m hne hH'
    iexact Hg
  isplitl [Ho]; · iexact Ho
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact ⟨fun _ => ⟨_, hH', by rw [e2]⟩, fun h' => absurd (by omega) h'⟩
  isplitl [H6]
  · iexists _; isplitr; swap; · iexact H6
    ipureintro; exact ⟨fun h' => absurd h' (by omega), fun _ => rfl⟩
  isplitl [H7]
  · iexists _; isplitr; swap; · iexact H7
    ipureintro; exact trivial
  isplitl [H8]
  · iexists _; isplitr; swap; · iexact H8
    ipureintro; exact ⟨fun h' => absurd h' (by omega), fun _ => rfl⟩
  isplitl [H9]
  · iexists _; isplitr; swap; · iexact H9
    ipureintro; exact trivial
  isplitl [H10]
  · iexists _; isplitr; swap; · iexact H10
    ipureintro; exact ⟨fun h' => absurd h' (by omega), fun _ => rfl⟩
  iexists _; isplitr; swap; · iexact H11
  ipureintro; exact ⟨fun h' => absurd h' (by omega), fun _ => rfl⟩

set_option maxHeartbeats 1600000 in
/-- The body at a point of inner step 1 or 2. -/
theorem body1 (c : Dev nD) (t : Fin cfg0.N) (h : t.val % 7 = 1 ∨ t.val % 7 = 2) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9))
      ⊢ wp frame (wpE (defs₀ (F := F)) Variants.none c none) Set.univ (bodyAt0 t) fun _ =>
          iprop((rdat m c).Φ t.succ ∗ (rdat m c).owesAt () t.succ
            ∗ (∃ X, ⌜after m c 0 t (Y 0) X⌝ ∗ owns (c : Thread nD τ) ((cfg0.win 0).stage (cfg0.slots t 0)) fullShare X) ∗ (∃ X, ⌜after m c 1 t (Y 1) X⌝ ∗ owns (c : Thread nD τ) ((cfg0.win 1).stage (cfg0.slots t 1)) fullShare X) ∗ (∃ X, ⌜after m c 2 t (Y 2) X⌝ ∗ owns (c : Thread nD τ) ((cfg0.win 2).stage (cfg0.slots t 2)) fullShare X) ∗ (∃ X, ⌜after m c 3 t (Y 3) X⌝ ∗ owns (c : Thread nD τ) ((cfg0.win 3).stage (cfg0.slots t 3)) fullShare X) ∗ (∃ X, ⌜after m c 4 t (Y 4) X⌝ ∗ owns (c : Thread nD τ) ((cfg0.win 4).stage (cfg0.slots t 4)) fullShare X) ∗ (∃ X, ⌜after m c 5 t (Y 5) X⌝ ∗ owns (c : Thread nD τ) ((cfg0.win 5).stage (cfg0.slots t 5)) fullShare X) ∗ (∃ X, ⌜after m c 6 t (Y 6) X⌝ ∗ owns (c : Thread nD τ) ((cfg0.win 6).stage (cfg0.slots t 6)) fullShare X) ∗ (∃ X, ⌜after m c 7 t (Y 7) X⌝ ∗ owns (c : Thread nD τ) ((cfg0.win 7).stage (cfg0.slots t 7)) fullShare X) ∗ (∃ X, ⌜after m c 8 t (Y 8) X⌝ ∗ owns (c : Thread nD τ) ((cfg0.win 8).stage (cfg0.slots t 8)) fullShare X) ∗ (∃ X, ⌜after m c 9 t (Y 9) X⌝ ∗ owns (c : Thread nD τ) ((cfg0.win 9).stage (cfg0.slots t 9)) fullShare X)) := by
  rw [show (rdat m c).Φ t.castSucc = Inv m c t.castSucc from rfl, show (rdat m c).Φ t.succ = Inv m c t.succ from rfl,
    show (rdat m c).owesAt () t.succ = (rdat m c).owesAt () t.castSucc from rfl]
  unfold Inv bodyAt0
  have e2 := finds2 m (hY 2)
  iintro ⟨⟨⟨%H, %hH, HS⟩, Hg⟩, Ho, H2, H3, H4, H5, H6, H7, H8, H9, H10, H11⟩
  iapply (run1 c (grid0.coords t) _ _ _ _ _ _ _ _ _ _ _ _ _ _ _ _ _ _ _ _ _ _ (Y 0) (Y 1) (Y 2) (Y 3) (Y 4) (Y 5) (Y 6) (Y 7) (Y 8) (Y 9) H (fun h' => absurd ((cond_1 t).1 h') (by omega)) ((cond_2 t).2 (by omega)) (fun h' => absurd ((cond_3 t).1 h') (by omega)) (fun h' => absurd ((cond_4 t).1 h') (by omega)) (fun h' => absurd ((cond_5 t).1 h') (by omega)) (fun h' => absurd ((cond_6 t).1 h') (by omega)) Set.univ _)
  unfold Held
  isplitl [HS H2 H3 H4 H5 H6 H7 H8 H9 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  iintro ⟨H2, H3, H4, H5, H6, H7, H8, H9, H10, H11, HS⟩
  have hH' : HOf m c t.val H := hH (by show ¬ t.val % 7 = 0; omega)
  isplitl [HS Hg]
  · isplitl [HS]
    · iexists _; isplitr; swap; · iexact HS
      ipureintro; intro hne; exact HOf_succ m hne hH'
    iexact Hg
  isplitl [Ho]; · iexact Ho
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact ⟨fun _ => ⟨_, hH', by rw [e2]⟩, fun h' => absurd (by omega) h'⟩
  isplitl [H6]
  · iexists _; isplitr; swap; · iexact H6
    ipureintro; exact ⟨fun h' => absurd h' (by omega), fun _ => rfl⟩
  isplitl [H7]
  · iexists _; isplitr; swap; · iexact H7
    ipureintro; exact trivial
  isplitl [H8]
  · iexists _; isplitr; swap; · iexact H8
    ipureintro; exact ⟨fun h' => absurd h' (by omega), fun _ => rfl⟩
  isplitl [H9]
  · iexists _; isplitr; swap; · iexact H9
    ipureintro; exact trivial
  isplitl [H10]
  · iexists _; isplitr; swap; · iexact H10
    ipureintro; exact ⟨fun h' => absurd h' (by omega), fun _ => rfl⟩
  iexists _; isplitr; swap; · iexact H11
  ipureintro; exact ⟨fun h' => absurd h' (by omega), fun _ => rfl⟩

set_option maxHeartbeats 1600000 in
/-- The body at a point of inner step 3. -/
theorem body3 (c : Dev nD) (t : Fin cfg0.N) (h : t.val % 7 = 3) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9))
      ⊢ wp frame (wpE (defs₀ (F := F)) Variants.none c none) Set.univ (bodyAt0 t) fun _ =>
          iprop((rdat m c).Φ t.succ ∗ (rdat m c).owesAt () t.succ
            ∗ (∃ X, ⌜after m c 0 t (Y 0) X⌝ ∗ owns (c : Thread nD τ) ((cfg0.win 0).stage (cfg0.slots t 0)) fullShare X) ∗ (∃ X, ⌜after m c 1 t (Y 1) X⌝ ∗ owns (c : Thread nD τ) ((cfg0.win 1).stage (cfg0.slots t 1)) fullShare X) ∗ (∃ X, ⌜after m c 2 t (Y 2) X⌝ ∗ owns (c : Thread nD τ) ((cfg0.win 2).stage (cfg0.slots t 2)) fullShare X) ∗ (∃ X, ⌜after m c 3 t (Y 3) X⌝ ∗ owns (c : Thread nD τ) ((cfg0.win 3).stage (cfg0.slots t 3)) fullShare X) ∗ (∃ X, ⌜after m c 4 t (Y 4) X⌝ ∗ owns (c : Thread nD τ) ((cfg0.win 4).stage (cfg0.slots t 4)) fullShare X) ∗ (∃ X, ⌜after m c 5 t (Y 5) X⌝ ∗ owns (c : Thread nD τ) ((cfg0.win 5).stage (cfg0.slots t 5)) fullShare X) ∗ (∃ X, ⌜after m c 6 t (Y 6) X⌝ ∗ owns (c : Thread nD τ) ((cfg0.win 6).stage (cfg0.slots t 6)) fullShare X) ∗ (∃ X, ⌜after m c 7 t (Y 7) X⌝ ∗ owns (c : Thread nD τ) ((cfg0.win 7).stage (cfg0.slots t 7)) fullShare X) ∗ (∃ X, ⌜after m c 8 t (Y 8) X⌝ ∗ owns (c : Thread nD τ) ((cfg0.win 8).stage (cfg0.slots t 8)) fullShare X) ∗ (∃ X, ⌜after m c 9 t (Y 9) X⌝ ∗ owns (c : Thread nD τ) ((cfg0.win 9).stage (cfg0.slots t 9)) fullShare X)) := by
  rw [show (rdat m c).Φ t.castSucc = Inv m c t.castSucc from rfl, show (rdat m c).Φ t.succ = Inv m c t.succ from rfl,
    show (rdat m c).owesAt () t.succ = (rdat m c).owesAt () t.castSucc from rfl]
  unfold Inv bodyAt0
  have e2 := finds2 m (hY 2)
  iintro ⟨⟨⟨%H, %hH, HS⟩, Hg⟩, Ho, H2, H3, H4, H5, H6, H7, H8, H9, H10, H11⟩
  iapply (run3 c (grid0.coords t) _ _ _ _ _ _ _ _ _ _ _ _ _ _ _ _ _ _ _ _ _ _ (Y 0) (Y 1) (Y 2) (Y 3) (Y 4) (Y 5) (Y 6) (Y 7) (Y 8) (Y 9) H (fun h' => absurd ((cond_1 t).1 h') (by omega)) (fun h' => absurd ((cond_2 t).1 h') (by omega)) ((cond_3 t).2 (by omega)) (fun h' => absurd ((cond_4 t).1 h') (by omega)) (fun h' => absurd ((cond_5 t).1 h') (by omega)) (fun h' => absurd ((cond_6 t).1 h') (by omega)) Set.univ _)
  unfold Held
  isplitl [HS H2 H3 H4 H5 H6 H7 H8 H9 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  iintro ⟨H2, H3, H4, H5, H6, H7, H8, H9, H10, H11, HS⟩
  have hH' : HOf m c t.val H := hH (by show ¬ t.val % 7 = 0; omega)
  isplitl [HS Hg]
  · isplitl [HS]
    · iexists _; isplitr; swap; · iexact HS
      ipureintro; intro hne; exact HOf_succ m hne hH'
    iexact Hg
  isplitl [Ho]; · iexact Ho
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact ⟨fun h' => absurd h' (by omega), fun _ => rfl⟩
  isplitl [H6]
  · iexists _; isplitr; swap; · iexact H6
    ipureintro; exact ⟨fun _ => ⟨_, hH', by rw [e2]⟩, fun h' => absurd (by omega) h'⟩
  isplitl [H7]
  · iexists _; isplitr; swap; · iexact H7
    ipureintro; exact trivial
  isplitl [H8]
  · iexists _; isplitr; swap; · iexact H8
    ipureintro; exact ⟨fun h' => absurd h' (by omega), fun _ => rfl⟩
  isplitl [H9]
  · iexists _; isplitr; swap; · iexact H9
    ipureintro; exact trivial
  isplitl [H10]
  · iexists _; isplitr; swap; · iexact H10
    ipureintro; exact ⟨fun h' => absurd h' (by omega), fun _ => rfl⟩
  iexists _; isplitr; swap; · iexact H11
  ipureintro; exact ⟨fun h' => absurd h' (by omega), fun _ => rfl⟩

set_option maxHeartbeats 1600000 in
/-- The body at a point of inner step 4. -/
theorem body4 (c : Dev nD) (t : Fin cfg0.N) (h : t.val % 7 = 4) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9))
      ⊢ wp frame (wpE (defs₀ (F := F)) Variants.none c none) Set.univ (bodyAt0 t) fun _ =>
          iprop((rdat m c).Φ t.succ ∗ (rdat m c).owesAt () t.succ
            ∗ (∃ X, ⌜after m c 0 t (Y 0) X⌝ ∗ owns (c : Thread nD τ) ((cfg0.win 0).stage (cfg0.slots t 0)) fullShare X) ∗ (∃ X, ⌜after m c 1 t (Y 1) X⌝ ∗ owns (c : Thread nD τ) ((cfg0.win 1).stage (cfg0.slots t 1)) fullShare X) ∗ (∃ X, ⌜after m c 2 t (Y 2) X⌝ ∗ owns (c : Thread nD τ) ((cfg0.win 2).stage (cfg0.slots t 2)) fullShare X) ∗ (∃ X, ⌜after m c 3 t (Y 3) X⌝ ∗ owns (c : Thread nD τ) ((cfg0.win 3).stage (cfg0.slots t 3)) fullShare X) ∗ (∃ X, ⌜after m c 4 t (Y 4) X⌝ ∗ owns (c : Thread nD τ) ((cfg0.win 4).stage (cfg0.slots t 4)) fullShare X) ∗ (∃ X, ⌜after m c 5 t (Y 5) X⌝ ∗ owns (c : Thread nD τ) ((cfg0.win 5).stage (cfg0.slots t 5)) fullShare X) ∗ (∃ X, ⌜after m c 6 t (Y 6) X⌝ ∗ owns (c : Thread nD τ) ((cfg0.win 6).stage (cfg0.slots t 6)) fullShare X) ∗ (∃ X, ⌜after m c 7 t (Y 7) X⌝ ∗ owns (c : Thread nD τ) ((cfg0.win 7).stage (cfg0.slots t 7)) fullShare X) ∗ (∃ X, ⌜after m c 8 t (Y 8) X⌝ ∗ owns (c : Thread nD τ) ((cfg0.win 8).stage (cfg0.slots t 8)) fullShare X) ∗ (∃ X, ⌜after m c 9 t (Y 9) X⌝ ∗ owns (c : Thread nD τ) ((cfg0.win 9).stage (cfg0.slots t 9)) fullShare X)) := by
  rw [show (rdat m c).Φ t.castSucc = Inv m c t.castSucc from rfl, show (rdat m c).Φ t.succ = Inv m c t.succ from rfl,
    show (rdat m c).owesAt () t.succ = (rdat m c).owesAt () t.castSucc from rfl]
  unfold Inv bodyAt0
  have e2 := finds2 m (hY 2)
  iintro ⟨⟨⟨%H, %hH, HS⟩, Hg⟩, Ho, H2, H3, H4, H5, H6, H7, H8, H9, H10, H11⟩
  iapply (run4 c (grid0.coords t) _ _ _ _ _ _ _ _ _ _ _ _ _ _ _ _ _ _ _ _ _ _ (Y 0) (Y 1) (Y 2) (Y 3) (Y 4) (Y 5) (Y 6) (Y 7) (Y 8) (Y 9) H (fun h' => absurd ((cond_1 t).1 h') (by omega)) (fun h' => absurd ((cond_2 t).1 h') (by omega)) (fun h' => absurd ((cond_3 t).1 h') (by omega)) ((cond_4 t).2 (by omega)) (fun h' => absurd ((cond_5 t).1 h') (by omega)) (fun h' => absurd ((cond_6 t).1 h') (by omega)) Set.univ _)
  unfold Held
  isplitl [HS H2 H3 H4 H5 H6 H7 H8 H9 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  iintro ⟨%z, H2, H3, H4, H5, H6, H7, H8, H9, H10, H11, HS⟩
  have hH' : HOf m c t.val H := hH (by show ¬ t.val % 7 = 0; omega)
  isplitl [HS Hg]
  · isplitl [HS]
    · iexists _; isplitr; swap; · iexact HS
      ipureintro; intro hne; exact HOf_succ m hne hH'
    iexact Hg
  isplitl [Ho]; · iexact Ho
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact ⟨fun h' => absurd h' (by omega), fun _ => rfl⟩
  isplitl [H6]
  · iexists _; isplitr; swap; · iexact H6
    ipureintro; exact ⟨fun h' => absurd h' (by omega), fun _ => rfl⟩
  isplitl [H7]
  · iexists _; isplitr; swap; · iexact H7
    ipureintro; exact trivial
  isplitl [H8]
  · iexists _; isplitr; swap; · iexact H8
    ipureintro; exact ⟨fun _ => ⟨_, hH', by rw [e2]⟩, fun h' => absurd (by omega) h'⟩
  isplitl [H9]
  · iexists _; isplitr; swap; · iexact H9
    ipureintro; exact trivial
  isplitl [H10]
  · iexists _; isplitr; swap; · iexact H10
    ipureintro; exact ⟨fun h' => absurd h' (by omega), fun _ => rfl⟩
  iexists _; isplitr; swap; · iexact H11
  ipureintro; exact ⟨fun h' => absurd h' (by omega), fun _ => rfl⟩

set_option maxHeartbeats 1600000 in
/-- The body at a point of inner step 5. -/
theorem body5 (c : Dev nD) (t : Fin cfg0.N) (h : t.val % 7 = 5) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9))
      ⊢ wp frame (wpE (defs₀ (F := F)) Variants.none c none) Set.univ (bodyAt0 t) fun _ =>
          iprop((rdat m c).Φ t.succ ∗ (rdat m c).owesAt () t.succ
            ∗ (∃ X, ⌜after m c 0 t (Y 0) X⌝ ∗ owns (c : Thread nD τ) ((cfg0.win 0).stage (cfg0.slots t 0)) fullShare X) ∗ (∃ X, ⌜after m c 1 t (Y 1) X⌝ ∗ owns (c : Thread nD τ) ((cfg0.win 1).stage (cfg0.slots t 1)) fullShare X) ∗ (∃ X, ⌜after m c 2 t (Y 2) X⌝ ∗ owns (c : Thread nD τ) ((cfg0.win 2).stage (cfg0.slots t 2)) fullShare X) ∗ (∃ X, ⌜after m c 3 t (Y 3) X⌝ ∗ owns (c : Thread nD τ) ((cfg0.win 3).stage (cfg0.slots t 3)) fullShare X) ∗ (∃ X, ⌜after m c 4 t (Y 4) X⌝ ∗ owns (c : Thread nD τ) ((cfg0.win 4).stage (cfg0.slots t 4)) fullShare X) ∗ (∃ X, ⌜after m c 5 t (Y 5) X⌝ ∗ owns (c : Thread nD τ) ((cfg0.win 5).stage (cfg0.slots t 5)) fullShare X) ∗ (∃ X, ⌜after m c 6 t (Y 6) X⌝ ∗ owns (c : Thread nD τ) ((cfg0.win 6).stage (cfg0.slots t 6)) fullShare X) ∗ (∃ X, ⌜after m c 7 t (Y 7) X⌝ ∗ owns (c : Thread nD τ) ((cfg0.win 7).stage (cfg0.slots t 7)) fullShare X) ∗ (∃ X, ⌜after m c 8 t (Y 8) X⌝ ∗ owns (c : Thread nD τ) ((cfg0.win 8).stage (cfg0.slots t 8)) fullShare X) ∗ (∃ X, ⌜after m c 9 t (Y 9) X⌝ ∗ owns (c : Thread nD τ) ((cfg0.win 9).stage (cfg0.slots t 9)) fullShare X)) := by
  rw [show (rdat m c).Φ t.castSucc = Inv m c t.castSucc from rfl, show (rdat m c).Φ t.succ = Inv m c t.succ from rfl,
    show (rdat m c).owesAt () t.succ = (rdat m c).owesAt () t.castSucc from rfl]
  unfold Inv bodyAt0
  have e2 := finds2 m (hY 2)
  iintro ⟨⟨⟨%H, %hH, HS⟩, Hg⟩, Ho, H2, H3, H4, H5, H6, H7, H8, H9, H10, H11⟩
  iapply (run5 c (grid0.coords t) _ _ _ _ _ _ _ _ _ _ _ _ _ _ _ _ _ _ _ _ _ _ (Y 0) (Y 1) (Y 2) (Y 3) (Y 4) (Y 5) (Y 6) (Y 7) (Y 8) (Y 9) H (fun h' => absurd ((cond_1 t).1 h') (by omega)) (fun h' => absurd ((cond_2 t).1 h') (by omega)) (fun h' => absurd ((cond_3 t).1 h') (by omega)) (fun h' => absurd ((cond_4 t).1 h') (by omega)) ((cond_5 t).2 (by omega)) (fun h' => absurd ((cond_6 t).1 h') (by omega)) Set.univ _)
  unfold Held
  isplitl [HS H2 H3 H4 H5 H6 H7 H8 H9 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  iintro ⟨%z, H2, H3, H4, H5, H6, H7, H8, H9, H10, H11, HS⟩
  have hH' : HOf m c t.val H := hH (by show ¬ t.val % 7 = 0; omega)
  isplitl [HS Hg]
  · isplitl [HS]
    · iexists _; isplitr; swap; · iexact HS
      ipureintro; intro hne; exact HOf_succ m hne hH'
    iexact Hg
  isplitl [Ho]; · iexact Ho
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact ⟨fun h' => absurd h' (by omega), fun _ => rfl⟩
  isplitl [H6]
  · iexists _; isplitr; swap; · iexact H6
    ipureintro; exact ⟨fun h' => absurd h' (by omega), fun _ => rfl⟩
  isplitl [H7]
  · iexists _; isplitr; swap; · iexact H7
    ipureintro; exact trivial
  isplitl [H8]
  · iexists _; isplitr; swap; · iexact H8
    ipureintro; exact ⟨fun h' => absurd h' (by omega), fun _ => rfl⟩
  isplitl [H9]
  · iexists _; isplitr; swap; · iexact H9
    ipureintro; exact trivial
  isplitl [H10]
  · iexists _; isplitr; swap; · iexact H10
    ipureintro; exact ⟨fun _ => ⟨_, hH', by rw [e2]⟩, fun h' => absurd (by omega) h'⟩
  iexists _; isplitr; swap; · iexact H11
  ipureintro; exact ⟨fun h' => absurd h' (by omega), fun _ => rfl⟩

set_option maxHeartbeats 1600000 in
/-- The body at a point of inner step 6. -/
theorem body6 (c : Dev nD) (t : Fin cfg0.N) (h : t.val % 7 = 6) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9))
      ⊢ wp frame (wpE (defs₀ (F := F)) Variants.none c none) Set.univ (bodyAt0 t) fun _ =>
          iprop((rdat m c).Φ t.succ ∗ (rdat m c).owesAt () t.succ
            ∗ (∃ X, ⌜after m c 0 t (Y 0) X⌝ ∗ owns (c : Thread nD τ) ((cfg0.win 0).stage (cfg0.slots t 0)) fullShare X) ∗ (∃ X, ⌜after m c 1 t (Y 1) X⌝ ∗ owns (c : Thread nD τ) ((cfg0.win 1).stage (cfg0.slots t 1)) fullShare X) ∗ (∃ X, ⌜after m c 2 t (Y 2) X⌝ ∗ owns (c : Thread nD τ) ((cfg0.win 2).stage (cfg0.slots t 2)) fullShare X) ∗ (∃ X, ⌜after m c 3 t (Y 3) X⌝ ∗ owns (c : Thread nD τ) ((cfg0.win 3).stage (cfg0.slots t 3)) fullShare X) ∗ (∃ X, ⌜after m c 4 t (Y 4) X⌝ ∗ owns (c : Thread nD τ) ((cfg0.win 4).stage (cfg0.slots t 4)) fullShare X) ∗ (∃ X, ⌜after m c 5 t (Y 5) X⌝ ∗ owns (c : Thread nD τ) ((cfg0.win 5).stage (cfg0.slots t 5)) fullShare X) ∗ (∃ X, ⌜after m c 6 t (Y 6) X⌝ ∗ owns (c : Thread nD τ) ((cfg0.win 6).stage (cfg0.slots t 6)) fullShare X) ∗ (∃ X, ⌜after m c 7 t (Y 7) X⌝ ∗ owns (c : Thread nD τ) ((cfg0.win 7).stage (cfg0.slots t 7)) fullShare X) ∗ (∃ X, ⌜after m c 8 t (Y 8) X⌝ ∗ owns (c : Thread nD τ) ((cfg0.win 8).stage (cfg0.slots t 8)) fullShare X) ∗ (∃ X, ⌜after m c 9 t (Y 9) X⌝ ∗ owns (c : Thread nD τ) ((cfg0.win 9).stage (cfg0.slots t 9)) fullShare X)) := by
  rw [show (rdat m c).Φ t.castSucc = Inv m c t.castSucc from rfl, show (rdat m c).Φ t.succ = Inv m c t.succ from rfl,
    show (rdat m c).owesAt () t.succ = (rdat m c).owesAt () t.castSucc from rfl]
  unfold Inv bodyAt0
  have e2 := finds2 m (hY 2)
  iintro ⟨⟨⟨%H, %hH, HS⟩, Hg⟩, Ho, H2, H3, H4, H5, H6, H7, H8, H9, H10, H11⟩
  iapply (run6 c (grid0.coords t) _ _ _ _ _ _ _ _ _ _ _ _ _ _ _ _ _ _ _ _ _ _ (Y 0) (Y 1) (Y 2) (Y 3) (Y 4) (Y 5) (Y 6) (Y 7) (Y 8) (Y 9) H (fun h' => absurd ((cond_1 t).1 h') (by omega)) (fun h' => absurd ((cond_2 t).1 h') (by omega)) (fun h' => absurd ((cond_3 t).1 h') (by omega)) (fun h' => absurd ((cond_4 t).1 h') (by omega)) (fun h' => absurd ((cond_5 t).1 h') (by omega)) ((cond_6 t).2 (by omega)) Set.univ _)
  unfold Held
  isplitl [HS H2 H3 H4 H5 H6 H7 H8 H9 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  iintro ⟨H2, H3, H4, H5, H6, H7, H8, H9, H10, H11, HS⟩
  have hH' : HOf m c t.val H := hH (by show ¬ t.val % 7 = 0; omega)
  isplitl [HS Hg]
  · isplitl [HS]
    · iexists _; isplitr; swap; · iexact HS
      ipureintro; intro hne; exact HOf_succ m hne hH'
    iexact Hg
  isplitl [Ho]; · iexact Ho
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact ⟨fun h' => absurd h' (by omega), fun _ => rfl⟩
  isplitl [H6]
  · iexists _; isplitr; swap; · iexact H6
    ipureintro; exact ⟨fun h' => absurd h' (by omega), fun _ => rfl⟩
  isplitl [H7]
  · iexists _; isplitr; swap; · iexact H7
    ipureintro; exact trivial
  isplitl [H8]
  · iexists _; isplitr; swap; · iexact H8
    ipureintro; exact ⟨fun h' => absurd h' (by omega), fun _ => rfl⟩
  isplitl [H9]
  · iexists _; isplitr; swap; · iexact H9
    ipureintro; exact trivial
  isplitl [H10]
  · iexists _; isplitr; swap; · iexact H10
    ipureintro; exact ⟨fun h' => absurd h' (by omega), fun _ => rfl⟩
  iexists _; isplitr; swap; · iexact H11
  ipureintro; exact ⟨fun _ => ⟨_, hH', by rw [e2]⟩, fun h' => absurd (by omega) h'⟩

/-- What the body does at every grid point. -/
theorem body (c : Dev nD) : (rdat m c).BodyObligation (defs₀ (F := F)) Variants.none () Set.univ := fun t Y hY => by
  rw [bigSep_W0, bigSep_W0, defs₀_row]
  have h7 := Nat.mod_lt t.val (show 0 < 7 by decide)
  rcases (by omega : (t.val % 7 = 0) ∨ (t.val % 7 = 1 ∨ t.val % 7 = 2) ∨ (t.val % 7 = 3) ∨ (t.val % 7 = 4) ∨ (t.val % 7 = 5) ∨ (t.val % 7 = 6)) with h | h | h | h | h | h
  · exact body0 m c t h Y hY
  · exact body1 m c t h Y hY
  · exact body3 m c t h Y hY
  · exact body4 m c t h Y hY
  · exact body5 m c t h Y hY
  · exact body6 m c t h Y hY

set_option backward.isDefEq.respectTransparency.types false in
/-- The program runs to its end from any memory, leaving the call's arrays as the proof data say, every other buffer as the
call found it, and every semaphore at zero. -/
theorem run_main : θ_run defs (onTc (τ := τ) (main (F := F))) (s₀ m ρ)
    (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := body m) (hshare := fun c w => by unfold RDat.share; split <;> rfl) (howed := fun _ _ => rfl) (V := V m)
    (hmain := hmain m Variants.none) (hA := fun _ _ => rfl)
    (hin := fun c => by
      show Pipeline.ΦA spec0 c ⊢ Inv m c 0
      rw [PhiA_eq]; unfold Inv
      iintro ⟨⟨%d, Hd⟩, Hr⟩
      isplitl [Hd]
      · iexists d; isplitr
        · ipureintro; intro h; exact absurd rfl h
        iexact Hd
      iexact Hr)
    (hout := fun c => by
      show Inv m c _ ⊢ Pipeline.ΦA spec0 c
      rw [PhiA_eq]; unfold Inv
      iintro ⟨⟨%d, -, Hd⟩, Hr⟩
      isplitl [Hd]
      · iexists d; iexact Hd
      iexact Hr)

/-- The program leaves its arguments as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      (Pipeline.RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.In3

end
-- ==== Proof.In3Val.lean ====
module

public import proofs.«01_k».proof.Proof.In3Dat
public import proofs.«01_k».proof.Proof.InBlk
public import Idealize.ShloMosaic.Lib.Pointwise
public import Idealize.ShloMosaic.Lib.WordCmp
public import Idealize.ShloMosaic.Lib.Pipeline.ValueKit.Point

/-! The first in-projection's blocks over the extended reals, entry by entry. -/

@[expose] public section

set_option maxRecDepth 16384

noncomputable section

namespace Cert.In3

open Cert.Kernel3Ideal Cert.Kernel3Ideal.Gen Idealize.ShloMosaic Idealize.ShloMosaic.TcCoe
open Cert.In (nrm head heads piece5 tok packed)
open Idealize.ShloMosaic.Tactic Idealize.SL.Sem

/-- A normalised token block: the rows past the last token are zero, whatever was read there. -/
theorem pay1_at (i : grid0.Coords) (x : FVec Ideal S512x2048 .f32) (g : FVec Ideal S1x2048 .f32) (p : Fin 512) (k : Fin 2048)
    (hi : (i 0).val < 17) :
    k0_pay1 (F := Ideal) i x g (ix2 p k)
      = if 512 * (i 0).val + p.val < 8208 then nrm (fun j => x (ix2 p j)) (fun j => g (ix2 0 j)) k else 0 := by
  pointwise [k0_pay1]
  have hw : IntOp.addi (Scalar.muli (BitVec.ofNat 32 (i 0).val) 512#32) (BitVec.ofNat 32 p.val) = BitVec.ofNat 32 (512 * (i 0).val + p.val) := by
    apply BitVec.eq_of_toNat_eq
    simp [IntOp.addi, Scalar.muli, IntOp.muli]
    omega
  rw [hw, WordCmp.cmpi_slt_ofNat (by omega) (by omega)]
  unfold Scalar.select nrm
  by_cases hp : 512 * (i 0).val + p.val < 8208
  · simp [hp]
  · simp [hp]

theorem pay12_at (H : FVec Ideal S512x2048 .bf16) (W : FVec Ideal S1x2048x768 .bf16) (p : Fin 512) (n : Fin 768) :
    k0_pay12 (F := Ideal) H W (ix2 p n) = ∑ k : Fin 2048, H (ix2 p k) * W (ix3 0 k n) := by
  pointwise [k0_pay12]

/-- Two of the products are the same term. -/
theorem pay2_eq (H : Vec Ideal S512x2048 .bf16) (W : Vec Ideal S1x2048x768 .bf16) : k0_pay2 H W = k0_pay12 H W := rfl

/-- The block of queries is any array each of its stores agrees with. -/
theorem O6_apply {F : FTy → Type} [FloatOps F] (H : Vec F S512x2048 .bf16) (W : Vec F S1x2048x768 .bf16)
    (G : S6x512x128.Idx → Elt F .bf16) (hp : ∀ q ∈ P6 (F := F) H W, ∀ x : q.1.shape.Idx, q.2 x = G (q.1.emb x)) (y : S6x512x128.Idx) :
    O6 (F := F) H W y = G y := by
  unfold O6
  have h := cover6 H W y
  exact View.canon_apply_of_pieces G (P6 (F := F) H W) hp y h

/-- There is an array of heads that every store of the block of queries agrees with. -/
theorem P6_eq (H : Vec Ideal S512x2048 .bf16) (W : Vec Ideal S1x2048x768 .bf16) : ∃ G : S6x512x128.Idx → Elt Ideal .bf16,
    (∀ (h : Fin 6) (p : Fin 512) (d : Fin 128), G (ix3 h p d : S6x512x128.Idx) = head (k0_pay12 H W) h p d) ∧ ∀ q ∈ P6 (F := Ideal) H W, ∀ x : q.1.shape.Idx, q.2 x = G (q.1.emb x) := by
  refine ⟨heads (k0_pay12 H W), fun _ _ _ => rfl, ?_⟩
  unfold P6
  simp only [List.forall_mem_cons]
  refine ⟨?_, ?_, ?_, ?_, ?_, ?_, fun _ h => absurd h List.not_mem_nil⟩
  · exact piece5 (k0_pay12 H W) 5 640 rfl _ _ _ rfl _ (fun _ _ _ => rfl)
  · exact piece5 (k0_pay12 H W) 4 512 rfl _ _ _ rfl _ (fun _ _ _ => rfl)
  · exact piece5 (k0_pay12 H W) 3 384 rfl _ _ _ rfl _ (fun _ _ _ => rfl)
  · exact piece5 (k0_pay12 H W) 2 256 rfl _ _ _ rfl _ (fun _ _ _ => rfl)
  · exact piece5 (k0_pay12 H W) 1 128 rfl _ _ _ rfl _ (fun _ _ _ => rfl)
  · exact piece5 (k0_pay12 H W) 0 0 rfl _ _ _ rfl _ (fun _ _ _ => rfl)

/-- The block of queries: head `h` of token `p` is that part of the token's product. -/
theorem O6_at (H : Vec Ideal S512x2048 .bf16) (W : Vec Ideal S1x2048x768 .bf16) (h : Fin 6) (p : Fin 512) (d : Fin 128) :
    O6 (F := Ideal) H W (ix3 h p d : S6x512x128.Idx) = head (k0_pay12 H W) h p d := by
  obtain ⟨G, hG, hp⟩ := P6_eq H W
  exact (O6_apply H W G hp _).trans (hG h p d)

/-- The block of keys is any array each of its stores agrees with. -/
theorem O8_apply {F : FTy → Type} [FloatOps F] (H : Vec F S512x2048 .bf16) (W : Vec F S1x2048x768 .bf16)
    (G : S6x512x128.Idx → Elt F .bf16) (hp : ∀ q ∈ P8 (F := F) H W, ∀ x : q.1.shape.Idx, q.2 x = G (q.1.emb x)) (y : S6x512x128.Idx) :
    O8 (F := F) H W y = G y := by
  unfold O8
  have h := cover8 H W y
  exact View.canon_apply_of_pieces G (P8 (F := F) H W) hp y h

/-- There is an array of heads that every store of the block of keys agrees with. -/
theorem P8_eq (H : Vec Ideal S512x2048 .bf16) (W : Vec Ideal S1x2048x768 .bf16) : ∃ G : S6x512x128.Idx → Elt Ideal .bf16,
    (∀ (h : Fin 6) (p : Fin 512) (d : Fin 128), G (ix3 h p d : S6x512x128.Idx) = head (k0_pay12 H W) h p d) ∧ ∀ q ∈ P8 (F := Ideal) H W, ∀ x : q.1.shape.Idx, q.2 x = G (q.1.emb x) := by
  refine ⟨heads (k0_pay12 H W), fun _ _ _ => rfl, ?_⟩
  unfold P8
  simp only [List.forall_mem_cons]
  refine ⟨?_, ?_, ?_, ?_, ?_, ?_, fun _ h => absurd h List.not_mem_nil⟩
  · exact piece5 (k0_pay12 H W) 5 640 rfl _ _ _ rfl _ (fun _ _ _ => rfl)
  · exact piece5 (k0_pay12 H W) 4 512 rfl _ _ _ rfl _ (fun _ _ _ => rfl)
  · exact piece5 (k0_pay12 H W) 3 384 rfl _ _ _ rfl _ (fun _ _ _ => rfl)
  · exact piece5 (k0_pay12 H W) 2 256 rfl _ _ _ rfl _ (fun _ _ _ => rfl)
  · exact piece5 (k0_pay12 H W) 1 128 rfl _ _ _ rfl _ (fun _ _ _ => rfl)
  · exact piece5 (k0_pay12 H W) 0 0 rfl _ _ _ rfl _ (fun _ _ _ => rfl)

/-- The block of keys: head `h` of token `p` is that part of the token's product. -/
theorem O8_at (H : Vec Ideal S512x2048 .bf16) (W : Vec Ideal S1x2048x768 .bf16) (h : Fin 6) (p : Fin 512) (d : Fin 128) :
    O8 (F := Ideal) H W (ix3 h p d : S6x512x128.Idx) = head (k0_pay12 H W) h p d := by
  obtain ⟨G, hG, hp⟩ := P8_eq H W
  exact (O8_apply H W G hp _).trans (hG h p d)

/-- The block of values is any array each of its stores agrees with. -/
theorem O10_apply {F : FTy → Type} [FloatOps F] (H : Vec F S512x2048 .bf16) (W : Vec F S1x2048x768 .bf16)
    (G : S6x1x128x512.Idx → Elt F .bf16) (hp : ∀ q ∈ P10 (F := F) H W, ∀ x : q.1.shape.Idx, q.2 x = G (q.1.emb x)) (y : S6x1x128x512.Idx) :
    O10 (F := F) H W y = G y := by
  unfold O10
  have h := cover10 H W y
  exact View.canon_apply_of_pieces G (P10 (F := F) H W) hp y h

/-- One head's block of a product, transposed. -/
theorem sliceT_at (acc : FVec Ideal S512x768 .f32) (h : Fin 6) (o : ℕ) (ho : o = 128 * h.val) (hs : S512x768.Slices ![0, o] S512x128)
    (a a' : Fin 1) (d : Fin 128) (r : Fin 512) :
    shapeCast S1x1x128x512 (truncf (F := Ideal) .bf16 (transpose S128x512 [1, 0] (extractStridedSlice S512x128 ![0, o] acc hs)
      transposes_S512x128_p1_0_S128x512) bitsLt_bf16_f32 : FVec Ideal S128x512 .bf16) shapeCasts_S128x512_S1x1x128x512 (ix4 a a' d r)
      = head acc h r d := by
  subst ho
  pointwise [head]

/-- Where a head's transposed block lies in the output's block. -/
theorem emb10 (h : Fin 6) (hb : ∀ i, _ ) (a b : Fin 1) (d : Fin 128) (r : Fin 512) :
    (Rect.unit (s := S6x1x128x512) ![h.val, 0, 0, 0] S1x1x128x512.size hb).emb (ix4 a b d r : S1x1x128x512.Idx) = (ix4 h b d r : S6x1x128x512.Idx) := by
  blk_ext []

/-- The store of head `h` is that head, transposed. -/
theorem piece10 (acc : FVec Ideal S512x768 .f32) (h : Fin 6) (o : ℕ) (ho : o = 128 * h.val) (hs : S512x768.Slices ![0, o] S512x128)
    (hb : ∀ i, _) (w : Vec Ideal S1x1x128x512 .bf16)
    (hw : w = shapeCast S1x1x128x512 (truncf (F := Ideal) .bf16 (transpose S128x512 [1, 0] (extractStridedSlice S512x128 ![0, o] acc hs)
      transposes_S512x128_p1_0_S128x512) bitsLt_bf16_f32 : FVec Ideal S128x512 .bf16) shapeCasts_S128x512_S1x1x128x512)
    (G : S6x1x128x512.Idx → Elt Ideal .bf16) (hG : ∀ (h : Fin 6) (q : Fin 1) (d : Fin 128) (r : Fin 512), G (ix4 h q d r) = head acc h r d) :
    ∀ x : (Rect.unit (s := S6x1x128x512) ![h.val, 0, 0, 0] S1x1x128x512.size hb).shape.Idx,
      w x = G ((Rect.unit (s := S6x1x128x512) ![h.val, 0, 0, 0] S1x1x128x512.size hb).emb x) := by
  intro x
  obtain ⟨a, b, c, d, rfl⟩ : ∃ (a : Fin 1) (b : Fin 1) (c : Fin 128) (d : Fin 512), x = (ix4 a b c d : S1x1x128x512.Idx) := ⟨x 0, x 1, x 2, x 3, by blk_ext []⟩
  rw [hw]
  exact (sliceT_at acc h o ho hs a b c d).trans ((hG h b c d).symm.trans (congrArg G (emb10 h hb a b c d).symm))

/-- The heads of a product, transposed, as one array. -/
def headsT (acc : FVec Ideal S512x768 .f32) : S6x1x128x512.Idx → Elt Ideal .bf16 :=
  fun y => head acc (y 0) (y 3) (y 2)

/-- There is an array of heads that every store of the block of values agrees with. -/
theorem P10_eq (H : Vec Ideal S512x2048 .bf16) (W : Vec Ideal S1x2048x768 .bf16) : ∃ G : S6x1x128x512.Idx → Elt Ideal .bf16,
    (∀ (h : Fin 6) (q : Fin 1) (d : Fin 128) (r : Fin 512), G (ix4 h q d r : S6x1x128x512.Idx) = head (k0_pay12 H W) h r d) ∧ ∀ q ∈ P10 (F := Ideal) H W, ∀ x : q.1.shape.Idx, q.2 x = G (q.1.emb x) := by
  refine ⟨headsT (k0_pay12 H W), fun _ _ _ _ => rfl, ?_⟩
  unfold P10
  simp only [List.forall_mem_cons]
  refine ⟨?_, ?_, ?_, ?_, ?_, ?_, fun _ h => absurd h List.not_mem_nil⟩
  · exact piece10 (k0_pay12 H W) 5 640 rfl slices_S512x768_o0_640_S512x128 _ _ rfl _ (fun _ _ _ _ => rfl)
  · exact piece10 (k0_pay12 H W) 4 512 rfl slices_S512x768_o0_512_S512x128 _ _ rfl _ (fun _ _ _ _ => rfl)
  · exact piece10 (k0_pay12 H W) 3 384 rfl slices_S512x768_o0_384_S512x128 _ _ rfl _ (fun _ _ _ _ => rfl)
  · exact piece10 (k0_pay12 H W) 2 256 rfl slices_S512x768_o0_256_S512x128 _ _ rfl _ (fun _ _ _ _ => rfl)
  · exact piece10 (k0_pay12 H W) 1 128 rfl slices_S512x768_o0_128_S512x128 _ _ rfl _ (fun _ _ _ _ => rfl)
  · exact piece10 (k0_pay12 H W) 0 0 rfl slices_S512x768_o0_0_S512x128 _ _ rfl _ (fun _ _ _ _ => rfl)

/-- The block of values: head `h` of token `r`, transposed. -/
theorem O10_at (H : Vec Ideal S512x2048 .bf16) (W : Vec Ideal S1x2048x768 .bf16) (h : Fin 6) (q : Fin 1) (d : Fin 128) (r : Fin 512) :
    O10 (F := Ideal) H W (ix4 h q d r : S6x1x128x512.Idx) = head (k0_pay12 H W) h r d := by
  obtain ⟨G, hG, hp⟩ := P10_eq H W
  exact (O10_apply H W G hp _).trans (hG h q d r)

end Cert.In3

end
-- ==== Proof.In3Blk.lean ====
module

public import proofs.«01_k».proof.Proof.In3Val
public import Idealize.ShloMosaic.Lib.Pointwise
public import Idealize.ShloMosaic.Lib.WordCmp
public import Idealize.ShloMosaic.Lib.Pipeline.ValueKit.Point

/-! What the first in-projection reads and the products it makes, entry by entry. -/

@[expose] public section

set_option maxRecDepth 16384

noncomputable section

namespace Cert.In3

open Cert.Kernel3Ideal Cert.Kernel3Ideal.Gen Idealize.ShloMosaic Idealize.ShloMosaic.TcCoe
open Cert.In (nrm head heads piece5 tok packed)
open Idealize.ShloMosaic.Tactic Idealize.SL.Sem

variable (m : (ℓ : Loc nD τ sig) → Buf (Elt Ideal) ℓ)

/-- The scale as the call reads it. -/
theorem V18_at (c : Dev nD) (k : Fin 2048) : V m c main_v18 (ix2 0 k) = m ((c : Thread nD τ).loc main_arg1) (ix1 k) := by
  have h : V m c main_v18 = (shapeCast S1x2048 (m ((c : Thread nD τ).loc main_arg1) : FVec Ideal S2048 .f32) shapeCasts_S2048_S1x2048 : FVec Ideal S1x2048 .f32) := by
    unfold_abbrev_sides
    after_results
    rfl
  rw [h]
  pointwise []

theorem V17_eq (c : Dev nD) : V m c main_v17 = (transpose S11x2048x768 [1, 0, 2]
    (shapeCast S2048x11x768 (truncf (F := Ideal) .bf16 (packed (m ((c : Thread nD τ).loc main_arg2))) bitsLt_bf16_f32 : FVec Ideal S2048x8448 .bf16) shapeCasts_S2048x8448_S2048x11x768)
    transposes_S2048x11x768_S11x2048x768_1_0_2 : FVec Ideal S11x2048x768 .bf16) := by
  unfold_abbrev_sides
  after_results
  rfl

theorem V17_at (c : Dev nD) (a : Fin 11) (k : Fin 2048) (n : Fin 768) :
    V m c main_v17 (ix3 a k n) = packed (m ((c : Thread nD τ).loc main_arg2)) (ix2 k ⟨a.val * 768 + n.val, by omega⟩) := by
  rw [V17_eq]
  generalize packed _ = P
  pointwise []

theorem ixs : ∀ t : Fin cfg0.N, win0_0.index t (0 : Fin 2) = t.val / 7 ∧ win0_0.index t (1 : Fin 2) = 0
    ∧ win0_1.index t (0 : Fin 2) = 0 ∧ win0_1.index t (1 : Fin 2) = 0
    ∧ win0_2.index t (0 : Fin 3) = t.val % 7 ∧ win0_2.index t (1 : Fin 3) = 0 ∧ win0_2.index t (2 : Fin 3) = 0
    ∧ (grid0.coords t 0).val = t.val / 7 := (by decide +kernel : ∀ t : Fin grid0.N, _)

theorem xs0 : ∀ t : Fin cfg0.N, (cfg0.win 0).xsize (cfg0.grid.coords t) (0 : Fin 2) = min 512 (8208 - 512 * (t.val / 7))
    ∧ (cfg0.win 0).xsize (cfg0.grid.coords t) (1 : Fin 2) = 2048 := (by decide +kernel : ∀ t : Fin grid0.N, _)

/-- The token block at a point, on its rows inside the array. -/
theorem fill0_at (c : Dev nD) (t : Fin cfg0.N) (d : Vec Ideal S512x2048 .f32) (p : Fin 512) (k : Fin 2048) (hp : 512 * (t.val / 7) + p.val < 8208) :
    ((cfg0.win 0).fill (cfg0.grid.coords t) d (iblk m c 0 t) : Vec Ideal S512x2048 .f32) (ix2 p k)
      = m ((c : Thread nD τ).loc main_arg0) (ix2 ⟨512 * (t.val / 7) + p.val, hp⟩ k) := by
  obtain ⟨e0, e1, -⟩ := ixs t
  obtain ⟨x0, x1⟩ := xs0 t
  have hm : (cfg0.win 0).moved (cfg0.grid.coords t) (ix2 p k) = true := by
    rw [Pipeline.Window.moved_iff]
    intro a
    match a with
    | 0 => rw [x0]; show p.val < _; omega
    | 1 => rw [x1]; exact k.isLt
  unfold Pipeline.Window.fill
  rw [dif_pos hm, ← V_main_arg0 m c]
  blk_ext [iblk, e0, e1]

theorem g_at (c : Dev nD) (t : Fin cfg0.N) (k : Fin 2048) : iblk m c 1 t (ix2 0 k) = m ((c : Thread nD τ).loc main_arg1) (ix1 k) := by
  obtain ⟨-, -, e0, e1, -⟩ := ixs t
  rw [← V18_at m c k]
  blk_ext [iblk, e0, e1]

/-- The weight tile at a point: a tile of the packed weights. -/
theorem wt_at (c : Dev nD) (t : Fin cfg0.N) (k : Fin 2048) (n : Fin 768) :
    iblk m c 2 t (ix3 0 k n) = packed (m ((c : Thread nD τ).loc main_arg2)) (ix2 k ⟨t.val % 7 * 768 + n.val, by omega⟩) := by
  obtain ⟨-, -, -, -, e0, e1, e2, -⟩ := ixs t
  have h : iblk m c 2 t (ix3 0 k n) = V m c main_v17 (ix3 ⟨t.val % 7, by omega⟩ k n) := by
    blk_ext [iblk, e0, e1, e2]
  rw [h, V17_at]

/-- A normalised token block, entry by entry. -/
theorem HOf_at (c : Dev nD) (t : Fin cfg0.N) (H : Vec Ideal S512x2048 .bf16) (h : HOf m c t.val H) (p : Fin 512) (k : Fin 2048) :
    H (ix2 p k) = tok (m ((c : Thread nD τ).loc main_arg0)) (m ((c : Thread nD τ).loc main_arg1)) (512 * (t.val / 7) + p.val) k := by
  obtain ⟨d, rfl⟩ := h
  have ht : (t.val : ℕ) < 119 := t.isLt
  have hpt : (pt t.val).val / 7 = t.val / 7 := by show (t.val / 7 * 7) % 119 / 7 = _; omega
  obtain ⟨-, -, -, -, -, -, -, hc⟩ := ixs (pt t.val)
  rw [hpt] at hc
  rw [pay1_at _ _ _ _ _ (by rw [hc]; omega), hc]
  unfold tok
  by_cases hp : 512 * (t.val / 7) + p.val < 8208
  · rw [if_pos hp, dif_pos hp]
    have ex : (fun j => ((cfg0.win 0).fill (cfg0.grid.coords (pt t.val)) d (iblk m c 0 (pt t.val)) : Vec Ideal S512x2048 .f32) (ix2 p j))
        = fun j => m ((c : Thread nD τ).loc main_arg0) (ix2 ⟨512 * (t.val / 7) + p.val, hp⟩ j) := by
      funext j
      rw [fill0_at m c (pt t.val) d p j (by rw [hpt]; exact hp)]
      simp only [hpt]
    have eg : (fun j => iblk m c 1 (pt 0) (ix2 0 j)) = fun j => m ((c : Thread nD τ).loc main_arg1) (ix1 j) := by
      funext j; exact g_at m c _ j
    exact congrArg₂ (fun a b => nrm a b k) ex eg
  · rw [if_neg hp, dif_neg hp]

/-- A token's projection onto a column of the packed weights. -/
def pr (x : FVec Ideal S8208x2048 .f32) (g : FVec Ideal S2048 .f32) (w : FVec Ideal S2048x7696 .f32) (r : ℕ) (n : Fin 8448) : EReal :=
  ∑ k : Fin 2048, tok x g r k * packed w (ix2 k n)

/-- The product a point makes of a normalised block and its weight tile, entry by entry. -/
theorem acc_at (c : Dev nD) (t : Fin cfg0.N) (H : Vec Ideal S512x2048 .bf16) (h : HOf m c t.val H) (p : Fin 512) (n : Fin 768) :
    k0_pay12 (F := Ideal) H (iblk m c 2 t : Vec Ideal S1x2048x768 .bf16) (ix2 p n)
      = pr (m ((c : Thread nD τ).loc main_arg0)) (m ((c : Thread nD τ).loc main_arg1)) (m ((c : Thread nD τ).loc main_arg2)) (512 * (t.val / 7) + p.val) ⟨t.val % 7 * 768 + n.val, by omega⟩ := by
  rw [pay12_at]
  unfold pr
  refine Finset.sum_congr rfl fun k _ => ?_
  rw [HOf_at m c t H h p k, wt_at m c t k n]

end Cert.In3

end
-- ==== Proof.In3Fin.lean ====
module

public import proofs.«01_k».proof.Proof.In3Blk
public import Idealize.ShloMosaic.Lib.Pointwise
public import Idealize.ShloMosaic.Lib.Pipeline.ValueKit
public import Idealize.ShloMosaic.Lib.Pipeline.ArrRel
public import Idealize.ShloMosaic.Lib.Pipeline.ValueKit.Point
@[expose] public section
set_option maxRecDepth 16384
noncomputable section
namespace Cert.In3
open Cert.Kernel3Ideal Cert.Kernel3Ideal.Gen Idealize.ShloMosaic Idealize.ShloMosaic.TcCoe
open Cert.In (head tok packed)
open Idealize.ShloMosaic.Tactic Idealize.SL.Sem

open Idealize.ShloMosaic.Pipeline (RDat Cfg Window cellOf)

variable (m : (ℓ : Loc nD τ sig) → Buf (Elt Ideal) ℓ) (ρ : Dev nD → PrngReg)

/-- The first three column groups, side by side. -/
def GP (x : FVec Ideal S8208x2048 .f32) (g : FVec Ideal S2048 .f32) (w : FVec Ideal S2048x7696 .f32) : FVec Ideal S8704x2304 .f32 :=
  fun y => pr x g w (y 0).val ⟨(y 1).val, by have := (y 1).isLt; simp [S8704x2304] at *; omega⟩

/-- The queries (`j = 3`) or keys (`j = 4`) as one array of heads. -/
def GH (x : FVec Ideal S8208x2048 .f32) (g : FVec Ideal S2048 .f32) (w : FVec Ideal S2048x7696 .f32) (j : Fin 7) : FVec Ideal S6x8704x128 .bf16 :=
  fun y => pr x g w (y 1).val ⟨j.val * 768 + (128 * (y 0).val + (y 2).val), by have := (y 0).isLt; have := (y 2).isLt; simp [S6x8704x128] at *; omega⟩

/-- The values, transposed and in chunks of 512 tokens. -/
def GV (x : FVec Ideal S8208x2048 .f32) (g : FVec Ideal S2048 .f32) (w : FVec Ideal S2048x7696 .f32) : FVec Ideal S6x17x128x512 .bf16 :=
  fun y => pr x g w (512 * (y 1).val + (y 3).val) ⟨5 * 768 + (128 * (y 0).val + (y 2).val), by have := (y 0).isLt; have := (y 2).isLt; simp [S6x17x128x512] at *; omega⟩

/-- The gate. -/
def GG (x : FVec Ideal S8208x2048 .f32) (g : FVec Ideal S2048 .f32) (w : FVec Ideal S2048x7696 .f32) : FVec Ideal S8704x768 .f32 :=
  fun y => pr x g w (y 0).val ⟨6 * 768 + (y 1).val, by have := (y 1).isLt; simp [S8704x768] at *; omega⟩

theorem fetch3 : ∀ t : Fin cfg0.N, (cfg0.win 3).fetch t = false := fun t => by simp [Window.fetch]
theorem flush3 : ∀ t : Fin cfg0.N, (cfg0.win 3).flush t = true → t.val % 7 = 6 ∨ t.val % 7 < 2 := (by decide +kernel : ∀ t : Fin grid0.N, _)
theorem fetch4 : ∀ t : Fin cfg0.N, (cfg0.win 4).fetch t = false := fun t => by simp [Window.fetch]
theorem flush4 : ∀ t : Fin cfg0.N, (cfg0.win 4).flush t = true → t.val % 7 = 6 := (by decide +kernel : ∀ t : Fin grid0.N, _)
theorem fetch6 : ∀ t : Fin cfg0.N, (cfg0.win 6).fetch t = false := fun t => by simp [Window.fetch]
theorem flush6 : ∀ t : Fin cfg0.N, (cfg0.win 6).flush t = true → t.val % 7 = 6 := (by decide +kernel : ∀ t : Fin grid0.N, _)
theorem fetch8 : ∀ t : Fin cfg0.N, (cfg0.win 8).fetch t = false := fun t => by simp [Window.fetch]
theorem flush8 : ∀ t : Fin cfg0.N, (cfg0.win 8).flush t = true → t.val % 7 = 6 := (by decide +kernel : ∀ t : Fin grid0.N, _)
theorem fetch9 : ∀ t : Fin cfg0.N, (cfg0.win 9).fetch t = false := fun t => by simp [Window.fetch]
theorem flush9 : ∀ t : Fin cfg0.N, (cfg0.win 9).flush t = true → t.val % 7 = 6 := (by decide +kernel : ∀ t : Fin grid0.N, _)

/-- A block kept from its own inner step on is, at a later point of the same seven, what was left at that step. -/
theorem back (c : Dev nD) (w : Fin cfg0.W) (j : ℕ) (hf : ∀ t, (cfg0.win w).fetch t = false) (hfl : ∀ t : Fin cfg0.N, (cfg0.win w).flush t = true → t.val % 7 = 6 ∨ t.val % 7 < j)
    (hk : ∀ t Y X, (rdat m c).after w t Y X → j < t.val % 7 → X = Y) :
    ∀ (n : ℕ) (t : Fin cfg0.N), t.val % 7 = j + n → ∀ X, (rdat m c).Leaves w t X → ∃ t0 : Fin cfg0.N, t0.val + n = t.val ∧ (rdat m c).Leaves w t0 X
  | 0, t, _, X, h => ⟨t, rfl, h⟩
  | n + 1, t, ht, X, h => by
    obtain ⟨Y, hY, ha⟩ := h
    obtain rfl := hk t Y X ha (by omega)
    rcases ((rdat m c).finds_of_pos (hf t) (by omega) X).1 hY with h | h
    · have h' : (t.val - 1) % 7 = 6 ∨ (t.val - 1) % 7 < j := hfl _ h
      omega
    · obtain ⟨t0, h0, hl⟩ := back c w j hf hfl hk n ⟨t.val - 1, _⟩ (by show (t.val - 1) % 7 = j + n; omega) X h
      exact ⟨t0, by have : t0.val + n = t.val - 1 := h0; omega, hl⟩

/-- What a write-back of output window 3 writes: the block made at that inner step, or at inner step 2 of the same seven points. -/
theorem left3_of (c : Dev nD) (t : Fin cfg0.N) (ht : t.val % 7 = 6 ∨ t.val % 7 < 2) (X) (h : (rdat m c).Leaves 3 t X) :
    ∃ (t0 : Fin cfg0.N) (H : Vec Ideal S512x2048 .bf16), t0.val / 7 = t.val / 7 ∧ t0.val % 7 = min (t.val % 7) 2 ∧ HOf m c t0.val H ∧ X = k0_pay2 H (iblk m c 2 t0 : Vec Ideal S1x2048x768 .bf16) := by
  rcases ht with ht | ht
  · obtain ⟨t0, h0, Y, -, ha⟩ := back m c 3 2 fetch3 flush3 (fun t Y X h hj => h.2 (by omega)) 4 t (by omega) X h
    obtain ⟨H, hH, hX⟩ := ha.1 (by omega)
    exact ⟨t0, H, by omega, by omega, hH, hX⟩
  · obtain ⟨Y, -, ha⟩ := h
    obtain ⟨H, hH, hX⟩ := ha.1 (by omega)
    exact ⟨t, H, by omega, by omega, hH, hX⟩

/-- What the write-back of output window 4 writes: the block made at inner step 3 of the same seven points. -/
theorem left4_of (c : Dev nD) (t : Fin cfg0.N) (ht : t.val % 7 = 6) (X) (h : (rdat m c).Leaves 4 t X) :
    ∃ (t0 : Fin cfg0.N) (H : Vec Ideal S512x2048 .bf16), t0.val / 7 = t.val / 7 ∧ t0.val % 7 = 3 ∧ HOf m c t0.val H ∧ X = O6 H (iblk m c 2 t0 : Vec Ideal S1x2048x768 .bf16) := by
  obtain ⟨t0, h0, Y, -, ha⟩ := back m c 4 3 fetch4 (fun t h => Or.inl (flush4 t h)) (fun t Y X h hj => h.2 (by omega)) 3 t (by omega) X h
  obtain ⟨H, hH, hX⟩ := ha.1 (by omega)
  exact ⟨t0, H, by omega, by omega, hH, hX⟩

/-- What the write-back of output window 6 writes: the block made at inner step 4 of the same seven points. -/
theorem left6_of (c : Dev nD) (t : Fin cfg0.N) (ht : t.val % 7 = 6) (X) (h : (rdat m c).Leaves 6 t X) :
    ∃ (t0 : Fin cfg0.N) (H : Vec Ideal S512x2048 .bf16), t0.val / 7 = t.val / 7 ∧ t0.val % 7 = 4 ∧ HOf m c t0.val H ∧ X = O8 H (iblk m c 2 t0 : Vec Ideal S1x2048x768 .bf16) := by
  obtain ⟨t0, h0, Y, -, ha⟩ := back m c 6 4 fetch6 (fun t h => Or.inl (flush6 t h)) (fun t Y X h hj => h.2 (by omega)) 2 t (by omega) X h
  obtain ⟨H, hH, hX⟩ := ha.1 (by omega)
  exact ⟨t0, H, by omega, by omega, hH, hX⟩

/-- What the write-back of output window 8 writes: the block made at inner step 5 of the same seven points. -/
theorem left8_of (c : Dev nD) (t : Fin cfg0.N) (ht : t.val % 7 = 6) (X) (h : (rdat m c).Leaves 8 t X) :
    ∃ (t0 : Fin cfg0.N) (H : Vec Ideal S512x2048 .bf16), t0.val / 7 = t.val / 7 ∧ t0.val % 7 = 5 ∧ HOf m c t0.val H ∧ X = O10 H (iblk m c 2 t0 : Vec Ideal S1x2048x768 .bf16) := by
  obtain ⟨t0, h0, Y, -, ha⟩ := back m c 8 5 fetch8 (fun t h => Or.inl (flush8 t h)) (fun t Y X h hj => h.2 (by omega)) 1 t (by omega) X h
  obtain ⟨H, hH, hX⟩ := ha.1 (by omega)
  exact ⟨t0, H, by omega, by omega, hH, hX⟩

/-- What the write-back of output window 9 writes: the block made at inner step 6 of the same seven points. -/
theorem left9_of (c : Dev nD) (t : Fin cfg0.N) (ht : t.val % 7 = 6) (X) (h : (rdat m c).Leaves 9 t X) :
    ∃ (t0 : Fin cfg0.N) (H : Vec Ideal S512x2048 .bf16), t0.val / 7 = t.val / 7 ∧ t0.val % 7 = 6 ∧ HOf m c t0.val H ∧ X = k0_pay12 H (iblk m c 2 t0 : Vec Ideal S1x2048x768 .bf16) := by
  obtain ⟨t0, h0, Y, -, ha⟩ := back m c 9 6 fetch9 (fun t h => Or.inl (flush9 t h)) (fun t Y X h hj => h.2 (by omega)) 0 t (by omega) X h
  obtain ⟨H, hH, hX⟩ := ha.1 (by omega)
  exact ⟨t0, H, by omega, by omega, hH, hX⟩

theorem ixo : ∀ t : Fin cfg0.N, win0_4.index t (0 : Fin 3) = 0 ∧ win0_4.index t (1 : Fin 3) = t.val / 7 ∧ win0_4.index t (2 : Fin 3) = 0
    ∧ win0_6.index t (0 : Fin 3) = 0 ∧ win0_6.index t (1 : Fin 3) = t.val / 7 ∧ win0_6.index t (2 : Fin 3) = 0
    ∧ win0_8.index t (0 : Fin 4) = 0 ∧ win0_8.index t (1 : Fin 4) = t.val / 7 ∧ win0_8.index t (2 : Fin 4) = 0 ∧ win0_8.index t (3 : Fin 4) = 0
    ∧ win0_9.index t (0 : Fin 2) = t.val / 7 ∧ win0_9.index t (1 : Fin 2) = 0
    ∧ win0_3.index t (0 : Fin 2) = t.val / 7 ∧ win0_3.index t (1 : Fin 2) = min (t.val % 7) 2 := (by decide +kernel : ∀ t : Fin grid0.N, _)

/-- The array of the first three column groups after the run. -/
theorem final3 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 3 cfg0.N
      = GP (m ((c : Thread nD τ).loc main_arg0)) (m ((c : Thread nD τ).loc main_arg1)) (m ((c : Thread nD τ).loc main_arg2)) := by
  refine ((rdat m c).withAfter after).arrAt_eq_of_covers 3 _ (by decide +kernel) fun t hf y => ?_
  obtain ⟨t0, H, ht, hj, hH, hX⟩ := left3_of m c t (flush3 t hf) _ (hL 3 t hf)
  obtain ⟨-, -, -, -, -, -, -, -, -, -, -, -, e0, e1⟩ := ixo t
  have htl : t.val < 119 := t.isLt
  obtain ⟨p, n, rfl⟩ : ∃ (p : Fin 512) (n : Fin 768), y = (ix2 p n : S512x768.Idx) := ⟨y 0, y 1, by blk_ext []⟩
  have he : ((cfg0.win 3).blk t).view.emb (ix2 p n : S512x768.Idx) = (ix2 ⟨512 * (t.val / 7) + p.val, by omega⟩ ⟨min (t.val % 7) 2 * 768 + n.val, by omega⟩ : S8704x2304.Idx) := by
    blk_ext [e0, e1]
  refine Eq.trans ?_ (congrArg _ he.symm)
  show after 3 t (ix2 p n : S512x768.Idx) = _
  rw [hX, pay2_eq, acc_at m c t0 H hH, ht]
  unfold GP
  simp only [hj]
  rfl

/-- The array of queries after the run. -/
theorem final4 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 4 cfg0.N
      = GH (m ((c : Thread nD τ).loc main_arg0)) (m ((c : Thread nD τ).loc main_arg1)) (m ((c : Thread nD τ).loc main_arg2)) 3 := by
  refine ((rdat m c).withAfter after).arrAt_eq_of_covers 4 _ (by decide +kernel) fun t hf y => ?_
  obtain ⟨t0, H, ht, hj, hH, hX⟩ := left4_of m c t (flush4 t hf) _ (hL 4 t hf)
  obtain ⟨e0, e1, e2, -⟩ := ixo t
  have htl : t.val < 119 := t.isLt
  obtain ⟨h, p, d, rfl⟩ : ∃ (h : Fin 6) (p : Fin 512) (d : Fin 128), y = (ix3 h p d : S6x512x128.Idx) := ⟨y 0, y 1, y 2, by blk_ext []⟩
  have he : ((cfg0.win 4).blk t).view.emb (ix3 h p d : S6x512x128.Idx) = (ix3 h ⟨512 * (t.val / 7) + p.val, by omega⟩ d : S6x8704x128.Idx) := by
    blk_ext [e0, e1, e2]
  refine Eq.trans ?_ (congrArg _ he.symm)
  show after 4 t (ix3 h p d : S6x512x128.Idx) = _
  rw [hX, O6_at]
  unfold head
  rw [acc_at m c t0 H hH, ht]
  unfold GH
  simp only [hj]
  rfl

/-- The array of keys after the run. -/
theorem final6 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 6 cfg0.N
      = GH (m ((c : Thread nD τ).loc main_arg0)) (m ((c : Thread nD τ).loc main_arg1)) (m ((c : Thread nD τ).loc main_arg2)) 4 := by
  refine ((rdat m c).withAfter after).arrAt_eq_of_covers 6 _ (by decide +kernel) fun t hf y => ?_
  obtain ⟨t0, H, ht, hj, hH, hX⟩ := left6_of m c t (flush6 t hf) _ (hL 6 t hf)
  obtain ⟨-, -, -, e0, e1, e2, -⟩ := ixo t
  have htl : t.val < 119 := t.isLt
  obtain ⟨h, p, d, rfl⟩ : ∃ (h : Fin 6) (p : Fin 512) (d : Fin 128), y = (ix3 h p d : S6x512x128.Idx) := ⟨y 0, y 1, y 2, by blk_ext []⟩
  have he : ((cfg0.win 6).blk t).view.emb (ix3 h p d : S6x512x128.Idx) = (ix3 h ⟨512 * (t.val / 7) + p.val, by omega⟩ d : S6x8704x128.Idx) := by
    blk_ext [e0, e1, e2]
  refine Eq.trans ?_ (congrArg _ he.symm)
  show after 6 t (ix3 h p d : S6x512x128.Idx) = _
  rw [hX, O8_at]
  unfold head
  rw [acc_at m c t0 H hH, ht]
  unfold GH
  simp only [hj]
  rfl

/-- The array of values after the run. -/
theorem final8 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 8 cfg0.N
      = GV (m ((c : Thread nD τ).loc main_arg0)) (m ((c : Thread nD τ).loc main_arg1)) (m ((c : Thread nD τ).loc main_arg2)) := by
  refine ((rdat m c).withAfter after).arrAt_eq_of_covers 8 _ (by decide +kernel) fun t hf y => ?_
  obtain ⟨t0, H, ht, hj, hH, hX⟩ := left8_of m c t (flush8 t hf) _ (hL 8 t hf)
  obtain ⟨-, -, -, -, -, -, e0, e1, e2, e3, -⟩ := ixo t
  have htl : t.val < 119 := t.isLt
  obtain ⟨h, q, d, r, rfl⟩ : ∃ (h : Fin 6) (q : Fin 1) (d : Fin 128) (r : Fin 512), y = (ix4 h q d r : S6x1x128x512.Idx) := ⟨y 0, y 1, y 2, y 3, by blk_ext []⟩
  have he : ((cfg0.win 8).blk t).view.emb (ix4 h q d r : S6x1x128x512.Idx) = (ix4 h ⟨t.val / 7, by omega⟩ d r : S6x17x128x512.Idx) := by
    blk_ext [e0, e1, e2, e3]
  refine Eq.trans ?_ (congrArg _ he.symm)
  show after 8 t (ix4 h q d r : S6x1x128x512.Idx) = _
  rw [hX, O10_at]
  unfold head
  rw [acc_at m c t0 H hH, ht]
  unfold GV
  simp only [hj]
  rfl

/-- The array of gates after the run. -/
theorem final9 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 9 cfg0.N
      = GG (m ((c : Thread nD τ).loc main_arg0)) (m ((c : Thread nD τ).loc main_arg1)) (m ((c : Thread nD τ).loc main_arg2)) := by
  refine ((rdat m c).withAfter after).arrAt_eq_of_covers 9 _ (by decide +kernel) fun t hf y => ?_
  obtain ⟨t0, H, ht, hj, hH, hX⟩ := left9_of m c t (flush9 t hf) _ (hL 9 t hf)
  obtain ⟨-, -, -, -, -, -, -, -, -, -, e0, e1, -⟩ := ixo t
  have htl : t.val < 119 := t.isLt
  obtain ⟨p, n, rfl⟩ : ∃ (p : Fin 512) (n : Fin 768), y = (ix2 p n : S512x768.Idx) := ⟨y 0, y 1, by blk_ext []⟩
  have he : ((cfg0.win 9).blk t).view.emb (ix2 p n : S512x768.Idx) = (ix2 ⟨512 * (t.val / 7) + p.val, by omega⟩ n : S8704x768.Idx) := by
    blk_ext [e0, e1]
  refine Eq.trans ?_ (congrArg _ he.symm)
  show after 9 t (ix2 p n : S512x768.Idx) = _
  rw [hX, acc_at m c t0 H hH, ht]
  unfold GG
  simp only [hj]
  rfl

/-- The program leaves in its five claimed results the projections, and its arguments as they were. -/
theorem run_values : θ_run defs (onTc (τ := τ) (main (F := Ideal))) ⟨m, fun _ => 0, ρ⟩ fun r => ∀ c : Dev nD,
      r.2.mem ((c.tc : Thread nD τ).loc main_v19_0) = GP (m ((c : Thread nD τ).loc main_arg0)) (m ((c : Thread nD τ).loc main_arg1)) (m ((c : Thread nD τ).loc main_arg2))
      ∧ r.2.mem ((c.tc : Thread nD τ).loc main_v19_1) = GH (m ((c : Thread nD τ).loc main_arg0)) (m ((c : Thread nD τ).loc main_arg1)) (m ((c : Thread nD τ).loc main_arg2)) 3
      ∧ r.2.mem ((c.tc : Thread nD τ).loc main_v19_3) = GH (m ((c : Thread nD τ).loc main_arg0)) (m ((c : Thread nD τ).loc main_arg1)) (m ((c : Thread nD τ).loc main_arg2)) 4
      ∧ r.2.mem ((c.tc : Thread nD τ).loc main_v19_5) = GV (m ((c : Thread nD τ).loc main_arg0)) (m ((c : Thread nD τ).loc main_arg1)) (m ((c : Thread nD τ).loc main_arg2))
      ∧ r.2.mem ((c.tc : Thread nD τ).loc main_v19_6) = GG (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_main m ρ)
  obtain ⟨after, hL, hA⟩ := Pipeline.RDat.FramePost.exists_exact h.1 c
  exact ⟨(hA 3).trans (final3 m c after hL), (hA 4).trans (final4 m c after hL), (hA 6).trans (final6 m c after hL), (hA 8).trans (final8 m c after hL), (hA 9).trans (final9 m c after hL),
      (Pipeline.RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩

end Cert.In3

end
-- ==== Proof.In3Ref.lean ====
module

public import proofs.«01_k».proof.Defs
public import proofs.«01_k».proof.Proof.In3Fin
public import proofs.«01_k».proof.Proof.Gen.Reference3Ideal.Read
public import proofs.«01_k».proof.Proof.Gen.Reference3Ideal.Run
public import Idealize.ShloMosaic.Lib.Pointwise

/-! The reference's projections, entry by entry, and the value claim of the first in-projection. -/

@[expose] public section

set_option maxRecDepth 16384

noncomputable section

namespace Cert.In3Ref

open Cert.Reference3Ideal Cert.Reference3Ideal.Gen Cert.Reference3Ideal.Value Idealize.ShloMosaic Idealize.ShloMosaic.TcCoe
open Idealize.ShloMosaic.Tactic Idealize.SL.Sem
open Cert.Reference3Ideal.Read
open Cert.In (nrm tok packed)
open Cert.In3 (pr GP GH GV GG)

variable (x0 : FVec Ideal S8208x2048 .f32) (x1 : FVec Ideal S2048 .f32) (x2 : FVec Ideal S2048x7696 .f32)

/-- An entry of the normalised tokens: the token's entry over the root of its mean square, times the gain. -/
theorem v12_at (r : Fin 8208) (k : Fin 2048) : val_main_v12 (F := Ideal) x0 x1 (ix2 r k) = nrm (fun j => x0 (ix2 r j)) (fun j => x1 (ix1 j)) k := by
  unfold nrm
  pointwise [val_main_v12, val_main_v11, val_main_v10, val_main_v9, val_main_v8, val_main_v7, val_main_v6, val_main_v5, val_main_v4, val_main_v3, val_main_v2, val_main_v1, val_main_v0, val_main_cst, val_main_cst_0, val_main_cst_1]

/-- An entry of the product of the normalised tokens and the weight. -/
theorem v13_at (r : Fin 8208) (n : Fin 7696) : val_main_v13 (F := Ideal) x0 x1 x2 (ix2 r n) = ∑ k : Fin 2048, nrm (fun j => x0 (ix2 r j)) (fun j => x1 (ix1 j)) k * x2 (ix2 k n) := by
  simp only [← v12_at]
  unfold val_main_v13
  generalize val_main_v12 (F := Ideal) x0 x1 = X
  pointwise []

/-- The value the projections are padded with is zero. -/
theorem fill_zero (i : S_.Idx) : val_main_call0_v0 (F := Ideal) i = 0 := by
  change (((0#32 : BitVec 32).toInt : ℝ) : EReal) = 0
  simp

/-- An entry of the padded projections: a row past the tokens is zero. -/
theorem v14_at (r : Fin 8704) (n : Fin 7696) : val_main_v14 (F := Ideal) x0 x1 x2 (ix2 r n) = ∑ k : Fin 2048, tok x0 x1 r.val k * x2 (ix2 k n) := by
  unfold val_main_v14 tok
  have h := v13_at x0 x1 x2
  generalize val_main_v13 (F := Ideal) x0 x1 x2 = X at h ⊢
  by_cases hr : r.val < 8208
  · simp only [hr, dite_true]
    rw [← h ⟨r.val, hr⟩]
    pointwise []
    exact dif_pos hr
  · simp only [hr, dite_false, zero_mul, Finset.sum_const_zero]
    pointwise []
    exact (dif_neg hr).trans (fill_zero _)

theorem packed_0 (w : FVec Ideal S2048x7696 .f32) (k : Fin 2048) (n : Fin 256) :
    packed w (ix2 k ⟨0 + n.val, by omega⟩) = w (ix2 k ⟨0 + n.val, by omega⟩) := by
  unfold packed
  refine (concatenate_apply_piece (t := Cert.Kernel2Ideal.S2048x8448) 1 _ _ (ix2 k ⟨0 + n.val, by omega⟩) 0 (by simp) Cert.Kernel2Ideal.S2048x256
    (extractStridedSlice Cert.Kernel2Ideal.S2048x256 ![0, 0] w Cert.Kernel2Ideal.Gen.slices_S2048x7696_S2048x256_0_0) rfl rfl 0 (by simp) (ix2 k n) ?_ rfl).trans ?_
  · intro b hb
    match b with
    | 0 => rfl
    | 1 => exact absurd rfl hb
  · pointwise []

theorem packed_1 (w : FVec Ideal S2048x7696 .f32) (k : Fin 2048) (n : Fin 256) :
    packed w (ix2 k ⟨256 + n.val, by omega⟩) = w (ix2 k ⟨256 + n.val, by omega⟩) := by
  unfold packed
  refine (concatenate_apply_piece (t := Cert.Kernel2Ideal.S2048x8448) 1 _ _ (ix2 k ⟨256 + n.val, by omega⟩) 1 (by simp) Cert.Kernel2Ideal.S2048x256
    (extractStridedSlice Cert.Kernel2Ideal.S2048x256 ![0, 256] w Cert.Kernel2Ideal.Gen.slices_S2048x7696_S2048x256_0_256) rfl rfl 256 (by simp) (ix2 k n) ?_ rfl).trans ?_
  · intro b hb
    match b with
    | 0 => rfl
    | 1 => exact absurd rfl hb
  · pointwise []

theorem packed_2 (w : FVec Ideal S2048x7696 .f32) (k : Fin 2048) (n : Fin 512) :
    packed w (ix2 k ⟨512 + n.val, by omega⟩) = w (ix2 k ⟨512 + n.val, by omega⟩) := by
  unfold packed
  refine (concatenate_apply_piece (t := Cert.Kernel2Ideal.S2048x8448) 1 _ _ (ix2 k ⟨512 + n.val, by omega⟩) 2 (by simp) Cert.Kernel2Ideal.S2048x512
    (extractStridedSlice Cert.Kernel2Ideal.S2048x512 ![0, 512] w Cert.Kernel2Ideal.Gen.slices_S2048x7696_S2048x512_0_512) rfl rfl 512 (by simp) (ix2 k n) ?_ rfl).trans ?_
  · intro b hb
    match b with
    | 0 => rfl
    | 1 => exact absurd rfl hb
  · pointwise []

theorem packed_3 (w : FVec Ideal S2048x7696 .f32) (k : Fin 2048) (n : Fin 512) :
    packed w (ix2 k ⟨1024 + n.val, by omega⟩) = w (ix2 k ⟨1040 + n.val, by omega⟩) := by
  unfold packed
  refine (concatenate_apply_piece (t := Cert.Kernel2Ideal.S2048x8448) 1 _ _ (ix2 k ⟨1024 + n.val, by omega⟩) 3 (by simp) Cert.Kernel2Ideal.S2048x512
    (extractStridedSlice Cert.Kernel2Ideal.S2048x512 ![0, 1040] w Cert.Kernel2Ideal.Gen.slices_S2048x7696_S2048x512_0_1040) rfl rfl 1024 (by simp) (ix2 k n) ?_ rfl).trans ?_
  · intro b hb
    match b with
    | 0 => rfl
    | 1 => exact absurd rfl hb
  · pointwise []

theorem packed_4 (w : FVec Ideal S2048x7696 .f32) (k : Fin 2048) (n : Fin 16) :
    packed w (ix2 k ⟨1536 + n.val, by omega⟩) = w (ix2 k ⟨1024 + n.val, by omega⟩) := by
  unfold packed
  refine (concatenate_apply_piece (t := Cert.Kernel2Ideal.S2048x8448) 1 _ _ (ix2 k ⟨1536 + n.val, by omega⟩) 4 (by simp) Cert.Kernel2Ideal.S2048x16
    (extractStridedSlice Cert.Kernel2Ideal.S2048x16 ![0, 1024] w Cert.Kernel2Ideal.Gen.slices_S2048x7696_S2048x16_0_1024) rfl rfl 1536 (by simp) (ix2 k n) ?_ rfl).trans ?_
  · intro b hb
    match b with
    | 0 => rfl
    | 1 => exact absurd rfl hb
  · pointwise []

theorem packed_6 (w : FVec Ideal S2048x7696 .f32) (k : Fin 2048) (n : Fin 768) :
    packed w (ix2 k ⟨2304 + n.val, by omega⟩) = w (ix2 k ⟨1552 + n.val, by omega⟩) := by
  unfold packed
  refine (concatenate_apply_piece (t := Cert.Kernel2Ideal.S2048x8448) 1 _ _ (ix2 k ⟨2304 + n.val, by omega⟩) 6 (by simp) Cert.Kernel2Ideal.S2048x768
    (extractStridedSlice Cert.Kernel2Ideal.S2048x768 ![0, 1552] w Cert.Kernel2Ideal.Gen.slices_S2048x7696_S2048x768_0_1552) rfl rfl 2304 (by simp) (ix2 k n) ?_ rfl).trans ?_
  · intro b hb
    match b with
    | 0 => rfl
    | 1 => exact absurd rfl hb
  · pointwise []

theorem packed_7 (w : FVec Ideal S2048x7696 .f32) (k : Fin 2048) (n : Fin 768) :
    packed w (ix2 k ⟨3072 + n.val, by omega⟩) = w (ix2 k ⟨2320 + n.val, by omega⟩) := by
  unfold packed
  refine (concatenate_apply_piece (t := Cert.Kernel2Ideal.S2048x8448) 1 _ _ (ix2 k ⟨3072 + n.val, by omega⟩) 7 (by simp) Cert.Kernel2Ideal.S2048x768
    (extractStridedSlice Cert.Kernel2Ideal.S2048x768 ![0, 2320] w Cert.Kernel2Ideal.Gen.slices_S2048x7696_S2048x768_0_2320) rfl rfl 3072 (by simp) (ix2 k n) ?_ rfl).trans ?_
  · intro b hb
    match b with
    | 0 => rfl
    | 1 => exact absurd rfl hb
  · pointwise []

theorem packed_8 (w : FVec Ideal S2048x7696 .f32) (k : Fin 2048) (n : Fin 768) :
    packed w (ix2 k ⟨3840 + n.val, by omega⟩) = w (ix2 k ⟨3088 + n.val, by omega⟩) := by
  unfold packed
  refine (concatenate_apply_piece (t := Cert.Kernel2Ideal.S2048x8448) 1 _ _ (ix2 k ⟨3840 + n.val, by omega⟩) 8 (by simp) Cert.Kernel2Ideal.S2048x768
    (extractStridedSlice Cert.Kernel2Ideal.S2048x768 ![0, 3088] w Cert.Kernel2Ideal.Gen.slices_S2048x7696_S2048x768_0_3088) rfl rfl 3840 (by simp) (ix2 k n) ?_ rfl).trans ?_
  · intro b hb
    match b with
    | 0 => rfl
    | 1 => exact absurd rfl hb
  · pointwise []

theorem packed_9 (w : FVec Ideal S2048x7696 .f32) (k : Fin 2048) (n : Fin 768) :
    packed w (ix2 k ⟨4608 + n.val, by omega⟩) = w (ix2 k ⟨3856 + n.val, by omega⟩) := by
  unfold packed
  refine (concatenate_apply_piece (t := Cert.Kernel2Ideal.S2048x8448) 1 _ _ (ix2 k ⟨4608 + n.val, by omega⟩) 9 (by simp) Cert.Kernel2Ideal.S2048x768
    (extractStridedSlice Cert.Kernel2Ideal.S2048x768 ![0, 3856] w Cert.Kernel2Ideal.Gen.slices_S2048x7696_S2048x768_0_3856) rfl rfl 4608 (by simp) (ix2 k n) ?_ rfl).trans ?_
  · intro b hb
    match b with
    | 0 => rfl
    | 1 => exact absurd rfl hb
  · pointwise []

theorem packed_5 (w : FVec Ideal S2048x7696 .f32) (k : Fin 2048) (n : Fin 752) :
    packed w (ix2 k ⟨1552 + n.val, by omega⟩) = 0 := by
  unfold packed
  refine (concatenate_apply_piece (t := Cert.Kernel2Ideal.S2048x8448) 1 _ _ (ix2 k ⟨1552 + n.val, by omega⟩) 5 (by simp) Cert.Kernel2Ideal.S2048x752
    (broadcastInDim Cert.Kernel2Ideal.S2048x752 ![] Cert.Kernel2Ideal.Gen.bcast_S_S2048x752 (constant (F := Ideal) Cert.Kernel2Ideal.S_ .f32 0x00000000#32)) rfl rfl 1552 (by simp) (ix2 k n) ?_ rfl).trans ?_
  · intro b hb
    match b with
    | 0 => rfl
    | 1 => exact absurd rfl hb
  · pointwise []

/-- An entry of the reference's padded projections is the projection the kernel makes, column group by column group. -/
theorem grp_0 (r : Fin 8704) (n : Fin 256) : val_main_v14 (F := Ideal) x0 x1 x2 (ix2 r ⟨0 + n.val, by omega⟩) = pr x0 x1 x2 r.val ⟨0 + n.val, by omega⟩ := by
  rw [v14_at]
  unfold pr
  exact Finset.sum_congr rfl fun k _ => congrArg _ (packed_0 x2 k n).symm

theorem grp_1 (r : Fin 8704) (n : Fin 256) : val_main_v14 (F := Ideal) x0 x1 x2 (ix2 r ⟨256 + n.val, by omega⟩) = pr x0 x1 x2 r.val ⟨256 + n.val, by omega⟩ := by
  rw [v14_at]
  unfold pr
  exact Finset.sum_congr rfl fun k _ => congrArg _ (packed_1 x2 k n).symm

theorem grp_2 (r : Fin 8704) (n : Fin 512) : val_main_v14 (F := Ideal) x0 x1 x2 (ix2 r ⟨512 + n.val, by omega⟩) = pr x0 x1 x2 r.val ⟨512 + n.val, by omega⟩ := by
  rw [v14_at]
  unfold pr
  exact Finset.sum_congr rfl fun k _ => congrArg _ (packed_2 x2 k n).symm

theorem grp_3 (r : Fin 8704) (n : Fin 512) : val_main_v14 (F := Ideal) x0 x1 x2 (ix2 r ⟨1040 + n.val, by omega⟩) = pr x0 x1 x2 r.val ⟨1024 + n.val, by omega⟩ := by
  rw [v14_at]
  unfold pr
  exact Finset.sum_congr rfl fun k _ => congrArg _ (packed_3 x2 k n).symm

theorem grp_4 (r : Fin 8704) (n : Fin 16) : val_main_v14 (F := Ideal) x0 x1 x2 (ix2 r ⟨1024 + n.val, by omega⟩) = pr x0 x1 x2 r.val ⟨1536 + n.val, by omega⟩ := by
  rw [v14_at]
  unfold pr
  exact Finset.sum_congr rfl fun k _ => congrArg _ (packed_4 x2 k n).symm

theorem grp_6 (r : Fin 8704) (n : Fin 768) : val_main_v14 (F := Ideal) x0 x1 x2 (ix2 r ⟨1552 + n.val, by omega⟩) = pr x0 x1 x2 r.val ⟨2304 + n.val, by omega⟩ := by
  rw [v14_at]
  unfold pr
  exact Finset.sum_congr rfl fun k _ => congrArg _ (packed_6 x2 k n).symm

theorem grp_7 (r : Fin 8704) (n : Fin 768) : val_main_v14 (F := Ideal) x0 x1 x2 (ix2 r ⟨2320 + n.val, by omega⟩) = pr x0 x1 x2 r.val ⟨3072 + n.val, by omega⟩ := by
  rw [v14_at]
  unfold pr
  exact Finset.sum_congr rfl fun k _ => congrArg _ (packed_7 x2 k n).symm

theorem grp_8 (r : Fin 8704) (n : Fin 768) : val_main_v14 (F := Ideal) x0 x1 x2 (ix2 r ⟨3088 + n.val, by omega⟩) = pr x0 x1 x2 r.val ⟨3840 + n.val, by omega⟩ := by
  rw [v14_at]
  unfold pr
  exact Finset.sum_congr rfl fun k _ => congrArg _ (packed_8 x2 k n).symm

theorem grp_9 (r : Fin 8704) (n : Fin 768) : val_main_v14 (F := Ideal) x0 x1 x2 (ix2 r ⟨3856 + n.val, by omega⟩) = pr x0 x1 x2 r.val ⟨4608 + n.val, by omega⟩ := by
  rw [v14_at]
  unfold pr
  exact Finset.sum_congr rfl fun k _ => congrArg _ (packed_9 x2 k n).symm

/-- The gap of zeros in the kernel's weights makes zeros. -/
theorem grp_5 (r : Fin 8704) (n : Fin 752) : pr x0 x1 x2 r.val ⟨1552 + n.val, by omega⟩ = 0 := by
  unfold pr
  refine Finset.sum_eq_zero fun k _ => ?_
  rw [packed_5, mul_zero]

/-- The value the first columns are padded with is zero. -/
theorem fill1_zero (i : S_.Idx) : val_main_call1_v0 (F := Ideal) i = 0 := by
  change (((0#32 : BitVec 32).toInt : ℝ) : EReal) = 0
  simp

/-- The padded columns: those of the column groups, then zeros. -/
theorem v29_lt (r : Fin 8704) (n : Fin 1552) : val_main_v29 (F := Ideal) x0 x1 x2 (ix2 r ⟨n.val, by omega⟩) = val_main_v28 (F := Ideal) x0 x1 x2 (ix2 r n) := by
  unfold val_main_v29
  generalize val_main_v28 (F := Ideal) x0 x1 x2 = X
  pointwise []

theorem v29_ge (r : Fin 8704) (n : Fin 752) : val_main_v29 (F := Ideal) x0 x1 x2 (ix2 r ⟨1552 + n.val, by omega⟩) = 0 := by
  unfold val_main_v29
  generalize val_main_v28 (F := Ideal) x0 x1 x2 = X
  pointwise []
  exact fill1_zero _

theorem v28_0 (r : Fin 8704) (n : Fin 256) : val_main_v28 (F := Ideal) x0 x1 x2 (ix2 r ⟨0 + n.val, by omega⟩) = pr x0 x1 x2 r.val ⟨0 + n.val, by omega⟩ := by
  rw [← grp_0]
  unfold val_main_v28
  refine (concatenate_apply_piece (t := S8704x1552) 1 _ _ (ix2 r ⟨0 + n.val, by omega⟩) 0 (by simp) S8704x256
    (val_main_v15 (F := Ideal) x0 x1 x2) rfl rfl 0 (by simp) (ix2 r n) ?_ rfl).trans ?_
  · intro b hb
    match b with
    | 0 => rfl
    | 1 => exact absurd rfl hb
  · unfold val_main_v15
    generalize val_main_v14 (F := Ideal) x0 x1 x2 = X
    pointwise []

theorem v28_1 (r : Fin 8704) (n : Fin 256) : val_main_v28 (F := Ideal) x0 x1 x2 (ix2 r ⟨256 + n.val, by omega⟩) = pr x0 x1 x2 r.val ⟨256 + n.val, by omega⟩ := by
  rw [← grp_1]
  unfold val_main_v28
  refine (concatenate_apply_piece (t := S8704x1552) 1 _ _ (ix2 r ⟨256 + n.val, by omega⟩) 1 (by simp) S8704x256
    (val_main_v16 (F := Ideal) x0 x1 x2) rfl rfl 256 (by simp) (ix2 r n) ?_ rfl).trans ?_
  · intro b hb
    match b with
    | 0 => rfl
    | 1 => exact absurd rfl hb
  · unfold val_main_v16
    generalize val_main_v14 (F := Ideal) x0 x1 x2 = X
    pointwise []

theorem v28_2 (r : Fin 8704) (n : Fin 512) : val_main_v28 (F := Ideal) x0 x1 x2 (ix2 r ⟨512 + n.val, by omega⟩) = pr x0 x1 x2 r.val ⟨512 + n.val, by omega⟩ := by
  rw [← grp_2]
  unfold val_main_v28
  refine (concatenate_apply_piece (t := S8704x1552) 1 _ _ (ix2 r ⟨512 + n.val, by omega⟩) 2 (by simp) S8704x512
    (val_main_v17 (F := Ideal) x0 x1 x2) rfl rfl 512 (by simp) (ix2 r n) ?_ rfl).trans ?_
  · intro b hb
    match b with
    | 0 => rfl
    | 1 => exact absurd rfl hb
  · unfold val_main_v17
    generalize val_main_v14 (F := Ideal) x0 x1 x2 = X
    pointwise []

theorem v28_3 (r : Fin 8704) (n : Fin 512) : val_main_v28 (F := Ideal) x0 x1 x2 (ix2 r ⟨1024 + n.val, by omega⟩) = pr x0 x1 x2 r.val ⟨1024 + n.val, by omega⟩ := by
  rw [← grp_3]
  unfold val_main_v28
  refine (concatenate_apply_piece (t := S8704x1552) 1 _ _ (ix2 r ⟨1024 + n.val, by omega⟩) 3 (by simp) S8704x512
    (val_main_v19 (F := Ideal) x0 x1 x2) rfl rfl 1024 (by simp) (ix2 r n) ?_ rfl).trans ?_
  · intro b hb
    match b with
    | 0 => rfl
    | 1 => exact absurd rfl hb
  · unfold val_main_v19
    generalize val_main_v14 (F := Ideal) x0 x1 x2 = X
    pointwise []

theorem v28_4 (r : Fin 8704) (n : Fin 16) : val_main_v28 (F := Ideal) x0 x1 x2 (ix2 r ⟨1536 + n.val, by omega⟩) = pr x0 x1 x2 r.val ⟨1536 + n.val, by omega⟩ := by
  rw [← grp_4]
  unfold val_main_v28
  refine (concatenate_apply_piece (t := S8704x1552) 1 _ _ (ix2 r ⟨1536 + n.val, by omega⟩) 4 (by simp) S8704x16
    (val_main_v18 (F := Ideal) x0 x1 x2) rfl rfl 1536 (by simp) (ix2 r n) ?_ rfl).trans ?_
  · intro b hb
    match b with
    | 0 => rfl
    | 1 => exact absurd rfl hb
  · unfold val_main_v18
    generalize val_main_v14 (F := Ideal) x0 x1 x2 = X
    pointwise []

/-- The reference's first column groups are those the kernel leaves. -/
theorem v29_at (y : S8704x2304.Idx) : val_main_v29 (F := Ideal) x0 x1 x2 y = GP x0 x1 x2 y := by
  obtain ⟨r, n, rfl⟩ : ∃ (r : Fin 8704) (n : Fin 2304), y = (ix2 r n : S8704x2304.Idx) := ⟨y 0, y 1, by blk_ext []⟩
  obtain ⟨n, hn⟩ := n
  by_cases h5 : 1552 ≤ n
  · obtain ⟨k, rfl⟩ : ∃ k : Fin 752, n = 1552 + k.val := ⟨⟨n - 1552, by omega⟩, by show n = 1552 + (n - 1552); omega⟩
    exact (v29_ge x0 x1 x2 r k).trans (grp_5 x0 x1 x2 r k).symm
  refine (v29_lt x0 x1 x2 r ⟨n, by omega⟩).trans ?_
  by_cases h4 : 1536 ≤ n
  · obtain ⟨k, rfl⟩ : ∃ k : Fin 16, n = 1536 + k.val := ⟨⟨n - 1536, by omega⟩, by show n = 1536 + (n - 1536); omega⟩
    exact v28_4 x0 x1 x2 r k
  by_cases h3 : 1024 ≤ n
  · obtain ⟨k, rfl⟩ : ∃ k : Fin 512, n = 1024 + k.val := ⟨⟨n - 1024, by omega⟩, by show n = 1024 + (n - 1024); omega⟩
    exact v28_3 x0 x1 x2 r k
  by_cases h2 : 512 ≤ n
  · obtain ⟨k, rfl⟩ : ∃ k : Fin 512, n = 512 + k.val := ⟨⟨n - 512, by omega⟩, by show n = 512 + (n - 512); omega⟩
    exact v28_2 x0 x1 x2 r k
  by_cases h1 : 256 ≤ n
  · obtain ⟨k, rfl⟩ : ∃ k : Fin 256, n = 256 + k.val := ⟨⟨n - 256, by omega⟩, by show n = 256 + (n - 256); omega⟩
    exact v28_1 x0 x1 x2 r k
  obtain ⟨k, rfl⟩ : ∃ k : Fin 256, n = 0 + k.val := ⟨⟨n - 0, by omega⟩, by show n = 0 + (n - 0); omega⟩
  exact v28_0 x0 x1 x2 r k

/-- The reference's queries, by heads, are those the kernel leaves. -/
theorem v36_at (y : S6x8704x128.Idx) : val_main_v36 (F := Ideal) x0 x1 x2 y = GH x0 x1 x2 3 y := by
  obtain ⟨h, r, d, rfl⟩ : ∃ (h : Fin 6) (r : Fin 8704) (d : Fin 128), y = (ix3 h r d : S6x8704x128.Idx) := ⟨y 0, y 1, y 2, by blk_ext []⟩
  refine Eq.trans ?_ (grp_6 x0 x1 x2 r ⟨128 * h.val + d.val, by omega⟩)
  unfold val_main_v36 val_main_v35 val_main_v34 val_main_v20
  generalize val_main_v14 (F := Ideal) x0 x1 x2 = X
  pointwise []
  simp only [Nat.mul_comm 128, Nat.add_assoc]

/-- The reference's keys, by heads, are those the kernel leaves. -/
theorem v39_at (y : S6x8704x128.Idx) : val_main_v39 (F := Ideal) x0 x1 x2 y = GH x0 x1 x2 4 y := by
  obtain ⟨h, r, d, rfl⟩ : ∃ (h : Fin 6) (r : Fin 8704) (d : Fin 128), y = (ix3 h r d : S6x8704x128.Idx) := ⟨y 0, y 1, y 2, by blk_ext []⟩
  refine Eq.trans ?_ (grp_7 x0 x1 x2 r ⟨128 * h.val + d.val, by omega⟩)
  unfold val_main_v39 val_main_v38 val_main_v37 val_main_v21
  generalize val_main_v14 (F := Ideal) x0 x1 x2 = X
  pointwise []
  simp only [Nat.mul_comm 128, Nat.add_assoc]

/-- The reference's values, by heads and blocks of 512 tokens and transposed, are those the kernel leaves. -/
theorem v40_at (y : S6x17x128x512.Idx) : val_main_v40 (F := Ideal) x0 x1 x2 y = GV x0 x1 x2 y := by
  obtain ⟨h, q, d, r, rfl⟩ : ∃ (h : Fin 6) (q : Fin 17) (d : Fin 128) (r : Fin 512), y = (ix4 h q d r : S6x17x128x512.Idx) := ⟨y 0, y 1, y 2, y 3, by blk_ext []⟩
  refine Eq.trans ?_ (grp_8 x0 x1 x2 ⟨512 * q.val + r.val, by omega⟩ ⟨128 * h.val + d.val, by omega⟩)
  unfold val_main_v40 val_main_v33 val_main_v32 val_main_v31 val_main_v30 val_main_v22
  generalize val_main_v14 (F := Ideal) x0 x1 x2 = X
  pointwise []
  simp only [Nat.mul_comm 128, Nat.mul_comm 512, Nat.add_assoc]

/-- The reference's gates are those the kernel leaves. -/
theorem v23_at (y : S8704x768.Idx) : val_main_v23 (F := Ideal) x0 x1 x2 y = GG x0 x1 x2 y := by
  obtain ⟨r, n, rfl⟩ : ∃ (r : Fin 8704) (n : Fin 768), y = (ix2 r n : S8704x768.Idx) := ⟨y 0, y 1, by blk_ext []⟩
  refine Eq.trans ?_ (grp_9 x0 x1 x2 r n)
  unfold val_main_v23
  generalize val_main_v14 (F := Ideal) x0 x1 x2 = X
  pointwise []

variable {y0 : FVec Ideal S8208x2048 .f32} {y1 : FVec Ideal S2048 .f32} {y2 : FVec Ideal S2048x7696 .f32}

/-- The reference's five results on arguments equal to `y0`, `y1`, `y2` are the five projections of those. -/
theorem results (a0 : x0 = y0) (a1 : x1 = y1) (a2 : x2 = y2) :
    val_main_v29 (F := Ideal) x0 x1 x2 = GP y0 y1 y2 ∧ val_main_v36 (F := Ideal) x0 x1 x2 = GH y0 y1 y2 3 ∧ val_main_v39 (F := Ideal) x0 x1 x2 = GH y0 y1 y2 4
      ∧ val_main_v40 (F := Ideal) x0 x1 x2 = GV y0 y1 y2 ∧ val_main_v23 (F := Ideal) x0 x1 x2 = GG y0 y1 y2 := by
  subst a0 a1 a2
  exact ⟨funext fun y => v29_at _ _ _ y, funext fun y => v36_at _ _ _ y, funext fun y => v39_at _ _ _ y, funext fun y => v40_at _ _ _ y, funext fun y => v23_at _ _ _ y⟩

/-- The algebraic claim of the first in-projection: kernel and reference leave the same first column groups, queries, keys, values and gates. -/
theorem algebraic : Cert.algebraic_Kernel3Ideal_Reference3Ideal := by
  intro m ρ m' ρ' _ hagree
  refine ⟨fun c => GP (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => GH (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) 3,
    fun c => GH (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) 4,
    fun c => GV (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => GG (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    Cert.In3.run_values m ρ, ?_⟩
  refine (θ_run Cert.Reference3Ideal.defs _ _).mono (fun r h c => ?_) (Cert.Reference3Ideal.Value.run (F := Ideal) m' ρ')
  obtain ⟨a0, a1, a2⟩ := hagree c
  obtain ⟨h0, h1, h2, h3, h4, hargs⟩ := h c
  obtain ⟨e0, e1, e2, e3, e4⟩ := results _ _ _ a0 a1 a2
  exact ⟨h0.trans ((val_main_v29_eq _ _).trans e0), (h1.trans (val_main_v36_eq _ _ _)).trans e1,
    (h2.trans (val_main_v39_eq _ _ _)).trans e2, (h3.trans (val_main_v40_eq _ _ _)).trans e3, (h4.trans (val_main_v23_eq _ _ _)).trans e4, hargs⟩

end Cert.In3Ref

end
-- ==== Proof.SbRun.lean ====
module

public import proofs.«01_k».proof.Proof.Gen.Kernel4Ideal.Points
public import proofs.«01_k».proof.Proof.Gen.Kernel4Ideal.Launch
public import Idealize.ShloMosaic.Lib.WholeRead
public import Idealize.ShloMosaic.Lib.Ring
public import Idealize.ShloMosaic.Lib.Tactic
public import Idealize.ShloMosaic.Lib.WordCmp
public import Idealize.ShloMosaic.Lib.Pipeline.FrameBody
public import Idealize.ShloMosaic.Lib.Pointwise
public import Idealize.ShloMosaic.Lib.Pipeline.Value
public import Idealize.ShloMosaic.Lib.Pipeline.Frame
public import proofs.«01_k».proof.Proof.Gen.Kernel4Ideal.Skeleton

/-! The body of the stick-breaking attention kernel, run once (the model's program). The kernel walks the key chunks of a
query block from the diagonal backwards with a loop that stops early; the loop is a label of the program that calls itself. -/

@[expose] public section

set_option maxRecDepth 16384

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F] [Named F]

local notation "𝕄" => MT nD τ sig Unit (Elt F) ℕ (UR sig nD τ) ℕ

/-- The loop's calls are measured by the number of chunks still to visit. -/
abbrev vars : Variants := ⟨ℕ, (· < ·), Nat.lt_wfRel.wf⟩

theorem off_eq : ∀ b j : Fin 33, j < b →
    (Scalar.indexCast (Scalar.muli (Scalar.subi (Scalar.subi (BitVec.ofNat 32 b.val) 1#32) (BitVec.ofNat 32 j.val)) 256#32) : Index).toNat = (b.val - 1 - j.val) * 256 := by
  decide +kernel

theorem chunk_eq : ∀ b j : Fin 33, j < b →
    (Scalar.indexCast (Scalar.subi (Scalar.subi (BitVec.ofNat 32 b.val) 1#32) (BitVec.ofNat 32 j.val)) : Index).toNat = b.val - 1 - j.val := by
  decide +kernel

/-- The chunk visited at trip `j` lies inside the arrays. -/
theorem chk (i : grid0.Coords) (j : ℕ) (h : j < (i 1).val) : k0_chk1 i (BitVec.ofNat 32 j) := by
  have hi : (i 1).val < 33 := (i 1).isLt
  have e := off_eq ⟨(i 1).val, hi⟩ ⟨j, by omega⟩ (Fin.lt_def.2 h)
  have e' := chunk_eq ⟨(i 1).val, hi⟩ ⟨j, by omega⟩ (Fin.lt_def.2 h)
  simp only at e e'
  refine ⟨?_, ?_, ?_, ?_, ?_, ?_, ?_⟩
  · exact ⟨(i 1).val - 1 - j, e.trans (Nat.mul_comm _ _)⟩
  · intro a; fin_cases a
    · show 0 + 1 ≤ 3; omega
    · exact (congrArg (· + 256) e).trans_le (by show ((i 1).val - 1 - j) * 256 + 256 ≤ 8704; omega)
    · show 0 + 128 ≤ 128; omega
  · intro a; fin_cases a
    · show 1 + 1 ≤ 3; omega
    · exact (congrArg (· + 256) e).trans_le (by show ((i 1).val - 1 - j) * 256 + 256 ≤ 8704; omega)
    · show 0 + 128 ≤ 128; omega
  · intro a; fin_cases a
    · show 2 + 1 ≤ 3; omega
    · exact (congrArg (· + 256) e).trans_le (by show ((i 1).val - 1 - j) * 256 + 256 ≤ 8704; omega)
    · show 0 + 128 ≤ 128; omega
  · intro a; fin_cases a
    · show 0 + 1 ≤ 3; omega
    · exact (congrArg (· + 1) e').trans_le (by show ((i 1).val - 1 - j) + 1 ≤ 34; omega)
    · show 0 + 128 ≤ 128; omega
    · show 0 + 256 ≤ 256; omega
  · intro a; fin_cases a
    · show 1 + 1 ≤ 3; omega
    · exact (congrArg (· + 1) e').trans_le (by show ((i 1).val - 1 - j) + 1 ≤ 34; omega)
    · show 0 + 128 ≤ 128; omega
    · show 0 + 256 ≤ 256; omega
  · intro a; fin_cases a
    · show 2 + 1 ≤ 3; omega
    · exact (congrArg (· + 1) e').trans_le (by show ((i 1).val - 1 - j) + 1 ≤ 34; omega)
    · show 0 + 128 ≤ 128; omega
    · show 0 + 256 ≤ 256; omega

/-- Keys `256 n …` of head `h`. -/
def Kp (K : Vec F S3x8704x128 .bf16) (h : Fin 3) (n : ℕ) : Vec F S1x256x128 .bf16 :=
  fun x => K (ix3 h ⟨min (n * 256 + (x 1).val) 8703, by omega⟩ (x 2))

/-- The queries of head `h`. -/
def Qp (Q : Vec F S3x256x128 .bf16) (h : Fin 3) : Vec F S1x256x128 .bf16 := fun x => Q (ix3 h (x 1) (x 2))

/-- Chunk `n` of the transposed values of head `h`. -/
def Vp (V : Vec F S3x34x128x256 .bf16) (h : Fin 3) (n : ℕ) : Vec F S1x1x128x256 .bf16 := fun x => V (ix4 h ⟨min n 33, by omega⟩ (x 2) (x 3))

/-- Head `h` of the log-keep carry. -/
def Cp (C : Vec F S3x1x256 .f32) (h : Fin 3) : Vec F S1x1x256 .f32 := fun x => C (ix3 h (x 1) (x 2))

/-- Head `h` of the accumulator. -/
def Ap (A : Vec F S3x128x256 .f32) (h : Fin 3) : Vec F S1x128x256 .f32 := fun x => A (ix3 h (x 1) (x 2))

/-- The scaled scores of a chunk of keys against the queries. -/
def zF (k q : Vec F S1x256x128 .bf16) : FVec F S256x256 .f32 := k0_pay49 k q

/-- The softplus of the scores. -/
def spF (z : FVec F S256x256 .f32) : FVec F S256x256 .f32 := k0_pay14 z

/-- The log of keeping the stick. -/
def lkF (z : FVec F S256x256 .f32) : FVec F S256x256 .f32 := subf (broadcast S256x256 (Scalar.ofBits .f32 0x00000000#32)) (spF z)

/-- The same under a mask. -/
def lkM (m : IVec S256x256 1) (z : FVec F S256x256 .f32) : FVec F S256x256 .f32 :=
  select m (lkF z) (broadcast S256x256 (Scalar.ofBits .f32 0x00000000#32))

/-- Within a chunk, the sum over the later keys, by two half-precision products. -/
def tlF (v6 : FVec F S256x256 .bf16) (lk : FVec F S256x256 .f32) : FVec F S256x256 .f32 :=
  let hi : FVec F S256x256 .bf16 := truncf .bf16 lk bitsLt_bf16_f32
  let lo : FVec F S256x256 .bf16 := truncf .bf16 (subf lk (extf .f32 hi bitsLt_bf16_f32)) bitsLt_bf16_f32
  let t : FVec F S256x512 .f32 := matmul dot_S256x256_S256x512_S256x512_1_0_0_1_n_n none v6
    (concatenate S256x512 1 [⟨S256x256, hi⟩, ⟨S256x256, lo⟩] concatenates_S256x256_S256x256_S256x512_d1) (constant S256x512 .f32 0x00000000#32)
  addf (extractStridedSlice S256x256 ![0, 0] t slices_S256x512_o0_0_S256x256) (extractStridedSlice S256x256 ![0, 256] t slices_S256x512_o0_256_S256x256)

/-- The attention weights of a chunk. -/
def aF (z tl : FVec F S256x256 .f32) (C : Vec F S1x1x256 .f32) : FVec F S256x256 .f32 :=
  exp (addf (addf (subf z (spF z)) tl) (broadcastTo S256x256 (shapeCast S1x256 C shapeCasts_S1x1x256_S1x256) broadcasts_S1x256_S256x256))

/-- The same under a mask. -/
def aM (m : IVec S256x256 1) (z tl : FVec F S256x256 .f32) (C : Vec F S1x1x256 .f32) : FVec F S256x256 .f32 :=
  select m (aF z tl C) (broadcast S256x256 (Scalar.ofBits .f32 0x00000000#32))

/-- The accumulator with a chunk's values added at their weights. -/
def accF (A : Vec F S1x128x256 .f32) (v : Vec F S1x1x128x256 .bf16) (a : FVec F S256x256 .f32) : FVec F S1x128x256 .f32 :=
  k0_pay1 a (shapeCast S128x256 A shapeCasts_S1x128x256_S128x256) v

/-- The carry with a chunk's log-keeps added. -/
def cF (lk : FVec F S256x256 .f32) (C : Vec F S1x1x256 .f32) : FVec F S1x1x256 .f32 :=
  k0_pay3 lk (shapeCast S1x256 C shapeCasts_S1x1x256_S1x256)

/-- The largest entry of a head's carry. -/
def mxF (C : FVec F S1x1x256 .f32) : F .f32 :=
  extractAt ![0, 0, 0] (shapeCast S1x1x1 (multiReduction .maximumf [1, 2] S1 C 0xFF800000#32 reduces_S1x1x256_S1 (.inl rfl) rfl) shapeCasts_S1_S1x1x1) inpos_S1x1x1_p0_0_0

/-- The carry of head `h` after a chunk of keys `n`. -/
def cN (Q : Vec F S3x256x128 .bf16) (K : Vec F S3x8704x128 .bf16) (n : ℕ) (C : Vec F S3x1x256 .f32) (h : Fin 3) : FVec F S1x1x256 .f32 :=
  cF (lkF (zF (Kp K h n) (Qp Q h))) (Cp C h)

/-- The accumulator of head `h` after a chunk of keys `n`. -/
def aN (Q : Vec F S3x256x128 .bf16) (K : Vec F S3x8704x128 .bf16) (V : Vec F S3x34x128x256 .bf16) (v6 : FVec F S256x256 .bf16) (n : ℕ) (C : Vec F S3x1x256 .f32)
    (A : Vec F S3x128x256 .f32) (h : Fin 3) : FVec F S1x128x256 .f32 :=
  accF (Ap A h) (Vp V h n) (aF (zF (Kp K h n) (Qp Q h)) (tlF v6 (lkF (zF (Kp K h n) (Qp Q h)))) (Cp C h))

/-- Three heads side by side. -/
def mk6 (W : Fin 3 → Vec F S1x1x256 .f32) : Vec F S3x1x256 .f32 := fun y => W (y 0) (ix3 0 (y 1) (y 2))

/-- Three heads side by side. -/
def mk7 (W : Fin 3 → Vec F S1x128x256 .f32) : Vec F S3x128x256 .f32 := fun y => W (y 0) (ix3 0 (y 1) (y 2))

/-- The largest entry of three heads' carries. -/
def mx3 (W : Fin 3 → Vec F S1x1x256 .f32) : F .f32 := Scalar.maximumf (Scalar.maximumf (mxF (W 0)) (mxF (W 1))) (mxF (W 2))

theorem left6 (a : Memref sig .tc .vmem S3x1x256 .f32) (f : a.view.ty.Contents (Elt F)) (W : Fin 3 → Vec F S1x1x256 .f32) {w2 w1 w0 : Vec F S1x1x256 .f32} (e2 : w2 = W 2) (e1 : w1 = W 1) (e0 : w0 = W 0) :
    a.view.read (Elt F) (a.view.writes (Elt F) f
      [⟨Rect.unit (s := S3x1x256) ![2, 0, 0] S1x1x256.size inb_S3x1x256_S1x1x256_2_0_0, w2⟩,
       ⟨Rect.unit (s := S3x1x256) ![1, 0, 0] S1x1x256.size inb_S3x1x256_S1x1x256_1_0_0, w1⟩,
       ⟨Rect.unit (s := S3x1x256) ![0, 0, 0] S1x1x256.size inb_S3x1x256_S1x1x256_0_0_0, w0⟩]) = mk6 W := by
  subst e2 e1 e0
  have cov := View.cover_of_tiledL (Val := Elt F) (e := .f32) [⟨Rect.unit (s := S3x1x256) ![2, 0, 0] S1x1x256.size inb_S3x1x256_S1x1x256_2_0_0, W 2⟩,
       ⟨Rect.unit (s := S3x1x256) ![1, 0, 0] S1x1x256.size inb_S3x1x256_S1x1x256_1_0_0, W 1⟩,
       ⟨Rect.unit (s := S3x1x256) ![0, 0, 0] S1x1x256.size inb_S3x1x256_S1x1x256_0_0_0, W 0⟩] S1x1x256.size (by sl_kernel_rfl)
  refine (View.read_writes_eq_canon _ _ _ cov).trans (funext fun y => View.canon_apply_of_pieces (mk6 W) _ ?_ y (cov y))
  simp only [List.forall_mem_cons]
  refine ⟨?_, ?_, ?_, fun _ h => absurd h List.not_mem_nil⟩
  all_goals
    intro x
    have x0 : (x 0).val = 0 := by have : (x 0).val < 1 := (x 0).isLt; omega
    unfold mk6
    congr 1
    · apply Fin.ext; simp [Rect.emb, Rect.unit, x0]
    · funext b; fin_cases b <;> apply Fin.ext <;> simp [Rect.emb, Rect.unit, x0, ix3]

theorem left7 (a : Memref sig .tc .vmem S3x128x256 .f32) (f : a.view.ty.Contents (Elt F)) (W : Fin 3 → Vec F S1x128x256 .f32) {w2 w1 w0 : Vec F S1x128x256 .f32} (e2 : w2 = W 2) (e1 : w1 = W 1) (e0 : w0 = W 0) :
    a.view.read (Elt F) (a.view.writes (Elt F) f
      [⟨Rect.unit (s := S3x128x256) ![2, 0, 0] S1x128x256.size inb_S3x128x256_S1x128x256_2_0_0, w2⟩,
       ⟨Rect.unit (s := S3x128x256) ![1, 0, 0] S1x128x256.size inb_S3x128x256_S1x128x256_1_0_0, w1⟩,
       ⟨Rect.unit (s := S3x128x256) ![0, 0, 0] S1x128x256.size inb_S3x128x256_S1x128x256_0_0_0, w0⟩]) = mk7 W := by
  subst e2 e1 e0
  have cov := View.cover_of_tiledL (Val := Elt F) (e := .f32) [⟨Rect.unit (s := S3x128x256) ![2, 0, 0] S1x128x256.size inb_S3x128x256_S1x128x256_2_0_0, W 2⟩,
       ⟨Rect.unit (s := S3x128x256) ![1, 0, 0] S1x128x256.size inb_S3x128x256_S1x128x256_1_0_0, W 1⟩,
       ⟨Rect.unit (s := S3x128x256) ![0, 0, 0] S1x128x256.size inb_S3x128x256_S1x128x256_0_0_0, W 0⟩] S1x128x256.size (by sl_kernel_rfl)
  refine (View.read_writes_eq_canon _ _ _ cov).trans (funext fun y => View.canon_apply_of_pieces (mk7 W) _ ?_ y (cov y))
  simp only [List.forall_mem_cons]
  refine ⟨?_, ?_, ?_, fun _ h => absurd h List.not_mem_nil⟩
  all_goals
    intro x
    have x0 : (x 0).val = 0 := by have : (x 0).val < 1 := (x 0).isLt; omega
    unfold mk7
    congr 1
    · apply Fin.ext; simp [Rect.emb, Rect.unit, x0]
    · funext b; fin_cases b <;> apply Fin.ext <;> simp [Rect.emb, Rect.unit, x0, ix3]

section Reads

variable (arg2 : Memref sig .tc .vmem S3x256x128 .bf16) (harg2 : arg2.IsWhole) (arg3 : Memref sig .tc .vmem S3x8704x128 .bf16) (harg3 : arg3.IsWhole) (arg4 : Memref sig .tc .vmem S3x34x128x256 .bf16) (harg4 : arg4.IsWhole) (arg6 : Memref sig .tc .vmem S3x1x256 .f32) (harg6 : arg6.IsWhole) (arg7 : Memref sig .tc .vmem S3x128x256 .f32) (harg7 : arg7.IsWhole)

theorem rdQ (Q : Vec F S3x256x128 .bf16) (h : Fin 3) (inb) :
    View.readAt (Elt F) arg2.view (Rect.unit (s := S3x256x128) ![h.val, 0, 0] S1x256x128.size inb).toLoadRect (harg2.unread Q) = Qp Q h := by
  funext x
  rw [harg2.readAt_unread]
  have x0 : (x 0).val = 0 := by have : (x 0).val < 1 := (x 0).isLt; omega
  refine congrArg Q (funext fun b => ?_)
  fin_cases b <;> apply Fin.ext <;> simp [Rect.toLoadRect, LoadRect.idx, Rect.unit, x0, ix3]

theorem rdC (C : Vec F S3x1x256 .f32) (h : Fin 3) (inb) :
    View.readAt (Elt F) arg6.view (Rect.unit (s := S3x1x256) ![h.val, 0, 0] S1x1x256.size inb).toLoadRect (harg6.unread C) = Cp C h := by
  funext x
  rw [harg6.readAt_unread]
  have x0 : (x 0).val = 0 := by have : (x 0).val < 1 := (x 0).isLt; omega
  refine congrArg C (funext fun b => ?_)
  fin_cases b <;> apply Fin.ext <;> simp [Rect.toLoadRect, LoadRect.idx, Rect.unit, x0, ix3]

theorem rdA (A : Vec F S3x128x256 .f32) (h : Fin 3) (inb) :
    View.readAt (Elt F) arg7.view (Rect.unit (s := S3x128x256) ![h.val, 0, 0] S1x128x256.size inb).toLoadRect (harg7.unread A) = Ap A h := by
  funext x
  rw [harg7.readAt_unread]
  have x0 : (x 0).val = 0 := by have : (x 0).val < 1 := (x 0).isLt; omega
  refine congrArg A (funext fun b => ?_)
  fin_cases b <;> apply Fin.ext <;> simp [Rect.toLoadRect, LoadRect.idx, Rect.unit, x0, ix3]

theorem rdK (K : Vec F S3x8704x128 .bf16) (h : Fin 3) (n : ℕ) (hn : n < 34) (off : Fin 3 → ℕ) (ho : off = ![h.val, n * 256, 0]) (inb) :
    View.readAt (Elt F) arg3.view (Rect.unit (s := S3x8704x128) off S1x256x128.size inb).toLoadRect (harg3.unread K) = Kp K h n := by
  subst ho
  funext x
  rw [harg3.readAt_unread]
  have x0 : (x 0).val = 0 := by have : (x 0).val < 1 := (x 0).isLt; omega
  have x1 : (x 1).val < 256 := (x 1).isLt
  refine congrArg K (funext fun b => ?_)
  fin_cases b <;> apply Fin.ext <;> simp [Rect.toLoadRect, LoadRect.idx, Rect.unit, x0, ix3]
  omega

theorem rdV (V : Vec F S3x34x128x256 .bf16) (h : Fin 3) (n : ℕ) (hn : n < 34) (off : Fin 4 → ℕ) (ho : off = ![h.val, n, 0, 0]) (inb) :
    View.readAt (Elt F) arg4.view (Rect.unit (s := S3x34x128x256) off S1x1x128x256.size inb).toLoadRect (harg4.unread V) = Vp V h n := by
  subst ho
  funext x
  rw [harg4.readAt_unread]
  have x0 : (x 0).val = 0 := by have : (x 0).val < 1 := (x 0).isLt; omega
  have x1 : (x 1).val = 0 := by have : (x 1).val < 1 := (x 1).isLt; omega
  refine congrArg V (funext fun b => ?_)
  fin_cases b <;> apply Fin.ext <;> simp [Rect.toLoadRect, LoadRect.idx, Rect.unit, x0, x1, ix4]
  omega

end Reads

variable (c : Dev nD) (i : grid0.Coords) (arg2 : Memref sig .tc .vmem S3x256x128 .bf16) (harg2 : arg2.IsWhole) (arg3 : Memref sig .tc .vmem S3x8704x128 .bf16) (harg3 : arg3.IsWhole) (arg4 : Memref sig .tc .vmem S3x34x128x256 .bf16) (harg4 : arg4.IsWhole) (arg5 : Memref sig .tc .vmem S256x384 .f32) (harg5 : arg5.IsWhole) (arg6 : Memref sig .tc .vmem S3x1x256 .f32) (harg6 : arg6.IsWhole) (arg7 : Memref sig .tc .vmem S3x128x256 .f32) (harg7 : arg7.IsWhole)
  (Q : Vec F S3x256x128 .bf16) (K : Vec F S3x8704x128 .bf16) (V : Vec F S3x34x128x256 .bf16) (v6 : FVec F S256x256 .bf16)

/-- The loop goes on: chunks remain and the running maximum is above the named constant. -/
abbrev goOn (j : BitVec 32) (cm : F .f32) : Prop :=
  Scalar.andi (Scalar.cmpi .slt j (BitVec.ofNat 32 (i 1).val)) (Scalar.cmpf .ogt cm (Named.named κ "underflow" 0xC2DC0000#32)) = 1#1

/-- The loop's buffers at stated contents. -/
def Held (C : Vec F S3x1x256 .f32) (A : Vec F S3x128x256 .f32) : sProp 𝕄 :=
  iprop(owns (c : Thread nD τ) arg2 fullShare Q ∗ owns (c : Thread nD τ) arg3 fullShare K ∗ owns (c : Thread nD τ) arg4 fullShare V ∗ owns (c : Thread nD τ) arg6 fullShare C ∗ owns (c : Thread nD τ) arg7 fullShare A)

theorem off7 (j : ℕ) (h : j < (i 1).val) : k0_off7 i (BitVec.ofNat 32 j) = ![(0 : Fin 3).val, ((i 1).val - 1 - j) * 256, 0] := by
  have hi : (i 1).val < 33 := (i 1).isLt
  have e := off_eq ⟨(i 1).val, hi⟩ ⟨j, by omega⟩ (Fin.lt_def.2 h)
  funext a; fin_cases a
  · rfl
  · exact e
  · rfl

theorem off8 (j : ℕ) (h : j < (i 1).val) : k0_off8 i (BitVec.ofNat 32 j) = ![(1 : Fin 3).val, ((i 1).val - 1 - j) * 256, 0] := by
  have hi : (i 1).val < 33 := (i 1).isLt
  have e := off_eq ⟨(i 1).val, hi⟩ ⟨j, by omega⟩ (Fin.lt_def.2 h)
  funext a; fin_cases a
  · rfl
  · exact e
  · rfl

theorem off9 (j : ℕ) (h : j < (i 1).val) : k0_off9 i (BitVec.ofNat 32 j) = ![(2 : Fin 3).val, ((i 1).val - 1 - j) * 256, 0] := by
  have hi : (i 1).val < 33 := (i 1).isLt
  have e := off_eq ⟨(i 1).val, hi⟩ ⟨j, by omega⟩ (Fin.lt_def.2 h)
  funext a; fin_cases a
  · rfl
  · exact e
  · rfl

theorem off10 (j : ℕ) (h : j < (i 1).val) : k0_off10 i (BitVec.ofNat 32 j) = ![(0 : Fin 3).val, (i 1).val - 1 - j, 0, 0] := by
  have hi : (i 1).val < 33 := (i 1).isLt
  have e := chunk_eq ⟨(i 1).val, hi⟩ ⟨j, by omega⟩ (Fin.lt_def.2 h)
  funext a; fin_cases a
  · rfl
  · exact e
  · rfl
  · rfl

theorem off11 (j : ℕ) (h : j < (i 1).val) : k0_off11 i (BitVec.ofNat 32 j) = ![(1 : Fin 3).val, (i 1).val - 1 - j, 0, 0] := by
  have hi : (i 1).val < 33 := (i 1).isLt
  have e := chunk_eq ⟨(i 1).val, hi⟩ ⟨j, by omega⟩ (Fin.lt_def.2 h)
  funext a; fin_cases a
  · rfl
  · exact e
  · rfl
  · rfl

theorem off12 (j : ℕ) (h : j < (i 1).val) : k0_off12 i (BitVec.ofNat 32 j) = ![(2 : Fin 3).val, (i 1).val - 1 - j, 0, 0] := by
  have hi : (i 1).val < 33 := (i 1).isLt
  have e := chunk_eq ⟨(i 1).val, hi⟩ ⟨j, by omega⟩ (Fin.lt_def.2 h)
  funext a; fin_cases a
  · rfl
  · exact e
  · rfl
  · rfl

theorem next_word (j : ℕ) : Scalar.addi (BitVec.ofNat 32 j) 1#32 = BitVec.ofNat 32 (j + 1) := by
  show BitVec.ofNat 32 j + 1#32 = _
  rw [BitVec.ofNat_add]

set_option maxHeartbeats 4000000 in
/-- One trip of the loop: the carry and the accumulator take in the next chunk of keys, and the loop is called again. -/
theorem trip (bd : Option ℕ) (E : Set ℕ) (j : ℕ) (hj : j < (i 1).val) (cm : F .f32) (hgo : goOn i (BitVec.ofNat 32 j) cm) (C : Vec F S3x1x256 .f32) (A : Vec F S3x128x256 .f32) (KK : BitVec 32 × F .f32 → sProp 𝕄) :
    iprop(Held c arg2 arg3 arg4 arg6 arg7 Q K V C A ∗ (Held c arg2 arg3 arg4 arg6 arg7 Q K V (mk6 (cN Q K ((i 1).val - 1 - j) C)) (mk7 (aN Q K V v6 ((i 1).val - 1 - j) C A)) -∗
        wp frame (wpE (defs₀ (F := F)) vars c bd) E (.op (.call (1 : (Λ₀ F).Label) ⟨i, arg3, harg3, arg2, harg2, v6, arg6, harg6, arg7, harg7, arg4, harg4, BitVec.ofNat 32 (j + 1), mx3 (cN Q K ((i 1).val - 1 - j) C)⟩) .ret) KK))
      ⊢ wp frame (wpE (defs₀ (F := F)) vars c bd) E (cc0_while1 i arg3 harg3 arg2 harg2 v6 arg6 harg6 arg7 harg7 arg4 harg4 (BitVec.ofNat 32 j) cm) KK := by
  have hi : (i 1).val < 33 := (i 1).isLt
  simp only [cc0_while1_eq_skeleton]; unfold cc0_while1_skel
  simp only [if_pos hgo, k0_part7_eq_skeleton, k0_part8_eq_skeleton, k0_part9_eq_skeleton, k0_part10_eq_skeleton]
  unfold k0_part7_skel k0_part8_skel k0_part9_skel k0_part10_skel
  simp only [Prog.lift, Prog.bind_op, Prog.bind_ret, Prog.pure_eq_ret]
  unfold Held owns
  iintro ⟨⟨⟨%f2, %hf2, H2⟩, ⟨%f3, %hf3, H3⟩, ⟨%f4, %hf4, H4⟩, ⟨%f6, %hf6, H6⟩, ⟨%f7, %hf7, H7⟩⟩, Hk⟩
  obtain rfl := harg2.eq_unread hf2; obtain rfl := harg3.eq_unread hf3; obtain rfl := harg4.eq_unread hf4; obtain rfl := harg6.eq_unread hf6; obtain rfl := harg7.eq_unread hf7
  iapply (wp_assume vars (c : Thread nD τ) bd E (chk i j hj))
  sl_exec
  have q0 : View.readAt (Elt F) arg2.view (Rect.unit (s := S3x256x128) ![0, 0, 0] S1x256x128.size inb_S3x256x128_S1x256x128_0_0_0).toLoadRect (harg2.unread Q) = Qp Q 0 := rdQ arg2 harg2 Q 0 _
  have q1 : View.readAt (Elt F) arg2.view (Rect.unit (s := S3x256x128) ![1, 0, 0] S1x256x128.size inb_S3x256x128_S1x256x128_1_0_0).toLoadRect (harg2.unread Q) = Qp Q 1 := rdQ arg2 harg2 Q 1 _
  have q2 : View.readAt (Elt F) arg2.view (Rect.unit (s := S3x256x128) ![2, 0, 0] S1x256x128.size inb_S3x256x128_S1x256x128_2_0_0).toLoadRect (harg2.unread Q) = Qp Q 2 := rdQ arg2 harg2 Q 2 _
  have c0 : View.readAt (Elt F) arg6.view (Rect.unit (s := S3x1x256) ![0, 0, 0] S1x1x256.size inb_S3x1x256_S1x1x256_0_0_0).toLoadRect (harg6.unread C) = Cp C 0 := rdC arg6 harg6 C 0 _
  have a0 : View.readAt (Elt F) arg7.view (Rect.unit (s := S3x128x256) ![0, 0, 0] S1x128x256.size inb_S3x128x256_S1x128x256_0_0_0).toLoadRect (harg7.unread A) = Ap A 0 := rdA arg7 harg7 A 0 _
  have k0 : trip.sl.x c i arg3 harg3 K j hj = Kp K 0 ((i 1).val - 1 - j) := rdK arg3 harg3 K 0 _ (by omega) _ (off7 i j hj) _
  have k1 : trip.sl.x_1 c i arg3 harg3 K j hj = Kp K 1 ((i 1).val - 1 - j) := rdK arg3 harg3 K 1 _ (by omega) _ (off8 i j hj) _
  have k2 : trip.sl.x_2 c i arg3 harg3 K j hj = Kp K 2 ((i 1).val - 1 - j) := rdK arg3 harg3 K 2 _ (by omega) _ (off9 i j hj) _
  have v0 : trip.sl.x_3 c i arg2 harg2 arg3 harg3 arg4 harg4 Q K V j hj = Vp V 0 ((i 1).val - 1 - j) := rdV arg4 harg4 V 0 _ (by omega) _ (off10 i j hj) _
  have v1 : trip.sl.x_6 c i arg2 harg2 arg3 harg3 arg4 harg4 Q K V j hj = Vp V 1 ((i 1).val - 1 - j) := rdV arg4 harg4 V 1 _ (by omega) _ (off11 i j hj) _
  have v2 : trip.sl.x_9 c i arg2 harg2 arg3 harg3 arg4 harg4 Q K V j hj = Vp V 2 ((i 1).val - 1 - j) := rdV arg4 harg4 V 2 _ (by omega) _ (off12 i j hj) _
  have c1 : trip.sl.x_4 c arg6 harg6 C = Cp C 1 := rdC arg6 harg6 C 1 _
  have c2 : trip.sl.x_7 c arg6 harg6 C = Cp C 2 := rdC arg6 harg6 C 2 _
  have a1 : trip.sl.x_5 c arg7 harg7 A = Ap A 1 := rdA arg7 harg7 A 1 _
  have a2 : trip.sl.x_8 c arg7 harg7 A = Ap A 2 := rdA arg7 harg7 A 2 _
  rw [q0, q1, q2, c0, a0, k0, k1, k2, v0, v1, v2, c1, c2, a1, a2, next_word]
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H6]
  · iexists _; isplitr; swap; · iexact H6
    ipureintro; exact left6 arg6 _ (cN Q K ((i 1).val - 1 - j) C) rfl rfl rfl
  iexists _; isplitr; swap; · iexact H7
  ipureintro; exact left7 arg7 _ (aN Q K V v6 ((i 1).val - 1 - j) C A) rfl rfl rfl

end Cert.Sb

end
-- ==== Proof.SbBody.lean ====
module

public import proofs.«01_k».proof.Proof.SbRun
public import Idealize.ShloMosaic.Lib.WritesUnit

/-! The loop's specification, and the whole body of the stick-breaking attention kernel (the model's program). -/

@[expose] public section

set_option maxRecDepth 16384

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F] [Named F]

local notation "𝕄" => MT nD τ sig Unit (Elt F) ℕ (UR sig nD τ) ℕ

/-- What the loop leaves, started at trip `j` with the running maximum `cm`, the carry `C` and the accumulator `A`. -/
inductive Reach (i : grid0.Coords) (Q : Vec F S3x256x128 .bf16) (K : Vec F S3x8704x128 .bf16) (V : Vec F S3x34x128x256 .bf16) (v6 : FVec F S256x256 .bf16) :
    ℕ → F .f32 → Vec F S3x1x256 .f32 → Vec F S3x128x256 .f32 → Vec F S3x1x256 .f32 → Vec F S3x128x256 .f32 → Prop
  | stop (j : ℕ) (cm : F .f32) (C : Vec F S3x1x256 .f32) (A : Vec F S3x128x256 .f32) : ¬ goOn i (BitVec.ofNat 32 j) cm → Reach i Q K V v6 j cm C A C A
  | step (j : ℕ) (cm : F .f32) (C : Vec F S3x1x256 .f32) (A : Vec F S3x128x256 .f32) (C' : Vec F S3x1x256 .f32) (A' : Vec F S3x128x256 .f32) :
      goOn i (BitVec.ofNat 32 j) cm →
      Reach i Q K V v6 (j + 1) (mx3 (cN Q K ((i 1).val - 1 - j) C)) (mk6 (cN Q K ((i 1).val - 1 - j) C)) (mk7 (aN Q K V v6 ((i 1).val - 1 - j) C A)) C' A' →
      Reach i Q K V v6 j cm C A C' A'

theorem and_one : ∀ x y : BitVec 1, x &&& y = 1#1 ↔ x = 1#1 ∧ y = 1#1 := by decide

/-- The loop goes on only while chunks remain. -/
theorem slt_iff (i : grid0.Coords) (j : ℕ) (hj : j ≤ (i 1).val) : Scalar.cmpi .slt (BitVec.ofNat 32 j) (BitVec.ofNat 32 (i 1).val) = 1#1 ↔ j < (i 1).val := by
  have hi : (i 1).val < 33 := (i 1).isLt
  have h := (by decide +kernel : ∀ a b : Fin 33, Scalar.cmpi .slt (BitVec.ofNat 32 a.val) (BitVec.ofNat 32 b.val) = 1#1 ↔ a.val < b.val) ⟨j, by omega⟩ ⟨(i 1).val, hi⟩
  exact h

theorem goOn_lt (i : grid0.Coords) (j : ℕ) (hj : j ≤ (i 1).val) (cm : F .f32) (h : goOn i (BitVec.ofNat 32 j) cm) : j < (i 1).val :=
  (slt_iff i j hj).1 ((and_one _ _).1 h).1

variable (c : Dev nD) (i : grid0.Coords) (arg2 : Memref sig .tc .vmem S3x256x128 .bf16) (harg2 : arg2.IsWhole) (arg3 : Memref sig .tc .vmem S3x8704x128 .bf16) (harg3 : arg3.IsWhole) (arg4 : Memref sig .tc .vmem S3x34x128x256 .bf16) (harg4 : arg4.IsWhole) (arg5 : Memref sig .tc .vmem S256x384 .f32) (harg5 : arg5.IsWhole) (arg6 : Memref sig .tc .vmem S3x1x256 .f32) (harg6 : arg6.IsWhole) (arg7 : Memref sig .tc .vmem S3x128x256 .f32) (harg7 : arg7.IsWhole)
  (Q : Vec F S3x256x128 .bf16) (K : Vec F S3x8704x128 .bf16) (V : Vec F S3x34x128x256 .bf16) (v6 : FVec F S256x256 .bf16)

/-- The loop's specification: holding the buffers, it leaves the carry and the accumulator at what the loop can reach. -/
def spec (j : ℕ) (cm : F .f32) (C : Vec F S3x1x256 .f32) (A : Vec F S3x128x256 .f32) : sWPT 𝕄 (BitVec 32 × F .f32) := do
  sWPT.consume (Held c arg2 arg3 arg4 arg6 arg7 Q K V C A)
  let r : (BitVec 32 × F .f32) × Vec F S3x1x256 .f32 × Vec F S3x128x256 .f32 ← sWPT.arbitrary
  sWPT.assume (Reach i Q K V v6 j cm C A r.2.1 r.2.2)
  sWPT.produce (Held c arg2 arg3 arg4 arg6 arg7 Q K V r.2.1 r.2.2)
  pure r.1

theorem spec_apply (j : ℕ) (cm : F .f32) (C : Vec F S3x1x256 .f32) (A : Vec F S3x128x256 .f32) (KK : BitVec 32 × F .f32 → sProp 𝕄) :
    spec c i arg2 arg3 arg4 arg6 arg7 Q K V v6 j cm C A KK
      = iprop(Held c arg2 arg3 arg4 arg6 arg7 Q K V C A ∗ ∀ r : (BitVec 32 × F .f32) × Vec F S3x1x256 .f32 × Vec F S3x128x256 .f32,
          ⌜Reach i Q K V v6 j cm C A r.2.1 r.2.2⌝ -∗ (Held c arg2 arg3 arg4 arg6 arg7 Q K V r.2.1 r.2.2 -∗ KK r.1)) := rfl

/-- The loop meets its specification. -/
theorem spec_le (E : Set ℕ) : ∀ k j, j + k = (i 1).val → ∀ (cm : F .f32) (C : Vec F S3x1x256 .f32) (A : Vec F S3x128x256 .f32) (KK : BitVec 32 × F .f32 → sProp 𝕄),
    spec c i arg2 arg3 arg4 arg6 arg7 Q K V v6 j cm C A KK
      ⊢ wp frame (wpE (defs₀ (F := F)) vars (c : Thread nD τ) (some k)) E
          (defs₀ (F := F) .tc 1 ⟨i, arg3, harg3, arg2, harg2, v6, arg6, harg6, arg7, harg7, arg4, harg4, BitVec.ofNat 32 j, cm⟩) KK := by
  intro k
  induction k with
  | zero =>
    intro j hj cm C A KK
    rw [spec_apply]
    show _ ⊢ wp frame (wpE (defs₀ (F := F)) vars (c : Thread nD τ) (some 0)) E (cc0_while1 i arg3 harg3 arg2 harg2 v6 arg6 harg6 arg7 harg7 arg4 harg4 (BitVec.ofNat 32 j) cm) KK
    have hgo : ¬ goOn i (BitVec.ofNat 32 j) cm := fun h => by have := goOn_lt i j (by omega) cm h; omega
    simp only [cc0_while1_eq_skeleton]; unfold cc0_while1_skel
    simp only [if_neg hgo, Prog.pure_eq_ret]
    iintro ⟨Hh, Hk⟩
    rw [wp_ret]; imodintro
    iapply Hk $$ %((BitVec.ofNat 32 j, cm), C, A)
    · ipureintro; exact Reach.stop j cm C A hgo
    iexact Hh
  | succ k ih =>
    intro j hj cm C A KK
    rw [spec_apply]
    show _ ⊢ wp frame (wpE (defs₀ (F := F)) vars (c : Thread nD τ) (some (k + 1))) E (cc0_while1 i arg3 harg3 arg2 harg2 v6 arg6 harg6 arg7 harg7 arg4 harg4 (BitVec.ofNat 32 j) cm) KK
    by_cases hgo : goOn i (BitVec.ofNat 32 j) cm
    · have hlt := goOn_lt i j (by omega) cm hgo
      iintro ⟨Hh, Hk⟩
      iapply (trip c i arg2 harg2 arg3 harg3 arg4 harg4 arg6 harg6 arg7 harg7 Q K V v6 (some (k + 1)) E j hlt cm hgo C A KK)
      isplitl [Hh]; · iexact Hh
      iintro Hh
      iapply (wp_call_spec vars (c : Thread nD τ) (some (k + 1)) E (spec c i arg2 arg3 arg4 arg6 arg7 Q K V v6 (j + 1) (mx3 (cN Q K ((i 1).val - 1 - j) C)) (mk6 (cN Q K ((i 1).val - 1 - j) C)) (mk7 (aN Q K V v6 ((i 1).val - 1 - j) C A))) k
        (fun u hu => by cases hu; exact Nat.lt_succ_self k) (ih (j + 1) (by omega) _ _ _))
      rw [spec_apply]
      isplitl [Hh]; · iexact Hh
      iintro %r %hr Hh
      rw [wp_ret]; imodintro
      iapply Hk $$ %r
      · ipureintro; exact Reach.step j cm C A _ _ hgo hr
      iexact Hh
    · simp only [cc0_while1_eq_skeleton]; unfold cc0_while1_skel
      simp only [if_neg hgo, Prog.pure_eq_ret]
      iintro ⟨Hh, Hk⟩
      rw [wp_ret]; imodintro
      iapply Hk $$ %((BitVec.ofNat 32 j, cm), C, A)
      · ipureintro; exact Reach.stop j cm C A hgo
      iexact Hh

theorem base_eq : ∀ b : Fin 33, (Scalar.indexCast (Scalar.muli (BitVec.ofNat 32 b.val) 256#32) : Index).toNat = b.val * 256 := by
  decide +kernel

theorem chunk0_eq : ∀ b : Fin 33, (Scalar.indexCast (BitVec.ofNat 32 b.val) : Index).toNat = b.val := by
  decide +kernel

theorem off1 : k0_off1 i = ![(0 : Fin 3).val, (i 1).val * 256, 0] := by
  have e := base_eq ⟨(i 1).val, (i 1).isLt⟩
  funext a; fin_cases a
  · rfl
  · exact e
  · rfl

theorem off2 : k0_off2 i = ![(1 : Fin 3).val, (i 1).val * 256, 0] := by
  have e := base_eq ⟨(i 1).val, (i 1).isLt⟩
  funext a; fin_cases a
  · rfl
  · exact e
  · rfl

theorem off3 : k0_off3 i = ![(2 : Fin 3).val, (i 1).val * 256, 0] := by
  have e := base_eq ⟨(i 1).val, (i 1).isLt⟩
  funext a; fin_cases a
  · rfl
  · exact e
  · rfl

theorem off4 : k0_off4 i = ![(0 : Fin 3).val, (i 1).val, 0, 0] := by
  have e := chunk0_eq ⟨(i 1).val, (i 1).isLt⟩
  funext a; fin_cases a
  · rfl
  · exact e
  · rfl
  · rfl

theorem off5 : k0_off5 i = ![(1 : Fin 3).val, (i 1).val, 0, 0] := by
  have e := chunk0_eq ⟨(i 1).val, (i 1).isLt⟩
  funext a; fin_cases a
  · rfl
  · exact e
  · rfl
  · rfl

theorem off6 : k0_off6 i = ![(2 : Fin 3).val, (i 1).val, 0, 0] := by
  have e := chunk0_eq ⟨(i 1).val, (i 1).isLt⟩
  funext a; fin_cases a
  · rfl
  · exact e
  · rfl
  · rfl

theorem zeros6 (a : Memref sig .tc .vmem S3x1x256 .f32) (f : a.view.ty.Contents (Elt F)) (z : Vec F S3x1x256 .f32) (y : S3x1x256.Idx) :
    a.view.read (Elt F) (a.view.writes (Elt F) f [⟨Rect.unit (s := S3x1x256) ![0, 0, 0] S3x1x256.size inb_S3x1x256_S3x1x256_0_0_0, z⟩]) y = z y := by
  refine View.read_writes_cons_unit_of_mem (v := a.view) (f := f) _ z [] y y rfl fun b => ?_
  fin_cases b <;> simp

theorem zeros7 (a : Memref sig .tc .vmem S3x128x256 .f32) (f : a.view.ty.Contents (Elt F)) (z : Vec F S3x128x256 .f32) (y : S3x128x256.Idx) :
    a.view.read (Elt F) (a.view.writes (Elt F) f [⟨Rect.unit (s := S3x128x256) ![0, 0, 0] S3x128x256.size inb_S3x128x256_S3x128x256_0_0_0, z⟩]) y = z y := by
  refine View.read_writes_cons_unit_of_mem (v := a.view) (f := f) _ z [] y y rfl fun b => ?_
  fin_cases b <;> simp

/-- Head 0 of the carry, read back after the zeroing. -/
theorem z6_0 (a : Memref sig .tc .vmem S3x1x256 .f32) (z : Vec F S3x1x256 .f32) :
    a.view.readCov [⟨Rect.unit (s := S3x1x256) ![0, 0, 0] S3x1x256.size inb_S3x1x256_S3x1x256_0_0_0, z⟩]
      (Rect.unit (s := S3x1x256) ![0, 0, 0] S1x1x256.size inb_S3x1x256_S1x1x256_0_0_0).toLoadRect = Cp z 0 := by
  funext x
  have x0 : (x 0).val = 0 := by have : (x 0).val < 1 := (x 0).isLt; omega
  refine (zeros6 a _ z _).trans (congrArg z (funext fun b => ?_))
  fin_cases b <;> apply Fin.ext <;> simp [Rect.toLoadRect, LoadRect.idx, Rect.unit, x0, ix3]

/-- Head 1, read back after head 0 was stored. -/
theorem z6_1 (a : Memref sig .tc .vmem S3x1x256 .f32) (z : Vec F S3x1x256 .f32) (w0 : Vec F S1x1x256 .f32) :
    a.view.readCov [⟨Rect.unit (s := S3x1x256) ![0, 0, 0] S1x1x256.size inb_S3x1x256_S1x1x256_0_0_0, w0⟩,
       ⟨Rect.unit (s := S3x1x256) ![0, 0, 0] S3x1x256.size inb_S3x1x256_S3x1x256_0_0_0, z⟩]
      (Rect.unit (s := S3x1x256) ![1, 0, 0] S1x1x256.size inb_S3x1x256_S1x1x256_1_0_0).toLoadRect = Cp z 1 := by
  funext x
  have x0 : (x 0).val = 0 := by have : (x 0).val < 1 := (x 0).isLt; omega
  refine (View.read_writes_cons_unit_of_not_mem a.view _ _ w0 _ _ rfl (0 : Fin 3) (.inr ?_)).trans ((zeros6 a _ z _).trans (congrArg z (funext fun b => ?_)))
  · show 0 + 1 ≤ 1 + 1 * (x 0).val; omega
  · fin_cases b <;> apply Fin.ext <;> simp [Rect.toLoadRect, LoadRect.idx, Rect.unit, x0, ix3]

/-- Head 2, read back after heads 0 and 1 were stored. -/
theorem z6_2 (a : Memref sig .tc .vmem S3x1x256 .f32) (z : Vec F S3x1x256 .f32) (w0 w1 : Vec F S1x1x256 .f32) :
    a.view.readCov [⟨Rect.unit (s := S3x1x256) ![1, 0, 0] S1x1x256.size inb_S3x1x256_S1x1x256_1_0_0, w1⟩,
       ⟨Rect.unit (s := S3x1x256) ![0, 0, 0] S1x1x256.size inb_S3x1x256_S1x1x256_0_0_0, w0⟩,
       ⟨Rect.unit (s := S3x1x256) ![0, 0, 0] S3x1x256.size inb_S3x1x256_S3x1x256_0_0_0, z⟩]
      (Rect.unit (s := S3x1x256) ![2, 0, 0] S1x1x256.size inb_S3x1x256_S1x1x256_2_0_0).toLoadRect = Cp z 2 := by
  funext x
  have x0 : (x 0).val = 0 := by have : (x 0).val < 1 := (x 0).isLt; omega
  refine (View.read_writes_cons_unit_of_not_mem a.view _ _ w1 _ _ rfl (0 : Fin 3) (.inr ?_)).trans ((View.read_writes_cons_unit_of_not_mem a.view _ _ w0 _ _ rfl (0 : Fin 3) (.inr ?_)).trans ((zeros6 a _ z _).trans (congrArg z (funext fun b => ?_))))
  · show 1 + 1 ≤ 2 + 1 * (x 0).val; omega
  · show 0 + 1 ≤ 2 + 1 * (x 0).val; omega
  · fin_cases b <;> apply Fin.ext <;> simp [Rect.toLoadRect, LoadRect.idx, Rect.unit, x0, ix3]

/-- Head 0 of the accumulator, read back after the zeroing. -/
theorem z7_0 (a : Memref sig .tc .vmem S3x128x256 .f32) (z : Vec F S3x128x256 .f32) :
    a.view.readCov [⟨Rect.unit (s := S3x128x256) ![0, 0, 0] S3x128x256.size inb_S3x128x256_S3x128x256_0_0_0, z⟩]
      (Rect.unit (s := S3x128x256) ![0, 0, 0] S1x128x256.size inb_S3x128x256_S1x128x256_0_0_0).toLoadRect = Ap z 0 := by
  funext x
  have x0 : (x 0).val = 0 := by have : (x 0).val < 1 := (x 0).isLt; omega
  refine (zeros7 a _ z _).trans (congrArg z (funext fun b => ?_))
  fin_cases b <;> apply Fin.ext <;> simp [Rect.toLoadRect, LoadRect.idx, Rect.unit, x0, ix3]

/-- Head 1, read back after head 0 was stored. -/
theorem z7_1 (a : Memref sig .tc .vmem S3x128x256 .f32) (z : Vec F S3x128x256 .f32) (w0 : Vec F S1x128x256 .f32) :
    a.view.readCov [⟨Rect.unit (s := S3x128x256) ![0, 0, 0] S1x128x256.size inb_S3x128x256_S1x128x256_0_0_0, w0⟩,
       ⟨Rect.unit (s := S3x128x256) ![0, 0, 0] S3x128x256.size inb_S3x128x256_S3x128x256_0_0_0, z⟩]
      (Rect.unit (s := S3x128x256) ![1, 0, 0] S1x128x256.size inb_S3x128x256_S1x128x256_1_0_0).toLoadRect = Ap z 1 := by
  funext x
  have x0 : (x 0).val = 0 := by have : (x 0).val < 1 := (x 0).isLt; omega
  refine (View.read_writes_cons_unit_of_not_mem a.view _ _ w0 _ _ rfl (0 : Fin 3) (.inr ?_)).trans ((zeros7 a _ z _).trans (congrArg z (funext fun b => ?_)))
  · show 0 + 1 ≤ 1 + 1 * (x 0).val; omega
  · fin_cases b <;> apply Fin.ext <;> simp [Rect.toLoadRect, LoadRect.idx, Rect.unit, x0, ix3]

/-- Head 2, read back after heads 0 and 1 were stored. -/
theorem z7_2 (a : Memref sig .tc .vmem S3x128x256 .f32) (z : Vec F S3x128x256 .f32) (w0 w1 : Vec F S1x128x256 .f32) :
    a.view.readCov [⟨Rect.unit (s := S3x128x256) ![1, 0, 0] S1x128x256.size inb_S3x128x256_S1x128x256_1_0_0, w1⟩,
       ⟨Rect.unit (s := S3x128x256) ![0, 0, 0] S1x128x256.size inb_S3x128x256_S1x128x256_0_0_0, w0⟩,
       ⟨Rect.unit (s := S3x128x256) ![0, 0, 0] S3x128x256.size inb_S3x128x256_S3x128x256_0_0_0, z⟩]
      (Rect.unit (s := S3x128x256) ![2, 0, 0] S1x128x256.size inb_S3x128x256_S1x128x256_2_0_0).toLoadRect = Ap z 2 := by
  funext x
  have x0 : (x 0).val = 0 := by have : (x 0).val < 1 := (x 0).isLt; omega
  refine (View.read_writes_cons_unit_of_not_mem a.view _ _ w1 _ _ rfl (0 : Fin 3) (.inr ?_)).trans ((View.read_writes_cons_unit_of_not_mem a.view _ _ w0 _ _ rfl (0 : Fin 3) (.inr ?_)).trans ((zeros7 a _ z _).trans (congrArg z (funext fun b => ?_))))
  · show 1 + 1 ≤ 2 + 1 * (x 0).val; omega
  · show 0 + 1 ≤ 2 + 1 * (x 0).val; omega
  · fin_cases b <;> apply Fin.ext <;> simp [Rect.toLoadRect, LoadRect.idx, Rect.unit, x0, ix3]

theorem left6z (a : Memref sig .tc .vmem S3x1x256 .f32) (f : a.view.ty.Contents (Elt F)) (z : Vec F S3x1x256 .f32) (W : Fin 3 → Vec F S1x1x256 .f32) {w2 w1 w0 : Vec F S1x1x256 .f32} (e2 : w2 = W 2) (e1 : w1 = W 1) (e0 : w0 = W 0) :
    a.view.read (Elt F) (a.view.writes (Elt F) f
      [⟨Rect.unit (s := S3x1x256) ![2, 0, 0] S1x1x256.size inb_S3x1x256_S1x1x256_2_0_0, w2⟩,
       ⟨Rect.unit (s := S3x1x256) ![1, 0, 0] S1x1x256.size inb_S3x1x256_S1x1x256_1_0_0, w1⟩,
       ⟨Rect.unit (s := S3x1x256) ![0, 0, 0] S1x1x256.size inb_S3x1x256_S1x1x256_0_0_0, w0⟩,
       ⟨Rect.unit (s := S3x1x256) ![0, 0, 0] S3x1x256.size inb_S3x1x256_S3x1x256_0_0_0, z⟩]) = mk6 W :=
  left6 a (a.view.writes (Elt F) f [⟨Rect.unit (s := S3x1x256) ![0, 0, 0] S3x1x256.size inb_S3x1x256_S3x1x256_0_0_0, z⟩]) W e2 e1 e0

theorem left7z (a : Memref sig .tc .vmem S3x128x256 .f32) (f : a.view.ty.Contents (Elt F)) (z : Vec F S3x128x256 .f32) (W : Fin 3 → Vec F S1x128x256 .f32) {w2 w1 w0 : Vec F S1x128x256 .f32} (e2 : w2 = W 2) (e1 : w1 = W 1) (e0 : w0 = W 0) :
    a.view.read (Elt F) (a.view.writes (Elt F) f
      [⟨Rect.unit (s := S3x128x256) ![2, 0, 0] S1x128x256.size inb_S3x128x256_S1x128x256_2_0_0, w2⟩,
       ⟨Rect.unit (s := S3x128x256) ![1, 0, 0] S1x128x256.size inb_S3x128x256_S1x128x256_1_0_0, w1⟩,
       ⟨Rect.unit (s := S3x128x256) ![0, 0, 0] S1x128x256.size inb_S3x128x256_S1x128x256_0_0_0, w0⟩,
       ⟨Rect.unit (s := S3x128x256) ![0, 0, 0] S3x128x256.size inb_S3x128x256_S3x128x256_0_0_0, z⟩]) = mk7 W :=
  left7 a (a.view.writes (Elt F) f [⟨Rect.unit (s := S3x128x256) ![0, 0, 0] S3x128x256.size inb_S3x128x256_S3x128x256_0_0_0, z⟩]) W e2 e1 e0

/-- The mask of the block's own chunk: key before query. -/
abbrev msk : IVec S256x256 1 := k0_pay13 (BitVec.ofNat 32 (i 1).val) (k0_pay6 i)

/-- The carry of head `h` after the block's own chunk. -/
def c0 (h : Fin 3) : FVec F S1x1x256 .f32 := cF (lkM (msk i) (zF (Kp K h (i 1).val) (Qp Q h))) (Cp k0_pay7 h)

/-- The accumulator of head `h` after the block's own chunk. -/
def a0 (h : Fin 3) : FVec F S1x128x256 .f32 :=
  accF (Ap k0_pay8 h) (Vp V h (i 1).val)
    (aM (msk i) (zF (Kp K h (i 1).val) (Qp Q h)) (tlF k0_pay5 (lkM (msk i) (zF (Kp K h (i 1).val) (Qp Q h)))) (Cp k0_pay7 h))

/-- The block written out: the heads' accumulators, transposed, side by side. -/
def outF (A : Vec F S3x128x256 .f32) : Vec F S256x384 .f32 :=
  fun y => k0_pay46 (Ap A ⟨(y 1).val / 128, by have : (y 1).val < 384 := (y 1).isLt; omega⟩) (ix2 (y 0) ⟨(y 1).val % 128, Nat.mod_lt _ (by decide)⟩)

theorem left5 (a : Memref sig .tc .vmem S256x384 .f32) (f : a.view.ty.Contents (Elt F)) (A : Vec F S3x128x256 .f32) {w2 w1 w0 : Vec F S256x128 .f32} (e2 : w2 = k0_pay46 (Ap A 2)) (e1 : w1 = k0_pay46 (Ap A 1)) (e0 : w0 = k0_pay46 (Ap A 0)) :
    a.view.read (Elt F) (a.view.writes (Elt F) f
      [⟨Rect.unit (s := S256x384) ![0, 256] S256x128.size inb_S256x384_S256x128_0_256, w2⟩,
       ⟨Rect.unit (s := S256x384) ![0, 128] S256x128.size inb_S256x384_S256x128_0_128, w1⟩,
       ⟨Rect.unit (s := S256x384) ![0, 0] S256x128.size inb_S256x384_S256x128_0_0, w0⟩]) = outF A := by
  have cov := View.cover_of_tiledL (Val := Elt F) (e := .f32) [⟨Rect.unit (s := S256x384) ![0, 256] S256x128.size inb_S256x384_S256x128_0_256, w2⟩,
       ⟨Rect.unit (s := S256x384) ![0, 128] S256x128.size inb_S256x384_S256x128_0_128, w1⟩,
       ⟨Rect.unit (s := S256x384) ![0, 0] S256x128.size inb_S256x384_S256x128_0_0, w0⟩] S256x128.size (by sl_kernel_rfl)
  refine (View.read_writes_eq_canon _ _ _ cov).trans (funext fun y => View.canon_apply_of_pieces (outF A) _ ?_ y (cov y))
  subst e2 e1 e0
  simp only [List.forall_mem_cons]
  refine ⟨?_, ?_, ?_, fun _ h => absurd h List.not_mem_nil⟩
  all_goals
    intro x
    have x1 : (x 1).val < 128 := (x 1).isLt
    unfold outF
    congr 1
    · congr 2
      apply Fin.ext; simp [Rect.emb, Rect.unit]; omega
    · funext b; fin_cases b <;> apply Fin.ext <;> simp [Rect.emb, Rect.unit, ix2]
      all_goals omega

set_option maxHeartbeats 4000000 in
/-- One block's run: the output block is left at the transposed accumulator the loop reached. -/
theorem run (E : Set ℕ) (O : Vec F S256x384 .f32) (C : Vec F S3x1x256 .f32) (A : Vec F S3x128x256 .f32) (KK : PUnit → sProp 𝕄) :
    iprop((Held c arg2 arg3 arg4 arg6 arg7 Q K V C A ∗ owns (c : Thread nD τ) arg5 fullShare O) ∗
      (∀ r : Vec F S3x1x256 .f32 × Vec F S3x128x256 .f32, ⌜Reach i Q K V k0_pay5 0 (mx3 (c0 i Q K)) (mk6 (c0 i Q K)) (mk7 (a0 i Q K V)) r.1 r.2⌝ -∗
        (Held c arg2 arg3 arg4 arg6 arg7 Q K V r.1 r.2 ∗ owns (c : Thread nD τ) arg5 fullShare (outF r.2)) -∗ KK ⟨⟩))
      ⊢ wp frame (wpE (defs₀ (F := F)) vars c none) E (cc0_sb_prompt i arg2 harg2 arg3 harg3 arg4 harg4 arg5 harg5 arg6 harg6 arg7 harg7) KK := by
  have hi : (i 1).val < 33 := (i 1).isLt
  simp only [cc0_sb_prompt_eq_skeleton]; unfold cc0_sb_prompt_skel
  simp only [k0_part6_eq_skeleton]; unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret]
  unfold Held owns
  iintro ⟨⟨⟨⟨%f2, %hf2, H2⟩, ⟨%f3, %hf3, H3⟩, ⟨%f4, %hf4, H4⟩, ⟨%f6, %hf6, H6⟩, ⟨%f7, %hf7, H7⟩⟩, ⟨%f5, %hf5, H5⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec
  have q0 : View.readAt (Elt F) arg2.view (Rect.unit (s := S3x256x128) ![0, 0, 0] S1x256x128.size inb_S3x256x128_S1x256x128_0_0_0).toLoadRect (harg2.unread Q) = Qp Q 0 := rdQ arg2 harg2 Q 0 _
  have q1 : View.readAt (Elt F) arg2.view (Rect.unit (s := S3x256x128) ![1, 0, 0] S1x256x128.size inb_S3x256x128_S1x256x128_1_0_0).toLoadRect (harg2.unread Q) = Qp Q 1 := rdQ arg2 harg2 Q 1 _
  have q2 : View.readAt (Elt F) arg2.view (Rect.unit (s := S3x256x128) ![2, 0, 0] S1x256x128.size inb_S3x256x128_S1x256x128_2_0_0).toLoadRect (harg2.unread Q) = Qp Q 2 := rdQ arg2 harg2 Q 2 _
  have k0 : View.readAt (Elt F) arg3.view (Rect.unit (s := S3x8704x128) (k0_off1 i) S1x256x128.size (k0_off1_inb i)).toLoadRect (harg3.unread K) = Kp K 0 (i 1).val := rdK arg3 harg3 K 0 _ (by omega) _ (off1 i) _
  have k1 : View.readAt (Elt F) arg3.view (Rect.unit (s := S3x8704x128) (k0_off2 i) S1x256x128.size (k0_off2_inb i)).toLoadRect (harg3.unread K) = Kp K 1 (i 1).val := rdK arg3 harg3 K 1 _ (by omega) _ (off2 i) _
  have k2 : View.readAt (Elt F) arg3.view (Rect.unit (s := S3x8704x128) (k0_off3 i) S1x256x128.size (k0_off3_inb i)).toLoadRect (harg3.unread K) = Kp K 2 (i 1).val := rdK arg3 harg3 K 2 _ (by omega) _ (off3 i) _
  have v0 : View.readAt (Elt F) arg4.view (Rect.unit (s := S3x34x128x256) (k0_off4 i) S1x1x128x256.size (k0_off4_inb i)).toLoadRect (harg4.unread V) = Vp V 0 (i 1).val := rdV arg4 harg4 V 0 _ (by omega) _ (off4 i) _
  have v1 : View.readAt (Elt F) arg4.view (Rect.unit (s := S3x34x128x256) (k0_off5 i) S1x1x128x256.size (k0_off5_inb i)).toLoadRect (harg4.unread V) = Vp V 1 (i 1).val := rdV arg4 harg4 V 1 _ (by omega) _ (off5 i) _
  have v2 : View.readAt (Elt F) arg4.view (Rect.unit (s := S3x34x128x256) (k0_off6 i) S1x1x128x256.size (k0_off6_inb i)).toLoadRect (harg4.unread V) = Vp V 2 (i 1).val := rdV arg4 harg4 V 2 _ (by omega) _ (off6 i) _
  have x0 : run.sl.x (F := F) c arg6 = Cp k0_pay7 0 := z6_0 arg6 _
  have x1 : run.sl.x_1 (F := F) c arg7 = Ap k0_pay8 0 := z7_0 arg7 _
  have x2 : run.sl.x_2 c i arg2 harg2 arg3 harg3 arg6 Q K = Cp k0_pay7 1 := z6_1 arg6 _ _
  have x3 : run.sl.x_3 c i arg2 harg2 arg3 harg3 arg4 harg4 arg6 arg7 Q K V = Ap k0_pay8 1 := z7_1 arg7 _ _
  have x4 : run.sl.x_4 c i arg2 harg2 arg3 harg3 arg6 Q K = Cp k0_pay7 2 := z6_2 arg6 _ _ _
  have x5 : run.sl.x_5 c i arg2 harg2 arg3 harg3 arg4 harg4 arg6 arg7 Q K V = Ap k0_pay8 2 := z7_2 arg7 _ _ _
  unfold run.sl.H6_3 run.sl.H6_2 run.sl.H6_1 run.sl.H7_3 run.sl.H7_2 run.sl.H7_1
  rw [q0, q1, q2, k0, k1, k2, v0, v1, v2, x0, x1, x2, x3, x4, x5]
  iapply (wp_call_spec vars (c : Thread nD τ) none E (spec c i arg2 arg3 arg4 arg6 arg7 Q K V k0_pay5 0 (mx3 (c0 i Q K)) (mk6 (c0 i Q K)) (mk7 (a0 i Q K V))) (i 1).val
    (fun u hu => nomatch hu) (spec_le c i arg2 harg2 arg3 harg3 arg4 harg4 arg6 harg6 arg7 harg7 Q K V k0_pay5 E (i 1).val 0 (Nat.zero_add _) _ _ _))
  rw [spec_apply]
  unfold Held owns
  isplitl [H2 H3 H4 H6 H7]
  · isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H6]
    · iexists _; isplitr; swap; · iexact H6
      ipureintro; exact left6z arg6 (harg6.unread C) k0_pay7 (c0 i Q K) rfl rfl rfl
    iexists _; isplitr; swap; · iexact H7
    ipureintro; exact left7z arg7 (harg7.unread A) k0_pay8 (a0 i Q K V) rfl rfl rfl
  iintro %r %hr ⟨⟨%f2, %hf2, H2⟩, ⟨%f3, %hf3, H3⟩, ⟨%f4, %hf4, H4⟩, ⟨%f6, %hf6, H6⟩, ⟨%f7, %hf7, H7⟩⟩
  obtain rfl := harg2.eq_unread hf2; obtain rfl := harg3.eq_unread hf3; obtain rfl := harg4.eq_unread hf4; obtain rfl := harg6.eq_unread hf6; obtain rfl := harg7.eq_unread hf7
  sl_exec
  have e0 : run.sl.v208 c arg7 harg7 r = Ap r.2.2 0 := rdA arg7 harg7 r.2.2 0 _
  have e1 : run.sl.v212 c arg7 harg7 r = Ap r.2.2 1 := rdA arg7 harg7 r.2.2 1 _
  have e2 : run.sl.v216 c arg7 harg7 r = Ap r.2.2 2 := rdA arg7 harg7 r.2.2 2 _
  rw [e0, e1, e2]
  rw [wp_ret]; imodintro
  iapply Hk $$ %r.2
  · ipureintro; exact hr
  isplitr [H5]
  · isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H6]
    · iexists _; isplitr; swap; · iexact H6
      ipureintro; exact harg6.read_unread _
    iexists _; isplitr; swap; · iexact H7
    ipureintro; exact harg7.read_unread _
  iexists _; isplitr; swap; · iexact H5
  ipureintro; exact left5 arg5 _ r.2.2 rfl rfl rfl

end Cert.Sb

end
-- ==== Proof.SbDat.lean ====
module

public import proofs.«01_k».proof.Proof.SbBody
public import Idealize.ShloMosaic.Lib.Pipeline.Frame

/-! What the stick-breaking attention call leaves in its buffers, point by point, and the run of the whole program. -/

@[expose] public section

set_option maxRecDepth 16384

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Kernel4Ideal Cert.Kernel4Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The program is its one call: the region finds every buffer as launched. -/
abbrev V (c : Dev nD) (b : Ref sig .tc) : Buf (Elt F) ((c.tc : Thread nD τ).loc b) := m ((c.tc : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point, read off its array as launched. -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

abbrev sc6 : Memref sig .tc .vmem S3x1x256 .f32 := Memref.whole cc0_scratch0
abbrev sc7 : Memref sig .tc .vmem S3x128x256 .f32 := Memref.whole cc0_scratch1

theorem PhiA_eq (c : Dev nD) :
    (Pipeline.ΦA spec0 c : sProp 𝕄) = iprop(((∃ d, owns (c : Thread nD τ) sc6 fullShare d) ∗ (∃ d, owns (c : Thread nD τ) sc7 fullShare d)) ∗ (∃ r, prngReg c r)) := by
  unfold Pipeline.ΦA; rw [scopedRest0_eq]; simp only [sc6, sc7, owns_whole]; try rfl

/-- The point at which a group's keys and values are fetched. -/
def pt (n : ℕ) : Fin (cfg0 (F := F)).N := ⟨(n / 33 * 33) % 66, Nat.mod_lt _ (by decide)⟩

/-- The queries, keys and values of point `t`. -/
abbrev qB (c : Dev nD) (t : Fin (cfg0 (F := F)).N) : Vec F S3x256x128 .bf16 := iblk m c 0 t
abbrev kB (c : Dev nD) (t : Fin (cfg0 (F := F)).N) : Vec F S3x8704x128 .bf16 := iblk m c 1 t
abbrev vB (c : Dev nD) (t : Fin (cfg0 (F := F)).N) : Vec F S3x34x128x256 .bf16 := iblk m c 2 t

/-- What may be left in the output block at point `t`. -/
def Left (c : Dev nD) (t : Fin (cfg0 (F := F)).N) (X : Vec F S256x384 .f32) : Prop :=
  ∃ r : Vec F S3x1x256 .f32 × Vec F S3x128x256 .f32,
    Reach (grid0.coords t) (qB m c t) (kB m c (pt t.val)) (vB m c (pt t.val)) k0_pay5 0
      (mx3 (c0 (grid0.coords t) (qB m c t) (kB m c (pt t.val)))) (mk6 (c0 (grid0.coords t) (qB m c t) (kB m c (pt t.val))))
      (mk7 (a0 (grid0.coords t) (qB m c t) (kB m c (pt t.val)) (vB m c (pt t.val)))) r.1 r.2 ∧ X = outF r.2

/-- What the body leaves in each window's buffer at a point, of what it finds there. -/
def after (c : Dev nD) : (w : Fin (cfg0 (F := F)).W) → Fin (cfg0 (F := F)).N → (Y X : (cfg0.win w).block.Idx → Elt F (cfg0.win w).elt) → Prop
  | 0 => fun _ Y X => X = Y
  | 1 => fun _ Y X => X = Y
  | 2 => fun _ Y X => X = Y
  | 3 => fun t _ X => Left m c t X
  | ⟨_ + 4, h⟩ => absurd h (Nat.not_lt.2 (Nat.le_add_left _ _))

/-- The scratches between points: at any contents. -/
def Inv (c : Dev nD) (t : Fin ((cfg0 (F := F)).N + 1)) : sProp 𝕄 :=
  iprop(((∃ d, owns (c : Thread nD τ) sc6 fullShare d) ∗ (∃ d, owns (c : Thread nD τ) sc7 fullShare d)) ∗ (∃ r, prngReg c r))

/-- The proof data of the call. -/
def rdat (c : Dev nD) : RDat τ (Elt F) Unit ℕ (UR sig nD τ) ℕ (cfg0 (F := F)) c where
  A := fun w => V m c (Pipeline.arrRef spec0 w)
  after := after m c
  Φ := Inv c
  q := fun _ => fullShare
  owed := fun _ => 0

theorem pt_of_mod {t : Fin (cfg0 (F := F)).N} (h : t.val % 33 = 0) : pt t.val = t := by
  have := t.isLt; have hN : (cfg0 (F := F)).N = 66 := N_0
  apply Fin.ext; show (t.val / 33 * 33) % 66 = t.val; omega

theorem pt_succ {n : ℕ} (h : (n + 1) % 33 ≠ 0) : pt (F := F) (n + 1) = pt n := by
  apply Fin.ext; show ((n + 1) / 33 * 33) % 66 = (n / 33 * 33) % 66
  rw [show (n + 1) / 33 = n / 33 from by omega]

/-- The queries' buffer holds the point's block. -/
theorem finds0 {c : Dev nD} {t : Fin (cfg0 (F := F)).N} {Y} (hY : (rdat m c).Finds 0 t Y) : Y = qB m c t := by
  obtain ⟨d, rfl⟩ := ((rdat m c).finds_of_fetch (fetch0_0 t) Y).1 hY
  rfl

/-- The keys' buffer holds the group's keys. -/
theorem finds1 {c : Dev nD} : ∀ (n : ℕ) (hn : n < (cfg0 (F := F)).N) {Y}, (rdat m c).Finds 1 ⟨n, hn⟩ Y → Y = kB m c (pt n)
  | 0, hn, Y, hY => by
    obtain ⟨d, rfl⟩ := ((rdat m c).finds_of_fetch ((fetch0_1 ⟨0, hn⟩).2 rfl) Y).1 hY
    rfl
  | n + 1, hn, Y, hY => by
    by_cases h0 : (n + 1) % 33 = 0
    · obtain ⟨d, rfl⟩ := ((rdat m c).finds_of_fetch ((fetch0_1 ⟨n + 1, hn⟩).2 h0) Y).1 hY
      rw [show pt (F := F) (n + 1) = ⟨n + 1, hn⟩ from pt_of_mod (t := ⟨n + 1, hn⟩) h0]
      rfl
    · have hf : (cfg0.win 1).fetch ⟨n + 1, hn⟩ = false := Bool.eq_false_iff.2 fun h => h0 ((fetch0_1 _).1 h)
      rcases ((rdat m c).finds_of_pos hf (Nat.succ_ne_zero n) Y).1 hY with h | ⟨Y', hY', h⟩
      · exact absurd h (by simp [Window.flush]; intro h; exact absurd h Bool.false_ne_true)
      · have e : Y = Y' := h
        rw [e, pt_succ h0]; exact finds1 n _ hY'

/-- The values' buffer holds the group's values. -/
theorem finds2 {c : Dev nD} : ∀ (n : ℕ) (hn : n < (cfg0 (F := F)).N) {Y}, (rdat m c).Finds 2 ⟨n, hn⟩ Y → Y = vB m c (pt n)
  | 0, hn, Y, hY => by
    obtain ⟨d, rfl⟩ := ((rdat m c).finds_of_fetch ((fetch0_2 ⟨0, hn⟩).2 rfl) Y).1 hY
    rfl
  | n + 1, hn, Y, hY => by
    by_cases h0 : (n + 1) % 33 = 0
    · obtain ⟨d, rfl⟩ := ((rdat m c).finds_of_fetch ((fetch0_2 ⟨n + 1, hn⟩).2 h0) Y).1 hY
      rw [show pt (F := F) (n + 1) = ⟨n + 1, hn⟩ from pt_of_mod (t := ⟨n + 1, hn⟩) h0]
      rfl
    · have hf : (cfg0.win 2).fetch ⟨n + 1, hn⟩ = false := Bool.eq_false_iff.2 fun h => h0 ((fetch0_2 _).1 h)
      rcases ((rdat m c).finds_of_pos hf (Nat.succ_ne_zero n) Y).1 hY with h | ⟨Y', hY', h⟩
      · exact absurd h (by simp [Window.flush]; intro h; exact absurd h Bool.false_ne_true)
      · have e : Y = Y' := h
        rw [e, pt_succ h0]; exact finds2 n _ hY'

/-- The body table's row at a point is the body there. -/
theorem defs₀_row (t : Fin (cfg0 (F := F)).N) : defs₀ (F := F) .tc cfg0.body (cfg0.bodyArgs t (cfg0.slots t)) = bodyAt0 t := by
  unfold defs₀; rw [Defs.onTc_tc]

set_option maxHeartbeats 1600000 in
/-- The body at a point. -/
theorem body (c : Dev nD) : (rdat m c).BodyObligation (defs₀ (F := F)) vars () Set.univ := fun t Y hY => by
  rw [bigSep_W0, bigSep_W0, defs₀_row]
  rw [show (rdat m c).Φ t.castSucc = Inv c t.castSucc from rfl, show (rdat m c).Φ t.succ = Inv c t.succ from rfl,
    show (rdat m c).owesAt () t.succ = (rdat m c).owesAt () t.castSucc from rfl]
  unfold Inv bodyAt0
  have e0 := finds0 m (hY 0)
  have e1 := finds1 m t.val t.isLt (hY 1)
  have e2 := finds2 m t.val t.isLt (hY 2)
  iintro ⟨⟨⟨⟨%C, H6⟩, ⟨%A, H7⟩⟩, Hg⟩, Ho, H2, H3, H4, H5⟩
  iapply (run c (grid0.coords t) _ _ _ _ _ _ _ _ _ _ _ _ (Y 0) (Y 1) (Y 2) Set.univ (Y 3) C A _)
  unfold Held
  isplitl [H2 H3 H4 H5 H6 H7]
  · isplitr [H5]
    · isplitl [H2]; · iexact H2
      isplitl [H3]; · iexact H3
      isplitl [H4]; · iexact H4
      isplitl [H6]; · iexact H6
      iexact H7
    iexact H5
  iintro %r %hr ⟨⟨H2, H3, H4, H6, H7⟩, H5⟩
  isplitl [H6 H7 Hg]
  · isplitr [Hg]
    · isplitl [H6]
      · iexists _; iexact H6
      iexists _; iexact H7
    iexact Hg
  isplitl [Ho]; · iexact Ho
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  iexists _; isplitr; swap; · iexact H5
  ipureintro
  rw [e0, e1, e2] at hr
  exact ⟨r, hr, rfl⟩

set_option backward.isDefEq.respectTransparency.types false in
/-- The program runs to its end from any memory, leaving the call's arrays as the proof data say, every other buffer as the
call found it, and every semaphore at zero. -/
theorem run_main : θ_run defs (onTc (τ := τ) (main (F := F))) (s₀ m ρ)
    (fun r => Pipeline.RDat.FramePost cfg0 (rdat m) (V m) r ∧ r.2.sem = fun _ => 0) :=
  Pipeline.RDat.θ_run_frame_track (Q' := _) cfgs (0 : Fin 1) launch0 defs₀ vars (rdat m) m ρ main
    (hbody := body m) (hshare := fun c w => by unfold RDat.share; split <;> rfl) (howed := fun _ _ => rfl) (V := V m)
    (hmain := hmain m vars) (hA := fun _ _ => rfl)
    (hin := fun c => by
      show Pipeline.ΦA spec0 c ⊢ Inv (F := F) c 0
      rw [PhiA_eq]; unfold Inv
      iintro H
      iexact H)
    (hout := fun c => by
      show Inv (F := F) c (Fin.last _) ⊢ Pipeline.ΦA spec0 c
      rw [PhiA_eq]; unfold Inv
      iintro H
      iexact H)

/-- The program leaves its arguments as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      Pipeline.RDat.FramePost.arr_in h.1 c 0 rfl,
      Pipeline.RDat.FramePost.arr_in h.1 c 1 rfl,
      Pipeline.RDat.FramePost.arr_in h.1 c 2 rfl⟩, h.2⟩) (run_main m ρ)

end Cert.Sb

end
-- ==== Proof.SbVal.lean ====
module

public import proofs.«01_k».proof.Proof.SbBody
public import Idealize.ShloMosaic.Lib.Pointwise
public import Idealize.ShloMosaic.Lib.WordCmp

/-! What the stick-breaking kernel's operations compute over the extended reals, entry by entry. -/

@[expose] public section

set_option maxRecDepth 16384

noncomputable section

namespace Cert.Sb

open Idealize.ShloMosaic Idealize.ShloMosaic.TcCoe Idealize.ShloMosaic.Tactic
open Cert.Kernel4Ideal Cert.Kernel4Ideal.Gen

/-- The softplus over the extended reals, as the kernel computes it. -/
def spE (z : EReal) : EReal := max z 0 + Ideal.log1p (Ideal.exp (0 - max z (-z)))

/-- The scale of the scores. -/
def scE : EReal := Ideal.ofBits .f32 0x3DB504F3#32

theorem zF_at (k q : Vec Ideal S1x256x128 .bf16) (x r : Fin 256) :
    zF (F := Ideal) k q (ix2 x r) = (∑ d : Fin 128, k (ix3 0 x d) * q (ix3 0 r d)) * scE := by
  pointwise [zF, k0_pay49, scE]

theorem spF_at (z : FVec Ideal S256x256 .f32) (x r : Fin 256) : spF (F := Ideal) z (ix2 x r) = spE (z (ix2 x r)) := by
  pointwise [spF, k0_pay14, spE]
  rfl

theorem lkF_at (z : FVec Ideal S256x256 .f32) (x r : Fin 256) : lkF (F := Ideal) z (ix2 x r) = 0 - spE (z (ix2 x r)) := by
  unfold lkF
  generalize hs : spF (F := Ideal) z = s
  pointwise []
  rw [← hs, spF_at]

theorem lkM_at (m : IVec S256x256 1) (z : FVec Ideal S256x256 .f32) (x r : Fin 256) :
    lkM (F := Ideal) m z (ix2 x r) = if m (ix2 x r) = 1#1 then 0 - spE (z (ix2 x r)) else 0 := by
  unfold lkM
  generalize hs : lkF (F := Ideal) z = s
  pointwise []
  rw [← hs, lkF_at]
  rfl

theorem aF_at (z tl : FVec Ideal S256x256 .f32) (C : Vec Ideal S1x1x256 .f32) (x r : Fin 256) :
    aF (F := Ideal) z tl C (ix2 x r) = Ideal.exp (((z (ix2 x r) - spE (z (ix2 x r))) + tl (ix2 x r)) + C (ix3 0 0 r)) := by
  unfold aF
  generalize hs : spF (F := Ideal) z = s
  pointwise []
  rw [← hs, spF_at]

theorem aM_at (m : IVec S256x256 1) (z tl : FVec Ideal S256x256 .f32) (C : Vec Ideal S1x1x256 .f32) (x r : Fin 256) :
    aM (F := Ideal) m z tl C (ix2 x r) = if m (ix2 x r) = 1#1 then Ideal.exp (((z (ix2 x r) - spE (z (ix2 x r))) + tl (ix2 x r)) + C (ix3 0 0 r)) else 0 := by
  unfold aM
  generalize hs : aF (F := Ideal) z tl C = s
  pointwise []
  rw [← hs, aF_at]
  rfl

theorem accF_at (A : Vec Ideal S1x128x256 .f32) (v : Vec Ideal S1x1x128x256 .bf16) (a : FVec Ideal S256x256 .f32) (d : Fin 128) (r : Fin 256) :
    accF (F := Ideal) A v a (ix3 0 d r) = A (ix3 0 d r) + ∑ x : Fin 256, v (ix4 0 0 d x) * a (ix2 x r) := by
  pointwise [accF, k0_pay1]

theorem cF_at (lk : FVec Ideal S256x256 .f32) (C : Vec Ideal S1x1x256 .f32) (r : Fin 256) :
    cF (F := Ideal) lk C (ix3 0 0 r) = C (ix3 0 0 r) + ∑ x : Fin 256, lk (ix2 x r) := by
  pointwise [cF, k0_pay3, k0_pay2]

theorem later_at (x y : Fin 256) : (k0_pay5 (F := Ideal)) (ix2 x y) = if x < y then (1 : EReal) else 0 := by
  pointwise [k0_pay5]
  revert x y
  have h : ∀ x y : Fin 256, IntOp.cmpi CmpIPredicate.sgt (BitVec.ofNat 32 y.val) (BitVec.ofNat 32 x.val) = 1#1 ↔ x < y := by
    decide +kernel
  intro x y
  simp only [Scalar.select]
  exact if_congr (h x y) rfl rfl

theorem tlF_at (v6 : FVec Ideal S256x256 .bf16) (lk : FVec Ideal S256x256 .f32) (x r : Fin 256) :
    tlF (F := Ideal) v6 lk (ix2 x r) = (∑ y : Fin 256, v6 (ix2 x y) * lk (ix2 y r)) + ∑ y : Fin 256, v6 (ix2 x y) * (lk (ix2 y r) - lk (ix2 y r)) := by
  pointwise [tlF]

theorem msk_at (i : grid0.Coords) (x r : Fin 256) : msk i (ix2 x r) = 1#1 ↔ x < r := by
  pointwise [msk, k0_pay13, k0_pay6]
  have h : ∀ b : Fin 33, (Scalar.muli (BitVec.ofNat 32 b.val) 256#32 : BitVec 32).toNat = 256 * b.val := by
    decide +kernel
  have hb := h (i 1)
  have hb' : (i 1).val < 33 := (i 1).isLt
  generalize (Scalar.muli (BitVec.ofNat 32 (i 1).val) 256#32 : BitVec 32) = w at hb ⊢
  have e : ∀ u : Fin 256, (IntOp.addi w (BitVec.ofNat 32 u.val)).toNat = 256 * (i 1).val + u.val := by
    intro u
    show (w + BitVec.ofNat 32 u.val).toNat = _
    rw [BitVec.toNat_add, BitVec.toNat_ofNat, hb]
    omega
  have p31 : 2 ^ 31 = 2147483648 := by decide
  have ti : ∀ u : Fin 256, (IntOp.addi w (BitVec.ofNat 32 u.val)).toInt = ((256 * (i 1).val + u.val : ℕ) : ℤ) := by
    intro u
    rw [WordCmp.toInt_eq_toNat_of_lt_half (by rw [e u]; have := u.isLt; show _ < 2147483648; omega), e u]
  rw [WordCmp.cmpi_slt_eq, ti x, ti r]
  have : (((256 * (i 1).val + x.val : ℕ) : ℤ) < ((256 * (i 1).val + r.val : ℕ) : ℤ)) ↔ x < r := by
    rw [Int.ofNat_lt]
    exact ⟨fun h => Nat.lt_of_add_lt_add_left h, fun h => Nat.add_lt_add_left h _⟩
  by_cases hx : x < r
  · simp [hx, this.2 hx]
  · simp [hx, this]

theorem mxF_at (C : FVec Ideal S1x1x256 .f32) : mxF (F := Ideal) C = Finset.univ.fold max (Ideal.ofBits .f32 4286578688#32) fun r : Fin 1 × Fin 256 => C (ix3 0 r.1 r.2) := by
  pointwise [mxF]

theorem outF_at (A : Vec Ideal S3x128x256 .f32) (r : Fin 256) (y : Fin 384) :
    outF (F := Ideal) A (ix2 r y) = A (ix3 (⟨y.val / 128, by have := y.isLt; omega⟩ : Fin 3) (⟨y.val % 128, Nat.mod_lt _ (by decide)⟩ : Fin 128) r) := by
  unfold outF
  pointwise [k0_pay46]
  rfl

theorem zero7 (y : S3x1x256.Idx) : (k0_pay7 (F := Ideal)) y = (0 : EReal) := by
  pointwise [k0_pay7]

theorem zero8 (y : S3x128x256.Idx) : (k0_pay8 (F := Ideal)) y = (0 : EReal) := by
  pointwise [k0_pay8]

end Cert.Sb

end
-- ==== Proof.SbInv.lean ====
module

public import proofs.«01_k».proof.Proof.SbVal

/-! The stick-breaking sums over real scores, and what the kernel's loop keeps of them. -/

@[expose] public section

set_option maxRecDepth 16384

noncomputable section

namespace Cert.Sb

open Idealize.ShloMosaic Idealize.ShloMosaic.TcCoe Idealize.ShloMosaic.Tactic
open Cert.Kernel4Ideal Cert.Kernel4Ideal.Gen

/-- A finite sum of reals, embedded. -/
theorem coe_sum {ι : Type} (t : Finset ι) (f : ι → ℝ) : ((∑ i ∈ t, f i : ℝ) : EReal) = ∑ i ∈ t, (f i : EReal) := by
  classical
  induction t using Finset.induction with
  | empty => simp
  | insert a t h ih => rw [Finset.sum_insert h, Finset.sum_insert h, EReal.coe_add, ih]

/-- The softplus of a real. -/
def sg (y : ℝ) : ℝ := max y 0 + Real.log (1 + Real.exp (0 - max y (-y)))

theorem coe_max' (a b : ℝ) : max (a : EReal) (b : EReal) = ((max a b : ℝ) : EReal) :=
  (EReal.coe_strictMono.monotone.map_max).symm

theorem log1p_exp (y : ℝ) : Ideal.log1p (Ideal.exp (y : EReal)) = ((Real.log (1 + Real.exp y) : ℝ) : EReal) := by
  have h := Real.exp_pos y
  rw [Ideal.exp_coe, Ideal.log1p, ← EReal.coe_one, ← EReal.coe_add, Ideal.log_coe, if_neg (by linarith)]

/-- The softplus of a real score is real. -/
theorem spE_coe (y : ℝ) : spE (y : EReal) = (sg y : EReal) := by
  unfold spE sg
  rw [← EReal.coe_neg, coe_max', ← EReal.coe_zero, ← EReal.coe_sub, log1p_exp, coe_max', ← EReal.coe_add]

/-- The logarithm of what key `s` leaves of the stick. -/
def Lr (z : ℕ → ℝ) (p s : ℕ) : ℝ := if s < p then 0 - sg (z s) else 0

/-- The sum of the logarithms from key `n` on. -/
def T (z : ℕ → ℝ) (p n : ℕ) : ℝ := ∑ s ∈ Finset.Ico n 8704, Lr z p s

/-- The weight of key `s`. -/
def wr (z : ℕ → ℝ) (p s : ℕ) : ℝ := if s < p then Real.exp (z s - sg (z s) + T z p (s + 1)) else 0

/-- The weighted values from key `n` on. -/
def acc (z : ℕ → ℝ) (p : ℕ) (v : ℕ → EReal) (n : ℕ) : EReal := ∑ s ∈ Finset.Ico n 8704, v s * (wr z p s : EReal)

theorem sum_chunk {M : Type} [AddCommMonoid M] (f : ℕ → M) (n : ℕ) :
    ∑ x : Fin 256, f (n * 256 + x.val) = ∑ s ∈ Finset.Ico (n * 256) ((n + 1) * 256), f s := by
  rw [Finset.sum_Ico_eq_sum_range, show (n + 1) * 256 - n * 256 = 256 by omega, Finset.sum_range]

theorem sum_later {M : Type} [AddCommMonoid M] (f : ℕ → M) (n : ℕ) (x : Fin 256) :
    ∑ y : Fin 256, (if x < y then f (n * 256 + y.val) else 0) = ∑ s ∈ Finset.Ico (n * 256 + x.val + 1) ((n + 1) * 256), f s := by
  have e : ∀ y : Fin 256, (if x < y then f (n * 256 + y.val) else 0) = (fun s => if n * 256 + x.val < s then f s else 0) (n * 256 + y.val) := by
    intro y
    show _ = if n * 256 + x.val < n * 256 + y.val then f (n * 256 + y.val) else 0
    exact if_congr (by rw [Nat.add_lt_add_iff_left]; rfl) rfl rfl
  rw [Finset.sum_congr rfl fun y _ => e y, sum_chunk (fun s => if n * 256 + x.val < s then f s else 0), ← Finset.sum_filter]
  refine Finset.sum_congr (Finset.ext fun s => ?_) fun _ _ => rfl
  simp only [Finset.mem_filter, Finset.mem_Ico]
  omega

/-- Beyond the row's own position nothing is left out of the stick. -/
theorem T_zero (z : ℕ → ℝ) (p n : ℕ) (h : p ≤ n) : T z p n = 0 :=
  Finset.sum_eq_zero fun s hs => if_neg (by have := (Finset.mem_Ico.1 hs).1; omega)

theorem acc_zero (z : ℕ → ℝ) (p : ℕ) (v : ℕ → EReal) (n : ℕ) (h : p ≤ n) : acc z p v n = 0 :=
  Finset.sum_eq_zero fun s hs => by
    rw [wr, if_neg (by have := (Finset.mem_Ico.1 hs).1; omega), EReal.coe_zero, mul_zero]

theorem T_chunk (z : ℕ → ℝ) (p n : ℕ) (hn : n ≤ 33) :
    T z p (n * 256) = T z p ((n + 1) * 256) + ∑ x : Fin 256, Lr z p (n * 256 + x.val) := by
  rw [sum_chunk, add_comm]
  exact (Finset.sum_Ico_consecutive _ (by omega) (by omega)).symm

theorem T_later (z : ℕ → ℝ) (p n : ℕ) (hn : n ≤ 33) (x : Fin 256) :
    T z p (n * 256 + x.val + 1) = ∑ y : Fin 256, (if x < y then Lr z p (n * 256 + y.val) else 0) + T z p ((n + 1) * 256) := by
  rw [sum_later]
  have := x.isLt
  exact (Finset.sum_Ico_consecutive _ (by omega) (by omega)).symm

theorem acc_chunk (z : ℕ → ℝ) (p : ℕ) (v : ℕ → EReal) (n : ℕ) (hn : n ≤ 33) :
    acc z p v (n * 256) = acc z p v ((n + 1) * 256) + ∑ x : Fin 256, v (n * 256 + x.val) * (wr z p (n * 256 + x.val) : EReal) := by
  rw [sum_chunk (fun s => v s * (wr z p s : EReal)), add_comm]
  exact (Finset.sum_Ico_consecutive _ (by omega) (by omega)).symm

/-- One chunk adds its logarithms to the carry. -/
theorem cF_real (lk : FVec Ideal S256x256 .f32) (C : Vec Ideal S1x1x256 .f32) (r : Fin 256) (z : ℕ → ℝ) (p n : ℕ) (hn : n ≤ 33)
    (hl : ∀ x : Fin 256, lk (ix2 x r) = (Lr z p (n * 256 + x.val) : EReal)) (hC : C (ix3 0 0 r) = (T z p ((n + 1) * 256) : EReal)) :
    cF (F := Ideal) lk C (ix3 0 0 r) = (T z p (n * 256) : EReal) := by
  rw [cF_at, T_chunk z p n hn, EReal.coe_add, coe_sum, hC, Finset.sum_congr rfl fun x _ => hl x]

/-- The two matrix products give the sum of the later logarithms of the chunk. -/
theorem tlF_real (lk : FVec Ideal S256x256 .f32) (x r : Fin 256) (z : ℕ → ℝ) (p n : ℕ)
    (hl : ∀ x : Fin 256, lk (ix2 x r) = (Lr z p (n * 256 + x.val) : EReal)) :
    tlF (F := Ideal) k0_pay5 lk (ix2 x r) = ((∑ y : Fin 256, (if x < y then Lr z p (n * 256 + y.val) else 0) : ℝ) : EReal) := by
  rw [tlF_at]
  have e1 : ∀ y : Fin 256, (k0_pay5 (F := Ideal)) (ix2 x y) * lk (ix2 y r) = ((if x < y then Lr z p (n * 256 + y.val) else 0 : ℝ) : EReal) := by
    intro y
    rw [later_at, hl]
    split
    · rw [one_mul]
    · rw [zero_mul, EReal.coe_zero]
  have e2 : ∀ y : Fin 256, (k0_pay5 (F := Ideal)) (ix2 x y) * (lk (ix2 y r) - lk (ix2 y r)) = 0 := by
    intro y
    rw [hl, ← EReal.coe_sub, sub_self, EReal.coe_zero, mul_zero]
  rw [Finset.sum_congr rfl fun y _ => e1 y, Finset.sum_congr rfl fun y _ => e2 y, Finset.sum_const_zero, add_zero, coe_sum]

/-- The exponential of a chunk's entry, where the key is visible, is the key's weight. -/
theorem weight_real (lk : FVec Ideal S256x256 .f32) (C : Vec Ideal S1x1x256 .f32) (x r : Fin 256) (z : ℕ → ℝ) (p n : ℕ) (hn : n ≤ 33)
    (hl : ∀ x : Fin 256, lk (ix2 x r) = (Lr z p (n * 256 + x.val) : EReal)) (hC : C (ix3 0 0 r) = (T z p ((n + 1) * 256) : EReal))
    (hv : n * 256 + x.val < p) (zz : EReal) (hz : zz = (z (n * 256 + x.val) : EReal)) :
    Ideal.exp (((zz - spE zz) + tlF (F := Ideal) k0_pay5 lk (ix2 x r)) + C (ix3 0 0 r)) = (wr z p (n * 256 + x.val) : EReal) := by
  rw [tlF_real lk x r z p n hl, hC, hz, spE_coe, ← EReal.coe_sub, ← EReal.coe_add, ← EReal.coe_add, Ideal.exp_coe, wr, if_pos hv, T_later z p n hn x, add_assoc]

/-- One chunk adds its weighted values to the accumulator. -/
theorem accF_real (A : Vec Ideal S1x128x256 .f32) (v : Vec Ideal S1x1x128x256 .bf16) (a : FVec Ideal S256x256 .f32) (d : Fin 128) (r : Fin 256)
    (z : ℕ → ℝ) (p n : ℕ) (hn : n ≤ 33) (vv : ℕ → EReal) (hA : A (ix3 0 d r) = acc z p vv ((n + 1) * 256))
    (hv : ∀ x : Fin 256, v (ix4 0 0 d x) = vv (n * 256 + x.val)) (ha : ∀ x : Fin 256, a (ix2 x r) = (wr z p (n * 256 + x.val) : EReal)) :
    accF (F := Ideal) A v a (ix3 0 d r) = acc z p vv (n * 256) := by
  rw [accF_at, acc_chunk z p vv n hn, hA]
  exact congrArg _ (Finset.sum_congr rfl fun x _ => by rw [hv, ha])

variable (i : grid0.Coords) (Q : Vec Ideal S3x256x128 .bf16) (K : Vec Ideal S3x8704x128 .bf16) (V : Vec Ideal S3x34x128x256 .bf16)
  (z : Fin 3 → Fin 256 → ℕ → ℝ)

/-- The scores of the block are the reals `z`. -/
def Scores : Prop := ∀ (h : Fin 3) (n : ℕ) (x r : Fin 256), n ≤ 33 →
  zF (F := Ideal) (Kp K h n) (Qp Q h) (ix2 x r) = (z h r (n * 256 + x.val) : EReal)

/-- The values of a head, key by key. -/
def vAt (h : Fin 3) (d : Fin 128) (s : ℕ) : EReal := V (ix4 h ⟨min (s / 256) 33, by omega⟩ d ⟨s % 256, Nat.mod_lt _ (by decide)⟩)

/-- The position of a row of the block. -/
def pos (r : Fin 256) : ℕ := (i 1).val * 256 + r.val

/-- The carry and the accumulator hold the sums from chunk `n` on. -/
def Sums (n : ℕ) (C : Vec Ideal S3x1x256 .f32) (A : Vec Ideal S3x128x256 .f32) : Prop := ∀ (h : Fin 3) (r : Fin 256),
  C (ix3 h 0 r) = (T (z h r) (pos i r) (n * 256) : EReal) ∧ ∀ d : Fin 128, A (ix3 h d r) = acc (z h r) (pos i r) (vAt V h d) (n * 256)

theorem vAt_chunk (h : Fin 3) (d : Fin 128) (n : ℕ) (hn : n ≤ 33) (x : Fin 256) :
    Vp (F := Ideal) V h n (ix4 0 0 d x) = vAt V h d (n * 256 + x.val) := by
  have := x.isLt
  show V (ix4 h ⟨min n 33, _⟩ d x) = V (ix4 h ⟨min ((n * 256 + x.val) / 256) 33, _⟩ d ⟨(n * 256 + x.val) % 256, _⟩)
  have e1 : (n * 256 + x.val) / 256 = n := by omega
  have e2 : (n * 256 + x.val) % 256 = x.val := by omega
  simp only [e1, e2]

/-- The block's own chunk, masked, starts the sums. -/
theorem sums_own (hz : Scores Q K z) : Sums i V z (i 1).val (mk6 (c0 i Q K)) (mk7 (a0 i Q K V)) := by
  have hi : (i 1).val < 33 := (i 1).isLt
  intro h r
  have hl : ∀ x : Fin 256, lkM (F := Ideal) (msk i) (zF (Kp K h (i 1).val) (Qp Q h)) (ix2 x r) = (Lr (z h r) (pos i r) ((i 1).val * 256 + x.val) : EReal) := by
    intro x
    rw [lkM_at, hz h (i 1).val x r (by omega), spE_coe, Lr]
    by_cases hx : x < r
    · rw [if_pos ((msk_at i x r).2 hx), if_pos (show _ < pos i r from Nat.add_lt_add_left hx _), ← EReal.coe_zero, ← EReal.coe_sub]
    · rw [if_neg (fun e => hx ((msk_at i x r).1 e)), if_neg (show ¬ _ < pos i r from fun e => hx (Nat.lt_of_add_lt_add_left e)), EReal.coe_zero]
  have hC : Cp (F := Ideal) (k0_pay7 (F := Ideal)) h (ix3 0 0 r) = (T (z h r) (pos i r) (((i 1).val + 1) * 256) : EReal) := by
    rw [T_zero _ _ _ (by have := r.isLt; unfold pos; omega), EReal.coe_zero]
    exact zero7 _
  refine ⟨cF_real _ _ r _ _ _ (by omega) hl hC, fun d => ?_⟩
  refine accF_real _ _ _ d r _ _ _ (by omega) _ ?_ (fun x => vAt_chunk V h d _ (by omega) x) fun x => ?_
  · rw [acc_zero _ _ _ _ (by have := r.isLt; unfold pos; omega)]
    exact zero8 _
  · rw [aM_at]
    by_cases hx : x < r
    · rw [if_pos ((msk_at i x r).2 hx)]
      exact weight_real _ _ x r _ _ _ (by omega) hl hC (Nat.add_lt_add_left hx _) _ (hz h _ x r (by omega))
    · rw [if_neg (fun e => hx ((msk_at i x r).1 e)), wr, if_neg (show ¬ _ < pos i r from fun e => hx (Nat.lt_of_add_lt_add_left e)), EReal.coe_zero]

/-- One more chunk extends the sums. -/
theorem sums_step (hz : Scores Q K z) (n : ℕ) (hn : n < (i 1).val) (C : Vec Ideal S3x1x256 .f32) (A : Vec Ideal S3x128x256 .f32)
    (hS : Sums i V z (n + 1) C A) : Sums i V z n (mk6 (cN Q K n C)) (mk7 (aN Q K V k0_pay5 n C A)) := by
  have hi : (i 1).val < 33 := (i 1).isLt
  intro h r
  have hv : ∀ x : Fin 256, n * 256 + x.val < pos i r := by
    intro x
    have := x.isLt
    unfold pos
    omega
  have hl : ∀ x : Fin 256, lkF (F := Ideal) (zF (Kp K h n) (Qp Q h)) (ix2 x r) = (Lr (z h r) (pos i r) (n * 256 + x.val) : EReal) := by
    intro x
    rw [lkF_at, hz h n x r (by omega), spE_coe, Lr, if_pos (hv x), ← EReal.coe_zero, ← EReal.coe_sub]
  have hC : Cp (F := Ideal) C h (ix3 0 0 r) = (T (z h r) (pos i r) ((n + 1) * 256) : EReal) := (hS h r).1
  refine ⟨cF_real _ _ r _ _ _ (by omega) hl hC, fun d => ?_⟩
  refine accF_real _ _ _ d r _ _ _ (by omega) _ ((hS h r).2 d) (fun x => vAt_chunk V h d _ (by omega) x) fun x => ?_
  rw [aF_at]
  exact weight_real _ _ x r _ _ _ (by omega) hl hC (hv x) _ (hz h _ x r (by omega))

/-- The named threshold of the loop is minus infinity. -/
theorem named_bot : (Named.named Cert.Kernel4Ideal.κ "underflow" (φ := .f32) 0xC2DC0000#32 : Ideal .f32) = (⊥ : EReal) :=
  IdealRules.named_const.ideal_named_scalar _ _ _ _ rfl

/-- A carry of real entries is above the threshold. -/
theorem mx3_gt (W : Fin 3 → Vec Ideal S1x1x256 .f32) (h : ∃ t : ℝ, W 0 (ix3 0 0 0) = (t : EReal)) :
    Scalar.cmpf (F := Ideal) .ogt (mx3 W) (Named.named κ "underflow" 0xC2DC0000#32) = 1#1 := by
  rw [named_bot]
  have h0 : (⊥ : EReal) < mxF (F := Ideal) (W 0) := by
    rw [mxF_at, Finset.lt_fold_max]
    obtain ⟨t, ht⟩ := h
    exact .inr ⟨(0, 0), Finset.mem_univ _, by rw [ht]; exact EReal.bot_lt_coe t⟩
  have h1 : (⊥ : EReal) < mx3 (F := Ideal) W := lt_of_lt_of_le h0 ((le_max_left _ _).trans (le_max_left _ _))
  show BitVec.ofBool (decide ((⊥ : EReal) < mx3 (F := Ideal) W)) = 1#1
  simp [h1]

/-- Whatever the loop reaches holds the whole sums. -/
theorem reach_sums (hz : Scores Q K z) (j : ℕ) (cm : Ideal .f32) (C : Vec Ideal S3x1x256 .f32) (A : Vec Ideal S3x128x256 .f32) (C' : Vec Ideal S3x1x256 .f32)
    (A' : Vec Ideal S3x128x256 .f32) (hR : Reach (F := Ideal) i Q K V k0_pay5 j cm C A C' A') :
    j ≤ (i 1).val → Sums i V z ((i 1).val - j) C A →
    Scalar.cmpf (F := Ideal) (φ := .f32) .ogt cm (Named.named κ "underflow" 0xC2DC0000#32) = 1#1 → Sums i V z 0 C' A' := by
  induction hR with
  | stop j cm C A hno =>
    intro hj hS hc
    have : j = (i 1).val := by
      by_contra hne
      exact hno ((and_one _ _).2 ⟨(slt_iff i j hj).2 (by omega), hc⟩)
    subst this
    rwa [Nat.sub_self] at hS
  | step j cm C A C' A' hgo _ ih =>
    intro hj hS hc
    have hlt := goOn_lt i j hj cm hgo
    have e : (i 1).val - (j + 1) = (i 1).val - 1 - j := by omega
    have e' : (i 1).val - j = (i 1).val - 1 - j + 1 := by omega
    rw [e'] at hS
    have hS' := sums_step i Q K V z hz ((i 1).val - 1 - j) (by omega) C A hS
    rw [e] at ih
    exact ih (by omega) hS' (mx3_gt _ ⟨_, (hS' 0 0).1⟩)

/-- The block left by the kernel holds, for each row and head, the weighted values over all keys. -/
theorem out_real (hz : Scores Q K z) (C' : Vec Ideal S3x1x256 .f32) (A' : Vec Ideal S3x128x256 .f32)
    (hR : Reach (F := Ideal) i Q K V k0_pay5 0 (mx3 (c0 i Q K)) (mk6 (c0 i Q K)) (mk7 (a0 i Q K V)) C' A') (r : Fin 256) (y : Fin 384) :
    outF (F := Ideal) A' (ix2 r y) = acc (z ⟨y.val / 128, by have := y.isLt; omega⟩ r) (pos i r)
      (vAt V ⟨y.val / 128, by have := y.isLt; omega⟩ ⟨y.val % 128, Nat.mod_lt _ (by decide)⟩) 0 := by
  have h0 := sums_own i Q K V z hz
  have h := reach_sums i Q K V z hz 0 _ _ _ _ _ hR (Nat.zero_le _) h0 (mx3_gt _ ⟨_, (h0 0 0).1⟩)
  rw [outF_at, (h _ _).2, Nat.zero_mul]

end Cert.Sb

end
-- ==== Proof.SbRef.lean ====
module

public import proofs.«01_k».proof.Proof.SbInv
public import proofs.«01_k».proof.Proof.Gen.Reference4Ideal.Read

/-! What the reference computes from real scores: the same sums over all keys. -/

@[expose] public section

set_option maxRecDepth 16384

noncomputable section

namespace Cert.Sb

open Idealize.ShloMosaic Idealize.ShloMosaic.TcCoe Idealize.ShloMosaic.Tactic
open Cert.Reference4Ideal Cert.Reference4Ideal.Gen Cert.Reference4Ideal.Read

theorem foldl_add {M : Type} [AddCommMonoid M] {ι : Type} (g : ι → M) (l : List ι) (v : M) :
    l.foldl (fun r n => r + g n) v = v + (l.map g).sum := by
  induction l generalizing v with
  | nil => simp
  | cons a l ih => rw [List.foldl_cons, ih, List.map_cons, List.sum_cons, add_assoc]

/-- A window that runs from a position to the end sums from there on. -/
theorem sum_from {M : Type} [AddCommMonoid M] (f : ℕ → M) (s : ℕ) :
    ∑ k : Fin 8704, (if s + k.val < 8704 then f (s + k.val) else 0) = ∑ s' ∈ Finset.Ico s 8704, f s' := by
  rw [Fin.sum_univ_eq_sum_range (fun k => if s + k < 8704 then f (s + k) else 0) 8704, ← Finset.sum_filter, Finset.sum_Ico_eq_sum_range]
  refine Finset.sum_congr (Finset.ext fun k => ?_) fun _ _ => rfl
  simp only [Finset.mem_filter, Finset.mem_range]
  omega

/-- The shape of the running sum's window. -/
abbrev Win : Shape := ⟨3, ![1, 1, 8704]⟩

theorem win_numel : Win.numel = 8704 := by simp [Shape.numel, Fin.prod_univ_succ]

theorem win_symm (n : Fin Win.numel) : Win.rowMajor.symm n = ix3 (0 : Fin 1) (0 : Fin 1) (n.cast win_numel) := by
  rw [Equiv.symm_apply_eq]
  refine Fin.ext ?_
  rw [Shape.rowMajor_val_three]
  show n.val = (0 * 1 + 0) * 8704 + n.val
  omega

/-- The reversed running sum along the keys. -/
theorem cumsum_at (x : FVec Ideal S6x8448x8704 .f32) (init : FVec Ideal S_ .f32) (h0 : ∀ i, init i = (0 : EReal)) (f : ℕ → EReal) (g : Fin 6) (p : Fin 8448)
    (hx : ∀ s : Fin 8704, x (ix3 g p s) = f s.val) (s : Fin 8704) :
    Host.reduceWindowAdd (F := Ideal) ![1, 1, 8704] ![1, 1, 1] ![0, 0, 0] ![0, 0, 8703] x init reduceWindows_S6x8448x8704_S6x8448x8704_w1s1p0_0_w1s1p0_0_w8704s1p0_8703 h_S_ (ix3 g p s)
      = ∑ s' ∈ Finset.Ico s.val 8704, f s' := by
  unfold Host.reduceWindowAdd
  rw [Ideal.hostReduceWindowAdd_def, h0]
  unfold Ideal.hostReduceWindowAdd Host.reduceWindow
  refine (foldl_add _ _ _).trans ?_
  rw [zero_add, ← Fin.sum_univ_def, ← sum_from]
  refine Fintype.sum_equiv (finCongr win_numel) _ _ fun n => ?_
  have hw0 : (Win.rowMajor.symm n 0).val = 0 := by rw [win_symm]; rfl
  have hw1 : (Win.rowMajor.symm n 1).val = 0 := by rw [win_symm]; rfl
  have hw2 : (Win.rowMajor.symm n 2).val = n.val := by rw [win_symm]; rfl
  show _ = if s.val + n.val < 8704 then f (s.val + n.val) else 0
  have hg := g.isLt
  have hp := p.isLt
  dsimp only
  split
  · next hin =>
    have h2 := (hin 2).2
    change s.val * 1 + (Win.rowMajor.symm n 2).val - 0 < 8704 at h2
    rw [hw2] at h2
    rw [if_pos (by omega)]
    refine (congrArg x (funext fun a => Fin.ext ?_)).trans (hx ⟨s.val + n.val, by omega⟩)
    match a with
    | ⟨0, _⟩ =>
      show g.val * 1 + (Win.rowMajor.symm n 0).val - 0 = g.val
      omega
    | ⟨1, _⟩ =>
      show p.val * 1 + (Win.rowMajor.symm n 1).val - 0 = p.val
      omega
    | ⟨2, _⟩ =>
      show s.val * 1 + (Win.rowMajor.symm n 2).val - 0 = s.val + n.val
      omega
  · next hin =>
    rw [if_neg fun hlt => hin fun a => by
      match a with
      | ⟨0, _⟩ =>
        show 0 ≤ g.val * 1 + (Win.rowMajor.symm n 0).val ∧ g.val * 1 + (Win.rowMajor.symm n 0).val - 0 < 6
        omega
      | ⟨1, _⟩ =>
        show 0 ≤ p.val * 1 + (Win.rowMajor.symm n 1).val ∧ p.val * 1 + (Win.rowMajor.symm n 1).val - 0 < 8448
        omega
      | ⟨2, _⟩ =>
        show 0 ≤ s.val * 1 + (Win.rowMajor.symm n 2).val ∧ s.val * 1 + (Win.rowMajor.symm n 2).val - 0 < 8704
        omega]

variable (q k : FVec Ideal S6x8704x128 .bf16) (v : FVec Ideal S6x34x128x256 .bf16)

/-- The score of a key against a query, over the extended reals. -/
def sc (g : Fin 6) (p s : ℕ) : EReal :=
  (∑ d : Fin 128, k (ix3 g ⟨min s 8703, by omega⟩ d) * q (ix3 g ⟨min p 8703, by omega⟩ d)) * scE

theorem ofBits_zero : Ideal.ofBits .f32 0x00000000#32 = 0 := by simp [Ideal.ofBits, Ideal.ieee]

theorem score_at (g : Fin 6) (p : Fin 8448) (s : Fin 8704) : val_main_v10 (F := Ideal) q k (ix3 g p s) = sc q k g p.val s.val := by
  have hp := p.isLt
  have hs := s.isLt
  rw [val_main_v10_apply, val_main_v8_apply, val_main_v9_apply, sc]
  refine congrArg (· * scE) (Finset.sum_congr rfl fun d _ => ?_)
  rw [val_main_v1_apply, val_main_v0_apply, val_main_v2_apply, mul_comm]
  refine congrArg₂ (· * ·) (congrArg k ?_) (congrArg q ?_)
  · funext a
    match a with
    | ⟨0, _⟩ => rfl
    | ⟨1, _⟩ => exact Fin.ext (show s.val = min s.val 8703 by omega)
    | ⟨2, _⟩ => rfl
  · funext a
    match a with
    | ⟨0, _⟩ => rfl
    | ⟨1, _⟩ => exact Fin.ext (show p.val = min p.val 8703 by omega)
    | ⟨2, _⟩ => rfl

theorem visible_at (p : Fin 8448) (s : Fin 8704) : val_main_v15 (F := Ideal) (ix2 p s) = 1#1 ↔ s.val < p.val := by
  have hp := p.isLt
  have hs := s.isLt
  rw [val_main_v15_apply, val_main_v13_apply, val_main_v14_apply, val_main_v11_apply, val_main_v12_apply, val_main_v7_apply, val_main_v6_apply]
  exact WordCmp.cmpi_slt_ofNat_eq_one_iff (w := 32) (a := s.val) (b := p.val) (by show _ < 2147483648; omega) (by show _ < 2147483648; omega)

/-- The reference's softplus of a real. -/
theorem soft_real (y : ℝ) :
    Scalar.select (FloatOps.cmpf (F := Ideal) (φ := .f32) .une ((y : EReal) - 0) ((y : EReal) - 0)) ((y : EReal) + 0)
      (max (y : EReal) 0 + Ideal.log1p (Ideal.exp (-(max ((y : EReal) - 0) (-((y : EReal) - 0)))))) = (sg y : EReal) := by
  have hc : FloatOps.cmpf (F := Ideal) (φ := .f32) .une ((y : EReal) - 0) ((y : EReal) - 0) = 0#1 := by
    simp [Ideal.cmpf_def, Ideal.cmp]
  rw [hc, sub_zero, ← spE_coe, spE]
  show max (y : EReal) 0 + _ = _
  rw [zero_sub]

theorem sg_neg (y : ℝ) : 0 - sg (-y) = y - sg y := by
  unfold sg
  rw [neg_neg, max_comm (-y) y]
  rcases le_total y 0 with h | h
  · rw [max_eq_left (by linarith : (0 : ℝ) ≤ -y), max_eq_right h]; ring
  · rw [max_eq_right (by linarith : -y ≤ (0 : ℝ)), max_eq_left h]; ring

variable (z : ℕ → ℝ) (g : Fin 6) (p : Fin 8448)

theorem logbeta_at (s : Fin 8704) (hz : sc q k g p.val s.val = (z s.val : EReal)) :
    val_main_v16 (F := Ideal) q k (ix3 g p s) = ((z s.val - sg (z s.val) : ℝ) : EReal) := by
  have e : val_main_call0_v1 (F := Ideal) q k (ix3 g p s) = (sg (-(z s.val)) : EReal) := by
    rw [← soft_real]
    rw [val_main_call0_v1_apply, val_main_call0_call0_v4_apply, val_main_call0_call0_v6_apply, val_main_call0_call0_v11_apply, val_main_call0_call0_v1_apply,
      val_main_call0_call0_v10_apply, val_main_call0_call0_v9_apply, val_main_call0_call0_v8_apply, val_main_call0_call0_v7_apply, val_main_call0_call0_v3_apply,
      val_main_call0_call0_v0_apply, val_main_call0_call0_v2_apply, val_main_call0_call0_v5_apply, val_main_call0_v0_apply, score_at, hz,
      val_main_call0_call0_cst_apply]
    rw [← ofBits_zero, EReal.coe_neg]
    rfl
  rw [val_main_v16_apply, e, ← sg_neg, EReal.coe_sub, EReal.coe_zero, zero_sub]
  rfl

theorem logkeep_at (s : Fin 8704) (hz : sc q k g p.val s.val = (z s.val : EReal)) :
    val_main_v19 (F := Ideal) q k (ix3 g p s) = (Lr z p.val s.val : EReal) := by
  have e : val_main_call1_v1 (F := Ideal) q k (ix3 g p s) = (sg (z s.val) : EReal) := by
    rw [← soft_real]
    rw [val_main_call1_v1_apply, val_main_call1_call0_v4_apply, val_main_call1_call0_v6_apply, val_main_call1_call0_v11_apply, val_main_call1_call0_v1_apply,
      val_main_call1_call0_v10_apply, val_main_call1_call0_v9_apply, val_main_call1_call0_v8_apply, val_main_call1_call0_v7_apply, val_main_call1_call0_v3_apply,
      val_main_call1_call0_v0_apply, val_main_call1_call0_v2_apply, val_main_call1_call0_v5_apply, val_main_call1_v0_apply, val_main_v17_apply, score_at, hz,
      val_main_call1_call0_cst_apply]
    have hn : FloatOps.hostNegf (F := Ideal) (φ := .f32) (FloatOps.hostNegf (F := Ideal) (φ := .f32) (z s.val : EReal)) = (z s.val : EReal) := neg_neg _
    rw [hn, ← ofBits_zero]
    rfl
  rw [val_main_v19_apply, val_main_call2_v1_apply, val_main_call2_v2_apply, val_main_v18_apply, e, Lr]
  have hm : val_main_v15 (F := Ideal) (idx_main_call2_v1 (ix3 g p s)) = 1#1 ↔ s.val < p.val := visible_at p s
  by_cases hv : s.val < p.val
  · rw [hm.2 hv, if_pos hv, EReal.coe_sub, EReal.coe_zero, zero_sub]
    rfl
  · rw [if_neg hv, EReal.coe_zero]
    refine (if_neg (fun e => hv (hm.1 e))).trans ?_
    exact ofBits_zero

theorem weight_at (hz : ∀ s : Fin 8704, sc q k g p.val s.val = (z s.val : EReal)) (s : Fin 8704) :
    val_main_v24 (F := Ideal) q k (ix3 g p s) = (wr z p.val s.val : EReal) := by
  have hk := fun s => logkeep_at q k z g p s (hz s)
  have ht : val_main_v20 (F := Ideal) q k (ix3 g p s) = (T z p.val s.val : EReal) := by
    unfold val_main_v20
    rw [cumsum_at _ _ (fun i => by rw [val_main_call3_v0_apply]; exact ofBits_zero) (fun s => (Lr z p.val s : EReal)) g p hk s, ← coe_sum]
    rfl
  have hs := s.isLt
  have hT : T z p.val s.val - Lr z p.val s.val = T z p.val (s.val + 1) := by
    unfold T
    rw [Finset.sum_eq_sum_Ico_succ_bot hs]
    ring
  have hm : val_main_v15 (F := Ideal) (idx_main_call4_v1 (ix3 g p s)) = 1#1 ↔ s.val < p.val := visible_at p s
  rw [val_main_v24_apply, val_main_call4_v1_apply, val_main_call4_v2_apply, val_main_v23_apply, val_main_v22_apply, val_main_v21_apply,
    logbeta_at q k z g p s (hz s), ht, hk s, wr]
  by_cases hv : s.val < p.val
  · rw [hm.2 hv, if_pos hv, ← hT]
    show Ideal.exp (((z s.val - sg (z s.val) : ℝ) : EReal) + ((T z p.val s.val : EReal) - (Lr z p.val s.val : EReal))) = _
    rw [← EReal.coe_sub, ← EReal.coe_add, Ideal.exp_coe]
  · rw [if_neg hv, EReal.coe_zero]
    refine (if_neg (fun e => hv (hm.1 e))).trans ?_
    exact ofBits_zero

/-- The values of a head, key by key, in the argument. -/
def vR (g : Fin 6) (d : Fin 128) (s : ℕ) : EReal := v (ix4 g ⟨min (s / 256) 33, by omega⟩ d ⟨s % 256, Nat.mod_lt _ (by decide)⟩)

theorem value_at (d : Fin 128) (s : Fin 8704) : val_main_v5 (F := Ideal) v (ix3 g s d) = vR v g d s.val := by
  have hg := g.isLt
  have hs := s.isLt
  have hd := d.isLt
  rw [val_main_v5_apply, val_main_v4_apply, val_main_v3_apply]
  refine congrArg v (funext fun a => Fin.ext ?_)
  match a with
  | ⟨0, _⟩ => show ((g.val * 8704 + s.val) * 128 + d.val) / 1114112 = g.val; omega
  | ⟨1, _⟩ => show ((g.val * 8704 + s.val) * 128 + d.val) / 32768 % 34 = min (s.val / 256) 33; omega
  | ⟨2, _⟩ => show ((g.val * 8704 + s.val) * 128 + d.val) % 128 = d.val; omega
  | ⟨3, _⟩ => show ((g.val * 8704 + s.val) * 128 + d.val) / 128 % 256 = s.val % 256; omega

/-- The reference's result: for each row and head, the weighted values over all keys. -/
theorem ref_real (y : Fin 768) (hg : g.val = y.val / 128) (hz : ∀ s : Fin 8704, sc q k g p.val s.val = (z s.val : EReal)) :
    val_main_v27 (F := Ideal) q k v (ix2 p y) = acc z p.val (vR v g ⟨y.val % 128, Nat.mod_lt _ (by decide)⟩) 0 := by
  have hp := p.isLt
  have hy := y.isLt
  rw [val_main_v27_apply, val_main_v26_apply, val_main_v25_apply, acc, Finset.sum_Ico_eq_sum_range, Finset.sum_range]
  refine Finset.sum_congr rfl fun s _ => ?_
  rw [Nat.zero_add]
  refine congrArg₂ (· * ·) ((congrArg (val_main_v5 (F := Ideal) v) (funext fun a => Fin.ext ?_)).trans (value_at v g _ s))
    ((congrArg (val_main_v24 (F := Ideal) q k) (funext fun a => Fin.ext ?_)).trans (weight_at q k z g p hz s))
  · match a with
    | ⟨0, _⟩ => show (p.val * 768 + y.val) / 128 % 6 = g.val; omega
    | ⟨1, _⟩ => rfl
    | ⟨2, _⟩ => show (p.val * 768 + y.val) % 128 = y.val % 128; omega
  · match a with
    | ⟨0, _⟩ => show (p.val * 768 + y.val) / 128 % 6 = g.val; omega
    | ⟨1, _⟩ => show (p.val * 768 + y.val) / 768 = p.val; omega
    | ⟨2, _⟩ => rfl

end Cert.Sb

end
-- ==== Proof.SbFin.lean ====
module

public import proofs.«01_k».proof.Defs
public import proofs.«01_k».proof.Proof.SbDat
public import proofs.«01_k».proof.Proof.SbRef
public import proofs.«01_k».proof.Proof.Pre
public import proofs.«01_k».proof.Proof.Gen.Reference4Ideal.Run
public import proofs.«01_k».proof.Proof.Gen.Pre_finite_scores
public import Idealize.ShloMosaic.Lib.Pipeline.ValueKit
public import Idealize.ShloMosaic.Lib.Pipeline.ArrRel
public import Idealize.ShloMosaic.Lib.Pipeline.ValueKit.Point

/-! The stick-breaking attention's array after the run, and its value claim. -/

@[expose] public section

set_option maxRecDepth 16384

noncomputable section

namespace Cert.Sb

open Cert.Kernel4Ideal Cert.Kernel4Ideal.Gen Idealize.ShloMosaic Idealize.ShloMosaic.TcCoe
open Idealize.ShloMosaic.Tactic Idealize.SL.Sem
open Idealize.ShloMosaic.Pipeline (RDat Cfg Window cellOf)

/-- Under the precondition every query and every key is real. -/
theorem pre_real (x0 x1 : FVec Ideal S6x8704x128 .bf16) (x2 : FVec Ideal S6x34x128x256 .bf16)
    (h : Cert.Pre_finite_scores.fn (F := Ideal) x0 x1 x2 = fun _ => 1#1) :
    (∀ i, ∃ r : ℝ, x0 i = (r : EReal)) ∧ ∀ i, ∃ r : ℝ, x1 i = (r : EReal) := by
  dsimp only [Cert.Pre_finite_scores.fn] at h
  have h := congrFun h ValueIdx.ix0
  have h := IntOp.andi_eq_one.mp h
  exact ⟨fun i => Cert.Diff.real_of_lt .f32 _ (Host.reduce_andi_all _ _ _ _ _ h.1 i),
    fun i => Cert.Diff.real_of_lt .f32 _ (Host.reduce_andi_all _ _ _ _ _ h.2 i)⟩

theorem scE_real : ∃ r : ℝ, scE = (r : EReal) := by
  unfold scE
  simp [Ideal.ofBits, Ideal.ieee]
  exact ⟨_, rfl⟩

/-- Real queries and keys have real scores. -/
theorem sc_real (q k : FVec Ideal S6x8704x128 .bf16) (hq : ∀ i, ∃ r : ℝ, q i = (r : EReal)) (hk : ∀ i, ∃ r : ℝ, k i = (r : EReal))
    (g : Fin 6) (p s : ℕ) : sc q k g p s = ((sc q k g p s).toReal : EReal) := by
  have h : ∃ r : ℝ, sc q k g p s = (r : EReal) := by
    choose fq eq using hq
    choose fk ek using hk
    obtain ⟨e, he⟩ := scE_real
    refine ⟨(∑ d : Fin 128, fk (ix3 g ⟨min s 8703, by omega⟩ d) * fq (ix3 g ⟨min p 8703, by omega⟩ d)) * e, ?_⟩
    rw [sc, he, EReal.coe_mul, coe_sum]
    refine congrArg (· * (e : EReal)) (Finset.sum_congr rfl fun d _ => ?_)
    rw [ek, eq, EReal.coe_mul]
  obtain ⟨r, hr⟩ := h
  rw [hr, EReal.toReal_coe]

variable (m : (ℓ : Loc nD τ sig) → Buf (Elt Ideal) ℓ) (ρ : Dev nD → PrngReg)

abbrev Aq (c : Dev nD) : FVec Ideal S6x8704x128 .bf16 := m ((c : Thread nD τ).loc main_arg0)
abbrev Ak (c : Dev nD) : FVec Ideal S6x8704x128 .bf16 := m ((c : Thread nD τ).loc main_arg1)
abbrev Av (c : Dev nD) : FVec Ideal S6x34x128x256 .bf16 := m ((c : Thread nD τ).loc main_arg2)

theorem ixs : ∀ t : Fin (cfg0 (F := Ideal)).N, win0_0.index t (0 : Fin 3) = t.val / 33 ∧ win0_0.index t (1 : Fin 3) = t.val % 33 ∧ win0_0.index t (2 : Fin 3) = 0
    ∧ win0_1.index t (0 : Fin 3) = t.val / 33 ∧ win0_1.index t (1 : Fin 3) = 0 ∧ win0_1.index t (2 : Fin 3) = 0
    ∧ win0_2.index t (0 : Fin 4) = t.val / 33 ∧ win0_2.index t (1 : Fin 4) = 0 ∧ win0_2.index t (2 : Fin 4) = 0 ∧ win0_2.index t (3 : Fin 4) = 0
    ∧ win0_3.index t (0 : Fin 2) = t.val % 33 ∧ win0_3.index t (1 : Fin 2) = t.val / 33
    ∧ (grid0.coords t 1).val = t.val % 33 ∧ (pt (F := Ideal) t.val).val / 33 = t.val / 33 := (by decide +kernel : ∀ t : Fin grid0.N, _)

/-- The head of the whole array that head `h` of a point is. -/
def hd (t : Fin (cfg0 (F := Ideal)).N) (h : Fin 3) : Fin 6 :=
  ⟨3 * (t.val / 33) + h.val, by have : t.val < 66 := t.isLt; omega⟩

theorem q_at (c : Dev nD) (t : Fin (cfg0 (F := Ideal)).N) (h : Fin 3) (r : Fin 256) (d : Fin 128) :
    qB m c t (ix3 h r d) = Aq m c (ix3 (hd t h) ⟨min ((t.val % 33) * 256 + r.val) 8703, by omega⟩ d) := by
  obtain ⟨e0, e1, e2, -⟩ := ixs t
  have hm : min ((t.val % 33) * 256 + r.val) 8703 = t.val % 33 * 256 + r.val := by
    have := r.isLt; have := Nat.mod_lt t.val (show 0 < 33 by decide); omega
  simp only [hm]
  blk_ext [iblk, hd, e0, e1, e2]

theorem k_at (c : Dev nD) (t : Fin (cfg0 (F := Ideal)).N) (h : Fin 3) (s : Fin 8704) (d : Fin 128) :
    kB m c (pt t.val) (ix3 h s d) = Ak m c (ix3 (hd t h) s d) := by
  obtain ⟨-, -, -, e0, e1, e2, -⟩ := ixs (pt t.val)
  obtain ⟨-, -, -, -, -, -, -, -, -, -, -, -, -, ep⟩ := ixs t
  rw [ep] at e0
  blk_ext [iblk, hd, e0, e1, e2]

theorem v_at (c : Dev nD) (t : Fin (cfg0 (F := Ideal)).N) (h : Fin 3) (n : Fin 34) (d : Fin 128) (x : Fin 256) :
    vB m c (pt t.val) (ix4 h n d x) = Av m c (ix4 (hd t h) n d x) := by
  obtain ⟨-, -, -, -, -, -, e0, e1, e2, e3, -⟩ := ixs (pt t.val)
  obtain ⟨-, -, -, -, -, -, -, -, -, -, -, -, -, ep⟩ := ixs t
  rw [ep] at e0
  blk_ext [iblk, hd, e0, e1, e2, e3]

/-- The real scores of a head against a query. -/
def zr (q k : FVec Ideal S6x8704x128 .bf16) (g : Fin 6) (p : ℕ) : ℕ → ℝ := fun s => (sc q k g p s).toReal

/-- The result: for each row and head, the weighted values over all keys. -/
def G (q k : FVec Ideal S6x8704x128 .bf16) (v : FVec Ideal S6x34x128x256 .bf16) : FVec Ideal S8448x768 .f32 :=
  fun y => acc (zr q k ⟨(y 1).val / 128, by have : (y 1).val < 768 := (y 1).isLt; omega⟩ (y 0).val) (y 0).val
    (vR v ⟨(y 1).val / 128, by have : (y 1).val < 768 := (y 1).isLt; omega⟩ ⟨(y 1).val % 128, Nat.mod_lt _ (by decide)⟩) 0

theorem scores (c : Dev nD) (t : Fin (cfg0 (F := Ideal)).N) (hq : ∀ i, ∃ r : ℝ, Aq m c i = (r : EReal)) (hk : ∀ i, ∃ r : ℝ, Ak m c i = (r : EReal)) :
    Scores (qB m c t) (kB m c (pt t.val)) fun h r => zr (Aq m c) (Ak m c) (hd t h) ((t.val % 33) * 256 + r.val) := by
  intro h n x r hn
  show _ = ((sc (Aq m c) (Ak m c) (hd t h) ((t.val % 33) * 256 + r.val) (n * 256 + x.val)).toReal : EReal)
  rw [← sc_real _ _ hq hk, zF_at, sc]
  refine congrArg (· * scE) (Finset.sum_congr rfl fun d _ => ?_)
  exact congrArg₂ (· * ·) (k_at m c t h _ d) (q_at m c t h r d)

/-- The array of the attention after the run. -/
theorem final3 (c : Dev nD) (hq : ∀ i, ∃ r : ℝ, Aq m c i = (r : EReal)) (hk : ∀ i, ∃ r : ℝ, Ak m c i = (r : EReal))
    (after : (w' : Fin (cfg0 (F := Ideal)).W) → Fin (cfg0 (F := Ideal)).N → (cfg0.win w').block.Idx → Elt Ideal (cfg0.win w').elt)
    (hL : ∀ (w : Fin (cfg0 (F := Ideal)).W) (u : Fin (cfg0 (F := Ideal)).N), (cfg0.win w).flush u = true → (rdat m c).Leaves w u (after w u)) :
    ((rdat m c).withAfter after).arrAt 3 (cfg0 (F := Ideal)).N = G (Aq m c) (Ak m c) (Av m c) := by
  refine ((rdat m c).withAfter after).arrAt_eq_of_covers 3 _ (by decide +kernel) fun t hf y => ?_
  obtain ⟨-, -, -, -, -, -, -, -, -, -, e0, e1, ei, -⟩ := ixs t
  obtain ⟨Y, -, rr, hR, hX⟩ := hL 3 t hf
  have htl : t.val < 66 := t.isLt
  obtain ⟨r, n, rfl⟩ : ∃ (r : Fin 256) (n : Fin 384), y = (ix2 r n : S256x384.Idx) := ⟨y 0, y 1, by blk_ext []⟩
  have he : ((cfg0.win 3).blk t).view.emb (ix2 r n : S256x384.Idx) = (ix2 ⟨(t.val % 33) * 256 + r.val, by omega⟩ ⟨(t.val / 33) * 384 + n.val, by omega⟩ : S8448x768.Idx) := by
    blk_ext [e0, e1]
  refine Eq.trans ?_ (congrArg _ he.symm)
  show after 3 t (ix2 r n : S256x384.Idx) = _
  rw [hX, out_real _ _ _ _ _ (scores m c t hq hk) _ _ hR]
  have eh : hd t ⟨n.val / 128, by omega⟩ = ⟨((t.val / 33) * 384 + n.val) / 128, by omega⟩ := Fin.ext (by show 3 * (t.val / 33) + n.val / 128 = ((t.val / 33) * 384 + n.val) / 128; omega)
  have en : (⟨n.val % 128, Nat.mod_lt _ (by decide)⟩ : Fin 128) = ⟨((t.val / 33) * 384 + n.val) % 128, Nat.mod_lt _ (by decide)⟩ :=
    Fin.ext (by show n.val % 128 = ((t.val / 33) * 384 + n.val) % 128; omega)
  have ep : pos (grid0.coords t) r = t.val % 33 * 256 + r.val := by unfold pos; rw [ei]
  have ev : ∀ (h : Fin 3) (d : Fin 128), vAt (vB m c (pt t.val)) h d = vR (Av m c) (hd t h) d := fun h d => funext fun s => v_at m c t h _ d _
  rw [ep, ev, eh, en]
  rfl

/-- The array after the run, with the arguments as they were. -/
theorem run_values (hq : ∀ c i, ∃ r : ℝ, Aq m c i = (r : EReal)) (hk : ∀ c i, ∃ r : ℝ, Ak m c i = (r : EReal)) :
    θ_run defs (onTc (τ := τ) (main (F := Ideal))) ⟨m, fun _ => 0, ρ⟩ fun r => ∀ c : Dev nD,
      r.2.mem ((c.tc : Thread nD τ).loc main_v0) = G (Aq m c) (Ak m c) (Av m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_main m ρ)
  obtain ⟨after, hL, hA⟩ := Pipeline.RDat.FramePost.exists_exact h.1 c
  exact ⟨(hA 3).trans (final3 m c (hq c) (hk c) after hL),
    Pipeline.RDat.FramePost.arr_in h.1 c 0 rfl,
    Pipeline.RDat.FramePost.arr_in h.1 c 1 rfl,
    Pipeline.RDat.FramePost.arr_in h.1 c 2 rfl⟩

/-- The reference's result on real queries and keys. -/
theorem ref_eq (q k : FVec Ideal S6x8704x128 .bf16) (v : FVec Ideal S6x34x128x256 .bf16) (hq : ∀ i, ∃ r : ℝ, q i = (r : EReal)) (hk : ∀ i, ∃ r : ℝ, k i = (r : EReal)) :
    Cert.Reference4Ideal.Read.val_main_v27 (F := Ideal) q k v = G q k v := by
  funext y
  obtain ⟨p, n, rfl⟩ : ∃ (p : Fin 8448) (n : Fin 768), y = (ix2 p n : S8448x768.Idx) := ⟨y 0, y 1, by blk_ext []⟩
  exact ref_real q k v (zr q k ⟨n.val / 128, by have := n.isLt; omega⟩ p.val) ⟨n.val / 128, by have := n.isLt; omega⟩ p n rfl fun s => sc_real q k hq hk _ _ _

/-- The algebraic claim of the stick-breaking attention: kernel and reference leave the same array. -/
theorem algebraic : Cert.algebraic_Kernel4Ideal_Reference4Ideal_pre_finite_scores := by
  intro m ρ m' ρ' hpre hagree
  have hf := fun c => pre_real _ _ _ (hpre c)
  refine ⟨fun c => G (Aq m c) (Ak m c) (Av m c), run_values m ρ (fun c => (hf c).1) (fun c => (hf c).2), ?_⟩
  refine (θ_run Cert.Reference4Ideal.defs _ _).mono (fun r h c => ⟨(h c).1.trans ?_, (h c).2⟩)
    (Cert.Reference4Ideal.Value.run (F := Ideal) m' ρ')
  obtain ⟨a0, a1, a2⟩ := hagree c
  refine (Cert.Reference4Ideal.Read.val_main_v27_eq m' c).trans ?_
  rw [a0, a1, a2]
  exact ref_eq _ _ _ (hf c).1 (hf c).2

end Cert.Sb

end
-- ==== Proof.lean ====
/-
  The proof of `Cert.Claim` (proofs.«01_k».proof.Defs): the frames of the programs, the idealization steps, and the
  algebraic claims about the prompt's differential attention, its stick-breaking attention and the two calls of the
  in-projection.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite_values
public import proofs.«01_k».proof.Proof.Assemble
public import proofs.«01_k».proof.Proof.InPDat
public import proofs.«01_k».proof.Proof.InFin
public import proofs.«01_k».proof.Proof.InRef
public import proofs.«01_k».proof.Proof.In3PDat
public import proofs.«01_k».proof.Proof.In3Fin
public import proofs.«01_k».proof.Proof.In3Ref
public import proofs.«01_k».proof.Proof.SbPDat
public import proofs.«01_k».proof.Proof.SbFin
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_scores
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- Every run of the reference ends, leaves its arguments unchanged and its semaphores at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's fill value −1e30, named, is −∞ over the extended reals and its own bits in the compiled program. -/
theorem preserves : Cert.preserves_Kernel_KernelIdeal :=
  IdealRules.named_const.statement Cert.KernelIdeal.κ "neg" .f32 0xF149F2CA#32 ⊥ rfl

/-- Every run of the in-projection's reference ends, leaves its arguments unchanged and its semaphores at zero. -/
theorem reference2_frame : Cert.quiescent_Reference2Ideal := fun m ρ _ =>
  (θ_run Cert.Reference2Ideal.defs _ _).mono (fun r h => ⟨fun c => ⟨(h c).2.2.2.2.1, (h c).2.2.2.2.2.1, (h c).2.2.2.2.2.2⟩, sem_eq_zero_of_no_sems (by decide) r.2⟩)
    (Cert.Reference2Ideal.Value.run (F := Ideal) m ρ)

/-- Every run of the first in-projection's reference ends, leaves its arguments unchanged and its semaphores at zero. -/
theorem reference3_frame : Cert.quiescent_Reference3Ideal := fun m ρ _ =>
  (θ_run Cert.Reference3Ideal.defs _ _).mono (fun r h => ⟨fun c => ⟨(h c).2.2.2.2.2.1, (h c).2.2.2.2.2.2.1, (h c).2.2.2.2.2.2.2⟩, sem_eq_zero_of_no_sems (by decide) r.2⟩)
    (Cert.Reference3Ideal.Value.run (F := Ideal) m ρ)

/-- Every run of the stick-breaking attention's reference ends, leaves its arguments unchanged and its semaphores at zero. -/
theorem reference4_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The loop's threshold −110, named, is −∞ over the extended reals and its own bits in the compiled program. -/
theorem preserves4 : Cert.preserves_Kernel4_Kernel4Ideal :=
  IdealRules.named_const.statement Cert.Kernel4Ideal.κ "underflow" .f32 0xC2DC0000#32 ⊥ rfl

/-- All the claims together. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite_values.Gen.facts,
    Cert.Pre_finite_scores.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.InP.frame m ρ,
    fun m ρ _ => Cert.In.frame m ρ,
    reference2_frame,
    fun m ρ _ => Cert.In3P.frame m ρ,
    fun m ρ _ => Cert.In3.frame m ρ,
    reference3_frame,
    fun m ρ _ => Cert.SbP.frame m ρ,
    fun m ρ _ => Cert.Sb.frame m ρ,
    fun m ρ _ => Cert.Sb.frame m ρ,
    reference4_frame,
    fun m ρ _ => reference4_frame m ρ trivial,
    preserves,
    Cert.Diff.algebraic,
    trivial,
    Cert.InRef.algebraic,
    trivial,
    Cert.In3Ref.algebraic,
    preserves4,
    Cert.Sb.algebraic⟩

end Cert.Proof

end
